-- ==== Defs.lean ====
def Pre_MlaBwd (m : (ℓ : Loc Cert.MlaBwd.nD Cert.MlaBwd.τ Cert.MlaBwd.sig) → Buf (Elt Bits) ℓ) : Prop :=
  True

def Pre_MlaBwdIdeal (m : (ℓ : Loc Cert.MlaBwdIdeal.nD Cert.MlaBwdIdeal.τ Cert.MlaBwdIdeal.sig) → Buf (Elt Ideal) ℓ) : Prop :=
  True

def Pre_MlaBwdIdeal_mla_finite [hPre_mla_finite : Cert.Pre_mla_finite.Facts] (m : (ℓ : Loc Cert.MlaBwdIdeal.nD Cert.MlaBwdIdeal.τ Cert.MlaBwdIdeal.sig) → Buf (Elt Ideal) ℓ) : Prop :=
  ∀ c : Dev Cert.MlaBwdIdeal.nD,
    (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2 = (fun _ => 1#1)

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def quiescent_MlaBwd [hMlaBwd : Cert.MlaBwd.Facts] : Prop :=
  ∀ (m : (ℓ : Loc Cert.MlaBwd.nD Cert.MlaBwd.τ Cert.MlaBwd.sig) → Buf (Elt Bits) ℓ) (g : Dev Cert.MlaBwd.nD → PrngReg), Pre_MlaBwd m →
    θ_run (Cert.MlaBwd.defs (F := Bits)) (onTc (τ := Cert.MlaBwd.τ) (Cert.MlaBwd.main (F := Bits))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3))
      ∧ r.2.sem = fun _ => 0)

def quiescent_MlaBwdIdeal [hMlaBwdIdeal : Cert.MlaBwdIdeal.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3))
      ∧ r.2.sem = fun _ => 0)

def quiescent_MlaBwdIdeal_pre_mla_finite [hMlaBwdIdeal : Cert.MlaBwdIdeal.Facts] [hPre_mla_finite : Cert.Pre_mla_finite.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal_mla_finite m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4)
      ∧ r.2.mem ((c.tc : Thread Cert.PleBwd.nD Cert.PleBwd.τ).loc Cert.PleBwd.main_arg5) = m ((c.tc : Thread Cert.PleBwd.nD Cert.PleBwd.τ).loc Cert.PleBwd.main_arg5))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4))
      ∧ r.2.sem = fun _ => 0)

def preserves_MlaBwd_MlaBwdIdeal : Prop :=
  True

def algebraic_MlaBwdIdeal_MlaRefIdeal_pre_mla_finite [hMlaBwdIdeal : Cert.MlaBwdIdeal.Facts] [hMlaRefIdeal : Cert.MlaRefIdeal.Facts] [hPre_mla_finite : Cert.Pre_mla_finite.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaBwdIdeal_mla_finite m →
    (∀ c : Dev Cert.MlaBwdIdeal.nD,
      m' ((c.tc : Thread Cert.MlaRefIdeal.nD Cert.MlaRefIdeal.τ).loc Cert.MlaRefIdeal.main_arg0) = m ((c.tc : Thread Cert.MlaBwdIdeal.nD Cert.MlaBwdIdeal.τ).loc Cert.MlaBwdIdeal.main_arg0)
      ∧ m' ((c.tc : Thread Cert.MlaRefIdeal.nD Cert.MlaRefIdeal.τ).loc Cert.MlaRefIdeal.main_arg1) = m ((c.tc : Thread Cert.MlaBwdIdeal.nD Cert.MlaBwdIdeal.τ).loc Cert.MlaBwdIdeal.main_arg1)
      ∧ m' ((c.tc : Thread Cert.MlaRefIdeal.nD Cert.MlaRefIdeal.τ).loc Cert.MlaRefIdeal.main_arg2) = m ((c.tc : Thread Cert.MlaBwdIdeal.nD Cert.MlaBwdIdeal.τ).loc Cert.MlaBwdIdeal.main_arg2)
      ∧ m' ((c.tc : Thread Cert.MlaRefIdeal.nD Cert.MlaRefIdeal.τ).loc Cert.MlaRefIdeal.main_arg3) = m ((c.tc : Thread Cert.MlaBwdIdeal.nD Cert.MlaBwdIdeal.τ).loc Cert.MlaBwdIdeal.main_arg3)) →
    ∃ (v0 : (c : Dev Cert.MlaBwdIdeal.nD) → Buf (Elt Ideal) ((c.tc : Thread Cert.MlaBwdIdeal.nD Cert.MlaBwdIdeal.τ).loc Cert.MlaBwdIdeal.main_v0_0)) (v1 : (c : Dev Cert.MlaBwdIdeal.nD) → Buf (Elt Ideal) ((c.tc : Thread Cert.MlaBwdIdeal.nD Cert.MlaBwdIdeal.τ).loc Cert.MlaBwdIdeal.main_v0_1)) (v2 : (c : Dev Cert.MlaBwdIdeal.nD) → Buf (Elt Ideal) ((c.tc : Thread Cert.MlaBwdIdeal.nD Cert.MlaBwdIdeal.τ).loc Cert.MlaBwdIdeal.main_v0_2)),
      θ_run (Cert.MlaBwdIdeal.defs (F := Ideal)) (onTc (τ := Cert.MlaBwdIdeal.τ) (Cert.MlaBwdIdeal.main (F := Ideal))) ⟨m, fun _ => 0, g⟩ (fun r => ∀ c : Dev Cert.MlaBwdIdeal.nD,
          r.2.mem ((c.tc : Thread Cert.MlaBwdIdeal.nD Cert.MlaBwdIdeal.τ).loc Cert.MlaBwdIdeal.main_v0_0) = v0 c
          ∧ r.2.mem ((c.tc : Thread Cert.MlaBwdIdeal.nD Cert.MlaBwdIdeal.τ).loc Cert.MlaBwdIdeal.main_v0_1) = v1 c
          ∧ r.2.mem ((c.tc : Thread Cert.MlaBwdIdeal.nD Cert.MlaBwdIdeal.τ).loc Cert.MlaBwdIdeal.main_v0_2) = v2 c
          ∧ r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
          ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
          ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
          ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v72) = v0 c
          ∧ r.2.mem ((c.tc : Thread Cert.MlaRefIdeal.nD Cert.MlaRefIdeal.τ).loc Cert.MlaRefIdeal.main_v70) = v1 c
          ∧ r.2.mem ((c.tc : Thread Cert.MlaRefIdeal.nD Cert.MlaRefIdeal.τ).loc Cert.MlaRefIdeal.main_v48) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v2_0)) (v1 : (c : Dev Cert.FfnBwdIdeal.nD) → Buf (Elt Ideal) ((c.tc : Thread Cert.FfnBwdIdeal.nD Cert.FfnBwdIdeal.τ).loc Cert.FfnBwdIdeal.main_v2_1)) (v2 : (c : Dev Cert.FfnBwdIdeal.nD) → Buf (Elt Ideal) ((c.tc : Thread Cert.FfnBwdIdeal.nD Cert.FfnBwdIdeal.τ).loc Cert.FfnBwdIdeal.main_v3)) (v3 : (c : Dev Cert.FfnBwdIdeal.nD) → Buf (Elt Ideal) ((c.tc : Thread Cert.FfnBwdIdeal.nD Cert.FfnBwdIdeal.τ).loc Cert.FfnBwdIdeal.main_v4)) (v4 : (c : Dev Cert.FfnBwdIdeal.nD) → Buf (Elt Ideal) ((c.tc : Thread Cert.FfnBwdIdeal.nD Cert.FfnBwdIdeal.τ).loc Cert.FfnBwdIdeal.main_v5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v2_0) = v0 c
          ∧ r.2.mem ((c.tc : Thread Cert.FfnBwdIdeal.nD Cert.FfnBwdIdeal.τ).loc Cert.FfnBwdIdeal.main_v2_1) = v1 c
          ∧ r.2.mem ((c.tc : Thread Cert.FfnBwdIdeal.nD Cert.FfnBwdIdeal.τ).loc Cert.FfnBwdIdeal.main_v3) = v2 c
          ∧ r.2.mem ((c.tc : Thread Cert.FfnBwdIdeal.nD Cert.FfnBwdIdeal.τ).loc Cert.FfnBwdIdeal.main_v4) = v3 c
          ∧ r.2.mem ((c.tc : Thread Cert.FfnBwdIdeal.nD Cert.FfnBwdIdeal.τ).loc Cert.FfnBwdIdeal.main_v5) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_v37) = v1 c
          ∧ r.2.mem ((c.tc : Thread Cert.FfnRefIdeal.nD Cert.FfnRefIdeal.τ).loc Cert.FfnRefIdeal.main_v39) = v2 c
          ∧ r.2.mem ((c.tc : Thread Cert.FfnRefIdeal.nD Cert.FfnRefIdeal.τ).loc Cert.FfnRefIdeal.main_v31) = v3 c
          ∧ r.2.mem ((c.tc : Thread Cert.FfnRefIdeal.nD Cert.FfnRefIdeal.τ).loc Cert.FfnRefIdeal.main_v40) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_PleBwd_PleBwdIdeal : Prop :=
  True

def algebraic_PleBwdIdeal_PleRefIdeal [hPleBwdIdeal : Cert.PleBwdIdeal.Facts] [hPleRefIdeal : Cert.PleRefIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleBwdIdeal m →
    (∀ c : Dev Cert.PleBwdIdeal.nD,
      m' ((c.tc : Thread Cert.PleRefIdeal.nD Cert.PleRefIdeal.τ).loc Cert.PleRefIdeal.main_arg0) = m ((c.tc : Thread Cert.PleBwdIdeal.nD Cert.PleBwdIdeal.τ).loc Cert.PleBwdIdeal.main_arg0)
      ∧ m' ((c.tc : Thread Cert.PleRefIdeal.nD Cert.PleRefIdeal.τ).loc Cert.PleRefIdeal.main_arg1) = m ((c.tc : Thread Cert.PleBwdIdeal.nD Cert.PleBwdIdeal.τ).loc Cert.PleBwdIdeal.main_arg1)
      ∧ m' ((c.tc : Thread Cert.PleRefIdeal.nD Cert.PleRefIdeal.τ).loc Cert.PleRefIdeal.main_arg2) = m ((c.tc : Thread Cert.PleBwdIdeal.nD Cert.PleBwdIdeal.τ).loc Cert.PleBwdIdeal.main_arg2)
      ∧ m' ((c.tc : Thread Cert.PleRefIdeal.nD Cert.PleRefIdeal.τ).loc Cert.PleRefIdeal.main_arg3) = m ((c.tc : Thread Cert.PleBwdIdeal.nD Cert.PleBwdIdeal.τ).loc Cert.PleBwdIdeal.main_arg3)
      ∧ m' ((c.tc : Thread Cert.PleRefIdeal.nD Cert.PleRefIdeal.τ).loc Cert.PleRefIdeal.main_arg4) = m ((c.tc : Thread Cert.PleBwdIdeal.nD Cert.PleBwdIdeal.τ).loc Cert.PleBwdIdeal.main_arg4)
      ∧ m' ((c.tc : Thread Cert.PleRefIdeal.nD Cert.PleRefIdeal.τ).loc Cert.PleRefIdeal.main_arg5) = m ((c.tc : Thread Cert.PleBwdIdeal.nD Cert.PleBwdIdeal.τ).loc Cert.PleBwdIdeal.main_arg5)) →
    ∃ (v0 : (c : Dev Cert.PleBwdIdeal.nD) → Buf (Elt Ideal) ((c.tc : Thread Cert.PleBwdIdeal.nD Cert.PleBwdIdeal.τ).loc Cert.PleBwdIdeal.main_v1_0)) (v1 : (c : Dev Cert.PleBwdIdeal.nD) → Buf (Elt Ideal) ((c.tc : Thread Cert.PleBwdIdeal.nD Cert.PleBwdIdeal.τ).loc Cert.PleBwdIdeal.main_v3)) (v2 : (c : Dev Cert.PleBwdIdeal.nD) → Buf (Elt Ideal) ((c.tc : Thread Cert.PleBwdIdeal.nD Cert.PleBwdIdeal.τ).loc Cert.PleBwdIdeal.main_v4)) (v3 : (c : Dev Cert.PleBwdIdeal.nD) → Buf (Elt Ideal) ((c.tc : Thread Cert.PleBwdIdeal.nD Cert.PleBwdIdeal.τ).loc Cert.PleBwdIdeal.main_v5)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v1_0) = v0 c
          ∧ r.2.mem ((c.tc : Thread Cert.PleBwdIdeal.nD Cert.PleBwdIdeal.τ).loc Cert.PleBwdIdeal.main_v3) = v1 c
          ∧ r.2.mem ((c.tc : Thread Cert.PleBwdIdeal.nD Cert.PleBwdIdeal.τ).loc Cert.PleBwdIdeal.main_v4) = v2 c
          ∧ r.2.mem ((c.tc : Thread Cert.PleBwdIdeal.nD Cert.PleBwdIdeal.τ).loc Cert.PleBwdIdeal.main_v5) = v3 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
          ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v19) = v0 c
          ∧ r.2.mem ((c.tc : Thread Cert.PleRefIdeal.nD Cert.PleRefIdeal.τ).loc Cert.PleRefIdeal.main_v30) = v1 c
          ∧ r.2.mem ((c.tc : Thread Cert.PleRefIdeal.nD Cert.PleRefIdeal.τ).loc Cert.PleRefIdeal.main_v32) = v2 c
          ∧ r.2.mem ((c.tc : Thread Cert.PleRefIdeal.nD Cert.PleRefIdeal.τ).loc Cert.PleRefIdeal.main_v27) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_MixBwd_MixBwdIdeal : Prop :=
  True

def algebraic_MixBwdIdeal_MixRefIdeal [hMixBwdIdeal : Cert.MixBwdIdeal.Facts] [hMixRefIdeal : Cert.MixRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)
      ∧ m' ((c.tc : Thread Cert.MixRefIdeal.nD Cert.MixRefIdeal.τ).loc Cert.MixRefIdeal.main_arg6) = m ((c.tc : Thread Cert.MixBwdIdeal.nD Cert.MixBwdIdeal.τ).loc Cert.MixBwdIdeal.main_arg6)
      ∧ m' ((c.tc : Thread Cert.MixRefIdeal.nD Cert.MixRefIdeal.τ).loc Cert.MixRefIdeal.main_arg7) = m ((c.tc : Thread Cert.MixBwdIdeal.nD Cert.MixBwdIdeal.τ).loc Cert.MixBwdIdeal.main_arg7)
      ∧ m' ((c.tc : Thread Cert.MixRefIdeal.nD Cert.MixRefIdeal.τ).loc Cert.MixRefIdeal.main_arg8) = m ((c.tc : Thread Cert.MixBwdIdeal.nD Cert.MixBwdIdeal.τ).loc Cert.MixBwdIdeal.main_arg8)) →
    ∃ (v0 : (c : Dev Cert.MixBwdIdeal.nD) → Buf (Elt Ideal) ((c.tc : Thread Cert.MixBwdIdeal.nD Cert.MixBwdIdeal.τ).loc Cert.MixBwdIdeal.main_v1)) (v1 : (c : Dev Cert.MixBwdIdeal.nD) → Buf (Elt Ideal) ((c.tc : Thread Cert.MixBwdIdeal.nD Cert.MixBwdIdeal.τ).loc Cert.MixBwdIdeal.main_v2_2)) (v2 : (c : Dev Cert.MixBwdIdeal.nD) → Buf (Elt Ideal) ((c.tc : Thread Cert.MixBwdIdeal.nD Cert.MixBwdIdeal.τ).loc Cert.MixBwdIdeal.main_v2_3)) (v3 : (c : Dev Cert.MixBwdIdeal.nD) → Buf (Elt Ideal) ((c.tc : Thread Cert.MixBwdIdeal.nD Cert.MixBwdIdeal.τ).loc Cert.MixBwdIdeal.main_v3)) (v4 : (c : Dev Cert.MixBwdIdeal.nD) → Buf (Elt Ideal) ((c.tc : Thread Cert.MixBwdIdeal.nD Cert.MixBwdIdeal.τ).loc Cert.MixBwdIdeal.main_v4)) (v5 : (c : Dev Cert.MixBwdIdeal.nD) → Buf (Elt Ideal) ((c.tc : Thread Cert.MixBwdIdeal.nD Cert.MixBwdIdeal.τ).loc Cert.MixBwdIdeal.main_v5)) (v6 : (c : Dev Cert.MixBwdIdeal.nD) → Buf (Elt Ideal) ((c.tc : Thread Cert.MixBwdIdeal.nD Cert.MixBwdIdeal.τ).loc Cert.MixBwdIdeal.main_v6)) (v7 : (c : Dev Cert.MixBwdIdeal.nD) → Buf (Elt Ideal) ((c.tc : Thread Cert.MixBwdIdeal.nD Cert.MixBwdIdeal.τ).loc Cert.MixBwdIdeal.main_v7)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v1) = v0 c
          ∧ r.2.mem ((c.tc : Thread Cert.MixBwdIdeal.nD Cert.MixBwdIdeal.τ).loc Cert.MixBwdIdeal.main_v2_2) = v1 c
          ∧ r.2.mem ((c.tc : Thread Cert.MixBwdIdeal.nD Cert.MixBwdIdeal.τ).loc Cert.MixBwdIdeal.main_v2_3) = v2 c
          ∧ r.2.mem ((c.tc : Thread Cert.MixBwdIdeal.nD Cert.MixBwdIdeal.τ).loc Cert.MixBwdIdeal.main_v3) = v3 c
          ∧ r.2.mem ((c.tc : Thread Cert.MixBwdIdeal.nD Cert.MixBwdIdeal.τ).loc Cert.MixBwdIdeal.main_v4) = v4 c
          ∧ r.2.mem ((c.tc : Thread Cert.MixBwdIdeal.nD Cert.MixBwdIdeal.τ).loc Cert.MixBwdIdeal.main_v5) = v5 c
          ∧ r.2.mem ((c.tc : Thread Cert.MixBwdIdeal.nD Cert.MixBwdIdeal.τ).loc Cert.MixBwdIdeal.main_v6) = v6 c
          ∧ r.2.mem ((c.tc : Thread Cert.MixBwdIdeal.nD Cert.MixBwdIdeal.τ).loc Cert.MixBwdIdeal.main_v7) = v7 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v51) = v0 c
          ∧ r.2.mem ((c.tc : Thread Cert.MixRefIdeal.nD Cert.MixRefIdeal.τ).loc Cert.MixRefIdeal.main_v52) = v1 c
          ∧ r.2.mem ((c.tc : Thread Cert.MixRefIdeal.nD Cert.MixRefIdeal.τ).loc Cert.MixRefIdeal.main_v53) = v2 c
          ∧ r.2.mem ((c.tc : Thread Cert.MixRefIdeal.nD Cert.MixRefIdeal.τ).loc Cert.MixRefIdeal.main_v56) = v3 c
          ∧ r.2.mem ((c.tc : Thread Cert.MixRefIdeal.nD Cert.MixRefIdeal.τ).loc Cert.MixRefIdeal.main_v59) = v4 c
          ∧ r.2.mem ((c.tc : Thread Cert.MixRefIdeal.nD Cert.MixRefIdeal.τ).loc Cert.MixRefIdeal.main_v60) = v5 c
          ∧ r.2.mem ((c.tc : Thread Cert.MixRefIdeal.nD Cert.MixRefIdeal.τ).loc Cert.MixRefIdeal.main_v61) = v6 c
          ∧ r.2.mem ((c.tc : Thread Cert.MixRefIdeal.nD Cert.MixRefIdeal.τ).loc Cert.MixRefIdeal.main_v62) = v7 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)
      ∧ m' ((c.tc : Thread Cert.InRefIdeal.nD Cert.InRefIdeal.τ).loc Cert.InRefIdeal.main_arg3) = m ((c.tc : Thread Cert.InProjIdeal.nD Cert.InProjIdeal.τ).loc Cert.InProjIdeal.main_arg3)
      ∧ m' ((c.tc : Thread Cert.InRefIdeal.nD Cert.InRefIdeal.τ).loc Cert.InRefIdeal.main_arg4) = m ((c.tc : Thread Cert.InProjIdeal.nD Cert.InProjIdeal.τ).loc Cert.InProjIdeal.main_arg4)
      ∧ m' ((c.tc : Thread Cert.InRefIdeal.nD Cert.InRefIdeal.τ).loc Cert.InRefIdeal.main_arg5) = m ((c.tc : Thread Cert.InProjIdeal.nD Cert.InProjIdeal.τ).loc Cert.InProjIdeal.main_arg5)
      ∧ m' ((c.tc : Thread Cert.InRefIdeal.nD Cert.InRefIdeal.τ).loc Cert.InRefIdeal.main_arg6) = m ((c.tc : Thread Cert.InProjIdeal.nD Cert.InProjIdeal.τ).loc Cert.InProjIdeal.main_arg6)
      ∧ m' ((c.tc : Thread Cert.InRefIdeal.nD Cert.InRefIdeal.τ).loc Cert.InRefIdeal.main_arg7) = m ((c.tc : Thread Cert.InProjIdeal.nD Cert.InProjIdeal.τ).loc Cert.InProjIdeal.main_arg7)
      ∧ m' ((c.tc : Thread Cert.InRefIdeal.nD Cert.InRefIdeal.τ).loc Cert.InRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v0)) (v1 : (c : Dev Cert.InProjIdeal.nD) → Buf (Elt Ideal) ((c.tc : Thread Cert.InProjIdeal.nD Cert.InProjIdeal.τ).loc Cert.InProjIdeal.main_v1)) (v2 : (c : Dev Cert.InProjIdeal.nD) → Buf (Elt Ideal) ((c.tc : Thread Cert.InProjIdeal.nD Cert.InProjIdeal.τ).loc Cert.InProjIdeal.main_v2)) (v3 : (c : Dev Cert.InProjIdeal.nD) → Buf (Elt Ideal) ((c.tc : Thread Cert.InProjIdeal.nD Cert.InProjIdeal.τ).loc Cert.InProjIdeal.main_v3)) (v4 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_v1) = v1 c
          ∧ r.2.mem ((c.tc : Thread Cert.InProjIdeal.nD Cert.InProjIdeal.τ).loc Cert.InProjIdeal.main_v2) = v2 c
          ∧ r.2.mem ((c.tc : Thread Cert.InProjIdeal.nD Cert.InProjIdeal.τ).loc Cert.InProjIdeal.main_v3) = v3 c
          ∧ r.2.mem ((c.tc : Thread Cert.InProjIdeal.nD Cert.InProjIdeal.τ).loc Cert.InProjIdeal.main_v4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v17) = v0 c
          ∧ r.2.mem ((c.tc : Thread Cert.InRefIdeal.nD Cert.InRefIdeal.τ).loc Cert.InRefIdeal.main_v12) = v1 c
          ∧ r.2.mem ((c.tc : Thread Cert.InRefIdeal.nD Cert.InRefIdeal.τ).loc Cert.InRefIdeal.main_v14) = v2 c
          ∧ r.2.mem ((c.tc : Thread Cert.InRefIdeal.nD Cert.InRefIdeal.τ).loc Cert.InRefIdeal.main_v16) = v3 c
          ∧ r.2.mem ((c.tc : Thread Cert.InRefIdeal.nD Cert.InRefIdeal.τ).loc Cert.InRefIdeal.main_v24) = v4 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8))

def preserves_MlaFwd_MlaFwdIdeal : Prop :=
  True

def algebraic_MlaFwdIdeal_AttRefIdeal [hMlaFwdIdeal : Cert.MlaFwdIdeal.Facts] [hAttRefIdeal : Cert.AttRefIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_MlaFwdIdeal m →
    (∀ c : Dev Cert.MlaFwdIdeal.nD,
      m' ((c.tc : Thread Cert.AttRefIdeal.nD Cert.AttRefIdeal.τ).loc Cert.AttRefIdeal.main_arg0) = m ((c.tc : Thread Cert.MlaFwdIdeal.nD Cert.MlaFwdIdeal.τ).loc Cert.MlaFwdIdeal.main_arg0)
      ∧ m' ((c.tc : Thread Cert.AttRefIdeal.nD Cert.AttRefIdeal.τ).loc Cert.AttRefIdeal.main_arg1) = m ((c.tc : Thread Cert.MlaFwdIdeal.nD Cert.MlaFwdIdeal.τ).loc Cert.MlaFwdIdeal.main_arg1)
      ∧ m' ((c.tc : Thread Cert.AttRefIdeal.nD Cert.AttRefIdeal.τ).loc Cert.AttRefIdeal.main_arg2) = m ((c.tc : Thread Cert.MlaFwdIdeal.nD Cert.MlaFwdIdeal.τ).loc Cert.MlaFwdIdeal.main_arg2)) →
    ∃ (v0 : (c : Dev Cert.MlaFwdIdeal.nD) → Buf (Elt Ideal) ((c.tc : Thread Cert.MlaFwdIdeal.nD Cert.MlaFwdIdeal.τ).loc Cert.MlaFwdIdeal.main_v0)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v0) = v0 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v26) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2))

def preserves_UpBwd_UpBwdIdeal : Prop :=
  True

def algebraic_UpBwdIdeal_UpRefIdeal [hUpBwdIdeal : Cert.UpBwdIdeal.Facts] [hUpRefIdeal : Cert.UpRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpBwdIdeal m →
    (∀ c : Dev Cert.UpBwdIdeal.nD,
      m' ((c.tc : Thread Cert.UpRefIdeal.nD Cert.UpRefIdeal.τ).loc Cert.UpRefIdeal.main_arg0) = m ((c.tc : Thread Cert.UpBwdIdeal.nD Cert.UpBwdIdeal.τ).loc Cert.UpBwdIdeal.main_arg0)
      ∧ m' ((c.tc : Thread Cert.UpRefIdeal.nD Cert.UpRefIdeal.τ).loc Cert.UpRefIdeal.main_arg1) = m ((c.tc : Thread Cert.UpBwdIdeal.nD Cert.UpBwdIdeal.τ).loc Cert.UpBwdIdeal.main_arg1)
      ∧ m' ((c.tc : Thread Cert.UpRefIdeal.nD Cert.UpRefIdeal.τ).loc Cert.UpRefIdeal.main_arg2) = m ((c.tc : Thread Cert.UpBwdIdeal.nD Cert.UpBwdIdeal.τ).loc Cert.UpBwdIdeal.main_arg2)
      ∧ m' ((c.tc : Thread Cert.UpRefIdeal.nD Cert.UpRefIdeal.τ).loc Cert.UpRefIdeal.main_arg3) = m ((c.tc : Thread Cert.UpBwdIdeal.nD Cert.UpBwdIdeal.τ).loc Cert.UpBwdIdeal.main_arg3)
      ∧ m' ((c.tc : Thread Cert.UpRefIdeal.nD Cert.UpRefIdeal.τ).loc Cert.UpRefIdeal.main_arg4) = m ((c.tc : Thread Cert.UpBwdIdeal.nD Cert.UpBwdIdeal.τ).loc Cert.UpBwdIdeal.main_arg4)
      ∧ m' ((c.tc : Thread Cert.UpRefIdeal.nD Cert.UpRefIdeal.τ).loc Cert.UpRefIdeal.main_arg5) = m ((c.tc : Thread Cert.UpBwdIdeal.nD Cert.UpBwdIdeal.τ).loc Cert.UpBwdIdeal.main_arg5)) →
    ∃ (v0 : (c : Dev Cert.UpBwdIdeal.nD) → Buf (Elt Ideal) ((c.tc : Thread Cert.UpBwdIdeal.nD Cert.UpBwdIdeal.τ).loc Cert.UpBwdIdeal.main_v0)) (v1 : (c : Dev Cert.UpBwdIdeal.nD) → Buf (Elt Ideal) ((c.tc : Thread Cert.UpBwdIdeal.nD Cert.UpBwdIdeal.τ).loc Cert.UpBwdIdeal.main_v1)) (v2 : (c : Dev Cert.UpBwdIdeal.nD) → Buf (Elt Ideal) ((c.tc : Thread Cert.UpBwdIdeal.nD Cert.UpBwdIdeal.τ).loc Cert.UpBwdIdeal.main_v2)) (v3 : (c : Dev Cert.UpBwdIdeal.nD) → Buf (Elt Ideal) ((c.tc : Thread Cert.UpBwdIdeal.nD Cert.UpBwdIdeal.τ).loc Cert.UpBwdIdeal.main_v3)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0) = v0 c
          ∧ r.2.mem ((c.tc : Thread Cert.UpBwdIdeal.nD Cert.UpBwdIdeal.τ).loc Cert.UpBwdIdeal.main_v1) = v1 c
          ∧ r.2.mem ((c.tc : Thread Cert.UpBwdIdeal.nD Cert.UpBwdIdeal.τ).loc Cert.UpBwdIdeal.main_v2) = v2 c
          ∧ r.2.mem ((c.tc : Thread Cert.UpBwdIdeal.nD Cert.UpBwdIdeal.τ).loc Cert.UpBwdIdeal.main_v3) = v3 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v28) = v0 c
          ∧ r.2.mem ((c.tc : Thread Cert.UpRefIdeal.nD Cert.UpRefIdeal.τ).loc Cert.UpRefIdeal.main_v31) = v1 c
          ∧ r.2.mem ((c.tc : Thread Cert.UpRefIdeal.nD Cert.UpRefIdeal.τ).loc Cert.UpRefIdeal.main_v25) = v2 c
          ∧ r.2.mem ((c.tc : Thread Cert.UpRefIdeal.nD Cert.UpRefIdeal.τ).loc Cert.UpRefIdeal.main_v20) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_DwIn_DwInIdeal : Prop :=
  True

def algebraic_DwInIdeal_DwRefIdeal [hDwInIdeal : Cert.DwInIdeal.Facts] [hDwRefIdeal : Cert.DwRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwInIdeal m →
    (∀ c : Dev Cert.DwInIdeal.nD,
      m' ((c.tc : Thread Cert.DwRefIdeal.nD Cert.DwRefIdeal.τ).loc Cert.DwRefIdeal.main_arg0) = m ((c.tc : Thread Cert.DwInIdeal.nD Cert.DwInIdeal.τ).loc Cert.DwInIdeal.main_arg0)
      ∧ m' ((c.tc : Thread Cert.DwRefIdeal.nD Cert.DwRefIdeal.τ).loc Cert.DwRefIdeal.main_arg1) = m ((c.tc : Thread Cert.DwInIdeal.nD Cert.DwInIdeal.τ).loc Cert.DwInIdeal.main_arg1)
      ∧ m' ((c.tc : Thread Cert.DwRefIdeal.nD Cert.DwRefIdeal.τ).loc Cert.DwRefIdeal.main_arg2) = m ((c.tc : Thread Cert.DwInIdeal.nD Cert.DwInIdeal.τ).loc Cert.DwInIdeal.main_arg2)
      ∧ m' ((c.tc : Thread Cert.DwRefIdeal.nD Cert.DwRefIdeal.τ).loc Cert.DwRefIdeal.main_arg3) = m ((c.tc : Thread Cert.DwInIdeal.nD Cert.DwInIdeal.τ).loc Cert.DwInIdeal.main_arg3)
      ∧ m' ((c.tc : Thread Cert.DwRefIdeal.nD Cert.DwRefIdeal.τ).loc Cert.DwRefIdeal.main_arg4) = m ((c.tc : Thread Cert.DwInIdeal.nD Cert.DwInIdeal.τ).loc Cert.DwInIdeal.main_arg4)) →
    ∃ (v0 : (c : Dev Cert.DwInIdeal.nD) → Buf (Elt Ideal) ((c.tc : Thread Cert.DwInIdeal.nD Cert.DwInIdeal.τ).loc Cert.DwInIdeal.main_v5)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v5) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v11) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3)
          ∧ r.2.mem ((c.tc : Thread Cert.DwRefIdeal.nD Cert.DwRefIdeal.τ).loc Cert.DwRefIdeal.main_arg4) = m' ((c.tc : Thread Cert.DwRefIdeal.nD Cert.DwRefIdeal.τ).loc Cert.DwRefIdeal.main_arg4))

def Claim : Prop :=
  ∃ (hMlaBwd : Cert.MlaBwd.Facts) (hMlaBwdIdeal : Cert.MlaBwdIdeal.Facts) (hMlaRefIdeal : Cert.MlaRefIdeal.Facts) (hFfnBwd : Cert.FfnBwd.Facts) (hFfnBwdIdeal : Cert.FfnBwdIdeal.Facts) (hFfnRefIdeal : Cert.FfnRefIdeal.Facts) (hPleBwd : Cert.PleBwd.Facts) (hPleBwdIdeal : Cert.PleBwdIdeal.Facts) (hPleRefIdeal : Cert.PleRefIdeal.Facts) (hMixBwd : Cert.MixBwd.Facts) (hMixBwdIdeal : Cert.MixBwdIdeal.Facts) (hMixRefIdeal : Cert.MixRefIdeal.Facts) (hInProj : Cert.InProj.Facts) (hInProjIdeal : Cert.InProjIdeal.Facts) (hInRefIdeal : Cert.InRefIdeal.Facts) (hMlaFwd : Cert.MlaFwd.Facts) (hMlaFwdIdeal : Cert.MlaFwdIdeal.Facts) (hAttRefIdeal : Cert.AttRefIdeal.Facts) (hUpBwd : Cert.UpBwd.Facts) (hUpBwdIdeal : Cert.UpBwdIdeal.Facts) (hUpRefIdeal : Cert.UpRefIdeal.Facts) (hDwIn : Cert.DwIn.Facts) (hDwInIdeal : Cert.DwInIdeal.Facts) (hDwRefIdeal : Cert.DwRefIdeal.Facts) (hPre_mla_finite : Cert.Pre_mla_finite.Facts) (hPre_ffn_finite : Cert.Pre_ffn_finite.Facts),
    quiescent_MlaBwd (hMlaBwd := hMlaBwd)
    ∧ quiescent_MlaBwdIdeal (hMlaBwdIdeal := hMlaBwdIdeal)
    ∧ quiescent_MlaBwdIdeal_pre_mla_finite (hMlaBwdIdeal := hMlaBwdIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_PleBwd (hPleBwd := hPleBwd)
    ∧ quiescent_PleBwdIdeal (hPleBwdIdeal := hPleBwdIdeal)
    ∧ quiescent_PleRefIdeal (hPleRefIdeal := hPleRefIdeal)
    ∧ quiescent_MixBwd (hMixBwd := hMixBwd)
    ∧ quiescent_MixBwdIdeal (hMixBwdIdeal := hMixBwdIdeal)
    ∧ quiescent_MixRefIdeal (hMixRefIdeal := hMixRefIdeal)
    ∧ quiescent_InProj (hInProj := hInProj)
    ∧ quiescent_InProjIdeal (hInProjIdeal := hInProjIdeal)
    ∧ quiescent_InRefIdeal (hInRefIdeal := hInRefIdeal)
    ∧ quiescent_MlaFwd (hMlaFwd := hMlaFwd)
    ∧ quiescent_MlaFwdIdeal (hMlaFwdIdeal := hMlaFwdIdeal)
    ∧ quiescent_AttRefIdeal (hAttRefIdeal := hAttRefIdeal)
    ∧ quiescent_UpBwd (hUpBwd := hUpBwd)
    ∧ quiescent_UpBwdIdeal (hUpBwdIdeal := hUpBwdIdeal)
    ∧ quiescent_UpRefIdeal (hUpRefIdeal := hUpRefIdeal)
    ∧ quiescent_DwIn (hDwIn := hDwIn)
    ∧ quiescent_DwInIdeal (hDwInIdeal := hDwInIdeal)
    ∧ quiescent_DwRefIdeal (hDwRefIdeal := hDwRefIdeal)
    ∧ preserves_MlaBwd_MlaBwdIdeal
    ∧ algebraic_MlaBwdIdeal_MlaRefIdeal_pre_mla_finite (hMlaBwdIdeal := hMlaBwdIdeal) (hMlaRefIdeal := hMlaRefIdeal) (hPre_mla_finite := hPre_mla_finite)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_PleBwd_PleBwdIdeal
    ∧ algebraic_PleBwdIdeal_PleRefIdeal (hPleBwdIdeal := hPleBwdIdeal) (hPleRefIdeal := hPleRefIdeal)
    ∧ preserves_MixBwd_MixBwdIdeal
    ∧ algebraic_MixBwdIdeal_MixRefIdeal (hMixBwdIdeal := hMixBwdIdeal) (hMixRefIdeal := hMixRefIdeal)
    ∧ preserves_InProj_InProjIdeal
    ∧ algebraic_InProjIdeal_InRefIdeal (hInProjIdeal := hInProjIdeal) (hInRefIdeal := hInRefIdeal)
    ∧ preserves_MlaFwd_MlaFwdIdeal
    ∧ algebraic_MlaFwdIdeal_AttRefIdeal (hMlaFwdIdeal := hMlaFwdIdeal) (hAttRefIdeal := hAttRefIdeal)
    ∧ preserves_UpBwd_UpBwdIdeal
    ∧ algebraic_UpBwdIdeal_UpRefIdeal (hUpBwdIdeal := hUpBwdIdeal) (hUpRefIdeal := hUpRefIdeal)
    ∧ preserves_DwIn_DwInIdeal
    ∧ algebraic_DwInIdeal_DwRefIdeal (hDwInIdeal := hDwInIdeal) (hDwRefIdeal := hDwRefIdeal)
-- ==== Pre_ffn_finite.lean ====
abbrev S2048x2048 : Shape := ⟨2, ![2048, 2048]⟩
abbrev S8x704x2048 : Shape := ⟨3, ![8, 704, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S8x704x2048 : S_.BroadcastsInDim S8x704x2048 (![] : Fin 0 → Fin S8x704x2048.rank)

variable [Facts]

def fn_part1 {F : FTy → Type} [FloatOps F] (main_v3 : IVec S2048x2048 1) (main_v7 : IVec S8x704x2048 1) (main_v11 : IVec S8x704x2048 1) (main_v15 : IVec S8x704x2048 1) (main_v17 : FVec F S2048x2048 .f32) (main_v18 : FVec F S2048x2048 .f32) : IVec S2048x2048 1 × IVec S8x704x2048 1 × IVec S8x704x2048 1 × IVec S8x704x2048 1 × IVec S2048x2048 1 :=
  let main_v19 : IVec S2048x2048 1 := cmpf .olt main_v17 main_v18
  (main_v3, main_v7, main_v11, main_v15, main_v19)

def fn {F : FTy → Type} [FloatOps F] (main_arg0 : FVec F S2048x2048 .bf16) (main_arg1 : FVec F S8x704x2048 .bf16) (main_arg2 : FVec F S8x704x2048 .bf16) (main_arg3 : FVec F S8x704x2048 .bf16) (main_arg4 : FVec F S2048x2048 .bf16) (main_arg5 : FVec F S2048x2048 .f32) : IVec S2048x2048 1 × IVec S8x704x2048 1 × IVec S8x704x2048 1 × IVec S8x704x2048 1 × IVec S2048x2048 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S8x704x2048 .f32 := (extf .f32 · bitsLt_bf16_f32) main_arg1
  let main_v5 : FVec F S8x704x2048 .f32 := Host.absf main_v4
  let main_cst_0 : FVec F S_ .f32 := constant S_ .f32 0x7F800000#32
  let main_v6 : FVec F S8x704x2048 .f32 := broadcastInDim S8x704x2048 ![] bcast_S_S8x704x2048 main_cst_0
  let main_v7 : IVec S8x704x2048 1 := cmpf .olt main_v5 main_v6
  let main_v8 : FVec F S8x704x2048 .f32 := (extf .f32 · bitsLt_bf16_f32) main_arg2
  let main_v9 : FVec F S8x704x2048 .f32 := Host.absf main_v8
  let main_cst_1 : FVec F S_ .f32 := constant S_ .f32 0x7F800000#32
  let main_v10 : FVec F S8x704x2048 .f32 := broadcastInDim S8x704x2048 ![] bcast_S_S8x704x2048 main_cst_1
  let main_v11 : IVec S8x704x2048 1 := cmpf .olt main_v9 main_v10
  let main_v12 : FVec F S8x704x2048 .f32 := (extf .f32 · bitsLt_bf16_f32) main_arg3
  let main_v13 : FVec F S8x704x2048 .f32 := Host.absf main_v12
  let main_cst_2 : FVec F S_ .f32 := constant S_ .f32 0x7F800000#32
  let main_v14 : FVec F S8x704x2048 .f32 := broadcastInDim S8x704x2048 ![] bcast_S_S8x704x2048 main_cst_2
  let main_v15 : IVec S8x704x2048 1 := cmpf .olt main_v13 main_v14
  let main_v16 : FVec F S2048x2048 .f32 := (extf .f32 · bitsLt_bf16_f32) main_arg4
  let main_v17 : FVec F S2048x2048 .f32 := Host.absf main_v16
  let main_cst_3 : FVec F S_ .f32 := constant S_ .f32 0x7F800000#32
  let main_v18 : FVec F S2048x2048 .f32 := broadcastInDim S2048x2048 ![] bcast_S_S2048x2048 main_cst_3
  fn_part1 (F := F) main_v3 main_v7 main_v11 main_v15 main_v17 main_v18
-- ==== Pre_mla_finite.lean ====
abbrev S8x2048x192 : Shape := ⟨3, ![8, 2048, 192]⟩
abbrev S8x2048x128 : Shape := ⟨3, ![8, 2048, 128]⟩
abbrev S2048x1024 : Shape := ⟨2, ![2048, 1024]⟩
abbrev S_ : Shape := ⟨0, ![]⟩

class Facts : Prop where
  bitsLt_bf16_f32 : FTy.bits .bf16 < FTy.bits .f32
  bcast_S_S8x2048x192 : S_.BroadcastsInDim S8x2048x192 (![] : Fin 0 → Fin S8x2048x192.rank)

variable [Facts]

def fn {F : FTy → Type} [FloatOps F] (main_arg0 : FVec F S8x2048x192 .bf16) (main_arg1 : FVec F S8x2048x192 .bf16) (main_arg2 : FVec F S8x2048x128 .bf16) (main_arg3 : FVec F S2048x1024 .bf16) : IVec S8x2048x192 1 :=
  let main_v0 : FVec F S8x2048x192 .f32 := (extf .f32 · bitsLt_bf16_f32) main_arg0
  let main_v1 : FVec F S8x2048x192 .f32 := Host.absf main_v0
  let main_cst : FVec F S_ .f32 := constant S_ .f32 0x7F800000#32
  let main_v2 : FVec F S8x2048x192 .f32 := broadcastInDim S8x2048x192 ![] bcast_S_S8x2048x192 main_cst
  let main_v3 : IVec S8x2048x192 1 := cmpf .olt main_v1 main_v2
  let main_v4 : FVec F S8x2048x192 .f32 := (extf .f32 · bitsLt_bf16_f32) main_arg1
  let main_v5 : FVec F S8x2048x192 .f32 := Host.absf main_v4
  let main_cst_0 : FVec F S_ .f32 := constant S_ .f32 0x7F800000#32
  let main_v6 : FVec F S8x2048x192 .f32 := broadcastInDim S8x2048x192 ![] bcast_S_S8x2048x192 main_cst_0
  let main_v7 : IVec S8x2048x192 1 := cmpf .olt main_v5 main_v6
  let main_v8 : IVec S8x2048x192 1 := andi main_v3 main_v7
  main_v8
-- ==== MlaBwd.lean ====
abbrev S8x2048x192 : Shape := ⟨3, ![8, 2048, 192]⟩
abbrev S8x2048x128 : Shape := ⟨3, ![8, 2048, 128]⟩
abbrev S2048x1024 : Shape := ⟨2, ![2048, 1024]⟩
abbrev S1x1024x192 : Shape := ⟨3, ![1, 1024, 192]⟩
abbrev S1x2048x192 : Shape := ⟨3, ![1, 2048, 192]⟩
abbrev S1x2048x128 : Shape := ⟨3, ![1, 2048, 128]⟩
abbrev S1024x128 : Shape := ⟨2, ![1024, 128]⟩
abbrev S1024x192 : Shape := ⟨2, ![1024, 192]⟩
abbrev S2048x192 : Shape := ⟨2, ![2048, 192]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x192, .bf16⟩
  | .hbm, ⟨1, _⟩ => ⟨S8x2048x192, .bf16⟩
  | .hbm, ⟨2, _⟩ => ⟨S8x2048x128, .bf16⟩
  | .hbm, ⟨3, _⟩ => ⟨S2048x1024, .bf16⟩
  | .hbm, ⟨4, _⟩ => ⟨S8x2048x192, .f32⟩
  | .hbm, ⟨5, _⟩ => ⟨S8x2048x192, .f32⟩
  | .hbm, ⟨6, _⟩ => ⟨S8x2048x128, .f32⟩
  | .local _ .vmem, ⟨0, _⟩ => ⟨S1x1024x192, .bf16⟩
  | .local _ .vmem, ⟨1, _⟩ => ⟨S1x1024x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x192, .f32⟩
  | .local _ .vmem, ⟨9, _⟩ => ⟨S1x1024x192, .f32⟩
  | .local _ .vmem, ⟨10, _⟩ => ⟨S1x2048x192, .f32⟩
  | .local _ .vmem, ⟨11, _⟩ => ⟨S1x2048x192, .f32⟩
  | .local _ .vmem, ⟨12, _⟩ => ⟨S1x2048x128, .f32⟩
  | .local _ .vmem, ⟨13, _⟩ => ⟨S1x2048x128, .f32⟩
  | _, _ => ⟨S8x2048x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v34 : BitVec 1 := Scalar.cmpi .eq arg1 c0_i32
  let v35 : BitVec 32 := Scalar.extui v34
  let c0_i32_21 : BitVec 32 := 0#32
  let v36 : BitVec 1 := Scalar.cmpi .ne v35 c0_i32_21
  v36

def k0_cond2 (i : grid0.Coords) : BitVec 1 :=
  let arg1 : BitVec 32 := BitVec.ofNat 32 (i 1).val
  let c0_i32_22 : BitVec 32 := 0#32
  let v37 : BitVec 1 := Scalar.cmpi .sgt arg1 c0_i32_22
  let v38 : BitVec 32 := Scalar.extui v37
  let c0_i32_23 : BitVec 32 := 0#32
  let v39 : BitVec 1 := Scalar.cmpi .ne v38 c0_i32_23
  v39

def k0_cond3 (i : grid0.Coords) : BitVec 1 :=
  let arg1 : BitVec 32 := BitVec.ofNat 32 (i 1).val
  let c0_i32_25 : BitVec 32 := 0#32
  let v42 : BitVec 1 := Scalar.cmpi .eq arg1 c0_i32_25
  let v43 : BitVec 32 := Scalar.extui v42
  let c0_i32_26 : BitVec 32 := 0#32
  let v44 : BitVec 1 := Scalar.cmpi .ne v43 c0_i32_26
  v44

def k0_cond4 (i : grid0.Coords) : BitVec 1 :=
  let arg1 : BitVec 32 := BitVec.ofNat 32 (i 1).val
  let c0_i32_27 : BitVec 32 := 0#32
  let v45 : BitVec 1 := Scalar.cmpi .sgt arg1 c0_i32_27
  let v46 : BitVec 32 := Scalar.extui v45
  let c0_i32_28 : BitVec 32 := 0#32
  let v47 : BitVec 1 := Scalar.cmpi .ne v46 c0_i32_28
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlaRefIdeal.lean ====
abbrev S8x2048x192 : Shape := ⟨3, ![8, 2048, 192]⟩
abbrev S8x2048x128 : Shape := ⟨3, ![8, 2048, 128]⟩
abbrev S2048x1024 : Shape := ⟨2, ![2048, 1024]⟩
abbrev S8x2048x2048 : Shape := ⟨3, ![8, 2048, 2048]⟩
abbrev S8x2048x64 : Shape := ⟨3, ![8, 2048, 64]⟩
abbrev S_ : Shape := ⟨0, ![]⟩
abbrev S8x2048 : Shape := ⟨2, ![8, 2048]⟩
abbrev S8x2048x1 : Shape := ⟨3, ![8, 2048, 1]⟩
abbrev S8x128x2048 : Shape := ⟨3, ![8, 128, 2048]⟩
abbrev S2048x8x128 : Shape := ⟨3, ![2048, 8, 128]⟩

abbrev nBuf : Space → Nat
  | .hbm => 95
  | .vmem => 0
  | .smem => 0
  | _ => 0

abbrev bufTy : (tb : Table) → Fin (tcTables nBuf tb) → BufTy
  | .hbm, ⟨0, _⟩ => ⟨S8x2048x192, .bf16⟩
  | .hbm, ⟨1, _⟩ => ⟨S8x2048x192, .bf16⟩
  | .hbm, ⟨2, _⟩ => ⟨S8x2048x128, .bf16⟩
  | .hbm, ⟨3, _⟩ => ⟨S2048x1024, .bf16⟩
  | .hbm, ⟨4, _⟩ => ⟨S8x2048x192, .f32⟩
  | .hbm, ⟨5, _⟩ => ⟨S8x2048x192, .f32⟩
  | .hbm, ⟨6, _⟩ => ⟨S8x2048x128, .f32⟩
  | .hbm, ⟨7, _⟩ => ⟨S2048x1024, .f32⟩
  | .hbm, ⟨8, _⟩ => ⟨S8x2048x128, .f32⟩
  | .hbm, ⟨9, _⟩ => ⟨S8x2048x128, .f32⟩
  | .hbm, ⟨10, _⟩ => ⟨S8x2048x2048, .f32⟩
  | .hbm, ⟨11, _⟩ => ⟨S8x2048x64, .f32⟩
  | .hbm, ⟨12, _⟩ => ⟨S8x2048x64, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .i1⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .i1⟩
  | .hbm, ⟨32, _⟩ => ⟨S_, .f32⟩
  | .hbm, ⟨33, _⟩ => ⟨S8x2048, .f32⟩
  | .hbm, ⟨34, _⟩ => ⟨S8x2048, .i1⟩
  | .hbm, ⟨35, _⟩ => ⟨S_, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S8x2048x2048, .f32⟩
  | .hbm, ⟨51, _⟩ => ⟨S8x2048x2048, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x128x2048, .f32⟩
  | .hbm, ⟨57, _⟩ => ⟨S2048x8x128, .f32⟩
  | .hbm, ⟨58, _⟩ => ⟨S2048x1024, .f32⟩
  | .hbm, ⟨59, _⟩ => ⟨S2048x8x128, .f32⟩
  | .hbm, ⟨60, _⟩ => ⟨S8x128x2048, .f32⟩
  | .hbm, ⟨61, _⟩ => ⟨S8x2048x2048, .f32⟩
  | .hbm, ⟨62, _⟩ => ⟨S8x128x2048, .f32⟩
  | .hbm, ⟨63, _⟩ => ⟨S8x2048x128, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S8x2048x1, .f32⟩
  | .hbm, ⟨71, _⟩ => ⟨S8x2048x2048, .f32⟩
  | .hbm, ⟨72, _⟩ => ⟨S8x2048x2048, .f32⟩
  | .hbm, ⟨73, _⟩ => ⟨S_, .f32⟩
  | .hbm, ⟨74, _⟩ => ⟨S8x2048, .f32⟩
  | .hbm, ⟨75, _⟩ => ⟨S8x2048x2048, .f32⟩
  | .hbm, ⟨76, _⟩ => ⟨S8x2048x2048, .f32⟩
  | .hbm, ⟨77, _⟩ => ⟨S8x2048x2048, .f32⟩
  | .hbm, ⟨78, _⟩ => ⟨S_, .f32⟩
  | .hbm, ⟨79, _⟩ => ⟨S8x2048x2048, .f32⟩
  | .hbm, ⟨80, _⟩ => ⟨S8x2048x2048, .f32⟩
  | .hbm, ⟨81, _⟩ => ⟨S8x2048x64, .f32⟩
  | .hbm, ⟨82, _⟩ => ⟨S8x2048x64, .f32⟩
  | .hbm, ⟨83, _⟩ => ⟨S_, .f32⟩
  | .hbm, ⟨84, _⟩ => ⟨S8x2048x192, .f32⟩
  | .hbm, ⟨85, _⟩ => ⟨S_, .f32⟩
  | .hbm, ⟨86, _⟩ => ⟨S8x2048x192, .f32⟩
  | .hbm, ⟨87, _⟩ => ⟨S8x2048x128, .f32⟩
  | .hbm, ⟨88, _⟩ => ⟨S8x2048x128, .f32⟩
  | .hbm, ⟨89, _⟩ => ⟨S_, .f32⟩
  | .hbm, ⟨90, _⟩ => ⟨S8x2048x192, .f32⟩
  | .hbm, ⟨91, _⟩ => ⟨S8x2048x192, .f32⟩
  | .hbm, ⟨92, _⟩ => ⟨S_, .f32⟩
  | .hbm, ⟨93, _⟩ => ⟨S8x2048x192, .f32⟩
  | .hbm, ⟨94, _⟩ => ⟨S8x2048x192, .f32⟩
  | _, _ => ⟨S8x2048x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_cst_16 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== FfnBwd.lean ====
abbrev S2048x2048 : Shape := ⟨2, ![2048, 2048]⟩
abbrev S8x704x2048 : Shape := ⟨3, ![8, 704, 2048]⟩
abbrev S8x2048x704 : Shape := ⟨3, ![8, 2048, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩
abbrev S1x2048x704 : Shape := ⟨3, ![1, 2048, 704]⟩
abbrev S2048x1024 : Shape := ⟨2, ![2048, 1024]⟩
abbrev S1x704x1024 : Shape := ⟨3, ![1, 704, 1024]⟩
abbrev S2048x704 : Shape := ⟨2, ![2048, 704]⟩
abbrev S704x1024 : Shape := ⟨2, ![704, 1024]⟩
abbrev S8x512x704 : Shape := ⟨3, ![8, 512, 704]⟩
abbrev S8x704x512 : Shape := ⟨3, ![8, 704, 512]⟩
abbrev S512x512 : Shape := ⟨2, ![512, 512]⟩
abbrev S1x512x704 : Shape := ⟨3, ![1, 512, 704]⟩
abbrev S512x704 : Shape := ⟨2, ![512, 704]⟩
abbrev S1x704x512 : Shape := ⟨3, ![1, 704, 512]⟩
abbrev S704x512 : Shape := ⟨2, ![704, 512]⟩
abbrev S8x1024x704 : Shape := ⟨3, ![8, 1024, 704]⟩
abbrev S1024x512 : Shape := ⟨2, ![1024, 512]⟩

abbrev nBuf : Space → Nat
  | .hbm => 16
  | .vmem => 62
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x704x2048, .bf16⟩
  | .hbm, ⟨3, _⟩ => ⟨S8x704x2048, .bf16⟩
  | .hbm, ⟨4, _⟩ => ⟨S2048x2048, .bf16⟩
  | .hbm, ⟨5, _⟩ => ⟨S2048x2048, .f32⟩
  | .hbm, ⟨6, _⟩ => ⟨S8x2048x704, .bf16⟩
  | .hbm, ⟨7, _⟩ => ⟨S8x2048x704, .bf16⟩
  | .hbm, ⟨8, _⟩ => ⟨S8x2048x704, .bf16⟩
  | .hbm, ⟨9, _⟩ => ⟨S8x2048x704, .bf16⟩
  | .hbm, ⟨10, _⟩ => ⟨S8x2048x704, .bf16⟩
  | .hbm, ⟨11, _⟩ => ⟨S8x704x2048, .bf16⟩
  | .hbm, ⟨12, _⟩ => ⟨S8x704x2048, .bf16⟩
  | .hbm, ⟨13, _⟩ => ⟨S8x704x2048, .bf16⟩
  | .hbm, ⟨14, _⟩ => ⟨S2048x2048, .f32⟩
  | .hbm, ⟨15, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1024x2048, .bf16⟩
  | .local _ .vmem, ⟨15, _⟩ => ⟨S1024x2048, .bf16⟩
  | .local _ .vmem, ⟨16, _⟩ => ⟨S1x704x2048, .bf16⟩
  | .local _ .vmem, ⟨17, _⟩ => ⟨S1x704x2048, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S1x1024x704, .bf16⟩
  | .local _ .vmem, ⟨25, _⟩ => ⟨S1x1024x704, .bf16⟩
  | .local _ .vmem, ⟨26, _⟩ => ⟨S1x2048x704, .bf16⟩
  | .local _ .vmem, ⟨27, _⟩ => ⟨S1x2048x704, .bf16⟩
  | .local _ .vmem, ⟨28, _⟩ => ⟨S2048x1024, .bf16⟩
  | .local _ .vmem, ⟨29, _⟩ => ⟨S2048x1024, .bf16⟩
  | .local _ .vmem, ⟨30, _⟩ => ⟨S1x2048x704, .bf16⟩
  | .local _ .vmem, ⟨31, _⟩ => ⟨S1x2048x704, .bf16⟩
  | .local _ .vmem, ⟨32, _⟩ => ⟨S2048x1024, .bf16⟩
  | .local _ .vmem, ⟨33, _⟩ => ⟨S2048x1024, .bf16⟩
  | .local _ .vmem, ⟨34, _⟩ => ⟨S1x704x1024, .bf16⟩
  | .local _ .vmem, ⟨35, _⟩ => ⟨S1x704x1024, .bf16⟩
  | .local _ .vmem, ⟨36, _⟩ => ⟨S1x704x1024, .bf16⟩
  | .local _ .vmem, ⟨37, _⟩ => ⟨S1x704x1024, .bf16⟩
  | .local _ .vmem, ⟨38, _⟩ => ⟨S1x2048x704, .bf16⟩
  | .local _ .vmem, ⟨39, _⟩ => ⟨S1x2048x704, .bf16⟩
  | .local _ .vmem, ⟨40, _⟩ => ⟨S2048x1024, .bf16⟩
  | .local _ .vmem, ⟨41, _⟩ => ⟨S2048x1024, .bf16⟩
  | .local _ .vmem, ⟨42, _⟩ => ⟨S1x704x1024, .bf16⟩
  | .local _ .vmem, ⟨43, _⟩ => ⟨S1x704x1024, .bf16⟩
  | .local _ .vmem, ⟨44, _⟩ => ⟨S8x512x704, .bf16⟩
  | .local _ .vmem, ⟨45, _⟩ => ⟨S8x512x704, .bf16⟩
  | .local _ .vmem, ⟨46, _⟩ => ⟨S8x704x512, .bf16⟩
  | .local _ .vmem, ⟨47, _⟩ => ⟨S8x704x512, .bf16⟩
  | .local _ .vmem, ⟨48, _⟩ => ⟨S8x512x704, .bf16⟩
  | .local _ .vmem, ⟨49, _⟩ => ⟨S8x512x704, .bf16⟩
  | .local _ .vmem, ⟨50, _⟩ => ⟨S8x704x512, .bf16⟩
  | .local _ .vmem, ⟨51, _⟩ => ⟨S8x704x512, .bf16⟩
  | .local _ .vmem, ⟨52, _⟩ => ⟨S512x512, .f32⟩
  | .local _ .vmem, ⟨53, _⟩ => ⟨S512x512, .f32⟩
  | .local _ .vmem, ⟨54, _⟩ => ⟨S8x1024x704, .bf16⟩
  | .local _ .vmem, ⟨55, _⟩ => ⟨S8x1024x704, .bf16⟩
  | .local _ .vmem, ⟨56, _⟩ => ⟨S8x704x512, .bf16⟩
  | .local _ .vmem, ⟨57, _⟩ => ⟨S8x704x512, .bf16⟩
  | .local _ .vmem, ⟨58, _⟩ => ⟨S1024x512, .f32⟩
  | .local _ .vmem, ⟨59, _⟩ => ⟨S1024x512, .f32⟩
  | .local _ .vmem, ⟨60, _⟩ => ⟨S1024x512, .f32⟩
  | .local _ .vmem, ⟨61, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1_0 : Ref sig .tc := ⟨.hbm, 9, rfl⟩
abbrev main_v1_1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg4_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg2_1 : Ref sig .tc := ⟨.vmem, 59, rfl⟩
abbrev cc5_stg3_0 : Ref sig .tc := ⟨.vmem, 60, rfl⟩
abbrev cc5_stg3_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem5_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem4_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem2_1 : DmaSem sig := 59
abbrev cc5_sem3_0 : DmaSem sig := 60
abbrev cc5_sem3_1 : DmaSem sig := 61

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x704x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x2048x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x2048x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x704x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x704x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![8, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x2048x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x704x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 4], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S8x512x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S8x704x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S8x512x704 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S8x704x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S512x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![4, 2], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S8x1024x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S8x704x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== FfnRefIdeal.lean ====
abbrev S2048x2048 : Shape := ⟨2, ![2048, 2048]⟩
abbrev S8x704x2048 : Shape := ⟨3, ![8, 704, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x704x2048, .bf16⟩
  | .hbm, ⟨3, _⟩ => ⟨S8x704x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S8x704x2048, .f32⟩
  | .hbm, ⟨8, _⟩ => ⟨S8x704x2048, .f32⟩
  | .hbm, ⟨9, _⟩ => ⟨S8x704x2048, .f32⟩
  | .hbm, ⟨10, _⟩ => ⟨S2048x2048, .f32⟩
  | .hbm, ⟨11, _⟩ => ⟨S5632x2048, .f32⟩
  | .hbm, ⟨12, _⟩ => ⟨S2048x5632, .f32⟩
  | .hbm, ⟨13, _⟩ => ⟨S5632x2048, .f32⟩
  | .hbm, ⟨14, _⟩ => ⟨S2048x5632, .f32⟩
  | .hbm, ⟨15, _⟩ => ⟨S5632x2048, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S_, .f32⟩
  | .hbm, ⟨23, _⟩ => ⟨S2048x5632, .f32⟩
  | .hbm, ⟨24, _⟩ => ⟨S2048x5632, .f32⟩
  | .hbm, ⟨25, _⟩ => ⟨S_, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x5632, .f32⟩
  | .hbm, ⟨40, _⟩ => ⟨S5632x2048, .f32⟩
  | .hbm, ⟨41, _⟩ => ⟨S2048x5632, .f32⟩
  | .hbm, ⟨42, _⟩ => ⟨S2048x5632, .f32⟩
  | .hbm, ⟨43, _⟩ => ⟨S2048x5632, .f32⟩
  | .hbm, ⟨44, _⟩ => ⟨S5632x2048, .f32⟩
  | .hbm, ⟨45, _⟩ => ⟨S2048x5632, .f32⟩
  | .hbm, ⟨46, _⟩ => ⟨S2048x2048, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S5632x2048, .f32⟩
  | .hbm, ⟨52, _⟩ => ⟨S2048x5632, .f32⟩
  | .hbm, ⟨53, _⟩ => ⟨S2048x2048, .f32⟩
  | .hbm, ⟨54, _⟩ => ⟨S2048x2048, .f32⟩
  | .hbm, ⟨55, _⟩ => ⟨S5632x2048, .f32⟩
  | .hbm, ⟨56, _⟩ => ⟨S5632x2048, .f32⟩
  | .hbm, ⟨57, _⟩ => ⟨S8x704x2048, .f32⟩
  | .hbm, ⟨58, _⟩ => ⟨S8x704x2048, .bf16⟩
  | .hbm, ⟨59, _⟩ => ⟨S8x704x2048, .f32⟩
  | .hbm, ⟨60, _⟩ => ⟨S8x704x2048, .bf16⟩
  | .hbm, ⟨61, _⟩ => ⟨S8x704x2048, .f32⟩
  | .hbm, ⟨62, _⟩ => ⟨S8x704x2048, .bf16⟩
  | .hbm, ⟨63, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v11_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v11_1 : Ref sig .tc := ⟨.hbm, 28, rfl⟩
abbrev main_v11_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== PleBwd.lean ====
abbrev S2048x2048 : Shape := ⟨2, ![2048, 2048]⟩
abbrev S8x256x2048 : Shape := ⟨3, ![8, 256, 2048]⟩
abbrev S2048x256 : Shape := ⟨2, ![2048, 256]⟩
abbrev S8x256x256 : Shape := ⟨3, ![8, 256, 256]⟩
abbrev S1024x2048 : Shape := ⟨2, ![1024, 2048]⟩
abbrev S1024x256 : Shape := ⟨2, ![1024, 256]⟩
abbrev S1x256x256 : Shape := ⟨3, ![1, 256, 256]⟩
abbrev S256x256 : Shape := ⟨2, ![256, 256]⟩
abbrev S256x2048 : Shape := ⟨2, ![256, 2048]⟩
abbrev S1x256x2048 : Shape := ⟨3, ![1, 256, 2048]⟩

abbrev nBuf : Space → Nat
  | .hbm => 15
  | .vmem => 42
  | .smem => 0
  | _ => 0

abbrev bufTy : (tb : Table) → Fin (tcTables nBuf tb) → BufTy
  | .hbm, ⟨0, _⟩ => ⟨S2048x2048, .bf16⟩
  | .hbm, ⟨1, _⟩ => ⟨S8x256x2048, .bf16⟩
  | .hbm, ⟨2, _⟩ => ⟨S2048x256, .bf16⟩
  | .hbm, ⟨3, _⟩ => ⟨S8x256x256, .bf16⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S8x256x256, .bf16⟩
  | .hbm, ⟨13, _⟩ => ⟨S8x256x2048, .bf16⟩
  | .hbm, ⟨14, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .bf16⟩
  | .local _ .vmem, ⟨6, _⟩ => ⟨S1x256x256, .bf16⟩
  | .local _ .vmem, ⟨7, _⟩ => ⟨S1x256x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | .local _ .vmem, ⟨20, _⟩ => ⟨S256x2048, .f32⟩
  | .local _ .vmem, ⟨21, _⟩ => ⟨S256x2048, .f32⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | .local _ .vmem, ⟨29, _⟩ => ⟨S1x256x256, .bf16⟩
  | .local _ .vmem, ⟨30, _⟩ => ⟨S1x256x256, .bf16⟩
  | .local _ .vmem, ⟨31, _⟩ => ⟨S2048x256, .bf16⟩
  | .local _ .vmem, ⟨32, _⟩ => ⟨S2048x256, .bf16⟩
  | .local _ .vmem, ⟨33, _⟩ => ⟨S2048x2048, .bf16⟩
  | .local _ .vmem, ⟨34, _⟩ => ⟨S1x256x2048, .bf16⟩
  | .local _ .vmem, ⟨35, _⟩ => ⟨S1x256x2048, .bf16⟩
  | .local _ .vmem, ⟨36, _⟩ => ⟨S1024x2048, .bf16⟩
  | .local _ .vmem, ⟨37, _⟩ => ⟨S1024x2048, .bf16⟩
  | .local _ .vmem, ⟨38, _⟩ => ⟨S1x256x2048, .bf16⟩
  | .local _ .vmem, ⟨39, _⟩ => ⟨S1x256x2048, .bf16⟩
  | .local _ .vmem, ⟨40, _⟩ => ⟨S1024x256, .f32⟩
  | .local _ .vmem, ⟨41, _⟩ => ⟨S1024x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc2_sem0_0 : DmaSem sig := 26
abbrev cc2_sem1_0 : DmaSem sig := 27
abbrev cc2_sem1_1 : DmaSem sig := 28
abbrev cc2_sem2_0 : DmaSem sig := 29
abbrev cc2_sem2_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .vmem S2048x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1x256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x256x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== PleRefIdeal.lean ====
abbrev S2048x2048 : Shape := ⟨2, ![2048, 2048]⟩
abbrev S8x256x2048 : Shape := ⟨3, ![8, 256, 2048]⟩
abbrev S2048x256 : Shape := ⟨2, ![2048, 256]⟩
abbrev S8x256x256 : Shape := ⟨3, ![8, 256, 256]⟩
abbrev S256x8x256 : Shape := ⟨3, ![256, 8, 256]⟩
abbrev S256x2048 : Shape := ⟨2, ![256, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x256x2048, .bf16⟩
  | .hbm, ⟨2, _⟩ => ⟨S2048x256, .bf16⟩
  | .hbm, ⟨3, _⟩ => ⟨S8x256x256, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S8x256x2048, .f32⟩
  | .hbm, ⟨8, _⟩ => ⟨S2048x256, .f32⟩
  | .hbm, ⟨9, _⟩ => ⟨S8x256x256, .f32⟩
  | .hbm, ⟨10, _⟩ => ⟨S2048x2048, .f32⟩
  | .hbm, ⟨11, _⟩ => ⟨S256x8x256, .f32⟩
  | .hbm, ⟨12, _⟩ => ⟨S256x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x256, .f32⟩
  | .hbm, ⟨32, _⟩ => ⟨S256x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S256x8x256, .f32⟩
  | .hbm, ⟨38, _⟩ => ⟨S8x256x256, .f32⟩
  | .hbm, ⟨39, _⟩ => ⟨S8x256x256, .bf16⟩
  | .hbm, ⟨40, _⟩ => ⟨S8x256x2048, .f32⟩
  | .hbm, ⟨41, _⟩ => ⟨S8x256x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== MixBwd.lean ====
abbrev S2048x1024 : Shape := ⟨2, ![2048, 1024]⟩
abbrev S8x1024x256 : Shape := ⟨3, ![8, 1024, 256]⟩
abbrev S2048x2048 : Shape := ⟨2, ![2048, 2048]⟩
abbrev S8x256x2048 : Shape := ⟨3, ![8, 256, 2048]⟩
abbrev S8x2048x256 : Shape := ⟨3, ![8, 2048, 256]⟩
abbrev S1024x1024 : Shape := ⟨2, ![1024, 1024]⟩
abbrev S1x1024x256 : Shape := ⟨3, ![1, 1024, 256]⟩
abbrev S1024x256 : Shape := ⟨2, ![1024, 256]⟩
abbrev S1x2048x256 : Shape := ⟨3, ![1, 2048, 256]⟩
abbrev S1x256x2048 : Shape := ⟨3, ![1, 256, 2048]⟩
abbrev S2048x256 : Shape := ⟨2, ![2048, 256]⟩
abbrev S256x2048 : Shape := ⟨2, ![256, 2048]⟩
abbrev S1024x2048 : Shape := ⟨2, ![1024, 2048]⟩
abbrev S8x512x256 : Shape := ⟨3, ![8, 512, 256]⟩
abbrev S512x512 : Shape := ⟨2, ![512, 512]⟩
abbrev S1x512x256 : Shape := ⟨3, ![1, 512, 256]⟩
abbrev S512x256 : Shape := ⟨2, ![512, 256]⟩
abbrev S8x256x512 : Shape := ⟨3, ![8, 256, 512]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 22
  | .vmem => 73
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S8x1024x256, .bf16⟩
  | .hbm, ⟨3, _⟩ => ⟨S8x1024x256, .bf16⟩
  | .hbm, ⟨4, _⟩ => ⟨S2048x2048, .f32⟩
  | .hbm, ⟨5, _⟩ => ⟨S2048x2048, .f32⟩
  | .hbm, ⟨6, _⟩ => ⟨S8x256x2048, .bf16⟩
  | .hbm, ⟨7, _⟩ => ⟨S2048x2048, .bf16⟩
  | .hbm, ⟨8, _⟩ => ⟨S2048x2048, .f32⟩
  | .hbm, ⟨9, _⟩ => ⟨S8x2048x256, .bf16⟩
  | .hbm, ⟨10, _⟩ => ⟨S8x2048x256, .bf16⟩
  | .hbm, ⟨11, _⟩ => ⟨S8x2048x256, .bf16⟩
  | .hbm, ⟨12, _⟩ => ⟨S8x256x2048, .bf16⟩
  | .hbm, ⟨13, _⟩ => ⟨S8x2048x256, .bf16⟩
  | .hbm, ⟨14, _⟩ => ⟨S8x2048x256, .bf16⟩
  | .hbm, ⟨15, _⟩ => ⟨S2048x2048, .bf16⟩
  | .hbm, ⟨16, _⟩ => ⟨S2048x2048, .bf16⟩
  | .hbm, ⟨17, _⟩ => ⟨S8x1024x256, .bf16⟩
  | .hbm, ⟨18, _⟩ => ⟨S8x1024x256, .bf16⟩
  | .hbm, ⟨19, _⟩ => ⟨S2048x1024, .bf16⟩
  | .hbm, ⟨20, _⟩ => ⟨S2048x1024, .bf16⟩
  | .hbm, ⟨21, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x2048x256, .bf16⟩
  | .local _ .vmem, ⟨19, _⟩ => ⟨S1x2048x256, .bf16⟩
  | .local _ .vmem, ⟨20, _⟩ => ⟨S2048x2048, .bf16⟩
  | .local _ .vmem, ⟨21, _⟩ => ⟨S1x256x2048, .bf16⟩
  | .local _ .vmem, ⟨22, _⟩ => ⟨S1x256x2048, .bf16⟩
  | .local _ .vmem, ⟨23, _⟩ => ⟨S1024x2048, .bf16⟩
  | .local _ .vmem, ⟨24, _⟩ => ⟨S1024x2048, .bf16⟩
  | .local _ .vmem, ⟨25, _⟩ => ⟨S1x256x2048, .bf16⟩
  | .local _ .vmem, ⟨26, _⟩ => ⟨S1x256x2048, .bf16⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1x1024x256, .bf16⟩
  | .local _ .vmem, ⟨32, _⟩ => ⟨S1x1024x256, .bf16⟩
  | .local _ .vmem, ⟨33, _⟩ => ⟨S1x1024x256, .bf16⟩
  | .local _ .vmem, ⟨34, _⟩ => ⟨S1x1024x256, .bf16⟩
  | .local _ .vmem, ⟨35, _⟩ => ⟨S1x1024x256, .bf16⟩
  | .local _ .vmem, ⟨36, _⟩ => ⟨S1x1024x256, .bf16⟩
  | .local _ .vmem, ⟨37, _⟩ => ⟨S1x1024x256, .bf16⟩
  | .local _ .vmem, ⟨38, _⟩ => ⟨S1x1024x256, .bf16⟩
  | .local _ .vmem, ⟨39, _⟩ => ⟨S1024x256, .bf16⟩
  | .local _ .vmem, ⟨40, _⟩ => ⟨S1024x256, .bf16⟩
  | .local _ .vmem, ⟨41, _⟩ => ⟨S1024x256, .bf16⟩
  | .local _ .vmem, ⟨42, _⟩ => ⟨S1024x256, .bf16⟩
  | .local _ .vmem, ⟨43, _⟩ => ⟨S2048x1024, .bf16⟩
  | .local _ .vmem, ⟨44, _⟩ => ⟨S1x2048x256, .bf16⟩
  | .local _ .vmem, ⟨45, _⟩ => ⟨S1x2048x256, .bf16⟩
  | .local _ .vmem, ⟨46, _⟩ => ⟨S1x1024x256, .bf16⟩
  | .local _ .vmem, ⟨47, _⟩ => ⟨S1x1024x256, .bf16⟩
  | .local _ .vmem, ⟨48, _⟩ => ⟨S2048x1024, .bf16⟩
  | .local _ .vmem, ⟨49, _⟩ => ⟨S1x2048x256, .bf16⟩
  | .local _ .vmem, ⟨50, _⟩ => ⟨S1x2048x256, .bf16⟩
  | .local _ .vmem, ⟨51, _⟩ => ⟨S1x1024x256, .bf16⟩
  | .local _ .vmem, ⟨52, _⟩ => ⟨S1x1024x256, .bf16⟩
  | .local _ .vmem, ⟨53, _⟩ => ⟨S8x512x256, .bf16⟩
  | .local _ .vmem, ⟨54, _⟩ => ⟨S8x512x256, .bf16⟩
  | .local _ .vmem, ⟨55, _⟩ => ⟨S8x512x256, .bf16⟩
  | .local _ .vmem, ⟨56, _⟩ => ⟨S8x512x256, .bf16⟩
  | .local _ .vmem, ⟨57, _⟩ => ⟨S512x512, .bf16⟩
  | .local _ .vmem, ⟨58, _⟩ => ⟨S512x512, .bf16⟩
  | .local _ .vmem, ⟨59, _⟩ => ⟨S8x512x256, .bf16⟩
  | .local _ .vmem, ⟨60, _⟩ => ⟨S8x512x256, .bf16⟩
  | .local _ .vmem, ⟨61, _⟩ => ⟨S8x512x256, .bf16⟩
  | .local _ .vmem, ⟨62, _⟩ => ⟨S8x512x256, .bf16⟩
  | .local _ .vmem, ⟨63, _⟩ => ⟨S512x512, .bf16⟩
  | .local _ .vmem, ⟨64, _⟩ => ⟨S512x512, .bf16⟩
  | .local _ .vmem, ⟨65, _⟩ => ⟨S8x1024x256, .bf16⟩
  | .local _ .vmem, ⟨66, _⟩ => ⟨S8x1024x256, .bf16⟩
  | .local _ .vmem, ⟨67, _⟩ => ⟨S8x256x512, .bf16⟩
  | .local _ .vmem, ⟨68, _⟩ => ⟨S8x256x512, .bf16⟩
  | .local _ .vmem, ⟨69, _⟩ => ⟨S1024x512, .f32⟩
  | .local _ .vmem, ⟨70, _⟩ => ⟨S1024x512, .f32⟩
  | .local _ .vmem, ⟨71, _⟩ => ⟨S1024x512, .f32⟩
  | .local _ .vmem, ⟨72, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg2_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg6_1 : Ref sig .tc := ⟨.vmem, 36, rfl⟩
abbrev cc2_stg7_0 : Ref sig .tc := ⟨.vmem, 37, rfl⟩
abbrev cc2_stg7_1 : Ref sig .tc := ⟨.vmem, 38, rfl⟩
abbrev cc2_stg8_0 : Ref sig .tc := ⟨.vmem, 39, rfl⟩
abbrev cc2_stg8_1 : Ref sig .tc := ⟨.vmem, 40, rfl⟩
abbrev cc2_stg9_0 : Ref sig .tc := ⟨.vmem, 41, rfl⟩
abbrev cc2_stg9_1 : Ref sig .tc := ⟨.vmem, 42, rfl⟩
abbrev cc3_stg0_0 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc4_stg0_0 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg2_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg2_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg1_1 : Ref sig .tc := ⟨.vmem, 68, rfl⟩
abbrev cc7_stg2_0 : Ref sig .tc := ⟨.vmem, 69, rfl⟩
abbrev cc7_stg2_1 : Ref sig .tc := ⟨.vmem, 70, rfl⟩
abbrev cc7_stg3_0 : Ref sig .tc := ⟨.vmem, 71, rfl⟩
abbrev cc7_stg3_1 : Ref sig .tc := ⟨.vmem, 72, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem2_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34
abbrev cc2_sem6_0 : DmaSem sig := 35
abbrev cc2_sem6_1 : DmaSem sig := 36
abbrev cc2_sem7_0 : DmaSem sig := 37
abbrev cc2_sem7_1 : DmaSem sig := 38
abbrev cc2_sem8_0 : DmaSem sig := 39
abbrev cc2_sem8_1 : DmaSem sig := 40
abbrev cc2_sem9_0 : DmaSem sig := 41
abbrev cc2_sem9_1 : DmaSem sig := 42
abbrev cc3_sem0_0 : DmaSem sig := 43
abbrev cc3_sem1_0 : DmaSem sig := 44
abbrev cc3_sem1_1 : DmaSem sig := 45
abbrev cc3_sem2_0 : DmaSem sig := 46
abbrev cc3_sem2_1 : DmaSem sig := 47
abbrev cc4_sem0_0 : DmaSem sig := 48
abbrev cc4_sem1_0 : DmaSem sig := 49
abbrev cc4_sem1_1 : DmaSem sig := 50
abbrev cc4_sem2_0 : DmaSem sig := 51
abbrev cc4_sem2_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58
abbrev cc6_sem0_0 : DmaSem sig := 59
abbrev cc6_sem0_1 : DmaSem sig := 60
abbrev cc6_sem1_0 : DmaSem sig := 61
abbrev cc6_sem1_1 : DmaSem sig := 62
abbrev cc6_sem2_0 : DmaSem sig := 63
abbrev cc6_sem2_1 : DmaSem sig := 64
abbrev cc7_sem0_0 : DmaSem sig := 65
abbrev cc7_sem0_1 : DmaSem sig := 66
abbrev cc7_sem1_0 : DmaSem sig := 67
abbrev cc7_sem1_1 : DmaSem sig := 68
abbrev cc7_sem2_0 : DmaSem sig := 69
abbrev cc7_sem2_1 : DmaSem sig := 70
abbrev cc7_sem3_0 : DmaSem sig := 71
abbrev cc7_sem3_1 : DmaSem sig := 72

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![8, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1x256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1024x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x1024x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x1024x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1024x256 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1024x256 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S1x2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true]

abbrev stage4_1 : Fin 2 → Memref sig .tc .vmem S1x2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1024x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 4], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S8x512x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S8x512x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 4], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S8x512x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S8x512x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S512x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 2], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S8x1024x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S8x256x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]
-- ==== MixRefIdeal.lean ====
abbrev S2048x1024 : Shape := ⟨2, ![2048, 1024]⟩
abbrev S8x1024x256 : Shape := ⟨3, ![8, 1024, 256]⟩
abbrev S2048x2048 : Shape := ⟨2, ![2048, 2048]⟩
abbrev S8x256x2048 : Shape := ⟨3, ![8, 256, 2048]⟩
abbrev S1024x8x256 : Shape := ⟨3, ![1024, 8, 256]⟩
abbrev S1024x2048 : Shape := ⟨2, ![1024, 2048]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S8x1024x256, .bf16⟩
  | .hbm, ⟨3, _⟩ => ⟨S8x1024x256, .bf16⟩
  | .hbm, ⟨4, _⟩ => ⟨S2048x2048, .f32⟩
  | .hbm, ⟨5, _⟩ => ⟨S2048x2048, .f32⟩
  | .hbm, ⟨6, _⟩ => ⟨S8x256x2048, .bf16⟩
  | .hbm, ⟨7, _⟩ => ⟨S2048x2048, .bf16⟩
  | .hbm, ⟨8, _⟩ => ⟨S2048x2048, .f32⟩
  | .hbm, ⟨9, _⟩ => ⟨S2048x1024, .f32⟩
  | .hbm, ⟨10, _⟩ => ⟨S2048x1024, .f32⟩
  | .hbm, ⟨11, _⟩ => ⟨S8x1024x256, .f32⟩
  | .hbm, ⟨12, _⟩ => ⟨S8x1024x256, .f32⟩
  | .hbm, ⟨13, _⟩ => ⟨S8x256x2048, .f32⟩
  | .hbm, ⟨14, _⟩ => ⟨S2048x2048, .f32⟩
  | .hbm, ⟨15, _⟩ => ⟨S1024x8x256, .f32⟩
  | .hbm, ⟨16, _⟩ => ⟨S1024x2048, .f32⟩
  | .hbm, ⟨17, _⟩ => ⟨S1024x8x256, .f32⟩
  | .hbm, ⟨18, _⟩ => ⟨S1024x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x1024, .f32⟩
  | .hbm, ⟨56, _⟩ => ⟨S1024x2048, .f32⟩
  | .hbm, ⟨57, _⟩ => ⟨S2048x1024, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x1024, .f32⟩
  | .hbm, ⟨62, _⟩ => ⟨S1024x2048, .f32⟩
  | .hbm, ⟨63, _⟩ => ⟨S2048x1024, .f32⟩
  | .hbm, ⟨64, _⟩ => ⟨S2048x2048, .f32⟩
  | .hbm, ⟨65, _⟩ => ⟨S8x256x2048, .f32⟩
  | .hbm, ⟨66, _⟩ => ⟨S8x256x2048, .bf16⟩
  | .hbm, ⟨67, _⟩ => ⟨S2048x2048, .bf16⟩
  | .hbm, ⟨68, _⟩ => ⟨S2048x2048, .bf16⟩
  | .hbm, ⟨69, _⟩ => ⟨S1024x8x256, .f32⟩
  | .hbm, ⟨70, _⟩ => ⟨S8x1024x256, .f32⟩
  | .hbm, ⟨71, _⟩ => ⟨S8x1024x256, .bf16⟩
  | .hbm, ⟨72, _⟩ => ⟨S1024x8x256, .f32⟩
  | .hbm, ⟨73, _⟩ => ⟨S8x1024x256, .f32⟩
  | .hbm, ⟨74, _⟩ => ⟨S8x1024x256, .bf16⟩
  | .hbm, ⟨75, _⟩ => ⟨S2048x1024, .bf16⟩
  | .hbm, ⟨76, _⟩ => ⟨S2048x1024, .bf16⟩
  | .hbm, ⟨77, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== InProj.lean ====
abbrev S2048x2048 : Shape := ⟨2, ![2048, 2048]⟩
abbrev S3072x2048 : Shape := ⟨2, ![3072, 2048]⟩
abbrev S1088x2048 : Shape := ⟨2, ![1088, 2048]⟩
abbrev S2048x3072 : Shape := ⟨2, ![2048, 3072]⟩
abbrev S2048x1088 : Shape := ⟨2, ![2048, 1088]⟩
abbrev S512x2048 : Shape := ⟨2, ![512, 2048]⟩
abbrev S1024x2048 : Shape := ⟨2, ![1024, 2048]⟩
abbrev S512x1024 : Shape := ⟨2, ![512, 1024]⟩
abbrev S1024x1088 : Shape := ⟨2, ![1024, 1088]⟩
abbrev S512x3072 : Shape := ⟨2, ![512, 3072]⟩
abbrev S3072x512 : Shape := ⟨2, ![3072, 512]⟩
abbrev S512x1088 : Shape := ⟨2, ![512, 1088]⟩
abbrev S1088x512 : Shape := ⟨2, ![1088, 512]⟩
abbrev S2048x512 : Shape := ⟨2, ![2048, 512]⟩
abbrev S512x512 : Shape := ⟨2, ![512, 512]⟩

abbrev nBuf : Space → Nat
  | .hbm => 14
  | .vmem => 41
  | .smem => 0
  | _ => 0

abbrev bufTy : (tb : Table) → Fin (tcTables nBuf tb) → BufTy
  | .hbm, ⟨0, _⟩ => ⟨S2048x2048, .bf16⟩
  | .hbm, ⟨1, _⟩ => ⟨S3072x2048, .bf16⟩
  | .hbm, ⟨2, _⟩ => ⟨S1088x2048, .bf16⟩
  | .hbm, ⟨3, _⟩ => ⟨S2048x2048, .bf16⟩
  | .hbm, ⟨4, _⟩ => ⟨S2048x2048, .bf16⟩
  | .hbm, ⟨5, _⟩ => ⟨S2048x3072, .bf16⟩
  | .hbm, ⟨6, _⟩ => ⟨S2048x1088, .bf16⟩
  | .hbm, ⟨7, _⟩ => ⟨S2048x2048, .bf16⟩
  | .hbm, ⟨8, _⟩ => ⟨S2048x2048, .bf16⟩
  | .hbm, ⟨9, _⟩ => ⟨S2048x3072, .bf16⟩
  | .hbm, ⟨10, _⟩ => ⟨S2048x1088, .f32⟩
  | .hbm, ⟨11, _⟩ => ⟨S2048x2048, .f32⟩
  | .hbm, ⟨12, _⟩ => ⟨S2048x2048, .f32⟩
  | .hbm, ⟨13, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1088x2048, .bf16⟩
  | .local _ .vmem, ⟨9, _⟩ => ⟨S1024x1088, .f32⟩
  | .local _ .vmem, ⟨10, _⟩ => ⟨S1024x1088, .f32⟩
  | .local _ .vmem, ⟨11, _⟩ => ⟨S512x2048, .bf16⟩
  | .local _ .vmem, ⟨12, _⟩ => ⟨S512x2048, .bf16⟩
  | .local _ .vmem, ⟨13, _⟩ => ⟨S1024x2048, .bf16⟩
  | .local _ .vmem, ⟨14, _⟩ => ⟨S1024x2048, .bf16⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S1024x2048, .bf16⟩
  | .local _ .vmem, ⟨20, _⟩ => ⟨S1024x2048, .bf16⟩
  | .local _ .vmem, ⟨21, _⟩ => ⟨S512x1024, .f32⟩
  | .local _ .vmem, ⟨22, _⟩ => ⟨S512x1024, .f32⟩
  | .local _ .vmem, ⟨23, _⟩ => ⟨S512x3072, .bf16⟩
  | .local _ .vmem, ⟨24, _⟩ => ⟨S512x3072, .bf16⟩
  | .local _ .vmem, ⟨25, _⟩ => ⟨S3072x512, .bf16⟩
  | .local _ .vmem, ⟨26, _⟩ => ⟨S3072x512, .bf16⟩
  | .local _ .vmem, ⟨27, _⟩ => ⟨S512x1088, .bf16⟩
  | .local _ .vmem, ⟨28, _⟩ => ⟨S512x1088, .bf16⟩
  | .local _ .vmem, ⟨29, _⟩ => ⟨S1088x512, .bf16⟩
  | .local _ .vmem, ⟨30, _⟩ => ⟨S1088x512, .bf16⟩
  | .local _ .vmem, ⟨31, _⟩ => ⟨S512x2048, .bf16⟩
  | .local _ .vmem, ⟨32, _⟩ => ⟨S512x2048, .bf16⟩
  | .local _ .vmem, ⟨33, _⟩ => ⟨S2048x512, .bf16⟩
  | .local _ .vmem, ⟨34, _⟩ => ⟨S2048x512, .bf16⟩
  | .local _ .vmem, ⟨35, _⟩ => ⟨S512x2048, .bf16⟩
  | .local _ .vmem, ⟨36, _⟩ => ⟨S512x2048, .bf16⟩
  | .local _ .vmem, ⟨37, _⟩ => ⟨S2048x512, .bf16⟩
  | .local _ .vmem, ⟨38, _⟩ => ⟨S2048x512, .bf16⟩
  | .local _ .vmem, ⟨39, _⟩ => ⟨S512x512, .f32⟩
  | .local _ .vmem, ⟨40, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc4_stg4_0 : Ref sig .tc := ⟨.vmem, 31, rfl⟩
abbrev cc4_stg4_1 : Ref sig .tc := ⟨.vmem, 32, rfl⟩
abbrev cc4_stg5_0 : Ref sig .tc := ⟨.vmem, 33, rfl⟩
abbrev cc4_stg5_1 : Ref sig .tc := ⟨.vmem, 34, rfl⟩
abbrev cc4_stg6_0 : Ref sig .tc := ⟨.vmem, 35, rfl⟩
abbrev cc4_stg6_1 : Ref sig .tc := ⟨.vmem, 36, rfl⟩
abbrev cc4_stg7_0 : Ref sig .tc := ⟨.vmem, 37, rfl⟩
abbrev cc4_stg7_1 : Ref sig .tc := ⟨.vmem, 38, rfl⟩
abbrev cc4_stg8_0 : Ref sig .tc := ⟨.vmem, 39, rfl⟩
abbrev cc4_stg8_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem3_1 : DmaSem sig := 30
abbrev cc4_sem4_0 : DmaSem sig := 31
abbrev cc4_sem4_1 : DmaSem sig := 32
abbrev cc4_sem5_0 : DmaSem sig := 33
abbrev cc4_sem5_1 : DmaSem sig := 34
abbrev cc4_sem6_0 : DmaSem sig := 35
abbrev cc4_sem6_1 : DmaSem sig := 36
abbrev cc4_sem7_0 : DmaSem sig := 37
abbrev cc4_sem7_1 : DmaSem sig := 38
abbrev cc4_sem8_0 : DmaSem sig := 39
abbrev cc4_sem8_1 : DmaSem sig := 40

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1088x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1024x1088 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x3072 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S3072x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x1088 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1088x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S512x2048 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S2048x512 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S512x2048 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![false, true]

abbrev stage4_7 : Fin 2 → Memref sig .tc .vmem S2048x512 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev stage4_8 : Fin 2 → Memref sig .tc .vmem S512x512 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]
-- ==== InRefIdeal.lean ====
abbrev S2048x2048 : Shape := ⟨2, ![2048, 2048]⟩
abbrev S3072x2048 : Shape := ⟨2, ![3072, 2048]⟩
abbrev S1088x2048 : Shape := ⟨2, ![1088, 2048]⟩
abbrev S2048x3072 : Shape := ⟨2, ![2048, 3072]⟩
abbrev S2048x1088 : Shape := ⟨2, ![2048, 1088]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S3072x2048, .bf16⟩
  | .hbm, ⟨2, _⟩ => ⟨S1088x2048, .bf16⟩
  | .hbm, ⟨3, _⟩ => ⟨S2048x2048, .bf16⟩
  | .hbm, ⟨4, _⟩ => ⟨S2048x2048, .bf16⟩
  | .hbm, ⟨5, _⟩ => ⟨S2048x3072, .bf16⟩
  | .hbm, ⟨6, _⟩ => ⟨S2048x1088, .bf16⟩
  | .hbm, ⟨7, _⟩ => ⟨S2048x2048, .bf16⟩
  | .hbm, ⟨8, _⟩ => ⟨S2048x2048, .bf16⟩
  | .hbm, ⟨9, _⟩ => ⟨S2048x2048, .f32⟩
  | .hbm, ⟨10, _⟩ => ⟨S3072x2048, .f32⟩
  | .hbm, ⟨11, _⟩ => ⟨S1088x2048, .f32⟩
  | .hbm, ⟨12, _⟩ => ⟨S2048x2048, .f32⟩
  | .hbm, ⟨13, _⟩ => ⟨S2048x2048, .f32⟩
  | .hbm, ⟨14, _⟩ => ⟨S2048x3072, .f32⟩
  | .hbm, ⟨15, _⟩ => ⟨S2048x1088, .f32⟩
  | .hbm, ⟨16, _⟩ => ⟨S2048x2048, .f32⟩
  | .hbm, ⟨17, _⟩ => ⟨S2048x2048, .f32⟩
  | .hbm, ⟨18, _⟩ => ⟨S2048x3072, .f32⟩
  | .hbm, ⟨19, _⟩ => ⟨S2048x3072, .f32⟩
  | .hbm, ⟨20, _⟩ => ⟨S2048x1088, .f32⟩
  | .hbm, ⟨21, _⟩ => ⟨S2048x1088, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x3072, .bf16⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== MlaFwd.lean ====
abbrev S8x2048x192 : Shape := ⟨3, ![8, 2048, 192]⟩
abbrev S8x2048x128 : Shape := ⟨3, ![8, 2048, 128]⟩
abbrev S2048x1024 : Shape := ⟨2, ![2048, 1024]⟩
abbrev S1x1024x192 : Shape := ⟨3, ![1, 1024, 192]⟩
abbrev S1x2048x192 : Shape := ⟨3, ![1, 2048, 192]⟩
abbrev S1x2048x128 : Shape := ⟨3, ![1, 2048, 128]⟩
abbrev S1024x128 : Shape := ⟨2, ![1024, 128]⟩
abbrev S1024x192 : Shape := ⟨2, ![1024, 192]⟩
abbrev S2048x192 : Shape := ⟨2, ![2048, 192]⟩
abbrev S1024x2048 : Shape := ⟨2, ![1024, 2048]⟩
abbrev S1024 : Shape := ⟨1, ![1024]⟩
abbrev S1024x1 : Shape := ⟨2, ![1024, 1]⟩
abbrev S2048x128 : Shape := ⟨2, ![2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x192, .bf16⟩
  | .hbm, ⟨1, _⟩ => ⟨S8x2048x192, .bf16⟩
  | .hbm, ⟨2, _⟩ => ⟨S8x2048x128, .bf16⟩
  | .hbm, ⟨3, _⟩ => ⟨S2048x1024, .bf16⟩
  | .local _ .vmem, ⟨0, _⟩ => ⟨S1x1024x192, .bf16⟩
  | .local _ .vmem, ⟨1, _⟩ => ⟨S1x1024x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S1024x128, .bf16⟩
  | .local _ .vmem, ⟨7, _⟩ => ⟨S1024x128, .bf16⟩
  | _, _ => ⟨S8x2048x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttRefIdeal.lean ====
abbrev S8x2048x192 : Shape := ⟨3, ![8, 2048, 192]⟩
abbrev S8x2048x128 : Shape := ⟨3, ![8, 2048, 128]⟩
abbrev S8x2048x2048 : Shape := ⟨3, ![8, 2048, 2048]⟩
abbrev S8x2048x64 : Shape := ⟨3, ![8, 2048, 64]⟩
abbrev S_ : Shape := ⟨0, ![]⟩
abbrev S8x2048 : Shape := ⟨2, ![8, 2048]⟩
abbrev S8x2048x1 : Shape := ⟨3, ![8, 2048, 1]⟩
abbrev S8x128x2048 : Shape := ⟨3, ![8, 128, 2048]⟩
abbrev S2048x8x128 : Shape := ⟨3, ![2048, 8, 128]⟩
abbrev S2048x1024 : Shape := ⟨2, ![2048, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x192, .bf16⟩
  | .hbm, ⟨1, _⟩ => ⟨S8x2048x192, .bf16⟩
  | .hbm, ⟨2, _⟩ => ⟨S8x2048x128, .bf16⟩
  | .hbm, ⟨3, _⟩ => ⟨S8x2048x192, .f32⟩
  | .hbm, ⟨4, _⟩ => ⟨S8x2048x192, .f32⟩
  | .hbm, ⟨5, _⟩ => ⟨S8x2048x128, .f32⟩
  | .hbm, ⟨6, _⟩ => ⟨S8x2048x128, .f32⟩
  | .hbm, ⟨7, _⟩ => ⟨S8x2048x128, .f32⟩
  | .hbm, ⟨8, _⟩ => ⟨S8x2048x2048, .f32⟩
  | .hbm, ⟨9, _⟩ => ⟨S8x2048x64, .f32⟩
  | .hbm, ⟨10, _⟩ => ⟨S8x2048x64, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S_, .f32⟩
  | .hbm, ⟨19, _⟩ => ⟨S8x2048, .f32⟩
  | .hbm, ⟨20, _⟩ => ⟨S8x2048, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x128x2048, .f32⟩
  | .hbm, ⟨31, _⟩ => ⟨S2048x8x128, .f32⟩
  | .hbm, ⟨32, _⟩ => ⟨S2048x1024, .f32⟩
  | .hbm, ⟨33, _⟩ => ⟨S2048x1024, .bf16⟩
  | _, _ => ⟨S8x2048x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== UpBwd.lean ====
abbrev S2048x512 : Shape := ⟨2, ![2048, 512]⟩
abbrev S8x192x512 : Shape := ⟨3, ![8, 192, 512]⟩
abbrev S8x512x256 : Shape := ⟨3, ![8, 512, 256]⟩
abbrev S8x2048x192 : Shape := ⟨3, ![8, 2048, 192]⟩
abbrev S8x2048x256 : Shape := ⟨3, ![8, 2048, 256]⟩
abbrev S1x2048x192 : Shape := ⟨3, ![1, 2048, 192]⟩
abbrev S1x192x512 : Shape := ⟨3, ![1, 192, 512]⟩
abbrev S2048x192 : Shape := ⟨2, ![2048, 192]⟩
abbrev S192x512 : Shape := ⟨2, ![192, 512]⟩
abbrev S1x2048x256 : Shape := ⟨3, ![1, 2048, 256]⟩
abbrev S1x512x256 : Shape := ⟨3, ![1, 512, 256]⟩
abbrev S2048x256 : Shape := ⟨2, ![2048, 256]⟩
abbrev S512x256 : Shape := ⟨2, ![512, 256]⟩
abbrev S8x512x192 : Shape := ⟨3, ![8, 512, 192]⟩
abbrev S512x512 : Shape := ⟨2, ![512, 512]⟩
abbrev S1x512x192 : Shape := ⟨3, ![1, 512, 192]⟩
abbrev S512x192 : Shape := ⟨2, ![512, 192]⟩

abbrev nBuf : Space → Nat
  | .hbm => 10
  | .vmem => 20
  | .smem => 0
  | _ => 0

abbrev bufTy : (tb : Table) → Fin (tcTables nBuf tb) → BufTy
  | .hbm, ⟨0, _⟩ => ⟨S2048x512, .bf16⟩
  | .hbm, ⟨1, _⟩ => ⟨S8x192x512, .bf16⟩
  | .hbm, ⟨2, _⟩ => ⟨S2048x512, .bf16⟩
  | .hbm, ⟨3, _⟩ => ⟨S8x512x256, .bf16⟩
  | .hbm, ⟨4, _⟩ => ⟨S8x2048x192, .bf16⟩
  | .hbm, ⟨5, _⟩ => ⟨S8x2048x256, .bf16⟩
  | .hbm, ⟨6, _⟩ => ⟨S8x192x512, .bf16⟩
  | .hbm, ⟨7, _⟩ => ⟨S8x512x256, .bf16⟩
  | .hbm, ⟨8, _⟩ => ⟨S2048x512, .f32⟩
  | .hbm, ⟨9, _⟩ => ⟨S2048x512, .f32⟩
  | .local _ .vmem, ⟨0, _⟩ => ⟨S1x2048x192, .bf16⟩
  | .local _ .vmem, ⟨1, _⟩ => ⟨S1x2048x192, .bf16⟩
  | .local _ .vmem, ⟨2, _⟩ => ⟨S2048x512, .bf16⟩
  | .local _ .vmem, ⟨3, _⟩ => ⟨S1x192x512, .bf16⟩
  | .local _ .vmem, ⟨4, _⟩ => ⟨S1x192x512, .bf16⟩
  | .local _ .vmem, ⟨5, _⟩ => ⟨S2048x512, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x512x256, .bf16⟩
  | .local _ .vmem, ⟨9, _⟩ => ⟨S1x512x256, .bf16⟩
  | .local _ .vmem, ⟨10, _⟩ => ⟨S8x512x192, .bf16⟩
  | .local _ .vmem, ⟨11, _⟩ => ⟨S8x512x192, .bf16⟩
  | .local _ .vmem, ⟨12, _⟩ => ⟨S8x192x512, .bf16⟩
  | .local _ .vmem, ⟨13, _⟩ => ⟨S512x512, .f32⟩
  | .local _ .vmem, ⟨14, _⟩ => ⟨S512x512, .f32⟩
  | .local _ .vmem, ⟨15, _⟩ => ⟨S8x512x256, .bf16⟩
  | .local _ .vmem, ⟨16, _⟩ => ⟨S8x512x256, .bf16⟩
  | .local _ .vmem, ⟨17, _⟩ => ⟨S8x512x256, .bf16⟩
  | .local _ .vmem, ⟨18, _⟩ => ⟨S512x512, .f32⟩
  | .local _ .vmem, ⟨19, _⟩ => ⟨S512x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S2048x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S8x512x192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S8x192x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S8x512x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S8x512x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== UpRefIdeal.lean ====
abbrev S2048x512 : Shape := ⟨2, ![2048, 512]⟩
abbrev S8x192x512 : Shape := ⟨3, ![8, 192, 512]⟩
abbrev S8x512x256 : Shape := ⟨3, ![8, 512, 256]⟩
abbrev S8x2048x192 : Shape := ⟨3, ![8, 2048, 192]⟩
abbrev S8x2048x256 : Shape := ⟨3, ![8, 2048, 256]⟩
abbrev S1536x512 : Shape := ⟨2, ![1536, 512]⟩
abbrev S512x1536 : Shape := ⟨2, ![512, 1536]⟩
abbrev S512x8x256 : Shape := ⟨3, ![512, 8, 256]⟩
abbrev S512x2048 : Shape := ⟨2, ![512, 2048]⟩
abbrev S2048x1536 : Shape := ⟨2, ![2048, 1536]⟩
abbrev S2048x8x192 : Shape := ⟨3, ![2048, 8, 192]⟩
abbrev S2048x2048 : Shape := ⟨2, ![2048, 2048]⟩
abbrev S2048x8x256 : Shape := ⟨3, ![2048, 8, 256]⟩

abbrev nBuf : Space → Nat
  | .hbm => 38
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S8x192x512, .bf16⟩
  | .hbm, ⟨2, _⟩ => ⟨S2048x512, .bf16⟩
  | .hbm, ⟨3, _⟩ => ⟨S8x512x256, .bf16⟩
  | .hbm, ⟨4, _⟩ => ⟨S8x2048x192, .bf16⟩
  | .hbm, ⟨5, _⟩ => ⟨S8x2048x256, .bf16⟩
  | .hbm, ⟨6, _⟩ => ⟨S2048x512, .f32⟩
  | .hbm, ⟨7, _⟩ => ⟨S8x192x512, .f32⟩
  | .hbm, ⟨8, _⟩ => ⟨S2048x512, .f32⟩
  | .hbm, ⟨9, _⟩ => ⟨S8x512x256, .f32⟩
  | .hbm, ⟨10, _⟩ => ⟨S8x2048x192, .f32⟩
  | .hbm, ⟨11, _⟩ => ⟨S8x2048x256, .f32⟩
  | .hbm, ⟨12, _⟩ => ⟨S1536x512, .f32⟩
  | .hbm, ⟨13, _⟩ => ⟨S512x1536, .f32⟩
  | .hbm, ⟨14, _⟩ => ⟨S512x8x256, .f32⟩
  | .hbm, ⟨15, _⟩ => ⟨S512x2048, .f32⟩
  | .hbm, ⟨16, _⟩ => ⟨S2048x1536, .f32⟩
  | .hbm, ⟨17, _⟩ => ⟨S2048x8x192, .f32⟩
  | .hbm, ⟨18, _⟩ => ⟨S8x2048x192, .f32⟩
  | .hbm, ⟨19, _⟩ => ⟨S2048x2048, .f32⟩
  | .hbm, ⟨20, _⟩ => ⟨S2048x8x256, .f32⟩
  | .hbm, ⟨21, _⟩ => ⟨S8x2048x256, .f32⟩
  | .hbm, ⟨22, _⟩ => ⟨S2048x8x256, .f32⟩
  | .hbm, ⟨23, _⟩ => ⟨S2048x2048, .f32⟩
  | .hbm, ⟨24, _⟩ => ⟨S2048x512, .f32⟩
  | .hbm, ⟨25, _⟩ => ⟨S512x2048, .f32⟩
  | .hbm, ⟨26, _⟩ => ⟨S2048x512, .f32⟩
  | .hbm, ⟨27, _⟩ => ⟨S2048x8x192, .f32⟩
  | .hbm, ⟨28, _⟩ => ⟨S2048x1536, .f32⟩
  | .hbm, ⟨29, _⟩ => ⟨S1536x512, .f32⟩
  | .hbm, ⟨30, _⟩ => ⟨S512x1536, .f32⟩
  | .hbm, ⟨31, _⟩ => ⟨S2048x512, .f32⟩
  | .hbm, ⟨32, _⟩ => ⟨S1536x512, .f32⟩
  | .hbm, ⟨33, _⟩ => ⟨S8x192x512, .f32⟩
  | .hbm, ⟨34, _⟩ => ⟨S8x192x512, .bf16⟩
  | .hbm, ⟨35, _⟩ => ⟨S512x8x256, .f32⟩
  | .hbm, ⟨36, _⟩ => ⟨S8x512x256, .f32⟩
  | .hbm, ⟨37, _⟩ => ⟨S8x512x256, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== DwIn.lean ====
abbrev S2048x3072 : Shape := ⟨2, ![2048, 3072]⟩
abbrev S2048x1088 : Shape := ⟨2, ![2048, 1088]⟩
abbrev S2048x2048 : Shape := ⟨2, ![2048, 2048]⟩
abbrev S_ : Shape := ⟨0, ![]⟩
abbrev S8256x2048 : Shape := ⟨2, ![8256, 2048]⟩
abbrev S2048x1024 : Shape := ⟨2, ![2048, 1024]⟩
abbrev S2048x512 : Shape := ⟨2, ![2048, 512]⟩
abbrev S1024x512 : Shape := ⟨2, ![1024, 512]⟩
abbrev S1088x512 : Shape := ⟨2, ![1088, 512]⟩
abbrev S8x1032x2048 : Shape := ⟨3, ![8, 1032, 2048]⟩

abbrev nBuf : Space → Nat
  | .hbm => 12
  | .vmem => 19
  | .smem => 0
  | _ => 0

abbrev bufTy : (tb : Table) → Fin (tcTables nBuf tb) → BufTy
  | .hbm, ⟨0, _⟩ => ⟨S2048x3072, .bf16⟩
  | .hbm, ⟨1, _⟩ => ⟨S2048x1088, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S_, .bf16⟩
  | .hbm, ⟨6, _⟩ => ⟨S8256x2048, .bf16⟩
  | .hbm, ⟨7, _⟩ => ⟨S8256x2048, .bf16⟩
  | .hbm, ⟨8, _⟩ => ⟨S8256x2048, .bf16⟩
  | .hbm, ⟨9, _⟩ => ⟨S8256x2048, .bf16⟩
  | .hbm, ⟨10, _⟩ => ⟨S8256x2048, .bf16⟩
  | .hbm, ⟨11, _⟩ => ⟨S8x1032x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S2048x1088, .bf16⟩
  | .local _ .vmem, ⟨6, _⟩ => ⟨S2048x512, .bf16⟩
  | .local _ .vmem, ⟨7, _⟩ => ⟨S2048x512, .bf16⟩
  | .local _ .vmem, ⟨8, _⟩ => ⟨S1088x512, .bf16⟩
  | .local _ .vmem, ⟨9, _⟩ => ⟨S2048x1024, .bf16⟩
  | .local _ .vmem, ⟨10, _⟩ => ⟨S2048x1024, .bf16⟩
  | .local _ .vmem, ⟨11, _⟩ => ⟨S2048x512, .bf16⟩
  | .local _ .vmem, ⟨12, _⟩ => ⟨S2048x512, .bf16⟩
  | .local _ .vmem, ⟨13, _⟩ => ⟨S1024x512, .bf16⟩
  | .local _ .vmem, ⟨14, _⟩ => ⟨S2048x1024, .bf16⟩
  | .local _ .vmem, ⟨15, _⟩ => ⟨S2048x1024, .bf16⟩
  | .local _ .vmem, ⟨16, _⟩ => ⟨S2048x512, .bf16⟩
  | .local _ .vmem, ⟨17, _⟩ => ⟨S2048x512, .bf16⟩
  | .local _ .vmem, ⟨18, _⟩ => ⟨S1024x512, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_scratch0 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 5
abbrev cc1_sem1_0 : DmaSem sig := 6
abbrev cc1_sem1_1 : DmaSem sig := 7
abbrev cc2_sem0_0 : DmaSem sig := 9
abbrev cc2_sem0_1 : DmaSem sig := 10
abbrev cc2_sem1_0 : DmaSem sig := 11
abbrev cc2_sem1_1 : DmaSem sig := 12
abbrev cc3_sem0_0 : DmaSem sig := 14
abbrev cc3_sem0_1 : DmaSem sig := 15
abbrev cc3_sem1_0 : DmaSem sig := 16
abbrev cc3_sem1_1 : DmaSem sig := 17

abbrev nD : Nat := 1
abbrev τ : Topo := Topo.v7x

variable {F : FTy → Type} [FloatOps F]

abbrev grid0 : Pipeline.Grid := ⟨2, ![3, 4], ![false, false]⟩

def k0_mult1 (i : grid0.Coords) : BitVec 32 :=
  let c0_i32 : BitVec 32 := 0#32
  let arg0 : BitVec 32 := BitVec.ofNat 32 (i 0).val
  let c1024_i32 : BitVec 32 := 1024#32
  let v7 : BitVec 32 := Scalar.muli arg0 c1024_i32
  let v8 : BitVec 32 := Scalar.addi c0_i32 v7
  v8
def k0_mult2 (i : grid0.Coords) : BitVec 32 :=
  let arg1 : BitVec 32 := BitVec.ofNat 32 (i 1).val
  let c512_i32 : BitVec 32 := 512#32
  let v10 : BitVec 32 := Scalar.muli arg1 c512_i32
  v10
def k0_off1 (i : grid0.Coords) : Fin 2 → Nat :=
  let c0_i32 : BitVec 32 := 0#32
  let arg0 : BitVec 32 := BitVec.ofNat 32 (i 0).val
  let c1024_i32 : BitVec 32 := 1024#32
  let v7 : BitVec 32 := Scalar.muli arg0 c1024_i32
  let v8 : BitVec 32 := Scalar.addi c0_i32 v7
  let v9 : BitVec 32 := v8
  let arg1 : BitVec 32 := BitVec.ofNat 32 (i 1).val
  let c512_i32 : BitVec 32 := 512#32
  let v10 : BitVec 32 := Scalar.muli arg1 c512_i32
  let v11 : BitVec 32 := v10
  ![v9.toNat, v11.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev grid1 : Pipeline.Grid := ⟨2, ![1, 4], ![false, false]⟩

def k1_mult1 (i : grid1.Coords) : BitVec 32 :=
  let c3072_i32 : BitVec 32 := 3072#32
  let arg0 : BitVec 32 := BitVec.ofNat 32 (i 0).val
  let c1088_i32 : BitVec 32 := 1088#32
  let v7 : BitVec 32 := Scalar.muli arg0 c1088_i32
  let v8 : BitVec 32 := Scalar.addi c3072_i32 v7
  v8
def k1_mult2 (i : grid1.Coords) : BitVec 32 :=
  let arg1 : BitVec 32 := BitVec.ofNat 32 (i 1).val
  let c512_i32 : BitVec 32 := 512#32
  let v10 : BitVec 32 := Scalar.muli arg1 c512_i32
  v10
def k1_off1 (i : grid1.Coords) : Fin 2 → Nat :=
  let c3072_i32 : BitVec 32 := 3072#32
  let arg0 : BitVec 32 := BitVec.ofNat 32 (i 0).val
  let c1088_i32 : BitVec 32 := 1088#32
  let v7 : BitVec 32 := Scalar.muli arg0 c1088_i32
  let v8 : BitVec 32 := Scalar.addi c3072_i32 v7
  let v9 : BitVec 32 := v8
  let arg1 : BitVec 32 := BitVec.ofNat 32 (i 1).val
  let c512_i32 : BitVec 32 := 512#32
  let v10 : BitVec 32 := Scalar.muli arg1 c512_i32
  let v11 : BitVec 32 := v10
  ![v9.toNat, v11.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage1_0 : Fin 1 → Memref sig .tc .vmem S2048x1088 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev grid2 : Pipeline.Grid := ⟨2, ![2, 4], ![false, false]⟩

def k2_mult1 (i : grid2.Coords) : BitVec 32 :=
  let c4160_i32 : BitVec 32 := 4160#32
  let arg0 : BitVec 32 := BitVec.ofNat 32 (i 0).val
  let c1024_i32 : BitVec 32 := 1024#32
  let v7 : BitVec 32 := Scalar.muli arg0 c1024_i32
  let v8 : BitVec 32 := Scalar.addi c4160_i32 v7
  v8
def k2_mult2 (i : grid2.Coords) : BitVec 32 :=
  let arg1 : BitVec 32 := BitVec.ofNat 32 (i 1).val
  let c512_i32 : BitVec 32 := 512#32
  let v10 : BitVec 32 := Scalar.muli arg1 c512_i32
  v10
def k2_off1 (i : grid2.Coords) : Fin 2 → Nat :=
  let c4160_i32 : BitVec 32 := 4160#32
  let arg0 : BitVec 32 := BitVec.ofNat 32 (i 0).val
  let c1024_i32 : BitVec 32 := 1024#32
  let v7 : BitVec 32 := Scalar.muli arg0 c1024_i32
  let v8 : BitVec 32 := Scalar.addi c4160_i32 v7
  let v9 : BitVec 32 := v8
  let arg1 : BitVec 32 := BitVec.ofNat 32 (i 1).val
  let c512_i32 : BitVec 32 := 512#32
  let v10 : BitVec 32 := Scalar.muli arg1 c512_i32
  let v11 : BitVec 32 := v10
  ![v9.toNat, v11.toNat]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev grid3 : Pipeline.Grid := ⟨2, ![2, 4], ![false, false]⟩

def k3_mult1 (i : grid3.Coords) : BitVec 32 :=
  let c6208_i32 : BitVec 32 := 6208#32
  let arg0 : BitVec 32 := BitVec.ofNat 32 (i 0).val
  let c1024_i32 : BitVec 32 := 1024#32
  let v7 : BitVec 32 := Scalar.muli arg0 c1024_i32
  let v8 : BitVec 32 := Scalar.addi c6208_i32 v7
  v8
def k3_mult2 (i : grid3.Coords) : BitVec 32 :=
  let arg1 : BitVec 32 := BitVec.ofNat 32 (i 1).val
  let c512_i32 : BitVec 32 := 512#32
  let v10 : BitVec 32 := Scalar.muli arg1 c512_i32
  v10
def k3_off1 (i : grid3.Coords) : Fin 2 → Nat :=
  let c6208_i32 : BitVec 32 := 6208#32
  let arg0 : BitVec 32 := BitVec.ofNat 32 (i 0).val
  let c1024_i32 : BitVec 32 := 1024#32
  let v7 : BitVec 32 := Scalar.muli arg0 c1024_i32
  let v8 : BitVec 32 := Scalar.addi c6208_i32 v7
  let v9 : BitVec 32 := v8
  let arg1 : BitVec 32 := BitVec.ofNat 32 (i 1).val
  let c512_i32 : BitVec 32 := 512#32
  let v10 : BitVec 32 := Scalar.muli arg1 c512_i32
  let v11 : BitVec 32 := v10
  ![v9.toNat, v11.toNat]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]
-- ==== DwRefIdeal.lean ====
abbrev S2048x3072 : Shape := ⟨2, ![2048, 3072]⟩
abbrev S2048x1088 : Shape := ⟨2, ![2048, 1088]⟩
abbrev S2048x2048 : Shape := ⟨2, ![2048, 2048]⟩
abbrev S2048x8256 : Shape := ⟨2, ![2048, 8256]⟩
abbrev S_ : Shape := ⟨0, ![]⟩
abbrev S8x1032x2048 : Shape := ⟨3, ![8, 1032, 2048]⟩
abbrev S8256x2048 : Shape := ⟨2, ![8256, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1088, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x8256, .bf16⟩
  | .hbm, ⟨6, _⟩ => ⟨S2048x8256, .f32⟩
  | .hbm, ⟨7, _⟩ => ⟨S_, .f32⟩
  | .hbm, ⟨8, _⟩ => ⟨S8x1032x2048, .f32⟩
  | .hbm, ⟨9, _⟩ => ⟨S2048x2048, .f32⟩
  | .hbm, ⟨10, _⟩ => ⟨S8256x2048, .f32⟩
  | .hbm, ⟨11, _⟩ => ⟨S2048x8256, .f32⟩
  | .hbm, ⟨12, _⟩ => ⟨S2048x8256, .f32⟩
  | .hbm, ⟨13, _⟩ => ⟨S8256x2048, .f32⟩
  | .hbm, ⟨14, _⟩ => ⟨S2048x8256, .f32⟩
  | .hbm, ⟨15, _⟩ => ⟨S8256x2048, .f32⟩
  | .hbm, ⟨16, _⟩ => ⟨S8x1032x2048, .f32⟩
  | .hbm, ⟨17, _⟩ => ⟨S8x1032x2048, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proof.MlaMath.lean ====
/- The rows of the latent attention's gradient over the extended reals: what one row of scores, of probabilities and
   of the scores' gradient is, and the law by which the two ways of writing the softmax's gradient agree. -/
module

public import Idealize.ShloMosaic.PureOps.Ideal
public import Idealize.ShloMosaic.PureOps.Ideal.Laws

@[expose] public section

noncomputable section

namespace Cert.MlaMath

open Idealize.ShloMosaic

/-! ## One row -/

variable {J D E : Type} [Fintype J] [Fintype D] [Fintype E]

/-- The scaled score of a query row against key `j`. -/
def sc (c : EReal) (q : D → EReal) (K : J → D → EReal) (j : J) : EReal := (∑ d, q d * K j d) * c

/-- The greatest of a row's scores. -/
def mx (s : J → EReal) : EReal := Finset.univ.fold max ⊥ s

/-- The exponentials of a row's scores, less their maximum. -/
def ex (s : J → EReal) (j : J) : EReal := Ideal.exp (s j - mx s)

/-- A row's probabilities: the softmax of its scores. -/
def pr (s : J → EReal) (j : J) : EReal := Ideal.div (ex s j) (∑ j', ex s j')

/-- The product of a row of the output's gradient with the values: the probabilities' gradient. -/
def dp (o : E → EReal) (V : J → E → EReal) (j : J) : EReal := ∑ e, o e * V j e

/-- The scores' gradient along a row. -/
def ds (c : EReal) (s g : J → EReal) (j : J) : EReal := pr s j * (g j - ∑ j', pr s j' * g j') * c

/-! ## The law of the softmax's gradient -/

/-- A nonnegative real factor moves out of a sum of extended reals. -/
theorem sum_coe_mul {ι : Type} (S : Finset ι) (r : ℝ) (hr : 0 ≤ r) (f : ι → EReal) :
    ∑ i ∈ S, (r : EReal) * f i = (r : EReal) * ∑ i ∈ S, f i := by
  classical
  induction S using Finset.induction_on with
  | empty => simp
  | insert a S ha ih =>
    rw [Finset.sum_insert ha, Finset.sum_insert ha, ih,
      EReal.left_distrib_of_nonneg_of_ne_top (by exact_mod_cast hr) (EReal.coe_ne_top r)]

/-- A sum of reals, read as extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The greatest of a nonempty row of reals is real. -/
theorem mx_coe [Nonempty J] (s : J → ℝ) : ∃ M : ℝ, mx (fun j => (s j : EReal)) = (M : EReal) := by
  classical
  have h : ∀ S : Finset J, S.Nonempty → ∃ M : ℝ, S.fold max ⊥ (fun j => (s j : EReal)) = (M : EReal) := by
    intro S hS
    induction hS using Finset.Nonempty.cons_induction with
    | singleton a => exact ⟨s a, by simp⟩
    | cons a S ha hS ih =>
      obtain ⟨M, hM⟩ := ih
      refine ⟨max (s a) M, ?_⟩
      rw [Finset.fold_cons, hM]
      exact (EReal.coe_strictMono.monotone.map_max).symm
  exact h Finset.univ Finset.univ_nonempty

/-- Of a row of real scores the exponentials are positive reals, and so is their sum. -/
theorem ex_coe [Nonempty J] (s : J → ℝ) : ∃ (e : J → ℝ) (L : ℝ), (∀ j, 0 < e j) ∧ 0 < L
    ∧ (∀ j, ex (fun j => (s j : EReal)) j = (e j : EReal)) ∧ ∑ j, ex (fun j => (s j : EReal)) j = (L : EReal) := by
  classical
  obtain ⟨M, hM⟩ := mx_coe s
  have he : ∀ j, ex (fun j => (s j : EReal)) j = ((Real.exp (s j - M) : ℝ) : EReal) := fun j => by
    unfold ex
    rw [hM, ← EReal.coe_sub]
    rfl
  refine ⟨fun j => Real.exp (s j - M), ∑ j, Real.exp (s j - M), fun j => Real.exp_pos _,
    Finset.sum_pos (fun j _ => Real.exp_pos _) Finset.univ_nonempty, he, ?_⟩
  rw [Finset.sum_congr rfl fun j _ => he j]
  exact (map_sum (⟨⟨Real.toEReal, EReal.coe_zero⟩, EReal.coe_add⟩ : ℝ →+ EReal) _ _).symm

/-- Along a row of real scores, the softmax's gradient as a quotient's derivative writes it — the gradient over the
    sum, less the sum of the gradients over its square, times the exponential — is the probability times the
    gradient less the row's mean gradient. -/
theorem quotient_grad [Nonempty J] (c : EReal) (s : J → ℝ) (g : J → EReal) (j : J) :
    ((Ideal.div (g j) (∑ j', ex (fun j => (s j : EReal)) j')
        + -(∑ j', g j' * Ideal.div 1 ((∑ j', ex (fun j => (s j : EReal)) j') * ∑ j', ex (fun j => (s j : EReal)) j')
            * ex (fun j => (s j : EReal)) j'))
        * ex (fun j => (s j : EReal)) j) * c
      = ds c (fun j => (s j : EReal)) g j := by
  obtain ⟨e, L, he, hL, hex, hsum⟩ := ex_coe s
  unfold ds pr
  have hsum' : ∑ j, (e j : EReal) = (L : EReal) := by rw [← hsum]; exact Finset.sum_congr rfl fun j _ => (hex j).symm
  simp only [hex, hsum']
  have hr : (0 : ℝ) ≤ 1 / L := by positivity
  have h1 : ∀ x : EReal, Ideal.div x (L : EReal) = x * ((1 / L : ℝ) : EReal) := fun x => Ideal.div_coe hL.ne' x
  have h2 : Ideal.div 1 ((L : EReal) * (L : EReal)) = ((1 / L : ℝ) : EReal) * ((1 / L : ℝ) : EReal) := by
    rw [← EReal.coe_mul, Ideal.div_coe (by positivity), one_mul, ← EReal.coe_mul]
    congr 1
    field_simp
  simp only [h1, h2]
  have h3 : ∑ j', g j' * (((1 / L : ℝ) : EReal) * ((1 / L : ℝ) : EReal)) * (e j' : EReal)
      = ((1 / L : ℝ) : EReal) * ∑ j', (e j' : EReal) * ((1 / L : ℝ) : EReal) * g j' := by
    rw [← sum_coe_mul _ _ hr]
    refine Finset.sum_congr rfl fun j' _ => ?_
    ac_rfl
  rw [h3]
  have h4 : g j * ((1 / L : ℝ) : EReal) + -(((1 / L : ℝ) : EReal) * ∑ j', (e j' : EReal) * ((1 / L : ℝ) : EReal) * g j')
      = ((1 / L : ℝ) : EReal) * (g j - ∑ j', (e j' : EReal) * ((1 / L : ℝ) : EReal) * g j') := by
    rw [sub_eq_add_neg, EReal.left_distrib_of_nonneg_of_ne_top (by exact_mod_cast hr) (EReal.coe_ne_top _),
      mul_neg, mul_comm (g j)]
  rw [h4]
  ac_rfl

end Cert.MlaMath

end
-- ==== Proof.MlaBlock.lean ====
/- What one grid point of the latent attention's gradient computes: its payloads at an index, and what the body leaves in
   the staging buffers of its three outputs. -/
module

public import proofs.«01_k».proof.Proof.MlaMath
public import proofs.«01_k».proof.Proof.Gen.MlaBwdIdeal.Frame
public import Idealize.ShloMosaic.Lib.Pointwise

@[expose] public section

noncomputable section

namespace Cert.MlaBlock

open Idealize.ShloMosaic Idealize.ShloMosaic.TcCoe Cert.MlaBwdIdeal Cert.MlaBwdIdeal.Gen Cert.MlaMath

/-- The scores' scale, `192 ^ (-1/2)` as the float that both programs hold. -/
abbrev cS : EReal := Ideal.ofBits .f32 0x3D93CD3A#32

/-- The scale is real. -/
theorem cS_coe : ∃ r : ℝ, cS = (r : EReal) := by
  refine ⟨9686330 / 134217728, ?_⟩
  simp [cS, Ideal.ofBits, Ideal.ieee, -EReal.coe_mul]; norm_num

/-- The word of −∞ is `⊥`. -/
theorem negInf : Ideal.ofBits .f32 0xFF800000#32 = ⊥ := by simp [Ideal.ofBits, Ideal.ieee]

/-! ## The payloads at an index -/

/-- Row `i` of a block of 1024 queries, with the keys, as scaled scores. -/
def scB (x0 : Vec Ideal S1x1024x192 .bf16) (x1 : Vec Ideal S1x2048x192 .bf16) (i : Fin 1024) : Fin 2048 → EReal :=
  sc cS (fun d : Fin 192 => x0 (ix3 0 i d)) (fun (j : Fin 2048) d => x1 (ix3 0 j d))

/-- Row `i` of the product of a block of the output's gradient with the values. -/
def dpB (x2 : Vec Ideal S1x2048x128 .bf16) (x3 : Vec Ideal S1024x128 .bf16) (i : Fin 1024) : Fin 2048 → EReal :=
  dp (fun e : Fin 128 => x3 (ix2 i e)) (fun (j : Fin 2048) e => x2 (ix3 0 j e))

/-- The payload of the probabilities is the softmax of the scores. -/
theorem pay8_apply (x0 : Vec Ideal S1x1024x192 .bf16) (x1 : Vec Ideal S1x2048x192 .bf16) (i : Fin 1024) (j : Fin 2048) :
    k0_pay8 x0 x1 (ix2 i j) = pr (scB x0 x1 i) j := by
  pointwise [k0_pay8, k0_pay7, k0_pay6]
  simp only [pr, ex, mx, scB, sc, negInf]
  rfl

/-- The payload of the scores' gradient. -/
theorem pay9_apply (x0 : Vec Ideal S1x1024x192 .bf16) (x1 : Vec Ideal S1x2048x192 .bf16) (x2 : Vec Ideal S1x2048x128 .bf16)
    (x3 : Vec Ideal S1024x128 .bf16) (i : Fin 1024) (j : Fin 2048) :
    k0_pay9 x0 x1 x2 x3 (ix2 i j) = ds cS (scB x0 x1 i) (dpB x2 x3 i) j := by
  pointwise [k0_pay9]
  simp only [pay8_apply, ds, dpB, dp]

/-- The payload of the queries' gradient: the scores' gradient times the keys. -/
theorem pay10_apply (x0 : Vec Ideal S1x1024x192 .bf16) (x1 : Vec Ideal S1x2048x192 .bf16) (x2 : Vec Ideal S1x2048x128 .bf16)
    (x3 : Vec Ideal S1024x128 .bf16) (i : Fin 1024) (d : Fin 192) :
    k0_pay10 x0 x1 x2 x3 (ix3 0 i d) = ∑ j : Fin 2048, ds cS (scB x0 x1 i) (dpB x2 x3 i) j * x1 (ix3 0 j d) := by
  pointwise [k0_pay10, k0_pay7]
  simp only [pay9_apply]

/-- The payload of the keys' gradient over one block of queries. -/
theorem pay11_apply (x0 : Vec Ideal S1x1024x192 .bf16) (x1 : Vec Ideal S1x2048x192 .bf16) (x2 : Vec Ideal S1x2048x128 .bf16)
    (x3 : Vec Ideal S1024x128 .bf16) (j : Fin 2048) (d : Fin 192) :
    k0_pay11 x0 x1 x2 x3 (ix2 j d) = ∑ i : Fin 1024, ds cS (scB x0 x1 i) (dpB x2 x3 i) j * x0 (ix3 0 i d) := by
  pointwise [k0_pay11, k0_pay6]
  simp only [pay9_apply]

/-- The payload of the values' gradient over one block of queries. -/
theorem pay3_apply (x0 : Vec Ideal S1x1024x192 .bf16) (x1 : Vec Ideal S1x2048x192 .bf16) (x3 : Vec Ideal S1024x128 .bf16)
    (j : Fin 2048) (e : Fin 128) :
    k0_pay3 x3 (k0_pay8 x0 x1) (ix2 j e) = ∑ i : Fin 1024, pr (scB x0 x1 i) j * x3 (ix2 i e) := by
  pointwise [k0_pay3]
  simp only [pay8_apply]

theorem pay1_apply (x : FVec Ideal S2048x192 .f32) (j : Fin 2048) (d : Fin 192) : k0_pay1 x (ix3 0 j d) = x (ix2 j d) := by
  pointwise [k0_pay1]

theorem pay2_apply (x : FVec Ideal S2048x192 .f32) (y : Vec Ideal S1x2048x192 .f32) (j : Fin 2048) (d : Fin 192) :
    k0_pay2 x y (ix3 0 j d) = y (ix3 0 j d) + x (ix2 j d) := by
  pointwise [k0_pay2]

theorem pay4_apply (x : Vec Ideal S1024x128 .bf16) (p : FVec Ideal S1024x2048 .f32) (j : Fin 2048) (e : Fin 128) :
    k0_pay4 x p (ix3 0 j e) = k0_pay3 x p (ix2 j e) := by
  pointwise [k0_pay4]

theorem pay5_apply (x : Vec Ideal S1024x128 .bf16) (p : FVec Ideal S1024x2048 .f32) (y : Vec Ideal S1x2048x128 .f32)
    (j : Fin 2048) (e : Fin 128) :
    k0_pay5 x p y (ix3 0 j e) = y (ix3 0 j e) + k0_pay3 x p (ix2 j e) := by
  pointwise [k0_pay5]

/-! ## What the body leaves in the outputs' staging buffers

    At a head's first point (case A) the payloads themselves; at its second (case B) the keys' and the values' gradients
    are added to what the buffers hold. -/

section Outs

variable {F : FTy → Type} [FloatOps F]
variable (c : Dev nD) (i : grid0.Coords) (a2 : Memref sig .tc .vmem S1x1024x192 .bf16) (h2 : a2.IsWhole)
  (a3 : Memref sig .tc .vmem S1x2048x192 .bf16) (h3 : a3.IsWhole) (a4 : Memref sig .tc .vmem S1x2048x128 .bf16) (h4 : a4.IsWhole)
  (a5 : Memref sig .tc .vmem S1024x128 .bf16) (h5 : a5.IsWhole) (a6 : Memref sig .tc .vmem S1x1024x192 .f32) (h6 : a6.IsWhole)
  (a7 : Memref sig .tc .vmem S1x2048x192 .f32) (h7 : a7.IsWhole) (a8 : Memref sig .tc .vmem S1x2048x128 .f32) (h8 : a8.IsWhole)
  (x0 : Vec F S1x1024x192 .bf16) (x1 : Vec F S1x2048x192 .bf16) (x2 : Vec F S1x2048x128 .bf16) (x3 : Vec F S1024x128 .bf16)

theorem hz3 : (![0, 0, 0] : Fin 3 → Nat) = fun _ => 0 := funext fun a => by fin_cases a <;> rfl
theorem hz2 : (![0, 0] : Fin 2 → Nat) = fun _ => 0 := funext fun a => by fin_cases a <;> rfl

theorem out_A_4 (hc0 : cond0_0 i) (hc1 : ¬cond0_1 i) (hc2 : cond0_2 i) (hc3 : ¬cond0_3 i) :
    out0_A_4 c i a2 h2 a3 h3 a4 h4 a5 h5 a6 h6 a7 h7 a8 h8 hc0 hc1 hc2 hc3 x0 x1 x2 x3
      = k0_pay10 x0 x1 x2 x3 := by
  unfold out0_A_4
  rw [View.read_writes_eq_canon _ _ _ (cover0_A_4 c i a2 h2 a3 h3 a4 h4 a5 h5 a6 h6 a7 h7 a8 h8 hc0 hc1 hc2 hc3 x0 x1 x2 x3)]
  unfold kernelRun0_A
  dsimp only
  sl_unfold_words
  rw [View.canon_unit_zero hz3]
  simp only [View.readAt_eq_ld, h2.read_unread, h3.read_unread, h4.read_unread, h5.read_unread,
    View.ld_unit_zero (S := S1x1024x192) hz3, View.ld_unit_zero (S := S1x2048x192) hz3, View.ld_unit_zero (S := S1x2048x128) hz3,
    View.ld_unit_zero (S := S1024x128) hz2]

theorem out_A_5 (hc0 : cond0_0 i) (hc1 : ¬cond0_1 i) (hc2 : cond0_2 i) (hc3 : ¬cond0_3 i) :
    out0_A_5 c i a2 h2 a3 h3 a4 h4 a5 h5 a6 h6 a7 h7 a8 h8 hc0 hc1 hc2 hc3 x0 x1 x2 x3
      = k0_pay1 (k0_pay11 x0 x1 x2 x3) := by
  unfold out0_A_5
  rw [View.read_writes_eq_canon _ _ _ (cover0_A_5 c i a2 h2 a3 h3 a4 h4 a5 h5 a6 h6 a7 h7 a8 h8 hc0 hc1 hc2 hc3 x0 x1 x2 x3)]
  unfold kernelRun0_A
  dsimp only
  sl_unfold_words
  rw [View.canon_unit_zero hz3]
  simp only [View.readAt_eq_ld, h2.read_unread, h3.read_unread, h4.read_unread, h5.read_unread,
    View.ld_unit_zero (S := S1x1024x192) hz3, View.ld_unit_zero (S := S1x2048x192) hz3, View.ld_unit_zero (S := S1x2048x128) hz3,
    View.ld_unit_zero (S := S1024x128) hz2]

theorem out_A_6 (hc0 : cond0_0 i) (hc1 : ¬cond0_1 i) (hc2 : cond0_2 i) (hc3 : ¬cond0_3 i) :
    out0_A_6 c i a2 h2 a3 h3 a4 h4 a5 h5 a6 h6 a7 h7 a8 h8 hc0 hc1 hc2 hc3 x0 x1 x2 x3
      = k0_pay4 x3 (k0_pay8 x0 x1) := by
  unfold out0_A_6
  rw [View.read_writes_eq_canon _ _ _ (cover0_A_6 c i a2 h2 a3 h3 a4 h4 a5 h5 a6 h6 a7 h7 a8 h8 hc0 hc1 hc2 hc3 x0 x1 x2 x3)]
  unfold kernelRun0_A
  dsimp only
  sl_unfold_words
  rw [View.canon_unit_zero hz3]
  simp only [View.readAt_eq_ld, h2.read_unread, h3.read_unread, h4.read_unread, h5.read_unread,
    View.ld_unit_zero (S := S1x1024x192) hz3, View.ld_unit_zero (S := S1x2048x192) hz3, View.ld_unit_zero (S := S1x2048x128) hz3,
    View.ld_unit_zero (S := S1024x128) hz2]

theorem out_B_4 (hc0 : ¬cond0_0 i) (hc1 : cond0_1 i) (hc2 : ¬cond0_2 i) (hc3 : cond0_3 i)
    (y5 : Vec F S1x2048x192 .f32) (y6 : Vec F S1x2048x128 .f32) :
    out0_B_4 c i a2 h2 a3 h3 a4 h4 a5 h5 a6 h6 a7 h7 a8 h8 hc0 hc1 hc2 hc3 x0 x1 x2 x3 y5 y6
      = k0_pay10 x0 x1 x2 x3 := by
  unfold out0_B_4
  rw [View.read_writes_eq_canon _ _ _ (cover0_B_4 c i a2 h2 a3 h3 a4 h4 a5 h5 a6 h6 a7 h7 a8 h8 hc0 hc1 hc2 hc3 x0 x1 x2 x3 y5 y6)]
  unfold kernelRun0_B
  dsimp only
  sl_unfold_words
  rw [View.canon_unit_zero hz3]
  simp only [View.readAt_eq_ld, h2.read_unread, h3.read_unread, h4.read_unread, h5.read_unread, h7.read_unread, h8.read_unread,
    View.ld_unit_zero (S := S1x1024x192) hz3, View.ld_unit_zero (S := S1x2048x192) hz3, View.ld_unit_zero (S := S1x2048x128) hz3,
    View.ld_unit_zero (S := S1024x128) hz2]

theorem out_B_5 (hc0 : ¬cond0_0 i) (hc1 : cond0_1 i) (hc2 : ¬cond0_2 i) (hc3 : cond0_3 i)
    (y5 : Vec F S1x2048x192 .f32) (y6 : Vec F S1x2048x128 .f32) :
    out0_B_5 c i a2 h2 a3 h3 a4 h4 a5 h5 a6 h6 a7 h7 a8 h8 hc0 hc1 hc2 hc3 x0 x1 x2 x3 y5 y6
      = k0_pay2 (k0_pay11 x0 x1 x2 x3) y5 := by
  unfold out0_B_5
  rw [View.read_writes_eq_canon _ _ _ (cover0_B_5 c i a2 h2 a3 h3 a4 h4 a5 h5 a6 h6 a7 h7 a8 h8 hc0 hc1 hc2 hc3 x0 x1 x2 x3 y5 y6)]
  unfold kernelRun0_B
  dsimp only
  sl_unfold_words
  rw [View.canon_unit_zero hz3]
  simp only [View.readAt_eq_ld, h2.read_unread, h3.read_unread, h4.read_unread, h5.read_unread, h7.read_unread, h8.read_unread,
    View.ld_unit_zero (S := S1x1024x192) hz3, View.ld_unit_zero (S := S1x2048x192) hz3, View.ld_unit_zero (S := S1x2048x128) hz3,
    View.ld_unit_zero (S := S1024x128) hz2]

theorem out_B_6 (hc0 : ¬cond0_0 i) (hc1 : cond0_1 i) (hc2 : ¬cond0_2 i) (hc3 : cond0_3 i)
    (y5 : Vec F S1x2048x192 .f32) (y6 : Vec F S1x2048x128 .f32) :
    out0_B_6 c i a2 h2 a3 h3 a4 h4 a5 h5 a6 h6 a7 h7 a8 h8 hc0 hc1 hc2 hc3 x0 x1 x2 x3 y5 y6
      = k0_pay5 x3 (k0_pay8 x0 x1) y6 := by
  unfold out0_B_6
  rw [View.read_writes_eq_canon _ _ _ (cover0_B_6 c i a2 h2 a3 h3 a4 h4 a5 h5 a6 h6 a7 h7 a8 h8 hc0 hc1 hc2 hc3 x0 x1 x2 x3 y5 y6)]
  unfold kernelRun0_B
  dsimp only
  sl_unfold_words
  rw [View.canon_unit_zero hz3]
  simp only [View.readAt_eq_ld, h2.read_unread, h3.read_unread, h4.read_unread, h5.read_unread, h7.read_unread, h8.read_unread,
    View.ld_unit_zero (S := S1x1024x192) hz3, View.ld_unit_zero (S := S1x2048x192) hz3, View.ld_unit_zero (S := S1x2048x128) hz3,
    View.ld_unit_zero (S := S1024x128) hz2]

end Outs

end Cert.MlaBlock

end
-- ==== Proof.MlaArray.lean ====
/- The three arrays that the latent attention's gradient leaves, each as one function of the arguments. A grid point is a
   head and one of two blocks of 1024 queries: the queries' gradient is written point by point, the keys' and the values'
   gradients are the sums over a head's two points. -/
module

public import proofs.«01_k».proof.Proof.MlaBlock
public import proofs.«01_k».proof.Proof.Gen.MlaBwdIdeal.Value

@[expose] public section

noncomputable section

namespace Cert.MlaArray

open Idealize.ShloMosaic Idealize.ShloMosaic.TcCoe Idealize.SL.Sem
open Cert.MlaBwdIdeal Cert.MlaBwdIdeal.Gen Cert.MlaBwdIdeal.Value Cert.MlaMath Cert.MlaBlock

/-! ## The results as functions of the arguments -/

/-- Column `128 h + e` of the output's gradient: head `h`, value axis `e`. -/
def col (h : Fin 8) (e : Fin 128) : Fin 1024 := ⟨128 * h.val + e.val, by omega⟩

section Fns

variable (Q K : Vec Ideal S8x2048x192 .bf16) (W : Vec Ideal S8x2048x128 .bf16) (O : Vec Ideal S2048x1024 .bf16)

/-- The scores of head `h`'s query `r`. -/
def rowS (h : Fin 8) (r : Fin 2048) : Fin 2048 → EReal :=
  sc cS (fun d : Fin 192 => Q (ix3 h r d)) (fun (j : Fin 2048) d => K (ix3 h j d))

/-- The probabilities' gradient of head `h`'s query `r`. -/
def rowG (h : Fin 8) (r : Fin 2048) : Fin 2048 → EReal :=
  dp (fun e : Fin 128 => O (ix2 r (col h e))) (fun (j : Fin 2048) e => W (ix3 h j e))

/-- The queries' gradient. -/
def dQ : Vec Ideal S8x2048x192 .f32 := fun y =>
  ∑ j : Fin 2048, ds cS (rowS Q K (y 0) (y 1)) (rowG W O (y 0) (y 1)) j * K (ix3 (y 0) j (y 2))

/-- The keys' gradient. -/
def dK : Vec Ideal S8x2048x192 .f32 := fun y =>
  ∑ r : Fin 2048, ds cS (rowS Q K (y 0) r) (rowG W O (y 0) r) (y 1) * Q (ix3 (y 0) r (y 2))

/-- The values' gradient. -/
def dV : Vec Ideal S8x2048x128 .f32 := fun y =>
  ∑ r : Fin 2048, pr (rowS Q K (y 0) r) (y 1) * O (ix2 r (col (y 0) (y 2)))

end Fns

/-! ## The blocks of the windows -/

/-- Each window's block index at a point: the head, and for the queries and the output's gradient the block of rows. -/
theorem idx0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
theorem idx1 : ∀ t : Fin cfg0.N, win0_1.index t (0 : Fin 3) = t.val / 2 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 2 ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val % 2 ∧ win0_3.index t (1 : Fin 2) = t.val / 2 :=
  (by decide +kernel : ∀ t : Fin grid0.N, _)
theorem idx4 : ∀ t : Fin cfg0.N, win0_4.index t (0 : Fin 3) = t.val / 2 ∧ win0_4.index t (1 : Fin 3) = t.val % 2 ∧ win0_4.index t (2 : Fin 3) = 0 :=
  (by decide +kernel : ∀ t : Fin grid0.N, _)
theorem idx5 : ∀ t : Fin cfg0.N, win0_5.index t (0 : Fin 3) = t.val / 2 ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val / 2 ∧ win0_6.index t (1 : Fin 3) = 0 ∧ win0_6.index t (2 : Fin 3) = 0 :=
  (by decide +kernel : ∀ t : Fin grid0.N, _)

/-- The keys' and the values' gradients are written back at a head's second point. -/
theorem flush5 : ∀ t : Fin cfg0.N, (cfg0.win 5).flush t = true ↔ t.val % 2 = 1 :=
  (by decide +kernel : ∀ t : Fin grid0.N, win0_5.flush t = true ↔ t.val % 2 = 1)
theorem flush6 : ∀ t : Fin cfg0.N, (cfg0.win 6).flush t = true ↔ t.val % 2 = 1 :=
  (by decide +kernel : ∀ t : Fin grid0.N, win0_6.flush t = true ↔ t.val % 2 = 1)

/-- The head of a point. -/
def hd (t : Fin cfg0.N) : Fin 8 := ⟨t.val / 2, by have := t.isLt; have h : cfg0.N = 16 := N_0; omega⟩

/-- Row `i` of a point's block of rows. -/
def rw (t : Fin cfg0.N) (i : Fin 1024) : Fin 2048 := ⟨1024 * (t.val % 2) + i.val, by omega⟩

theorem emb0 (t : Fin cfg0.N) (a : Fin 1) (i : Fin 1024) (d : Fin 192) :
    ((cfg0.win 0).blk t).view.emb (ix3 a i d : S1x1024x192.Idx) = (ix3 (hd t) (rw t i) d : S8x2048x192.Idx) := by
  obtain ⟨e0, e1, e2⟩ := idx0 t
  funext x; apply Fin.ext
  match x with
  | ⟨0, _⟩ => show win0_0.index t (0 : Fin 3) * 1 + 1 * a.val = t.val / 2; omega
  | ⟨1, _⟩ => show win0_0.index t (1 : Fin 3) * 1024 + 1 * i.val = 1024 * (t.val % 2) + i.val; omega
  | ⟨2, _⟩ => show win0_0.index t (2 : Fin 3) * 192 + 1 * d.val = d.val; omega

theorem emb1 (t : Fin cfg0.N) (a : Fin 1) (j : Fin 2048) (d : Fin 192) :
    ((cfg0.win 1).blk t).view.emb (ix3 a j d : S1x2048x192.Idx) = (ix3 (hd t) j d : S8x2048x192.Idx) := by
  obtain ⟨e0, e1, e2⟩ := idx1 t
  funext x; apply Fin.ext
  match x with
  | ⟨0, _⟩ => show win0_1.index t (0 : Fin 3) * 1 + 1 * a.val = t.val / 2; omega
  | ⟨1, _⟩ => show win0_1.index t (1 : Fin 3) * 2048 + 1 * j.val = j.val; omega
  | ⟨2, _⟩ => show win0_1.index t (2 : Fin 3) * 192 + 1 * d.val = d.val; omega

theorem emb2 (t : Fin cfg0.N) (a : Fin 1) (j : Fin 2048) (d : Fin 128) :
    ((cfg0.win 2).blk t).view.emb (ix3 a j d : S1x2048x128.Idx) = (ix3 (hd t) j d : S8x2048x128.Idx) := by
  obtain ⟨e0, e1, e2⟩ := idx2 t
  funext x; apply Fin.ext
  match x with
  | ⟨0, _⟩ => show win0_2.index t (0 : Fin 3) * 1 + 1 * a.val = t.val / 2; omega
  | ⟨1, _⟩ => show win0_2.index t (1 : Fin 3) * 2048 + 1 * j.val = j.val; omega
  | ⟨2, _⟩ => show win0_2.index t (2 : Fin 3) * 128 + 1 * d.val = d.val; omega

theorem emb3 (t : Fin cfg0.N) (i : Fin 1024) (e : Fin 128) :
    ((cfg0.win 3).blk t).view.emb (ix2 i e : S1024x128.Idx) = (ix2 (rw t i) (col (hd t) e) : S2048x1024.Idx) := by
  obtain ⟨e0, e1⟩ := idx3 t
  funext x; apply Fin.ext
  match x with
  | ⟨0, _⟩ => show win0_3.index t (0 : Fin 2) * 1024 + 1 * i.val = 1024 * (t.val % 2) + i.val; omega
  | ⟨1, _⟩ => show win0_3.index t (1 : Fin 2) * 128 + 1 * e.val = 128 * (t.val / 2) + e.val; omega

theorem emb4 (t : Fin cfg0.N) (a : Fin 1) (i : Fin 1024) (d : Fin 192) :
    ((cfg0.win 4).blk t).view.emb (ix3 a i d : S1x1024x192.Idx) = (ix3 (hd t) (rw t i) d : S8x2048x192.Idx) := by
  obtain ⟨e0, e1, e2⟩ := idx4 t
  funext x; apply Fin.ext
  match x with
  | ⟨0, _⟩ => show win0_4.index t (0 : Fin 3) * 1 + 1 * a.val = t.val / 2; omega
  | ⟨1, _⟩ => show win0_4.index t (1 : Fin 3) * 1024 + 1 * i.val = 1024 * (t.val % 2) + i.val; omega
  | ⟨2, _⟩ => show win0_4.index t (2 : Fin 3) * 192 + 1 * d.val = d.val; omega

theorem emb5 (t : Fin cfg0.N) (a : Fin 1) (j : Fin 2048) (d : Fin 192) :
    ((cfg0.win 5).blk t).view.emb (ix3 a j d : S1x2048x192.Idx) = (ix3 (hd t) j d : S8x2048x192.Idx) := by
  obtain ⟨e0, e1, e2⟩ := idx5 t
  funext x; apply Fin.ext
  match x with
  | ⟨0, _⟩ => show win0_5.index t (0 : Fin 3) * 1 + 1 * a.val = t.val / 2; omega
  | ⟨1, _⟩ => show win0_5.index t (1 : Fin 3) * 2048 + 1 * j.val = j.val; omega
  | ⟨2, _⟩ => show win0_5.index t (2 : Fin 3) * 192 + 1 * d.val = d.val; omega

theorem emb6 (t : Fin cfg0.N) (a : Fin 1) (j : Fin 2048) (d : Fin 128) :
    ((cfg0.win 6).blk t).view.emb (ix3 a j d : S1x2048x128.Idx) = (ix3 (hd t) j d : S8x2048x128.Idx) := by
  obtain ⟨e0, e1, e2⟩ := idx6 t
  funext x; apply Fin.ext
  match x with
  | ⟨0, _⟩ => show win0_6.index t (0 : Fin 3) * 1 + 1 * a.val = t.val / 2; omega
  | ⟨1, _⟩ => show win0_6.index t (1 : Fin 3) * 2048 + 1 * j.val = j.val; omega
  | ⟨2, _⟩ => show win0_6.index t (2 : Fin 3) * 128 + 1 * d.val = d.val; omega

variable (m : (ℓ : Loc nD τ sig) → Buf (Elt Ideal) ℓ) (c : Dev nD)

/-- The arguments as launched. -/
abbrev Qa : Vec Ideal S8x2048x192 .bf16 := m ((c : Thread nD τ).loc main_arg0)
abbrev Ka : Vec Ideal S8x2048x192 .bf16 := m ((c : Thread nD τ).loc main_arg1)
abbrev Wa : Vec Ideal S8x2048x128 .bf16 := m ((c : Thread nD τ).loc main_arg2)
abbrev Oa : Vec Ideal S2048x1024 .bf16 := m ((c : Thread nD τ).loc main_arg3)

theorem iblk0 (t : Fin cfg0.N) (i : Fin 1024) (d : Fin 192) :
    (iblk m c 0 t : Vec Ideal S1x1024x192 .bf16) (ix3 0 i d) = Qa m c (ix3 (hd t) (rw t i) d) := by
  show V m c main_arg0 (((cfg0.win 0).blk t).view.emb (ix3 0 i d : S1x1024x192.Idx)) = _
  rw [emb0, V_main_arg0]

theorem iblk1 (t : Fin cfg0.N) (j : Fin 2048) (d : Fin 192) :
    (iblk m c 1 t : Vec Ideal S1x2048x192 .bf16) (ix3 0 j d) = Ka m c (ix3 (hd t) j d) := by
  show V m c main_arg1 (((cfg0.win 1).blk t).view.emb (ix3 0 j d : S1x2048x192.Idx)) = _
  rw [emb1, V_main_arg1]

theorem iblk2 (t : Fin cfg0.N) (j : Fin 2048) (e : Fin 128) :
    (iblk m c 2 t : Vec Ideal S1x2048x128 .bf16) (ix3 0 j e) = Wa m c (ix3 (hd t) j e) := by
  show V m c main_arg2 (((cfg0.win 2).blk t).view.emb (ix3 0 j e : S1x2048x128.Idx)) = _
  rw [emb2, V_main_arg2]

theorem iblk3 (t : Fin cfg0.N) (i : Fin 1024) (e : Fin 128) :
    (iblk m c 3 t : Vec Ideal S1024x128 .bf16) (ix2 i e) = Oa m c (ix2 (rw t i) (col (hd t) e)) := by
  show V m c main_arg3 (((cfg0.win 3).blk t).view.emb (ix2 i e : S1024x128.Idx)) = _
  rw [emb3, V_main_arg3]

/-- A point's rows are the arrays' rows. -/
theorem scB_eq (t : Fin cfg0.N) (i : Fin 1024) : scB (iblk m c 0 t) (iblk m c 1 t) i = rowS (Qa m c) (Ka m c) (hd t) (rw t i) := by
  unfold scB rowS
  simp only [iblk0, iblk1]

theorem dpB_eq (t : Fin cfg0.N) (i : Fin 1024) : dpB (iblk m c 2 t) (iblk m c 3 t) i = rowG (Wa m c) (Oa m c) (hd t) (rw t i) := by
  unfold dpB rowG
  simp only [iblk2, iblk3]

/-! ## What a point leaves -/

/-- The queries' gradient of a point. -/
theorem outs4 (t : Fin cfg0.N) (a : Fin 1) (i : Fin 1024) (d : Fin 192) :
    (outsAt0 m c t.val t.isLt).1 (ix3 a i d) = dQ (Qa m c) (Ka m c) (Wa m c) (Oa m c) (ix3 (hd t) (rw t i) d) := by
  obtain rfl : a = 0 := Subsingleton.elim _ _
  have key : k0_pay10 (iblk m c 0 t) (iblk m c 1 t) (iblk m c 2 t) (iblk m c 3 t) (ix3 0 i d)
      = dQ (Qa m c) (Ka m c) (Wa m c) (Oa m c) (ix3 (hd t) (rw t i) d) := by
    rw [pay10_apply, scB_eq, dpB_eq]
    simp only [iblk1]
    rfl
  rcases Nat.mod_two_eq_zero_or_one t.val with h | h
  · rw [outsAt0_A m c t h (by omega) h (by omega)]
    dsimp only
    rw [out_A_4]
    exact key
  · rw [outsAt0_B m c t (by omega) h (by omega) h]
    dsimp only
    rw [out_B_4]
    exact key

/-- One block's part of the keys' gradient. -/
def kPart (t : Fin cfg0.N) (j : Fin 2048) (d : Fin 192) : EReal :=
  ∑ i : Fin 1024, ds cS (rowS (Qa m c) (Ka m c) (hd t) (rw t i)) (rowG (Wa m c) (Oa m c) (hd t) (rw t i)) j * Qa m c (ix3 (hd t) (rw t i) d)

/-- One block's part of the values' gradient. -/
def vPart (t : Fin cfg0.N) (j : Fin 2048) (e : Fin 128) : EReal :=
  ∑ i : Fin 1024, pr (rowS (Qa m c) (Ka m c) (hd t) (rw t i)) j * Oa m c (ix2 (rw t i) (col (hd t) e))

theorem pay11_iblk (t : Fin cfg0.N) (j : Fin 2048) (d : Fin 192) :
    k0_pay11 (iblk m c 0 t) (iblk m c 1 t) (iblk m c 2 t) (iblk m c 3 t) (ix2 j d) = kPart m c t j d := by
  rw [pay11_apply]
  simp only [scB_eq, dpB_eq, iblk0]
  rfl

theorem pay3_iblk (t : Fin cfg0.N) (j : Fin 2048) (e : Fin 128) :
    k0_pay3 (iblk m c 3 t) (k0_pay8 (iblk m c 0 t) (iblk m c 1 t)) (ix2 j e) = vPart m c t j e := by
  rw [pay3_apply]
  simp only [scB_eq, iblk3]
  rfl

theorem outs5_A (t : Fin cfg0.N) (h : t.val % 2 = 0) (j : Fin 2048) (d : Fin 192) :
    (outsAt0 m c t.val t.isLt).2.1 (ix3 0 j d) = kPart m c t j d := by
  rw [outsAt0_A m c t h (by omega) h (by omega)]
  dsimp only
  rw [out_A_5, pay1_apply, pay11_iblk]

theorem outs6_A (t : Fin cfg0.N) (h : t.val % 2 = 0) (j : Fin 2048) (e : Fin 128) :
    (outsAt0 m c t.val t.isLt).2.2 (ix3 0 j e) = vPart m c t j e := by
  rw [outsAt0_A m c t h (by omega) h (by omega)]
  dsimp only
  rw [out_A_6, pay4_apply, pay3_iblk]

/-- The point before. -/
def pred (t : Fin cfg0.N) : Fin cfg0.N := ⟨t.val - 1, Nat.lt_of_le_of_lt (Nat.sub_le _ _) t.isLt⟩

theorem outs5_B (t : Fin cfg0.N) (h : t.val % 2 = 1) (j : Fin 2048) (d : Fin 192) :
    (outsAt0 m c t.val t.isLt).2.1 (ix3 0 j d) = kPart m c (pred t) j d + kPart m c t j d := by
  rw [outsAt0_B m c t (by omega) h (by omega) h]
  dsimp only
  rw [out_B_5, pay2_apply, pay11_iblk]
  exact congrArg (· + _) (outs5_A m c (pred t) (show (t.val - 1) % 2 = 0 by omega) j d)

theorem outs6_B (t : Fin cfg0.N) (h : t.val % 2 = 1) (j : Fin 2048) (e : Fin 128) :
    (outsAt0 m c t.val t.isLt).2.2 (ix3 0 j e) = vPart m c (pred t) j e + vPart m c t j e := by
  rw [outsAt0_B m c t (by omega) h (by omega) h]
  dsimp only
  rw [out_B_6, pay5_apply, pay3_iblk]
  exact congrArg (· + _) (outs6_A m c (pred t) (show (t.val - 1) % 2 = 0 by omega) j e)

/-- A sum over the 2048 rows of a head is the sums over the rows of its two points. -/
theorem sum_rows (t : Fin cfg0.N) (h : t.val % 2 = 1) (f : Fin 2048 → EReal) :
    ∑ r : Fin 2048, f r = ∑ i : Fin 1024, f (rw (pred t) i) + ∑ i : Fin 1024, f (rw t i) := by
  refine (Fin.sum_univ_add (a := 1024) (b := 1024) f).trans (congrArg₂ (· + ·) ?_ ?_)
  · refine Finset.sum_congr rfl fun i _ => congrArg f (Fin.ext ?_)
    show i.val = 1024 * ((t.val - 1) % 2) + i.val
    omega
  · refine Finset.sum_congr rfl fun i _ => congrArg f (Fin.ext ?_)
    show 1024 + i.val = 1024 * (t.val % 2) + i.val
    omega

theorem hd_pred (t : Fin cfg0.N) (h : t.val % 2 = 1) : hd (pred t) = hd t :=
  Fin.ext (show (t.val - 1) / 2 = t.val / 2 by omega)

/-! ## The arrays after the run -/

/-- The point of a head and a half. -/
def pt (h : Fin 8) (k : ℕ) (hk : k < 2) : Fin cfg0.N := ⟨2 * h.val + k, by have h : cfg0.N = 16 := N_0; omega⟩

theorem final4 : (dats m 0 c).arrAt 4 cfg0.N = dQ (Qa m c) (Ka m c) (Wa m c) (Oa m c) := by
  refine (dats m 0 c).arrAt_eq_of_cover 4 _ (fun t _ => ?_) fun y => ?_
  · rw [flushed4]
    funext (y : S1x1024x192.Idx)
    show (outsAt0 m c t.val t.isLt).1 y = dQ _ _ _ _ (((cfg0.win 4).blk t).view.emb y)
    obtain ⟨a, i, d, rfl⟩ : ∃ (a : Fin 1) (i : Fin 1024) (d : Fin 192), y = ix3 a i d := ⟨_, _, _, eq_ix3 y⟩
    rw [outs4, emb4]
  · change S8x2048x192.Idx at y
    obtain ⟨h, r, d, rfl⟩ : ∃ (h : Fin 8) (r : Fin 2048) (d : Fin 192), y = ix3 h r d := ⟨_, _, _, eq_ix3 y⟩
    refine ⟨pt h (r.val / 1024) (by omega), flush0_4 _, ?_⟩
    have := ((cfg0.win 4).blk (pt h (r.val / 1024) (by omega))).view.emb_mem_set
      (ix3 0 ⟨r.val % 1024, by omega⟩ d : S1x1024x192.Idx)
    rw [emb4] at this
    refine (congrArg (· ∈ _) ?_).mp this
    funext x; apply Fin.ext
    match x with
    | ⟨0, _⟩ => show (2 * h.val + r.val / 1024) / 2 = h.val; omega
    | ⟨1, _⟩ =>
      show 1024 * ((2 * h.val + r.val / 1024) % 2) + r.val % 1024 = r.val
      omega
    | ⟨2, _⟩ => rfl

theorem final5 : (dats m 0 c).arrAt 5 cfg0.N = dK (Qa m c) (Ka m c) (Wa m c) (Oa m c) := by
  refine (dats m 0 c).arrAt_eq_of_cover 5 _ (fun t hf => ?_) fun y => ?_
  · have h := (flush5 t).mp hf
    rw [flushed5]
    funext (y : S1x2048x192.Idx)
    show (outsAt0 m c t.val t.isLt).2.1 y = dK _ _ _ _ (((cfg0.win 5).blk t).view.emb y)
    obtain ⟨a, j, d, rfl⟩ : ∃ (a : Fin 1) (j : Fin 2048) (d : Fin 192), y = ix3 a j d := ⟨_, _, _, eq_ix3 y⟩
    obtain rfl : a = 0 := Subsingleton.elim _ _
    rw [outs5_B m c t h, emb5]
    unfold kPart
    rw [hd_pred t h]
    exact (sum_rows t h fun r => ds cS (rowS (Qa m c) (Ka m c) (hd t) r) (rowG (Wa m c) (Oa m c) (hd t) r) j
      * Qa m c (ix3 (hd t) r d)).symm
  · change S8x2048x192.Idx at y
    obtain ⟨h, r, d, rfl⟩ : ∃ (h : Fin 8) (r : Fin 2048) (d : Fin 192), y = ix3 h r d := ⟨_, _, _, eq_ix3 y⟩
    refine ⟨pt h 1 (by omega), (flush5 _).mpr (show (2 * h.val + 1) % 2 = 1 by omega), ?_⟩
    have := ((cfg0.win 5).blk (pt h 1 (by omega))).view.emb_mem_set (ix3 0 r d : S1x2048x192.Idx)
    rw [emb5] at this
    refine (congrArg (· ∈ _) ?_).mp this
    funext x; apply Fin.ext
    match x with
    | ⟨0, _⟩ => show (2 * h.val + 1) / 2 = h.val; omega
    | ⟨1, _⟩ => rfl
    | ⟨2, _⟩ => rfl

theorem final6 : (dats m 0 c).arrAt 6 cfg0.N = dV (Qa m c) (Ka m c) (Oa m c) := by
  refine (dats m 0 c).arrAt_eq_of_cover 6 _ (fun t hf => ?_) fun y => ?_
  · have h := (flush6 t).mp hf
    rw [flushed6]
    funext (y : S1x2048x128.Idx)
    show (outsAt0 m c t.val t.isLt).2.2 y = dV _ _ _ (((cfg0.win 6).blk t).view.emb y)
    obtain ⟨a, j, e, rfl⟩ : ∃ (a : Fin 1) (j : Fin 2048) (e : Fin 128), y = ix3 a j e := ⟨_, _, _, eq_ix3 y⟩
    obtain rfl : a = 0 := Subsingleton.elim _ _
    rw [outs6_B m c t h, emb6]
    unfold vPart
    rw [hd_pred t h]
    exact (sum_rows t h fun r => pr (rowS (Qa m c) (Ka m c) (hd t) r) j * Oa m c (ix2 r (col (hd t) e))).symm
  · change S8x2048x128.Idx at y
    obtain ⟨h, r, d, rfl⟩ : ∃ (h : Fin 8) (r : Fin 2048) (d : Fin 128), y = ix3 h r d := ⟨_, _, _, eq_ix3 y⟩
    refine ⟨pt h 1 (by omega), (flush6 _).mpr (show (2 * h.val + 1) % 2 = 1 by omega), ?_⟩
    have := ((cfg0.win 6).blk (pt h 1 (by omega))).view.emb_mem_set (ix3 0 r d : S1x2048x128.Idx)
    rw [emb6] at this
    refine (congrArg (· ∈ _) ?_).mp this
    funext x; apply Fin.ext
    match x with
    | ⟨0, _⟩ => show (2 * h.val + 1) / 2 = h.val; omega
    | ⟨1, _⟩ => rfl
    | ⟨2, _⟩ => rfl

/-- The kernel's run over the extended reals, its three results as functions of the arguments. -/
theorem run (ρ : Dev nD → PrngReg) : θ_run defs (onTc (τ := τ) (main (F := Ideal))) ⟨m, fun _ => 0, ρ⟩ fun r => ∀ c : Dev nD,
      r.2.mem ((c : Thread nD τ).loc main_v0_0) = dQ (Qa m c) (Ka m c) (Wa m c) (Oa m c)
      ∧ r.2.mem ((c : Thread nD τ).loc main_v0_1) = dK (Qa m c) (Ka m c) (Wa m c) (Oa m c)
      ∧ r.2.mem ((c : Thread nD τ).loc main_v0_2) = dV (Qa m c) (Ka m c) (Oa m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩)
    (run_blocks m ρ)

end Cert.MlaArray

end
-- ==== Proof.MlaRef.lean ====
/- What the reference of the latent attention's gradient computes: the derivative that the host programs write out, stage
   by stage at an index, and its three results as the functions that the kernel's arrays hold. The stages up to the
   scores hold of all arguments; the softmax's gradient agrees where each query's scores are real. -/
module

public import proofs.«01_k».proof.Proof.MlaArray
public import proofs.«01_k».proof.Proof.Gen.MlaRefIdeal.Read
public import Idealize.ShloMosaic.Lib.Pointwise

@[expose] public section

noncomputable section

namespace Cert.MlaRef

open Idealize.ShloMosaic Idealize.ShloMosaic.TcCoe Cert.MlaRefIdeal Cert.MlaRefIdeal.Gen Cert.MlaRefIdeal.Read
open Cert.MlaMath Cert.MlaBlock Cert.MlaArray

variable (x0 x1 : Vec Ideal S8x2048x192 .bf16) (x2 : Vec Ideal S8x2048x128 .bf16) (x3 : Vec Ideal S2048x1024 .bf16)

/-- An index of three axes with its coordinates named. -/
theorem idx3 {n0 n1 n2 : ℕ} (y : (⟨3, ![n0, n1, n2]⟩ : Shape).Idx) (a : Fin n0) (b : Fin n1) (c : Fin n2)
    (h0 : (y 0).val = a.val) (h1 : (y 1).val = b.val) (h2 : (y 2).val = c.val) : y = ix3 a b c :=
  funext fun x => match x with
    | ⟨0, _⟩ => Fin.ext h0
    | ⟨1, _⟩ => Fin.ext h1
    | ⟨2, _⟩ => Fin.ext h2

/-- An index of two axes with its coordinates named. -/
theorem idx2 {n0 n1 : ℕ} (y : (⟨2, ![n0, n1]⟩ : Shape).Idx) (a : Fin n0) (b : Fin n1)
    (h0 : (y 0).val = a.val) (h1 : (y 1).val = b.val) : y = ix2 a b :=
  funext fun x => match x with
    | ⟨0, _⟩ => Fin.ext h0
    | ⟨1, _⟩ => Fin.ext h1

/-- The scores: the product over the 128 position-free axes and the one over the 64 rotated axes are one over 192. -/
theorem v12 (h : Fin 8) (r j : Fin 2048) : val_main_v12 (F := Ideal) x0 x1 (ix3 h r j) = rowS x0 x1 h r j := by
  pointwise [val_main_v12, val_main_v11, val_main_cst, val_main_v10, val_main_v9, val_main_v8, val_main_v7, val_main_v6, val_main_v5, val_main_v4, val_main_v1, val_main_v0]
  refine congrArg (· * _) ?_
  exact (Fin.sum_univ_add (a := 128) (b := 64) fun d : Fin 192 => x0 (ix3 h r d) * x1 (ix3 h j d)).symm

/-- The scores' maximum. -/
theorem v13 (h : Fin 8) (r : Fin 2048) : val_main_v13 (F := Ideal) x0 x1 (ix2 h r) = mx (rowS x0 x1 h r) := by
  pointwise [val_main_v13, val_main_cst_0]
  simp only [v12, negInf]
  rfl

/-- The exponentials. -/
theorem v33 (h : Fin 8) (r j : Fin 2048) : val_main_v33 (F := Ideal) x0 x1 (ix3 h r j) = ex (rowS x0 x1 h r) j := by
  rw [val_main_v33_apply, val_main_v32_apply, val_main_v31_apply, idx3 (idx_main_v31 _) h r 0 rfl rfl rfl, val_main_v30_apply,
    idx2 (idx_main_v30 _) h r rfl rfl, val_main_v20_apply, val_main_v19_apply, val_main_cst_2_apply, v12, v13]
  simp only [Ideal.ofBits_def, negInf, Ideal.maximumf_def, Ideal.subf_def, bot_le, max_eq_right]
  rfl

/-- The sum of the exponentials, spread along the row. -/
theorem v35 (h : Fin 8) (r : Fin 2048) (a : Fin 1) : val_main_v35 (F := Ideal) x0 x1 (ix3 h r a) = ∑ j, ex (rowS x0 x1 h r) j := by
  rw [val_main_v35_apply, idx2 (idx_main_v35 _) h r rfl rfl, val_main_v34_apply, val_main_cst_8_apply]
  simp only [Ideal.ofBits_def, Ideal.ofBits_zero_f32, zero_add]
  refine Finset.sum_congr rfl fun j _ => ?_
  rw [idx3 (idx_main_v34 _ _) h r j rfl rfl rfl, v33]

/-- The probabilities. -/
theorem v37 (h : Fin 8) (r j : Fin 2048) : val_main_v37 (F := Ideal) x0 x1 (ix3 h r j) = pr (rowS x0 x1 h r) j := by
  rw [val_main_v37_apply, val_main_v36_apply, idx3 (idx_main_v36 _) h r 0 rfl rfl rfl, v35, v33]
  rfl

/-- The probabilities' gradient. -/
theorem v46 (h : Fin 8) (r j : Fin 2048) : val_main_v46 (F := Ideal) x2 x3 (ix3 h r j) = rowG x2 x3 h r j := by
  pointwise [val_main_v46, val_main_v45, val_main_v44, val_main_v3, val_main_v2]
  refine Finset.sum_congr rfl fun e _ => congrArg (· * _) (congrArg x3 (idx2 _ _ _ rfl ?_))
  show h.val * 128 + e.val = 128 * h.val + e.val
  omega

/-- The values' gradient. -/
theorem v48 (h : Fin 8) (j : Fin 2048) (e : Fin 128) : val_main_v48 (F := Ideal) x0 x1 x3 (ix3 h j e) = dV x0 x1 x3 (ix3 h j e) := by
  pointwise [val_main_v48, val_main_v47, val_main_v45, val_main_v44, val_main_v3]
  simp only [v37]
  refine Finset.sum_congr rfl fun r _ => (mul_comm _ _).trans (congrArg (_ * ·) (congrArg x3 (idx2 _ _ _ rfl ?_)))
  show h.val * 128 + e.val = 128 * h.val + e.val
  omega

/-- The scores' gradient, where the row's scores are real. -/
theorem v62 (h : Fin 8) (r j : Fin 2048) (hs : ∃ s : Fin 2048 → ℝ, rowS x0 x1 h r = fun j => (s j : EReal)) :
    val_main_v62 (F := Ideal) x0 x1 x2 x3 (ix3 h r j) = ds cS (rowS x0 x1 h r) (rowG x2 x3 h r) j := by
  obtain ⟨s, hs⟩ := hs
  have h52 : val_main_v52 (F := Ideal) x0 x1 x2 x3 (ix2 h r)
      = ∑ j', rowG x2 x3 h r j' * Ideal.div 1 ((∑ j', ex (rowS x0 x1 h r) j') * ∑ j', ex (rowS x0 x1 h r) j') * ex (rowS x0 x1 h r) j' := by
    rw [val_main_v52_apply, val_main_cst_10_apply]
    simp only [Ideal.ofBits_def, Ideal.ofBits_zero_f32, zero_add]
    refine Finset.sum_congr rfl fun j' _ => ?_
    rw [idx3 (idx_main_v52 _ _) h r j' rfl rfl rfl, val_main_v51_apply, val_main_v50_apply, val_main_v49_apply,
      idx3 (idx_main_v49 _) h r 0 rfl rfl rfl, val_main_v40_apply, val_main_v39_apply, val_main_cst_9_apply, val_main_v38_apply, v35, v46, v33]
    simp only [Ideal.ofBits_def, Ideal.ofBits_one_f32]
    rfl
  have h53 : val_main_v53 (F := Ideal) x0 x1 x2 x3 (ix3 h r 0) = val_main_v52 (F := Ideal) x0 x1 x2 x3 (ix2 h r) := by
    pointwise [val_main_v53]
  have h57 : val_main_v57 (F := Ideal) x0 x1 x2 x3 (ix2 h r) = -val_main_v52 (F := Ideal) x0 x1 x2 x3 (ix2 h r) := by
    rw [val_main_v57_apply, val_main_cst_11_apply]
    simp only [Ideal.ofBits_def, Ideal.ofBits_zero_f32, zero_add, Fin.sum_univ_one]
    rw [idx3 (idx_main_v57 _ _) h r 0 rfl rfl rfl, val_main_v54_apply, h53]
    rfl
  rw [val_main_v62_apply, val_main_v61_apply, val_main_cst_12_apply, val_main_v60_apply, val_main_v59_apply, val_main_v58_apply,
    idx2 (idx_main_v58 _) h r rfl rfl, h57, h52, val_main_v56_apply, val_main_v55_apply, idx3 (idx_main_v55 _) h r 0 rfl rfl rfl, v35, v46, v33, hs]
  exact quotient_grad cS s (rowG x2 x3 h r) j

/-- Every query's scores are real. -/
def RealRows : Prop := ∀ (h : Fin 8) (r : Fin 2048), ∃ s : Fin 2048 → ℝ, rowS x0 x1 h r = fun j => (s j : EReal)

/-- Of a padded sum with one part below column 128 and one from it on, exactly one part is there. -/
theorem parts (d : Fin 192) (f : Fin 192 → EReal) (g : ∀ x : ℕ, x < 64 → 128 + x < 192) :
    ((if h : 128 ≤ d.val ∧ d.val - 128 < 64 then f ⟨128 + (d.val - 128), g _ h.2⟩ else 0) + if d.val < 128 then f d else 0) = f d := by
  by_cases hd : d.val < 128
  · rw [dif_neg (by omega), if_pos hd, zero_add]
  · rw [dif_pos (by omega), if_neg hd, add_zero]
    exact congrArg f (Fin.ext (show 128 + (d.val - 128) = d.val by omega))

/-- The queries' gradient. -/
theorem v72 (hr : RealRows x0 x1) (h : Fin 8) (r : Fin 2048) (d : Fin 192) :
    val_main_v72 (F := Ideal) x0 x1 x2 x3 (ix3 h r d) = dQ x0 x1 x2 x3 (ix3 h r d) := by
  pointwise [val_main_v72, val_main_v71, val_main_cst_16, val_main_v66, val_main_cst_14, val_main_v64, val_main_v68, val_main_v5, val_main_v8, val_main_v1]
  simp only [v62 _ _ _ _ _ _ _ (hr _ _)]
  exact parts d (fun d => ∑ j, ds cS (rowS x0 x1 h r) (rowG x2 x3 h r) j * x1 (ix3 h j d)) (fun _ h => by omega)

/-- The keys' gradient. -/
theorem v70 (hr : RealRows x0 x1) (h : Fin 8) (j : Fin 2048) (d : Fin 192) :
    val_main_v70 (F := Ideal) x0 x1 x2 x3 (ix3 h j d) = dK x0 x1 x2 x3 (ix3 h j d) := by
  pointwise [val_main_v70, val_main_v69, val_main_cst_15, val_main_v65, val_main_cst_13, val_main_v63, val_main_v67, val_main_v4, val_main_v7, val_main_v0]
  simp only [v62 _ _ _ _ _ _ _ (hr _ _)]
  exact parts d (fun d => ∑ r, ds cS (rowS x0 x1 h r) (rowG x2 x3 h r) j * x0 (ix3 h r d)) (fun _ h => by omega)

end Cert.MlaRef

end
-- ==== Proof.MlaClaim.lean ====
/- The equation of the latent attention's gradient: where every query and key is finite each query's scores are real, and
   then the kernel's three arrays are the reference's three results. -/
module

public import proofs.«01_k».proof.Defs
public import proofs.«01_k».proof.Proof.MlaRef
public import proofs.«01_k».proof.Proof.Gen.MlaRefIdeal.Run

@[expose] public section

noncomputable section

namespace Cert.MlaClaim

open Idealize.ShloMosaic Idealize.ShloMosaic.TcCoe Idealize.SL.Sem
open Cert.MlaMath Cert.MlaBlock Cert.MlaArray Cert.MlaRef

/-- The side conditions of the precondition's operations. -/
theorem preFacts : Cert.Pre_mla_finite.Facts where
  bitsLt_bf16_f32 := by decide
  bcast_S_S8x2048x192 := by decide

/-- The word of +∞ is `⊤`. -/
theorem posInf : Ideal.ofBits .f32 0x7F800000#32 = ⊤ := by simp [Ideal.ofBits, Ideal.ieee]

/-- An extended real whose absolute value is below `⊤` is real. -/
theorem real_of_abs (a : EReal) (h : max a (-a) < ⊤) : ∃ r : ℝ, a = (r : EReal) := by
  induction a with
  | bot => simp at h
  | top => simp at h
  | coe r => exact ⟨r, rfl⟩

/-- The comparison that the precondition makes of one element. -/
theorem real_of_bit (a : EReal) (h : Ideal.cmp .olt (max a (-a)) (Ideal.ofBits .f32 0x7F800000#32) = 1#1) : ∃ r : ℝ, a = (r : EReal) := by
  rw [posInf] at h
  refine real_of_abs a ?_
  by_contra hn
  simp [Ideal.cmp, hn] at h

section Pre

variable [Cert.Pre_mla_finite.Facts] (x0 x1 : Vec Ideal Cert.Pre_mla_finite.S8x2048x192 .bf16)
  (x2 : Vec Ideal Cert.Pre_mla_finite.S8x2048x128 .bf16) (x3 : Vec Ideal Cert.Pre_mla_finite.S2048x1024 .bf16)

/-- Under the precondition every query and key entry is real. -/
theorem entries (h : Cert.Pre_mla_finite.fn (F := Ideal) x0 x1 x2 x3 = fun _ => 1#1) (y : Cert.Pre_mla_finite.S8x2048x192.Idx) :
    (∃ r : ℝ, x0 y = (r : EReal)) ∧ ∃ r : ℝ, x1 y = (r : EReal) := by
  have e := congrFun h y
  have e' : Ideal.cmp .olt (max (x0 y) (-x0 y)) (Ideal.ofBits .f32 0x7F800000#32) &&& Ideal.cmp .olt (max (x1 y) (-x1 y)) (Ideal.ofBits .f32 0x7F800000#32) = 1#1 := e
  have both : ∀ a b : BitVec 1, a &&& b = 1#1 → a = 1#1 ∧ b = 1#1 := by decide
  exact ⟨real_of_bit _ (both _ _ e').1, real_of_bit _ (both _ _ e').2⟩

/-- So each query's scores are real. -/
theorem realRows (h : Cert.Pre_mla_finite.fn (F := Ideal) x0 x1 x2 x3 = fun _ => 1#1) : RealRows x0 x1 := fun hd r => by
  choose f hf using fun y => (entries x0 x1 x2 x3 h y).1
  choose g hg using fun y => (entries x0 x1 x2 x3 h y).2
  obtain ⟨c, hc⟩ := cS_coe
  refine ⟨fun j => (∑ d, f (ix3 hd r d) * g (ix3 hd j d)) * c, funext fun j => ?_⟩
  simp only [rowS, sc, hc, hf, hg]
  rw [EReal.coe_mul, coe_sum]
  simp only [EReal.coe_mul]

end Pre

/-- Kernel and reference compute the same three gradients over the extended reals, where the queries and keys are finite. -/
theorem algebraic : @Cert.algebraic_MlaBwdIdeal_MlaRefIdeal_pre_mla_finite Cert.MlaBwdIdeal.Gen.facts Cert.MlaRefIdeal.Gen.facts preFacts := by
  intro m g m' g' hpre hag
  have hr : ∀ c, RealRows (Qa m c) (Ka m c) := fun c => @realRows preFacts _ _ _ _ (hpre c)
  refine ⟨fun c => dQ (Qa m c) (Ka m c) (Wa m c) (Oa m c), fun c => dK (Qa m c) (Ka m c) (Wa m c) (Oa m c),
    fun c => dV (Qa m c) (Ka m c) (Oa m c), run m g, ?_⟩
  refine (θ_run Cert.MlaRefIdeal.defs _ _).mono (fun _ h c => ?_) (Cert.MlaRefIdeal.Value.run m' g')
  obtain ⟨h0, h1, h2, h3⟩ := hag c
  obtain ⟨r0, r1, r2, hargs⟩ := h c
  refine ⟨r0.trans ?_, r1.trans ?_, r2.trans ?_, hargs⟩
  · rw [Cert.MlaRefIdeal.Read.val_main_v72_eq, h0, h1, h2, h3]
    funext y
    obtain ⟨a, i, d, rfl⟩ : ∃ (a : Fin 8) (i : Fin 2048) (d : Fin 192), y = ix3 a i d := ⟨_, _, _, eq_ix3 y⟩
    exact v72 _ _ _ _ (hr c) a i d
  · rw [Cert.MlaRefIdeal.Read.val_main_v70_eq, h0, h1, h2, h3]
    funext y
    obtain ⟨a, i, d, rfl⟩ : ∃ (a : Fin 8) (i : Fin 2048) (d : Fin 192), y = ix3 a i d := ⟨_, _, _, eq_ix3 y⟩
    exact v70 _ _ _ _ (hr c) a i d
  · rw [Cert.MlaRefIdeal.Read.val_main_v48_eq, h0, h1, h3]
    funext y
    obtain ⟨a, i, d, rfl⟩ : ∃ (a : Fin 8) (i : Fin 2048) (d : Fin 128), y = ix3 a i d := ⟨_, _, _, eq_ix3 y⟩
    exact v48 _ _ _ a i d

end Cert.MlaClaim

end
-- ==== Proof.Tile.lean ====
/- Indices of arrays that are cut over a grid of 8 × 2 points: the point's group (one of 8) and the row or column that an
   element of its block of 1024 has in the whole array. -/
module

public import Idealize.ShloMosaic.Lib.Pointwise

@[expose] public section

namespace Cert.Tile

open Idealize.ShloMosaic

/-- The group of point `n`. -/
def gp (n : ℕ) : Fin 8 := ⟨n / 2 % 8, by omega⟩

/-- Element `i` of point `n`'s block of 1024, among 2048. -/
def pos (n : ℕ) (i : Fin 1024) : Fin 2048 := ⟨1024 * (n % 2) + i.val, by omega⟩

/-- Point `n`'s group, one of 8. -/
def g8 (n : ℕ) : Fin 8 := ⟨n % 8, by omega⟩

/-- Element `k` of group `n` of 256, among 2048. -/
def at256 (n : ℕ) (k : Fin 256) : Fin 2048 := ⟨256 * (n % 8) + k.val, by omega⟩

/-- Element `k` of block `n` of 512, among 2048. -/
def r4 (n : ℕ) (k : Fin 512) : Fin 2048 := ⟨512 * (n % 4) + k.val, by omega⟩

/-- Eight terms added in order are one sum. -/
theorem eight (f : Fin 8 → EReal) {t0 t1 t2 t3 t4 t5 t6 t7 : EReal} (h0 : t0 = f 0) (h1 : t1 = f 1) (h2 : t2 = f 2) (h3 : t3 = f 3)
    (h4 : t4 = f 4) (h5 : t5 = f 5) (h6 : t6 = f 6) (h7 : t7 = f 7) : t0 + t1 + t2 + t3 + t4 + t5 + t6 + t7 = ∑ g, f g := by
  rw [Fin.sum_univ_eight, h0, h1, h2, h3, h4, h5, h6, h7]

/-- An index of a matrix is given by its two coordinates. -/
theorem ix2_of {n0 n1 : ℕ} {y : (⟨2, ![n0, n1]⟩ : Shape).Idx} {a : Fin n0} {b : Fin n1}
    (h0 : (y 0).val = a.val) (h1 : (y 1).val = b.val) : y = ix2 a b := by
  funext x; apply Fin.ext
  match x with
  | ⟨0, _⟩ => exact h0
  | ⟨1, _⟩ => exact h1

/-- An index of an array of rank three is given by its three coordinates. -/
theorem ix3_of {n0 n1 n2 : ℕ} {y : (⟨3, ![n0, n1, n2]⟩ : Shape).Idx} {a : Fin n0} {b : Fin n1} {c : Fin n2}
    (h0 : (y 0).val = a.val) (h1 : (y 1).val = b.val) (h2 : (y 2).val = c.val) : y = ix3 a b c := by
  funext x; apply Fin.ext
  match x with
  | ⟨0, _⟩ => exact h0
  | ⟨1, _⟩ => exact h1
  | ⟨2, _⟩ => exact h2

/-- The point of group `h` whose block has the element `r` of 2048. -/
theorem gp_pt (h : Fin 8) (r : Fin 2048) : gp (2 * h.val + r.val / 1024) = h :=
  Fin.ext (show (2 * h.val + r.val / 1024) / 2 % 8 = h.val by omega)

theorem pos_pt (h : Fin 8) (r : Fin 2048) : pos (2 * h.val + r.val / 1024) ⟨r.val % 1024, Nat.mod_lt _ (by omega)⟩ = r :=
  Fin.ext (show 1024 * ((2 * h.val + r.val / 1024) % 2) + r.val % 1024 = r.val by omega)

theorem pt_lt (h : Fin 8) (r : Fin 2048) : 2 * h.val + r.val / 1024 < 16 := by omega

end Cert.Tile
-- ==== Proof.FfnBlock.lean ====
/- What one grid point of each of the six calls of the gated feed-forward layer computes: the payloads at an index, and
   what each body leaves in the staging buffers of its outputs. -/
module

public import proofs.«01_k».proof.Proof.Gen.FfnBwdIdeal.Frame
public import proofs.«01_k».proof.Proof.Tile
public import Idealize.ShloMosaic.Lib.Pointwise

@[expose] public section

noncomputable section

namespace Cert.FfnBlock

open Idealize.ShloMosaic Idealize.ShloMosaic.TcCoe Cert.FfnBwdIdeal Cert.FfnBwdIdeal.Gen Cert.Tile

/-- The layer's factor one half, as the float that both programs hold. -/
abbrev half : EReal := Ideal.ofBits .f32 0x3F000000#32

/-- The one of the sigmoid's derivative. -/
abbrev one : EReal := Ideal.ofBits .f32 0x3F800000#32

/-! ## The payloads at an index -/

theorem up_g (x0 : Vec Ideal S1024x2048 .bf16) (x1 : Vec Ideal S1x704x2048 .bf16) (a : Fin 1) (i : Fin 1024) (k : Fin 704) :
    k0_pay3 x0 x1 (ix3 a i k) = ∑ d : Fin 2048, x0 (ix2 i d) * x1 (ix3 0 k d) := by
  pointwise [k0_pay3, k0_pay1]

theorem up_u (x0 : Vec Ideal S1024x2048 .bf16) (x1 : Vec Ideal S1x704x2048 .bf16) (a : Fin 1) (i : Fin 1024) (k : Fin 704) :
    k0_pay4 x0 x1 (ix3 a i k) = ∑ d : Fin 2048, x0 (ix2 i d) * x1 (ix3 0 k d) := by
  pointwise [k0_pay4, k0_pay2]

theorem up_a (x0 x2 : Vec Ideal S1024x2048 .bf16) (x1 x3 : Vec Ideal S1x704x2048 .bf16) (a : Fin 1) (i : Fin 1024) (k : Fin 704) :
    k0_pay5 x0 x1 x2 x3 (ix3 a i k) = (∑ d : Fin 2048, x0 (ix2 i d) * x1 (ix3 0 k d))
      * Ideal.logistic (∑ d : Fin 2048, x0 (ix2 i d) * x1 (ix3 0 k d)) * ∑ d : Fin 2048, x2 (ix2 i d) * x3 (ix3 0 k d) := by
  pointwise [k0_pay5, k0_pay1, k0_pay2]

theorem act_g (x0 : Vec Ideal S1024x2048 .bf16) (x1 : Vec Ideal S1x704x2048 .bf16) (x2 x3 : Vec Ideal S1x1024x704 .bf16)
    (a : Fin 1) (i : Fin 1024) (k : Fin 704) :
    k1_pay4 x0 x1 x2 x3 (ix3 a i k) = (half * ∑ d : Fin 2048, x0 (ix2 i d) * x1 (ix3 0 k d)) * x3 (ix3 0 i k)
      * (Ideal.logistic (x2 (ix3 0 i k)) * (one + x2 (ix3 0 i k) * (one - Ideal.logistic (x2 (ix3 0 i k))))) := by
  pointwise [k1_pay4, k1_pay1, k1_pay2, k1_pay3]

theorem act_u (x0 : Vec Ideal S1024x2048 .bf16) (x1 : Vec Ideal S1x704x2048 .bf16) (x2 : Vec Ideal S1x1024x704 .bf16)
    (a : Fin 1) (i : Fin 1024) (k : Fin 704) :
    k1_pay5 x0 x1 x2 (ix3 a i k) = (half * ∑ d : Fin 2048, x0 (ix2 i d) * x1 (ix3 0 k d))
      * (x2 (ix3 0 i k) * Ideal.logistic (x2 (ix3 0 i k))) := by
  pointwise [k1_pay5, k1_pay1, k1_pay2, k1_pay3]

theorem wup_g (x0 : Vec Ideal S1x2048x704 .bf16) (x1 : Vec Ideal S2048x1024 .bf16) (a : Fin 1) (k : Fin 704) (d : Fin 1024) :
    k2_pay1 x0 x1 (ix3 a k d) = ∑ r : Fin 2048, x0 (ix3 0 r k) * x1 (ix2 r d) := by
  pointwise [k2_pay1]

theorem wup_u (x0 : Vec Ideal S1x2048x704 .bf16) (x1 : Vec Ideal S2048x1024 .bf16) (a : Fin 1) (k : Fin 704) (d : Fin 1024) :
    k2_pay2 x0 x1 (ix3 a k d) = ∑ r : Fin 2048, x0 (ix3 0 r k) * x1 (ix2 r d) := by
  pointwise [k2_pay2]

theorem wd (x0 : Vec Ideal S1x2048x704 .bf16) (x1 : Vec Ideal S2048x1024 .bf16) (a : Fin 1) (k : Fin 704) (d : Fin 1024) :
    k3_pay1 x0 x1 (ix3 a k d) = half * ∑ r : Fin 2048, x0 (ix3 0 r k) * x1 (ix2 r d) := by
  pointwise [k3_pay1]

/-- One group's part of a product, for a block of 512 rows and for one of 1024. -/
abbrev part (x : Vec Ideal S1x512x704 .bf16) (y : Vec Ideal S1x704x512 .bf16) (i j : Fin 512) : EReal :=
  ∑ k : Fin 704, x (ix3 0 i k) * y (ix3 0 k j)
abbrev part' (x : Vec Ideal S1x1024x704 .bf16) (y : Vec Ideal S1x704x512 .bf16) (i : Fin 1024) (j : Fin 512) : EReal :=
  ∑ k : Fin 704, x (ix3 0 i k) * y (ix3 0 k j)

theorem dx_a (a0 a1 a2 a3 : Vec Ideal S1x512x704 .bf16) (b0 b1 b2 b3 : Vec Ideal S1x704x512 .bf16) (i j : Fin 512) :
    k4_pay2 a0 b0 a1 b1 a2 b2 a3 b3 (ix2 i j) = part a0 b0 i j + part a1 b1 i j + part a2 b2 i j + part a3 b3 i j := by
  pointwise [k4_pay2]

theorem dx_b (v : FVec Ideal S512x512 .f32) (a0 a1 a2 a3 a4 : Vec Ideal S1x512x704 .bf16) (b0 b1 b2 b3 b4 : Vec Ideal S1x704x512 .bf16)
    (i j : Fin 512) : k4_pay4 v (k4_pay3 a0) b0 a1 b1 a2 b2 a3 b3 a4 b4 (ix2 i j)
      = v (ix2 i j) + part a0 b0 i j + part a1 b1 i j + part a2 b2 i j + part a3 b3 i j + part a4 b4 i j := by
  pointwise [k4_pay4, k4_pay3]

theorem dx_c (v : FVec Ideal S512x512 .f32) (a0 a1 a2 a3 : Vec Ideal S1x512x704 .bf16) (b0 b1 b2 b3 : Vec Ideal S1x704x512 .bf16)
    (i j : Fin 512) : k4_pay5 v a0 b0 a1 b1 a2 b2 a3 b3 (ix2 i j)
      = v (ix2 i j) + part a0 b0 i j + part a1 b1 i j + part a2 b2 i j + part a3 b3 i j := by
  pointwise [k4_pay5]

theorem dx_d (v : FVec Ideal S512x512 .f32) (a0 a1 a2 : Vec Ideal S1x512x704 .bf16) (b0 b1 b2 : Vec Ideal S1x704x512 .bf16)
    (i j : Fin 512) : k4_pay1 v (k4_pay6 a0) (k4_pay7 b0) a1 b1 a2 b2 (ix2 i j)
      = v (ix2 i j) + part a0 b0 i j + part a1 b1 i j + part a2 b2 i j := by
  pointwise [k4_pay1, k4_pay6, k4_pay7]

theorem down_a (a0 a1 a2 a3 : Vec Ideal S1x1024x704 .bf16) (b0 b1 b2 b3 : Vec Ideal S1x704x512 .bf16) (i : Fin 1024) (j : Fin 512) :
    k5_pay2 a0 b0 a1 b1 a2 b2 a3 b3 (ix2 i j) = part' a0 b0 i j + part' a1 b1 i j + part' a2 b2 i j + part' a3 b3 i j := by
  pointwise [k5_pay2]

theorem down_b (v : FVec Ideal S1024x512 .f32) (a0 a1 a2 a3 : Vec Ideal S1x1024x704 .bf16) (b0 b1 b2 b3 : Vec Ideal S1x704x512 .bf16)
    (z : Vec Ideal S1024x512 .f32) (i : Fin 1024) (j : Fin 512) : k5_pay1 v (k5_pay3 a0) b0 a1 b1 a2 b2 a3 b3 z (ix2 i j)
      = z (ix2 i j) + half * (v (ix2 i j) + part' a0 b0 i j + part' a1 b1 i j + part' a2 b2 i j + part' a3 b3 i j) := by
  pointwise [k5_pay1, k5_pay3]

/-! ## What each body leaves -/

theorem hz2 : (![0, 0] : Fin 2 → Nat) = fun _ => 0 := by funext x; match x with | 0 => rfl | 1 => rfl
theorem hz3 : (![0, 0, 0] : Fin 3 → Nat) = fun _ => 0 := by funext x; match x with | 0 => rfl | 1 => rfl | 2 => rfl

theorem out_g (x0 x2 : Vec Ideal S1024x2048 .bf16) (x1 x3 : Vec Ideal S1x704x2048 .bf16) : out0_4 x0 x1 x2 x3 = k0_pay3 x0 x1 := by
  unfold out0_4
  rw [View.canon_unit_zero hz3, View.ld_unit_zero (S := S1024x2048) hz2, View.ld_unit_zero (S := S1x704x2048) hz3]

theorem out_u (x0 x2 : Vec Ideal S1024x2048 .bf16) (x1 x3 : Vec Ideal S1x704x2048 .bf16) : out0_5 x0 x1 x2 x3 = k0_pay4 x2 x3 := by
  unfold out0_5
  rw [View.canon_unit_zero hz3, View.ld_unit_zero (S := S1024x2048) hz2, View.ld_unit_zero (S := S1x704x2048) hz3]

theorem out_a (x0 x2 : Vec Ideal S1024x2048 .bf16) (x1 x3 : Vec Ideal S1x704x2048 .bf16) : out0_6 x0 x1 x2 x3 = k0_pay5 x0 x1 x2 x3 := by
  unfold out0_6
  rw [View.canon_unit_zero hz3]
  simp only [View.ld_unit_zero (S := S1024x2048) hz2, View.ld_unit_zero (S := S1x704x2048) hz3]

theorem out_dg (x0 : Vec Ideal S1024x2048 .bf16) (x1 : Vec Ideal S1x704x2048 .bf16) (x2 x3 : Vec Ideal S1x1024x704 .bf16) :
    out1_4 x0 x1 x2 x3 = k1_pay4 x0 x1 x2 x3 := by
  unfold out1_4
  rw [View.canon_unit_zero hz3]
  simp only [View.ld_unit_zero (S := S1024x2048) hz2, View.ld_unit_zero (S := S1x704x2048) hz3, View.ld_unit_zero (S := S1x1024x704) hz3]

theorem out_du (x0 : Vec Ideal S1024x2048 .bf16) (x1 : Vec Ideal S1x704x2048 .bf16) (x2 x3 : Vec Ideal S1x1024x704 .bf16) :
    out1_5 x0 x1 x2 x3 = k1_pay5 x0 x1 x2 := by
  unfold out1_5
  rw [View.canon_unit_zero hz3]
  simp only [View.ld_unit_zero (S := S1024x2048) hz2, View.ld_unit_zero (S := S1x704x2048) hz3, View.ld_unit_zero (S := S1x1024x704) hz3]

theorem out_wg (x0 x2 : Vec Ideal S1x2048x704 .bf16) (x1 x3 : Vec Ideal S2048x1024 .bf16) : out2_4 x0 x1 x2 x3 = k2_pay1 x0 x1 := by
  unfold out2_4
  rw [View.canon_unit_zero hz3, View.ld_unit_zero (S := S2048x1024) hz2, View.ld_unit_zero (S := S1x2048x704) hz3]

theorem out_wu (x0 x2 : Vec Ideal S1x2048x704 .bf16) (x1 x3 : Vec Ideal S2048x1024 .bf16) : out2_5 x0 x1 x2 x3 = k2_pay2 x2 x3 := by
  unfold out2_5
  rw [View.canon_unit_zero hz3, View.ld_unit_zero (S := S2048x1024) hz2, View.ld_unit_zero (S := S1x2048x704) hz3]

theorem out_wd (x0 : Vec Ideal S1x2048x704 .bf16) (x1 : Vec Ideal S2048x1024 .bf16) : out3_2 x0 x1 = k3_pay1 x0 x1 := by
  unfold out3_2
  rw [View.canon_unit_zero hz3, View.ld_unit_zero (S := S2048x1024) hz2, View.ld_unit_zero (S := S1x2048x704) hz3]

/-- The product of one group's block. -/
theorem part_grp (x : Vec Ideal S8x512x704 .bf16) (y : Vec Ideal S8x704x512 .bf16) (g : Fin 8) (h h') (i : Fin 512) (j : Fin 512) :
    part (View.ld x (Rect.unit (s := S8x512x704) ![g.val, 0, 0] S1x512x704.size h))
      (View.ld y (Rect.unit (s := S8x704x512) ![g.val, 0, 0] S1x704x512.size h')) i j = ∑ k : Fin 704, x (ix3 g i k) * y (ix3 g k j) :=
  Finset.sum_congr rfl fun k _ => congrArg₂ (· * ·)
    (congrArg x (ix3_of (by show g.val + 1 * 0 = g.val; omega) (by show 0 + 1 * i.val = i.val; omega) (by show 0 + 1 * k.val = k.val; omega)))
    (congrArg y (ix3_of (by show g.val + 1 * 0 = g.val; omega) (by show 0 + 1 * k.val = k.val; omega) (by show 0 + 1 * j.val = j.val; omega)))

/-- The product of one group's block. -/
theorem part_grp' (x : Vec Ideal S8x1024x704 .bf16) (y : Vec Ideal S8x704x512 .bf16) (g : Fin 8) (h h') (i : Fin 1024) (j : Fin 512) :
    part' (View.ld x (Rect.unit (s := S8x1024x704) ![g.val, 0, 0] S1x1024x704.size h))
      (View.ld y (Rect.unit (s := S8x704x512) ![g.val, 0, 0] S1x704x512.size h')) i j = ∑ k : Fin 704, x (ix3 g i k) * y (ix3 g k j) :=
  Finset.sum_congr rfl fun k _ => congrArg₂ (· * ·)
    (congrArg x (ix3_of (by show g.val + 1 * 0 = g.val; omega) (by show 0 + 1 * i.val = i.val; omega) (by show 0 + 1 * k.val = k.val; omega)))
    (congrArg y (ix3_of (by show g.val + 1 * 0 = g.val; omega) (by show 0 + 1 * k.val = k.val; omega) (by show 0 + 1 * j.val = j.val; omega)))

theorem out_dx (x0 x2 : Vec Ideal S8x512x704 .bf16) (x1 x3 : Vec Ideal S8x704x512 .bf16) (i j : Fin 512) :
    out4_4 x0 x1 x2 x3 (ix2 i j) = (∑ g : Fin 8, ∑ k : Fin 704, x0 (ix3 g i k) * x1 (ix3 g k j))
      + ∑ g : Fin 8, ∑ k : Fin 704, x2 (ix3 g i k) * x3 (ix3 g k j) := by
  unfold out4_4
  rw [View.canon_unit_zero hz2, dx_d, dx_c, dx_b, dx_a,
    ← eight (fun g => ∑ k : Fin 704, x0 (ix3 g i k) * x1 (ix3 g k j)) (part_grp x0 x1 0 _ _ i j) (part_grp x0 x1 1 _ _ i j) (part_grp x0 x1 2 _ _ i j) (part_grp x0 x1 3 _ _ i j) (part_grp x0 x1 4 _ _ i j) (part_grp x0 x1 5 _ _ i j) (part_grp x0 x1 6 _ _ i j) (part_grp x0 x1 7 _ _ i j),
    ← eight (fun g => ∑ k : Fin 704, x2 (ix3 g i k) * x3 (ix3 g k j)) (part_grp x2 x3 0 _ _ i j) (part_grp x2 x3 1 _ _ i j) (part_grp x2 x3 2 _ _ i j) (part_grp x2 x3 3 _ _ i j) (part_grp x2 x3 4 _ _ i j) (part_grp x2 x3 5 _ _ i j) (part_grp x2 x3 6 _ _ i j) (part_grp x2 x3 7 _ _ i j)]
  simp only [← add_assoc]
  rfl

theorem out_down (x0 : Vec Ideal S8x1024x704 .bf16) (x1 : Vec Ideal S8x704x512 .bf16) (x2 : Vec Ideal S1024x512 .f32)
    (i : Fin 1024) (j : Fin 512) :
    out5_3 x0 x1 x2 (ix2 i j) = x2 (ix2 i j) + half * ∑ g : Fin 8, ∑ k : Fin 704, x0 (ix3 g i k) * x1 (ix3 g k j) := by
  unfold out5_3
  rw [View.canon_unit_zero hz2, down_b, down_a, View.ld_unit_zero (S := S1024x512) hz2,
    ← eight (fun g => ∑ k : Fin 704, x0 (ix3 g i k) * x1 (ix3 g k j)) (part_grp' x0 x1 0 _ _ i j) (part_grp' x0 x1 1 _ _ i j) (part_grp' x0 x1 2 _ _ i j) (part_grp' x0 x1 3 _ _ i j) (part_grp' x0 x1 4 _ _ i j) (part_grp' x0 x1 5 _ _ i j) (part_grp' x0 x1 6 _ _ i j) (part_grp' x0 x1 7 _ _ i j)]
  rfl

end Cert.FfnBlock
-- ==== Proof.FfnArray.lean ====
/- The arrays that the six calls of the gated feed-forward layer leave, each as one function of the arrays that the call
   reads. A grid point of the first four is one of 8 groups of 704 hidden units and one of two blocks of 1024 rows or columns. -/
module

public import proofs.«01_k».proof.Proof.FfnBlock
public import proofs.«01_k».proof.Proof.Tile
public import Idealize.ShloMosaic.Lib.Pipeline.ValueKit.Geometry

@[expose] public section

noncomputable section

namespace Cert.FfnArray

open Idealize.ShloMosaic Idealize.ShloMosaic.TcCoe Idealize.SL.Sem
open Cert.FfnBwdIdeal Cert.FfnBwdIdeal.Gen Cert.FfnBlock Cert.Tile

/-! ## The results of the calls as functions of what they read -/

/-- The hidden units: a row of the input times a row of the group's weights. -/
def up (X : Vec Ideal S2048x2048 .bf16) (W : Vec Ideal S8x704x2048 .bf16) : Vec Ideal S8x2048x704 .bf16 := fun y =>
  ∑ d : Fin 2048, X (ix2 (y 1) d) * W (ix3 (y 0) (y 2) d)

/-- The gated hidden units. -/
def act (X : Vec Ideal S2048x2048 .bf16) (G U : Vec Ideal S8x704x2048 .bf16) : Vec Ideal S8x2048x704 .bf16 := fun y =>
  up X G y * Ideal.logistic (up X G y) * up X U y

/-- The gradient of the gated hidden units: one half of the output's gradient, times the weights that lead down. -/
def ct (O : Vec Ideal S2048x2048 .bf16) (D : Vec Ideal S8x704x2048 .bf16) : Vec Ideal S8x2048x704 .bf16 := fun y =>
  half * ∑ d : Fin 2048, O (ix2 (y 1) d) * D (ix3 (y 0) (y 2) d)

/-- The gate's gradient. -/
def dGate (O : Vec Ideal S2048x2048 .bf16) (D : Vec Ideal S8x704x2048 .bf16) (g u : Vec Ideal S8x2048x704 .bf16) :
    Vec Ideal S8x2048x704 .bf16 := fun y =>
  ct O D y * u y * (Ideal.logistic (g y) * (one + g y * (one - Ideal.logistic (g y))))

/-- The gradient of the units that the gate multiplies. -/
def dUp (O : Vec Ideal S2048x2048 .bf16) (D : Vec Ideal S8x704x2048 .bf16) (g : Vec Ideal S8x2048x704 .bf16) :
    Vec Ideal S8x2048x704 .bf16 := fun y =>
  ct O D y * (g y * Ideal.logistic (g y))

/-- A weight's gradient: the sum over the rows. -/
def wGrad (h : Vec Ideal S8x2048x704 .bf16) (X : Vec Ideal S2048x2048 .bf16) : Vec Ideal S8x704x2048 .bf16 := fun y =>
  ∑ r : Fin 2048, h (ix3 (y 0) r (y 1)) * X (ix2 r (y 2))

/-- The gradient of the weights that lead down. -/
def dDown (h : Vec Ideal S8x2048x704 .bf16) (O : Vec Ideal S2048x2048 .bf16) : Vec Ideal S8x704x2048 .bf16 := fun y =>
  half * wGrad h O y

/-- A product over all the hidden units, by groups. -/
def over (h : Vec Ideal S8x2048x704 .bf16) (W : Vec Ideal S8x704x2048 .bf16) : Vec Ideal S2048x2048 .f32 := fun y =>
  ∑ g : Fin 8, ∑ k : Fin 704, h (ix3 g (y 0) k) * W (ix3 g k (y 1))

/-- The gradient of the layer's input. -/
def dX (dg du : Vec Ideal S8x2048x704 .bf16) (G U : Vec Ideal S8x704x2048 .bf16) : Vec Ideal S2048x2048 .f32 := fun y =>
  over dg G y + over du U y

/-- The layer's output. -/
def down (a : Vec Ideal S8x2048x704 .bf16) (D : Vec Ideal S8x704x2048 .bf16) (H : Vec Ideal S2048x2048 .f32) :
    Vec Ideal S2048x2048 .f32 := fun y =>
  H y + half * over a D y

variable (V : (c : Dev nD) → (b : Ref sig .tc) → Buf (Elt Ideal) ((c : Thread nD τ).loc b)) (c : Dev nD)

/-! ## Call 0: the two products and the gated product -/

/-- The block indices of the windows at a point. -/
theorem idx0 : ∀ t : Fin cfg0.N,
    (win0_0.index t (0 : Fin 2) = t.val % 2 ∧ win0_0.index t (1 : Fin 2) = 0)
    ∧ (win0_1.index t (0 : Fin 3) = t.val / 2 % 8 ∧ win0_1.index t (1 : Fin 3) = 0 ∧ win0_1.index t (2 : Fin 3) = 0)
    ∧ (win0_2.index t (0 : Fin 2) = t.val % 2 ∧ win0_2.index t (1 : Fin 2) = 0)
    ∧ (win0_3.index t (0 : Fin 3) = t.val / 2 % 8 ∧ win0_3.index t (1 : Fin 3) = 0 ∧ win0_3.index t (2 : Fin 3) = 0)
    ∧ (win0_4.index t (0 : Fin 3) = t.val / 2 % 8 ∧ win0_4.index t (1 : Fin 3) = t.val % 2 ∧ win0_4.index t (2 : Fin 3) = 0)
    ∧ (win0_5.index t (0 : Fin 3) = t.val / 2 % 8 ∧ win0_5.index t (1 : Fin 3) = t.val % 2 ∧ win0_5.index t (2 : Fin 3) = 0)
    ∧ (win0_6.index t (0 : Fin 3) = t.val / 2 % 8 ∧ win0_6.index t (1 : Fin 3) = t.val % 2 ∧ win0_6.index t (2 : Fin 3) = 0) :=
  (by decide +kernel : ∀ t : Fin grid0.N, _)

theorem emb0_0 (t : Fin cfg0.N) (i : Fin 1024) (d : Fin 2048) :
    ((cfg0.win 0).blk t).view.emb (ix2 i d : S1024x2048.Idx) = (ix2 (pos t.val i) d : S2048x2048.Idx) :=
  ix2_of
    (by have h := idx0 t; show win0_0.index t (0 : Fin 2) * 1024 + 1 * i.val = 1024 * (t.val % 2) + i.val; omega)
    (by have h := idx0 t; show win0_0.index t (1 : Fin 2) * 2048 + 1 * d.val = d.val; omega)

theorem emb0_1 (t : Fin cfg0.N) (a : Fin 1) (k : Fin 704) (d : Fin 2048) :
    ((cfg0.win 1).blk t).view.emb (ix3 a k d : S1x704x2048.Idx) = (ix3 (gp t.val) k d : S8x704x2048.Idx) :=
  ix3_of
    (by have h := idx0 t; show win0_1.index t (0 : Fin 3) * 1 + 1 * a.val = t.val / 2 % 8; omega)
    (by have h := idx0 t; show win0_1.index t (1 : Fin 3) * 704 + 1 * k.val = k.val; omega)
    (by have h := idx0 t; show win0_1.index t (2 : Fin 3) * 2048 + 1 * d.val = d.val; omega)

theorem emb0_2 (t : Fin cfg0.N) (i : Fin 1024) (d : Fin 2048) :
    ((cfg0.win 2).blk t).view.emb (ix2 i d : S1024x2048.Idx) = (ix2 (pos t.val i) d : S2048x2048.Idx) :=
  ix2_of
    (by have h := idx0 t; show win0_2.index t (0 : Fin 2) * 1024 + 1 * i.val = 1024 * (t.val % 2) + i.val; omega)
    (by have h := idx0 t; show win0_2.index t (1 : Fin 2) * 2048 + 1 * d.val = d.val; omega)

theorem emb0_3 (t : Fin cfg0.N) (a : Fin 1) (k : Fin 704) (d : Fin 2048) :
    ((cfg0.win 3).blk t).view.emb (ix3 a k d : S1x704x2048.Idx) = (ix3 (gp t.val) k d : S8x704x2048.Idx) :=
  ix3_of
    (by have h := idx0 t; show win0_3.index t (0 : Fin 3) * 1 + 1 * a.val = t.val / 2 % 8; omega)
    (by have h := idx0 t; show win0_3.index t (1 : Fin 3) * 704 + 1 * k.val = k.val; omega)
    (by have h := idx0 t; show win0_3.index t (2 : Fin 3) * 2048 + 1 * d.val = d.val; omega)

theorem emb0_4 (t : Fin cfg0.N) (a : Fin 1) (i : Fin 1024) (k : Fin 704) :
    ((cfg0.win 4).blk t).view.emb (ix3 a i k : S1x1024x704.Idx) = (ix3 (gp t.val) (pos t.val i) k : S8x2048x704.Idx) :=
  ix3_of
    (by have h := idx0 t; show win0_4.index t (0 : Fin 3) * 1 + 1 * a.val = t.val / 2 % 8; omega)
    (by have h := idx0 t; show win0_4.index t (1 : Fin 3) * 1024 + 1 * i.val = 1024 * (t.val % 2) + i.val; omega)
    (by have h := idx0 t; show win0_4.index t (2 : Fin 3) * 704 + 1 * k.val = k.val; omega)

theorem emb0_5 (t : Fin cfg0.N) (a : Fin 1) (i : Fin 1024) (k : Fin 704) :
    ((cfg0.win 5).blk t).view.emb (ix3 a i k : S1x1024x704.Idx) = (ix3 (gp t.val) (pos t.val i) k : S8x2048x704.Idx) :=
  ix3_of
    (by have h := idx0 t; show win0_5.index t (0 : Fin 3) * 1 + 1 * a.val = t.val / 2 % 8; omega)
    (by have h := idx0 t; show win0_5.index t (1 : Fin 3) * 1024 + 1 * i.val = 1024 * (t.val % 2) + i.val; omega)
    (by have h := idx0 t; show win0_5.index t (2 : Fin 3) * 704 + 1 * k.val = k.val; omega)

theorem emb0_6 (t : Fin cfg0.N) (a : Fin 1) (i : Fin 1024) (k : Fin 704) :
    ((cfg0.win 6).blk t).view.emb (ix3 a i k : S1x1024x704.Idx) = (ix3 (gp t.val) (pos t.val i) k : S8x2048x704.Idx) :=
  ix3_of
    (by have h := idx0 t; show win0_6.index t (0 : Fin 3) * 1 + 1 * a.val = t.val / 2 % 8; omega)
    (by have h := idx0 t; show win0_6.index t (1 : Fin 3) * 1024 + 1 * i.val = 1024 * (t.val % 2) + i.val; omega)
    (by have h := idx0 t; show win0_6.index t (2 : Fin 3) * 704 + 1 * k.val = k.val; omega)

theorem blk0_0 (t : Fin cfg0.N) (i : Fin 1024) (d : Fin 2048) :
    (iblk0 V c 0 t : Vec Ideal S1024x2048 .bf16) (ix2 i d) = V c main_arg0 (ix2 (pos t.val i) d) := congrArg (V c main_arg0) (emb0_0 t i d)

theorem blk0_1 (t : Fin cfg0.N) (a : Fin 1) (k : Fin 704) (d : Fin 2048) :
    (iblk0 V c 1 t : Vec Ideal S1x704x2048 .bf16) (ix3 a k d) = V c main_arg1 (ix3 (gp t.val) k d) := congrArg (V c main_arg1) (emb0_1 t a k d)

theorem blk0_2 (t : Fin cfg0.N) (i : Fin 1024) (d : Fin 2048) :
    (iblk0 V c 2 t : Vec Ideal S1024x2048 .bf16) (ix2 i d) = V c main_arg0 (ix2 (pos t.val i) d) := congrArg (V c main_arg0) (emb0_2 t i d)

theorem blk0_3 (t : Fin cfg0.N) (a : Fin 1) (k : Fin 704) (d : Fin 2048) :
    (iblk0 V c 3 t : Vec Ideal S1x704x2048 .bf16) (ix3 a k d) = V c main_arg2 (ix3 (gp t.val) k d) := congrArg (V c main_arg2) (emb0_3 t a k d)

theorem arr0_4 : (dat0 V c).arrAt 4 cfg0.N = up (V c main_arg0) (V c main_arg1) := by
  refine (dat0 V c).arrAt_eq_of_cover 4 _ (fun t _ => ?_) fun y => ?_
  · funext (y : S1x1024x704.Idx)
    show (dat0 V c).after 4 t y = (up (V c main_arg0) (V c main_arg1)) (((cfg0.win 4).blk t).view.emb y)
    obtain ⟨a, i, k, rfl⟩ : ∃ (a : Fin 1) (i : Fin 1024) (k : Fin 704), y = ix3 a i k := ⟨_, _, _, eq_ix3 y⟩
    rw [after0_4, out_g, up_g, emb0_4]
    simp only [blk0_0, blk0_1, blk0_2, blk0_3]
    rfl
  · change S8x2048x704.Idx at y
    obtain ⟨h, r, k, rfl⟩ : ∃ (h : Fin 8) (r : Fin 2048) (k : Fin 704), y = ix3 h r k := ⟨_, _, _, eq_ix3 y⟩
    refine ⟨⟨2 * h.val + r.val / 1024, (pt_lt h r).trans_eq N_0.symm⟩, flush0_4 _, ?_⟩
    have := ((cfg0.win 4).blk ⟨2 * h.val + r.val / 1024, (pt_lt h r).trans_eq N_0.symm⟩).view.emb_mem_set
      (ix3 0 ⟨r.val % 1024, Nat.mod_lt _ (by omega)⟩ k : S1x1024x704.Idx)
    rwa [emb0_4, gp_pt, pos_pt] at this

theorem arr0_5 : (dat0 V c).arrAt 5 cfg0.N = up (V c main_arg0) (V c main_arg2) := by
  refine (dat0 V c).arrAt_eq_of_cover 5 _ (fun t _ => ?_) fun y => ?_
  · funext (y : S1x1024x704.Idx)
    show (dat0 V c).after 5 t y = (up (V c main_arg0) (V c main_arg2)) (((cfg0.win 5).blk t).view.emb y)
    obtain ⟨a, i, k, rfl⟩ : ∃ (a : Fin 1) (i : Fin 1024) (k : Fin 704), y = ix3 a i k := ⟨_, _, _, eq_ix3 y⟩
    rw [after0_5, out_u, up_u, emb0_5]
    simp only [blk0_0, blk0_1, blk0_2, blk0_3]
    rfl
  · change S8x2048x704.Idx at y
    obtain ⟨h, r, k, rfl⟩ : ∃ (h : Fin 8) (r : Fin 2048) (k : Fin 704), y = ix3 h r k := ⟨_, _, _, eq_ix3 y⟩
    refine ⟨⟨2 * h.val + r.val / 1024, (pt_lt h r).trans_eq N_0.symm⟩, flush0_5 _, ?_⟩
    have := ((cfg0.win 5).blk ⟨2 * h.val + r.val / 1024, (pt_lt h r).trans_eq N_0.symm⟩).view.emb_mem_set
      (ix3 0 ⟨r.val % 1024, Nat.mod_lt _ (by omega)⟩ k : S1x1024x704.Idx)
    rwa [emb0_5, gp_pt, pos_pt] at this

theorem arr0_6 : (dat0 V c).arrAt 6 cfg0.N = act (V c main_arg0) (V c main_arg1) (V c main_arg2) := by
  refine (dat0 V c).arrAt_eq_of_cover 6 _ (fun t _ => ?_) fun y => ?_
  · funext (y : S1x1024x704.Idx)
    show (dat0 V c).after 6 t y = (act (V c main_arg0) (V c main_arg1) (V c main_arg2)) (((cfg0.win 6).blk t).view.emb y)
    obtain ⟨a, i, k, rfl⟩ : ∃ (a : Fin 1) (i : Fin 1024) (k : Fin 704), y = ix3 a i k := ⟨_, _, _, eq_ix3 y⟩
    rw [after0_6, out_a, up_a, emb0_6]
    simp only [blk0_0, blk0_1, blk0_2, blk0_3]
    rfl
  · change S8x2048x704.Idx at y
    obtain ⟨h, r, k, rfl⟩ : ∃ (h : Fin 8) (r : Fin 2048) (k : Fin 704), y = ix3 h r k := ⟨_, _, _, eq_ix3 y⟩
    refine ⟨⟨2 * h.val + r.val / 1024, (pt_lt h r).trans_eq N_0.symm⟩, flush0_6 _, ?_⟩
    have := ((cfg0.win 6).blk ⟨2 * h.val + r.val / 1024, (pt_lt h r).trans_eq N_0.symm⟩).view.emb_mem_set
      (ix3 0 ⟨r.val % 1024, Nat.mod_lt _ (by omega)⟩ k : S1x1024x704.Idx)
    rwa [emb0_6, gp_pt, pos_pt] at this

/-! ## Call 1: the gradients of the hidden units -/

/-- The block indices of the windows at a point. -/
theorem idx1 : ∀ t : Fin cfg1.N,
    (win1_0.index t (0 : Fin 2) = t.val % 2 ∧ win1_0.index t (1 : Fin 2) = 0)
    ∧ (win1_1.index t (0 : Fin 3) = t.val / 2 % 8 ∧ win1_1.index t (1 : Fin 3) = 0 ∧ win1_1.index t (2 : Fin 3) = 0)
    ∧ (win1_2.index t (0 : Fin 3) = t.val / 2 % 8 ∧ win1_2.index t (1 : Fin 3) = t.val % 2 ∧ win1_2.index t (2 : Fin 3) = 0)
    ∧ (win1_3.index t (0 : Fin 3) = t.val / 2 % 8 ∧ win1_3.index t (1 : Fin 3) = t.val % 2 ∧ win1_3.index t (2 : Fin 3) = 0)
    ∧ (win1_4.index t (0 : Fin 3) = t.val / 2 % 8 ∧ win1_4.index t (1 : Fin 3) = t.val % 2 ∧ win1_4.index t (2 : Fin 3) = 0)
    ∧ (win1_5.index t (0 : Fin 3) = t.val / 2 % 8 ∧ win1_5.index t (1 : Fin 3) = t.val % 2 ∧ win1_5.index t (2 : Fin 3) = 0) :=
  (by decide +kernel : ∀ t : Fin grid1.N, _)

theorem emb1_0 (t : Fin cfg1.N) (i : Fin 1024) (d : Fin 2048) :
    ((cfg1.win 0).blk t).view.emb (ix2 i d : S1024x2048.Idx) = (ix2 (pos t.val i) d : S2048x2048.Idx) :=
  ix2_of
    (by have h := idx1 t; show win1_0.index t (0 : Fin 2) * 1024 + 1 * i.val = 1024 * (t.val % 2) + i.val; omega)
    (by have h := idx1 t; show win1_0.index t (1 : Fin 2) * 2048 + 1 * d.val = d.val; omega)

theorem emb1_1 (t : Fin cfg1.N) (a : Fin 1) (k : Fin 704) (d : Fin 2048) :
    ((cfg1.win 1).blk t).view.emb (ix3 a k d : S1x704x2048.Idx) = (ix3 (gp t.val) k d : S8x704x2048.Idx) :=
  ix3_of
    (by have h := idx1 t; show win1_1.index t (0 : Fin 3) * 1 + 1 * a.val = t.val / 2 % 8; omega)
    (by have h := idx1 t; show win1_1.index t (1 : Fin 3) * 704 + 1 * k.val = k.val; omega)
    (by have h := idx1 t; show win1_1.index t (2 : Fin 3) * 2048 + 1 * d.val = d.val; omega)

theorem emb1_2 (t : Fin cfg1.N) (a : Fin 1) (i : Fin 1024) (k : Fin 704) :
    ((cfg1.win 2).blk t).view.emb (ix3 a i k : S1x1024x704.Idx) = (ix3 (gp t.val) (pos t.val i) k : S8x2048x704.Idx) :=
  ix3_of
    (by have h := idx1 t; show win1_2.index t (0 : Fin 3) * 1 + 1 * a.val = t.val / 2 % 8; omega)
    (by have h := idx1 t; show win1_2.index t (1 : Fin 3) * 1024 + 1 * i.val = 1024 * (t.val % 2) + i.val; omega)
    (by have h := idx1 t; show win1_2.index t (2 : Fin 3) * 704 + 1 * k.val = k.val; omega)

theorem emb1_3 (t : Fin cfg1.N) (a : Fin 1) (i : Fin 1024) (k : Fin 704) :
    ((cfg1.win 3).blk t).view.emb (ix3 a i k : S1x1024x704.Idx) = (ix3 (gp t.val) (pos t.val i) k : S8x2048x704.Idx) :=
  ix3_of
    (by have h := idx1 t; show win1_3.index t (0 : Fin 3) * 1 + 1 * a.val = t.val / 2 % 8; omega)
    (by have h := idx1 t; show win1_3.index t (1 : Fin 3) * 1024 + 1 * i.val = 1024 * (t.val % 2) + i.val; omega)
    (by have h := idx1 t; show win1_3.index t (2 : Fin 3) * 704 + 1 * k.val = k.val; omega)

theorem emb1_4 (t : Fin cfg1.N) (a : Fin 1) (i : Fin 1024) (k : Fin 704) :
    ((cfg1.win 4).blk t).view.emb (ix3 a i k : S1x1024x704.Idx) = (ix3 (gp t.val) (pos t.val i) k : S8x2048x704.Idx) :=
  ix3_of
    (by have h := idx1 t; show win1_4.index t (0 : Fin 3) * 1 + 1 * a.val = t.val / 2 % 8; omega)
    (by have h := idx1 t; show win1_4.index t (1 : Fin 3) * 1024 + 1 * i.val = 1024 * (t.val % 2) + i.val; omega)
    (by have h := idx1 t; show win1_4.index t (2 : Fin 3) * 704 + 1 * k.val = k.val; omega)

theorem emb1_5 (t : Fin cfg1.N) (a : Fin 1) (i : Fin 1024) (k : Fin 704) :
    ((cfg1.win 5).blk t).view.emb (ix3 a i k : S1x1024x704.Idx) = (ix3 (gp t.val) (pos t.val i) k : S8x2048x704.Idx) :=
  ix3_of
    (by have h := idx1 t; show win1_5.index t (0 : Fin 3) * 1 + 1 * a.val = t.val / 2 % 8; omega)
    (by have h := idx1 t; show win1_5.index t (1 : Fin 3) * 1024 + 1 * i.val = 1024 * (t.val % 2) + i.val; omega)
    (by have h := idx1 t; show win1_5.index t (2 : Fin 3) * 704 + 1 * k.val = k.val; omega)

theorem blk1_0 (t : Fin cfg1.N) (i : Fin 1024) (d : Fin 2048) :
    (iblk1 V c 0 t : Vec Ideal S1024x2048 .bf16) (ix2 i d) = V c main_arg4 (ix2 (pos t.val i) d) := congrArg (V c main_arg4) (emb1_0 t i d)

theorem blk1_1 (t : Fin cfg1.N) (a : Fin 1) (k : Fin 704) (d : Fin 2048) :
    (iblk1 V c 1 t : Vec Ideal S1x704x2048 .bf16) (ix3 a k d) = V c main_arg3 (ix3 (gp t.val) k d) := congrArg (V c main_arg3) (emb1_1 t a k d)

theorem blk1_2 (t : Fin cfg1.N) (a : Fin 1) (i : Fin 1024) (k : Fin 704) :
    (iblk1 V c 2 t : Vec Ideal S1x1024x704 .bf16) (ix3 a i k) = V c main_v0_0 (ix3 (gp t.val) (pos t.val i) k) := congrArg (V c main_v0_0) (emb1_2 t a i k)

theorem blk1_3 (t : Fin cfg1.N) (a : Fin 1) (i : Fin 1024) (k : Fin 704) :
    (iblk1 V c 3 t : Vec Ideal S1x1024x704 .bf16) (ix3 a i k) = V c main_v0_1 (ix3 (gp t.val) (pos t.val i) k) := congrArg (V c main_v0_1) (emb1_3 t a i k)

theorem arr1_4 : (dat1 V c).arrAt 4 cfg1.N = dGate (V c main_arg4) (V c main_arg3) (V c main_v0_0) (V c main_v0_1) := by
  refine (dat1 V c).arrAt_eq_of_cover 4 _ (fun t _ => ?_) fun y => ?_
  · funext (y : S1x1024x704.Idx)
    show (dat1 V c).after 4 t y = (dGate (V c main_arg4) (V c main_arg3) (V c main_v0_0) (V c main_v0_1)) (((cfg1.win 4).blk t).view.emb y)
    obtain ⟨a, i, k, rfl⟩ : ∃ (a : Fin 1) (i : Fin 1024) (k : Fin 704), y = ix3 a i k := ⟨_, _, _, eq_ix3 y⟩
    rw [after1_4, out_dg, act_g, emb1_4]
    simp only [blk1_0, blk1_1, blk1_2, blk1_3]
    rfl
  · change S8x2048x704.Idx at y
    obtain ⟨h, r, k, rfl⟩ : ∃ (h : Fin 8) (r : Fin 2048) (k : Fin 704), y = ix3 h r k := ⟨_, _, _, eq_ix3 y⟩
    refine ⟨⟨2 * h.val + r.val / 1024, (pt_lt h r).trans_eq N_1.symm⟩, flush1_4 _, ?_⟩
    have := ((cfg1.win 4).blk ⟨2 * h.val + r.val / 1024, (pt_lt h r).trans_eq N_1.symm⟩).view.emb_mem_set
      (ix3 0 ⟨r.val % 1024, Nat.mod_lt _ (by omega)⟩ k : S1x1024x704.Idx)
    rwa [emb1_4, gp_pt, pos_pt] at this

theorem arr1_5 : (dat1 V c).arrAt 5 cfg1.N = dUp (V c main_arg4) (V c main_arg3) (V c main_v0_0) := by
  refine (dat1 V c).arrAt_eq_of_cover 5 _ (fun t _ => ?_) fun y => ?_
  · funext (y : S1x1024x704.Idx)
    show (dat1 V c).after 5 t y = (dUp (V c main_arg4) (V c main_arg3) (V c main_v0_0)) (((cfg1.win 5).blk t).view.emb y)
    obtain ⟨a, i, k, rfl⟩ : ∃ (a : Fin 1) (i : Fin 1024) (k : Fin 704), y = ix3 a i k := ⟨_, _, _, eq_ix3 y⟩
    rw [after1_5, out_du, act_u, emb1_5]
    simp only [blk1_0, blk1_1, blk1_2, blk1_3]
    rfl
  · change S8x2048x704.Idx at y
    obtain ⟨h, r, k, rfl⟩ : ∃ (h : Fin 8) (r : Fin 2048) (k : Fin 704), y = ix3 h r k := ⟨_, _, _, eq_ix3 y⟩
    refine ⟨⟨2 * h.val + r.val / 1024, (pt_lt h r).trans_eq N_1.symm⟩, flush1_5 _, ?_⟩
    have := ((cfg1.win 5).blk ⟨2 * h.val + r.val / 1024, (pt_lt h r).trans_eq N_1.symm⟩).view.emb_mem_set
      (ix3 0 ⟨r.val % 1024, Nat.mod_lt _ (by omega)⟩ k : S1x1024x704.Idx)
    rwa [emb1_5, gp_pt, pos_pt] at this

/-! ## Call 2: the gradients of the weights that lead up -/

/-- The block indices of the windows at a point. -/
theorem idx2 : ∀ t : Fin cfg2.N,
    (win2_0.index t (0 : Fin 3) = t.val / 2 % 8 ∧ win2_0.index t (1 : Fin 3) = 0 ∧ win2_0.index t (2 : Fin 3) = 0)
    ∧ (win2_1.index t (0 : Fin 2) = 0 ∧ win2_1.index t (1 : Fin 2) = t.val % 2)
    ∧ (win2_2.index t (0 : Fin 3) = t.val / 2 % 8 ∧ win2_2.index t (1 : Fin 3) = 0 ∧ win2_2.index t (2 : Fin 3) = 0)
    ∧ (win2_3.index t (0 : Fin 2) = 0 ∧ win2_3.index t (1 : Fin 2) = t.val % 2)
    ∧ (win2_4.index t (0 : Fin 3) = t.val / 2 % 8 ∧ win2_4.index t (1 : Fin 3) = 0 ∧ win2_4.index t (2 : Fin 3) = t.val % 2)
    ∧ (win2_5.index t (0 : Fin 3) = t.val / 2 % 8 ∧ win2_5.index t (1 : Fin 3) = 0 ∧ win2_5.index t (2 : Fin 3) = t.val % 2) :=
  (by decide +kernel : ∀ t : Fin grid2.N, _)

theorem emb2_0 (t : Fin cfg2.N) (a : Fin 1) (r : Fin 2048) (k : Fin 704) :
    ((cfg2.win 0).blk t).view.emb (ix3 a r k : S1x2048x704.Idx) = (ix3 (gp t.val) r k : S8x2048x704.Idx) :=
  ix3_of
    (by have h := idx2 t; show win2_0.index t (0 : Fin 3) * 1 + 1 * a.val = t.val / 2 % 8; omega)
    (by have h := idx2 t; show win2_0.index t (1 : Fin 3) * 2048 + 1 * r.val = r.val; omega)
    (by have h := idx2 t; show win2_0.index t (2 : Fin 3) * 704 + 1 * k.val = k.val; omega)

theorem emb2_1 (t : Fin cfg2.N) (r : Fin 2048) (i : Fin 1024) :
    ((cfg2.win 1).blk t).view.emb (ix2 r i : S2048x1024.Idx) = (ix2 r (pos t.val i) : S2048x2048.Idx) :=
  ix2_of
    (by have h := idx2 t; show win2_1.index t (0 : Fin 2) * 2048 + 1 * r.val = r.val; omega)
    (by have h := idx2 t; show win2_1.index t (1 : Fin 2) * 1024 + 1 * i.val = 1024 * (t.val % 2) + i.val; omega)

theorem emb2_2 (t : Fin cfg2.N) (a : Fin 1) (r : Fin 2048) (k : Fin 704) :
    ((cfg2.win 2).blk t).view.emb (ix3 a r k : S1x2048x704.Idx) = (ix3 (gp t.val) r k : S8x2048x704.Idx) :=
  ix3_of
    (by have h := idx2 t; show win2_2.index t (0 : Fin 3) * 1 + 1 * a.val = t.val / 2 % 8; omega)
    (by have h := idx2 t; show win2_2.index t (1 : Fin 3) * 2048 + 1 * r.val = r.val; omega)
    (by have h := idx2 t; show win2_2.index t (2 : Fin 3) * 704 + 1 * k.val = k.val; omega)

theorem emb2_3 (t : Fin cfg2.N) (r : Fin 2048) (i : Fin 1024) :
    ((cfg2.win 3).blk t).view.emb (ix2 r i : S2048x1024.Idx) = (ix2 r (pos t.val i) : S2048x2048.Idx) :=
  ix2_of
    (by have h := idx2 t; show win2_3.index t (0 : Fin 2) * 2048 + 1 * r.val = r.val; omega)
    (by have h := idx2 t; show win2_3.index t (1 : Fin 2) * 1024 + 1 * i.val = 1024 * (t.val % 2) + i.val; omega)

theorem emb2_4 (t : Fin cfg2.N) (a : Fin 1) (k : Fin 704) (i : Fin 1024) :
    ((cfg2.win 4).blk t).view.emb (ix3 a k i : S1x704x1024.Idx) = (ix3 (gp t.val) k (pos t.val i) : S8x704x2048.Idx) :=
  ix3_of
    (by have h := idx2 t; show win2_4.index t (0 : Fin 3) * 1 + 1 * a.val = t.val / 2 % 8; omega)
    (by have h := idx2 t; show win2_4.index t (1 : Fin 3) * 704 + 1 * k.val = k.val; omega)
    (by have h := idx2 t; show win2_4.index t (2 : Fin 3) * 1024 + 1 * i.val = 1024 * (t.val % 2) + i.val; omega)

theorem emb2_5 (t : Fin cfg2.N) (a : Fin 1) (k : Fin 704) (i : Fin 1024) :
    ((cfg2.win 5).blk t).view.emb (ix3 a k i : S1x704x1024.Idx) = (ix3 (gp t.val) k (pos t.val i) : S8x704x2048.Idx) :=
  ix3_of
    (by have h := idx2 t; show win2_5.index t (0 : Fin 3) * 1 + 1 * a.val = t.val / 2 % 8; omega)
    (by have h := idx2 t; show win2_5.index t (1 : Fin 3) * 704 + 1 * k.val = k.val; omega)
    (by have h := idx2 t; show win2_5.index t (2 : Fin 3) * 1024 + 1 * i.val = 1024 * (t.val % 2) + i.val; omega)

theorem blk2_0 (t : Fin cfg2.N) (a : Fin 1) (r : Fin 2048) (k : Fin 704) :
    (iblk2 V c 0 t : Vec Ideal S1x2048x704 .bf16) (ix3 a r k) = V c main_v1_0 (ix3 (gp t.val) r k) := congrArg (V c main_v1_0) (emb2_0 t a r k)

theorem blk2_1 (t : Fin cfg2.N) (r : Fin 2048) (i : Fin 1024) :
    (iblk2 V c 1 t : Vec Ideal S2048x1024 .bf16) (ix2 r i) = V c main_arg0 (ix2 r (pos t.val i)) := congrArg (V c main_arg0) (emb2_1 t r i)

theorem blk2_2 (t : Fin cfg2.N) (a : Fin 1) (r : Fin 2048) (k : Fin 704) :
    (iblk2 V c 2 t : Vec Ideal S1x2048x704 .bf16) (ix3 a r k) = V c main_v1_1 (ix3 (gp t.val) r k) := congrArg (V c main_v1_1) (emb2_2 t a r k)

theorem blk2_3 (t : Fin cfg2.N) (r : Fin 2048) (i : Fin 1024) :
    (iblk2 V c 3 t : Vec Ideal S2048x1024 .bf16) (ix2 r i) = V c main_arg0 (ix2 r (pos t.val i)) := congrArg (V c main_arg0) (emb2_3 t r i)

theorem arr2_4 : (dat2 V c).arrAt 4 cfg2.N = wGrad (V c main_v1_0) (V c main_arg0) := by
  refine (dat2 V c).arrAt_eq_of_cover 4 _ (fun t _ => ?_) fun y => ?_
  · funext (y : S1x704x1024.Idx)
    show (dat2 V c).after 4 t y = (wGrad (V c main_v1_0) (V c main_arg0)) (((cfg2.win 4).blk t).view.emb y)
    obtain ⟨a, k, i, rfl⟩ : ∃ (a : Fin 1) (k : Fin 704) (i : Fin 1024), y = ix3 a k i := ⟨_, _, _, eq_ix3 y⟩
    rw [after2_4, out_wg, wup_g, emb2_4]
    simp only [blk2_0, blk2_1, blk2_2, blk2_3]
    rfl
  · change S8x704x2048.Idx at y
    obtain ⟨h, k, r, rfl⟩ : ∃ (h : Fin 8) (k : Fin 704) (r : Fin 2048), y = ix3 h k r := ⟨_, _, _, eq_ix3 y⟩
    refine ⟨⟨2 * h.val + r.val / 1024, (pt_lt h r).trans_eq N_2.symm⟩, flush2_4 _, ?_⟩
    have := ((cfg2.win 4).blk ⟨2 * h.val + r.val / 1024, (pt_lt h r).trans_eq N_2.symm⟩).view.emb_mem_set
      (ix3 0 k ⟨r.val % 1024, Nat.mod_lt _ (by omega)⟩ : S1x704x1024.Idx)
    rwa [emb2_4, gp_pt, pos_pt] at this

theorem arr2_5 : (dat2 V c).arrAt 5 cfg2.N = wGrad (V c main_v1_1) (V c main_arg0) := by
  refine (dat2 V c).arrAt_eq_of_cover 5 _ (fun t _ => ?_) fun y => ?_
  · funext (y : S1x704x1024.Idx)
    show (dat2 V c).after 5 t y = (wGrad (V c main_v1_1) (V c main_arg0)) (((cfg2.win 5).blk t).view.emb y)
    obtain ⟨a, k, i, rfl⟩ : ∃ (a : Fin 1) (k : Fin 704) (i : Fin 1024), y = ix3 a k i := ⟨_, _, _, eq_ix3 y⟩
    rw [after2_5, out_wu, wup_u, emb2_5]
    simp only [blk2_0, blk2_1, blk2_2, blk2_3]
    rfl
  · change S8x704x2048.Idx at y
    obtain ⟨h, k, r, rfl⟩ : ∃ (h : Fin 8) (k : Fin 704) (r : Fin 2048), y = ix3 h k r := ⟨_, _, _, eq_ix3 y⟩
    refine ⟨⟨2 * h.val + r.val / 1024, (pt_lt h r).trans_eq N_2.symm⟩, flush2_5 _, ?_⟩
    have := ((cfg2.win 5).blk ⟨2 * h.val + r.val / 1024, (pt_lt h r).trans_eq N_2.symm⟩).view.emb_mem_set
      (ix3 0 k ⟨r.val % 1024, Nat.mod_lt _ (by omega)⟩ : S1x704x1024.Idx)
    rwa [emb2_5, gp_pt, pos_pt] at this

/-! ## Call 3: the gradient of the weights that lead down -/

/-- The block indices of the windows at a point. -/
theorem idx3 : ∀ t : Fin cfg3.N,
    (win3_0.index t (0 : Fin 3) = t.val / 2 % 8 ∧ win3_0.index t (1 : Fin 3) = 0 ∧ win3_0.index t (2 : Fin 3) = 0)
    ∧ (win3_1.index t (0 : Fin 2) = 0 ∧ win3_1.index t (1 : Fin 2) = t.val % 2)
    ∧ (win3_2.index t (0 : Fin 3) = t.val / 2 % 8 ∧ win3_2.index t (1 : Fin 3) = 0 ∧ win3_2.index t (2 : Fin 3) = t.val % 2) :=
  (by decide +kernel : ∀ t : Fin grid3.N, _)

theorem emb3_0 (t : Fin cfg3.N) (a : Fin 1) (r : Fin 2048) (k : Fin 704) :
    ((cfg3.win 0).blk t).view.emb (ix3 a r k : S1x2048x704.Idx) = (ix3 (gp t.val) r k : S8x2048x704.Idx) :=
  ix3_of
    (by have h := idx3 t; show win3_0.index t (0 : Fin 3) * 1 + 1 * a.val = t.val / 2 % 8; omega)
    (by have h := idx3 t; show win3_0.index t (1 : Fin 3) * 2048 + 1 * r.val = r.val; omega)
    (by have h := idx3 t; show win3_0.index t (2 : Fin 3) * 704 + 1 * k.val = k.val; omega)

theorem emb3_1 (t : Fin cfg3.N) (r : Fin 2048) (i : Fin 1024) :
    ((cfg3.win 1).blk t).view.emb (ix2 r i : S2048x1024.Idx) = (ix2 r (pos t.val i) : S2048x2048.Idx) :=
  ix2_of
    (by have h := idx3 t; show win3_1.index t (0 : Fin 2) * 2048 + 1 * r.val = r.val; omega)
    (by have h := idx3 t; show win3_1.index t (1 : Fin 2) * 1024 + 1 * i.val = 1024 * (t.val % 2) + i.val; omega)

theorem emb3_2 (t : Fin cfg3.N) (a : Fin 1) (k : Fin 704) (i : Fin 1024) :
    ((cfg3.win 2).blk t).view.emb (ix3 a k i : S1x704x1024.Idx) = (ix3 (gp t.val) k (pos t.val i) : S8x704x2048.Idx) :=
  ix3_of
    (by have h := idx3 t; show win3_2.index t (0 : Fin 3) * 1 + 1 * a.val = t.val / 2 % 8; omega)
    (by have h := idx3 t; show win3_2.index t (1 : Fin 3) * 704 + 1 * k.val = k.val; omega)
    (by have h := idx3 t; show win3_2.index t (2 : Fin 3) * 1024 + 1 * i.val = 1024 * (t.val % 2) + i.val; omega)

theorem blk3_0 (t : Fin cfg3.N) (a : Fin 1) (r : Fin 2048) (k : Fin 704) :
    (iblk3 V c 0 t : Vec Ideal S1x2048x704 .bf16) (ix3 a r k) = V c main_v0_2 (ix3 (gp t.val) r k) := congrArg (V c main_v0_2) (emb3_0 t a r k)

theorem blk3_1 (t : Fin cfg3.N) (r : Fin 2048) (i : Fin 1024) :
    (iblk3 V c 1 t : Vec Ideal S2048x1024 .bf16) (ix2 r i) = V c main_arg4 (ix2 r (pos t.val i)) := congrArg (V c main_arg4) (emb3_1 t r i)

theorem arr3_2 : (dat3 V c).arrAt 2 cfg3.N = dDown (V c main_v0_2) (V c main_arg4) := by
  refine (dat3 V c).arrAt_eq_of_cover 2 _ (fun t _ => ?_) fun y => ?_
  · funext (y : S1x704x1024.Idx)
    show (dat3 V c).after 2 t y = (dDown (V c main_v0_2) (V c main_arg4)) (((cfg3.win 2).blk t).view.emb y)
    obtain ⟨a, k, i, rfl⟩ : ∃ (a : Fin 1) (k : Fin 704) (i : Fin 1024), y = ix3 a k i := ⟨_, _, _, eq_ix3 y⟩
    rw [after3_2, out_wd, wd, emb3_2]
    simp only [blk3_0, blk3_1]
    rfl
  · change S8x704x2048.Idx at y
    obtain ⟨h, k, r, rfl⟩ : ∃ (h : Fin 8) (k : Fin 704) (r : Fin 2048), y = ix3 h k r := ⟨_, _, _, eq_ix3 y⟩
    refine ⟨⟨2 * h.val + r.val / 1024, (pt_lt h r).trans_eq N_3.symm⟩, flush3_2 _, ?_⟩
    have := ((cfg3.win 2).blk ⟨2 * h.val + r.val / 1024, (pt_lt h r).trans_eq N_3.symm⟩).view.emb_mem_set
      (ix3 0 k ⟨r.val % 1024, Nat.mod_lt _ (by omega)⟩ : S1x704x1024.Idx)
    rwa [emb3_2, gp_pt, pos_pt] at this

/-! ## Call 4: the gradient of the input -/

/-- The block indices of the windows at a point. -/
theorem idx4 : ∀ t : Fin cfg4.N,
    (win4_0.index t (0 : Fin 3) = 0 ∧ win4_0.index t (1 : Fin 3) = (t.val) % 4 ∧ win4_0.index t (2 : Fin 3) = 0)
    ∧ (win4_1.index t (0 : Fin 3) = 0 ∧ win4_1.index t (1 : Fin 3) = 0 ∧ win4_1.index t (2 : Fin 3) = (t.val / 4) % 4)
    ∧ (win4_2.index t (0 : Fin 3) = 0 ∧ win4_2.index t (1 : Fin 3) = (t.val) % 4 ∧ win4_2.index t (2 : Fin 3) = 0)
    ∧ (win4_3.index t (0 : Fin 3) = 0 ∧ win4_3.index t (1 : Fin 3) = 0 ∧ win4_3.index t (2 : Fin 3) = (t.val / 4) % 4)
    ∧ (win4_4.index t (0 : Fin 2) = (t.val) % 4 ∧ win4_4.index t (1 : Fin 2) = (t.val / 4) % 4) :=
  (by decide +kernel : ∀ t : Fin grid4.N, _)

theorem emb4_0 (t : Fin cfg4.N) (a : Fin 8) (i : Fin 512) (k : Fin 704) :
    ((cfg4.win 0).blk t).view.emb (ix3 a i k : S8x512x704.Idx) = (ix3 a (r4 (t.val) i) k : S8x2048x704.Idx) :=
  ix3_of (by have h := (idx4 t).1; show win4_0.index t (0 : Fin 3) * 8 + 1 * a.val = a.val; omega)
    (by have h := (idx4 t).1; show win4_0.index t (1 : Fin 3) * 512 + 1 * i.val = 512 * ((t.val) % 4) + i.val; omega)
    (by have h := (idx4 t).1; show win4_0.index t (2 : Fin 3) * 704 + 1 * k.val = k.val; omega)

theorem blk4_0 (t : Fin cfg4.N) (a : Fin 8) (i : Fin 512) (k : Fin 704) :
    (iblk4 V c 0 t : Vec Ideal S8x512x704 .bf16) (ix3 a i k) = V c main_v1_0 (ix3 a (r4 (t.val) i) k) :=
  congrArg (V c main_v1_0) (emb4_0 t a i k)

theorem emb4_1 (t : Fin cfg4.N) (a : Fin 8) (i : Fin 704) (k : Fin 512) :
    ((cfg4.win 1).blk t).view.emb (ix3 a i k : S8x704x512.Idx) = (ix3 a i (r4 (t.val / 4) k) : S8x704x2048.Idx) :=
  ix3_of (by have h := (idx4 t).2.1; show win4_1.index t (0 : Fin 3) * 8 + 1 * a.val = a.val; omega)
    (by have h := (idx4 t).2.1; show win4_1.index t (1 : Fin 3) * 704 + 1 * i.val = i.val; omega)
    (by have h := (idx4 t).2.1; show win4_1.index t (2 : Fin 3) * 512 + 1 * k.val = 512 * ((t.val / 4) % 4) + k.val; omega)

theorem blk4_1 (t : Fin cfg4.N) (a : Fin 8) (i : Fin 704) (k : Fin 512) :
    (iblk4 V c 1 t : Vec Ideal S8x704x512 .bf16) (ix3 a i k) = V c main_arg1 (ix3 a i (r4 (t.val / 4) k)) :=
  congrArg (V c main_arg1) (emb4_1 t a i k)

theorem emb4_2 (t : Fin cfg4.N) (a : Fin 8) (i : Fin 512) (k : Fin 704) :
    ((cfg4.win 2).blk t).view.emb (ix3 a i k : S8x512x704.Idx) = (ix3 a (r4 (t.val) i) k : S8x2048x704.Idx) :=
  ix3_of (by have h := (idx4 t).2.2.1; show win4_2.index t (0 : Fin 3) * 8 + 1 * a.val = a.val; omega)
    (by have h := (idx4 t).2.2.1; show win4_2.index t (1 : Fin 3) * 512 + 1 * i.val = 512 * ((t.val) % 4) + i.val; omega)
    (by have h := (idx4 t).2.2.1; show win4_2.index t (2 : Fin 3) * 704 + 1 * k.val = k.val; omega)

theorem blk4_2 (t : Fin cfg4.N) (a : Fin 8) (i : Fin 512) (k : Fin 704) :
    (iblk4 V c 2 t : Vec Ideal S8x512x704 .bf16) (ix3 a i k) = V c main_v1_1 (ix3 a (r4 (t.val) i) k) :=
  congrArg (V c main_v1_1) (emb4_2 t a i k)

theorem emb4_3 (t : Fin cfg4.N) (a : Fin 8) (i : Fin 704) (k : Fin 512) :
    ((cfg4.win 3).blk t).view.emb (ix3 a i k : S8x704x512.Idx) = (ix3 a i (r4 (t.val / 4) k) : S8x704x2048.Idx) :=
  ix3_of (by have h := (idx4 t).2.2.2.1; show win4_3.index t (0 : Fin 3) * 8 + 1 * a.val = a.val; omega)
    (by have h := (idx4 t).2.2.2.1; show win4_3.index t (1 : Fin 3) * 704 + 1 * i.val = i.val; omega)
    (by have h := (idx4 t).2.2.2.1; show win4_3.index t (2 : Fin 3) * 512 + 1 * k.val = 512 * ((t.val / 4) % 4) + k.val; omega)

theorem blk4_3 (t : Fin cfg4.N) (a : Fin 8) (i : Fin 704) (k : Fin 512) :
    (iblk4 V c 3 t : Vec Ideal S8x704x512 .bf16) (ix3 a i k) = V c main_arg2 (ix3 a i (r4 (t.val / 4) k)) :=
  congrArg (V c main_arg2) (emb4_3 t a i k)

theorem emb4_4 (t : Fin cfg4.N) (i : Fin 512) (k : Fin 512) :
    ((cfg4.win 4).blk t).view.emb (ix2 i k : S512x512.Idx) = (ix2 (r4 (t.val) i) (r4 (t.val / 4) k) : S2048x2048.Idx) :=
  ix2_of (by have h := (idx4 t).2.2.2.2; show win4_4.index t (0 : Fin 2) * 512 + 1 * i.val = 512 * ((t.val) % 4) + i.val; omega)
    (by have h := (idx4 t).2.2.2.2; show win4_4.index t (1 : Fin 2) * 512 + 1 * k.val = 512 * ((t.val / 4) % 4) + k.val; omega)

/-- The input's gradient, of the two gradients and the weights. -/
theorem arr4_4 : (dat4 V c).arrAt 4 cfg4.N = dX (V c main_v1_0) (V c main_v1_1) (V c main_arg1) (V c main_arg2) := by
  refine (dat4 V c).arrAt_eq_of_covers 4 _ (by decide +kernel) fun t _ (y : S512x512.Idx) => ?_
  show (dat4 V c).after 4 t y = (dX (V c main_v1_0) (V c main_v1_1) (V c main_arg1) (V c main_arg2) : Vec Ideal S2048x2048 .f32) (((cfg4.win 4).blk t).view.emb y)
  obtain ⟨i, k, rfl⟩ : ∃ (i : Fin 512) (k : Fin 512), y = ix2 i k := ⟨_, _, eq_ix2 y⟩
  rw [after4_4, out_dx, emb4_4]
  simp only [blk4_0, blk4_1, blk4_2, blk4_3]
  rfl

/-! ## Call 5: the way down -/

/-- The block indices of the windows at a point. -/
theorem idx5 : ∀ t : Fin cfg5.N,
    (win5_0.index t (0 : Fin 3) = 0 ∧ win5_0.index t (1 : Fin 3) = (t.val) % 2 ∧ win5_0.index t (2 : Fin 3) = 0)
    ∧ (win5_1.index t (0 : Fin 3) = 0 ∧ win5_1.index t (1 : Fin 3) = 0 ∧ win5_1.index t (2 : Fin 3) = (t.val / 2) % 4)
    ∧ (win5_2.index t (0 : Fin 2) = (t.val) % 2 ∧ win5_2.index t (1 : Fin 2) = (t.val / 2) % 4)
    ∧ (win5_3.index t (0 : Fin 2) = (t.val) % 2 ∧ win5_3.index t (1 : Fin 2) = (t.val / 2) % 4) :=
  (by decide +kernel : ∀ t : Fin grid5.N, _)

theorem emb5_0 (t : Fin cfg5.N) (a : Fin 8) (i : Fin 1024) (k : Fin 704) :
    ((cfg5.win 0).blk t).view.emb (ix3 a i k : S8x1024x704.Idx) = (ix3 a (pos (t.val) i) k : S8x2048x704.Idx) :=
  ix3_of (by have h := (idx5 t).1; show win5_0.index t (0 : Fin 3) * 8 + 1 * a.val = a.val; omega)
    (by have h := (idx5 t).1; show win5_0.index t (1 : Fin 3) * 1024 + 1 * i.val = 1024 * ((t.val) % 2) + i.val; omega)
    (by have h := (idx5 t).1; show win5_0.index t (2 : Fin 3) * 704 + 1 * k.val = k.val; omega)

theorem blk5_0 (t : Fin cfg5.N) (a : Fin 8) (i : Fin 1024) (k : Fin 704) :
    (iblk5 V c 0 t : Vec Ideal S8x1024x704 .bf16) (ix3 a i k) = V c main_v0_2 (ix3 a (pos (t.val) i) k) :=
  congrArg (V c main_v0_2) (emb5_0 t a i k)

theorem emb5_1 (t : Fin cfg5.N) (a : Fin 8) (i : Fin 704) (k : Fin 512) :
    ((cfg5.win 1).blk t).view.emb (ix3 a i k : S8x704x512.Idx) = (ix3 a i (r4 (t.val / 2) k) : S8x704x2048.Idx) :=
  ix3_of (by have h := (idx5 t).2.1; show win5_1.index t (0 : Fin 3) * 8 + 1 * a.val = a.val; omega)
    (by have h := (idx5 t).2.1; show win5_1.index t (1 : Fin 3) * 704 + 1 * i.val = i.val; omega)
    (by have h := (idx5 t).2.1; show win5_1.index t (2 : Fin 3) * 512 + 1 * k.val = 512 * ((t.val / 2) % 4) + k.val; omega)

theorem blk5_1 (t : Fin cfg5.N) (a : Fin 8) (i : Fin 704) (k : Fin 512) :
    (iblk5 V c 1 t : Vec Ideal S8x704x512 .bf16) (ix3 a i k) = V c main_arg3 (ix3 a i (r4 (t.val / 2) k)) :=
  congrArg (V c main_arg3) (emb5_1 t a i k)

theorem emb5_2 (t : Fin cfg5.N) (i : Fin 1024) (k : Fin 512) :
    ((cfg5.win 2).blk t).view.emb (ix2 i k : S1024x512.Idx) = (ix2 (pos (t.val) i) (r4 (t.val / 2) k) : S2048x2048.Idx) :=
  ix2_of (by have h := (idx5 t).2.2.1; show win5_2.index t (0 : Fin 2) * 1024 + 1 * i.val = 1024 * ((t.val) % 2) + i.val; omega)
    (by have h := (idx5 t).2.2.1; show win5_2.index t (1 : Fin 2) * 512 + 1 * k.val = 512 * ((t.val / 2) % 4) + k.val; omega)

theorem blk5_2 (t : Fin cfg5.N) (i : Fin 1024) (k : Fin 512) :
    (iblk5 V c 2 t : Vec Ideal S1024x512 .f32) (ix2 i k) = V c main_arg5 (ix2 (pos (t.val) i) (r4 (t.val / 2) k)) :=
  congrArg (V c main_arg5) (emb5_2 t i k)

theorem emb5_3 (t : Fin cfg5.N) (i : Fin 1024) (k : Fin 512) :
    ((cfg5.win 3).blk t).view.emb (ix2 i k : S1024x512.Idx) = (ix2 (pos (t.val) i) (r4 (t.val / 2) k) : S2048x2048.Idx) :=
  ix2_of (by have h := (idx5 t).2.2.2; show win5_3.index t (0 : Fin 2) * 1024 + 1 * i.val = 1024 * ((t.val) % 2) + i.val; omega)
    (by have h := (idx5 t).2.2.2; show win5_3.index t (1 : Fin 2) * 512 + 1 * k.val = 512 * ((t.val / 2) % 4) + k.val; omega)

/-- The output, of the gated units, the weights and what the layer adds to. -/
theorem arr5_3 : (dat5 V c).arrAt 3 cfg5.N = down (V c main_v0_2) (V c main_arg3) (V c main_arg5) := by
  refine (dat5 V c).arrAt_eq_of_covers 3 _ (by decide +kernel) fun t _ (y : S1024x512.Idx) => ?_
  show (dat5 V c).after 3 t y = (down (V c main_v0_2) (V c main_arg3) (V c main_arg5) : Vec Ideal S2048x2048 .f32) (((cfg5.win 3).blk t).view.emb y)
  obtain ⟨i, k, rfl⟩ : ∃ (i : Fin 1024) (k : Fin 512), y = ix2 i k := ⟨_, _, eq_ix2 y⟩
  rw [after5_3, out_down, emb5_3]
  simp only [blk5_0, blk5_1, blk5_2]
  rfl

end Cert.FfnArray
-- ==== Proof.FfnRun.lean ====
/- The run of the six calls of the gated feed-forward layer: its five results are functions of the arguments, and the
   arguments stay as they were. -/
module

public import proofs.«01_k».proof.Proof.FfnArray

@[expose] public section

noncomputable section

namespace Cert.FfnRun

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnBwdIdeal Cert.FfnBwdIdeal.Gen Cert.FfnArray

variable (m : (ℓ : Loc nD τ sig) → Buf (Elt Ideal) ℓ) (ρ : Dev nD → PrngReg) (c : Dev nD)

/-- The arguments as launched: the layer's input, the weights of the gate, of the units and of the way down, and the
    gradient of the layer's output; and the stream that the layer adds to. -/
abbrev Xa : Vec Ideal S2048x2048 .bf16 := m ((c : Thread nD τ).loc main_arg0)
abbrev Ga : Vec Ideal S8x704x2048 .bf16 := m ((c : Thread nD τ).loc main_arg1)
abbrev Ua : Vec Ideal S8x704x2048 .bf16 := m ((c : Thread nD τ).loc main_arg2)
abbrev Da : Vec Ideal S8x704x2048 .bf16 := m ((c : Thread nD τ).loc main_arg3)
abbrev Oa : Vec Ideal S2048x2048 .bf16 := m ((c : Thread nD τ).loc main_arg4)
abbrev Ha : Vec Ideal S2048x2048 .f32 := m ((c : Thread nD τ).loc main_arg5)

/-! ## The contents between the calls -/

theorem hg1 : W1 m ρ c (Proc.devRef .tc main_v0_0) = up (Xa m c) (Ga m c) := (W1_arr m ρ c 4).trans (arr0_4 (V0 m ρ) c)
theorem hu1 : W1 m ρ c (Proc.devRef .tc main_v0_1) = up (Xa m c) (Ua m c) := (W1_arr m ρ c 5).trans (arr0_5 (V0 m ρ) c)
theorem ha1 : W1 m ρ c (Proc.devRef .tc main_v0_2) = act (Xa m c) (Ga m c) (Ua m c) := (W1_arr m ρ c 6).trans (arr0_6 (V0 m ρ) c)

theorem dg2 : W2 m ρ c (Proc.devRef .tc main_v1_0) = dGate (Oa m c) (Da m c) (up (Xa m c) (Ga m c)) (up (Xa m c) (Ua m c)) := by
  refine (W2_arr m ρ c 4).trans ((arr1_4 (V1 m ρ) c).trans ?_)
  show dGate (W1 m ρ c (Proc.devRef .tc main_arg4)) (W1 m ρ c (Proc.devRef .tc main_arg3)) (W1 m ρ c (Proc.devRef .tc main_v0_0)) (W1 m ρ c (Proc.devRef .tc main_v0_1)) = _
  rw [hg1, hu1, W1_args m ρ c main_arg4 (by decide), W1_args m ρ c main_arg3 (by decide)]

theorem du2 : W2 m ρ c (Proc.devRef .tc main_v1_1) = dUp (Oa m c) (Da m c) (up (Xa m c) (Ga m c)) := by
  refine (W2_arr m ρ c 5).trans ((arr1_5 (V1 m ρ) c).trans ?_)
  show dUp (W1 m ρ c (Proc.devRef .tc main_arg4)) (W1 m ρ c (Proc.devRef .tc main_arg3)) (W1 m ρ c (Proc.devRef .tc main_v0_0)) = _
  rw [hg1, W1_args m ρ c main_arg4 (by decide), W1_args m ρ c main_arg3 (by decide)]

theorem wg3 : W3 m ρ c (Proc.devRef .tc main_v2_0)
    = wGrad (dGate (Oa m c) (Da m c) (up (Xa m c) (Ga m c)) (up (Xa m c) (Ua m c))) (Xa m c) := by
  refine (W3_arr m ρ c 4).trans ((arr2_4 (V2 m ρ) c).trans ?_)
  show wGrad (W2 m ρ c (Proc.devRef .tc main_v1_0)) (W2 m ρ c (Proc.devRef .tc main_arg0)) = _
  rw [dg2, W2_args m ρ c main_arg0 (by decide)]

theorem wu3 : W3 m ρ c (Proc.devRef .tc main_v2_1) = wGrad (dUp (Oa m c) (Da m c) (up (Xa m c) (Ga m c))) (Xa m c) := by
  refine (W3_arr m ρ c 5).trans ((arr2_5 (V2 m ρ) c).trans ?_)
  show wGrad (W2 m ρ c (Proc.devRef .tc main_v1_1)) (W2 m ρ c (Proc.devRef .tc main_arg0)) = _
  rw [du2, W2_args m ρ c main_arg0 (by decide)]

theorem ha3 : W3 m ρ c (Proc.devRef .tc main_v0_2) = act (Xa m c) (Ga m c) (Ua m c) :=
  (W3_of m ρ c main_v0_2 (by decide)).trans ((W2_of m ρ c main_v0_2 (by decide)).trans (ha1 m ρ c))

theorem dg3 : W3 m ρ c (Proc.devRef .tc main_v1_0) = (dGate (Oa m c) (Da m c) (up (Xa m c) (Ga m c)) (up (Xa m c) (Ua m c))) :=
  (W3_of m ρ c main_v1_0 (by decide)).trans (dg2 m ρ c)

theorem du3 : W3 m ρ c (Proc.devRef .tc main_v1_1) = (dUp (Oa m c) (Da m c) (up (Xa m c) (Ga m c))) :=
  (W3_of m ρ c main_v1_1 (by decide)).trans (du2 m ρ c)

theorem dg4 : W4 m ρ c (Proc.devRef .tc main_v1_0) = (dGate (Oa m c) (Da m c) (up (Xa m c) (Ga m c)) (up (Xa m c) (Ua m c))) :=
  (W4_of m ρ c main_v1_0 (by decide)).trans (dg3 m ρ c)

theorem du4 : W4 m ρ c (Proc.devRef .tc main_v1_1) = (dUp (Oa m c) (Da m c) (up (Xa m c) (Ga m c))) :=
  (W4_of m ρ c main_v1_1 (by decide)).trans (du3 m ρ c)

theorem ha4 : W4 m ρ c (Proc.devRef .tc main_v0_2) = (act (Xa m c) (Ga m c) (Ua m c)) :=
  (W4_of m ρ c main_v0_2 (by decide)).trans (ha3 m ρ c)

theorem ha5 : W5 m ρ c (Proc.devRef .tc main_v0_2) = (act (Xa m c) (Ga m c) (Ua m c)) :=
  (W5_of m ρ c main_v0_2 (by decide)).trans (ha4 m ρ c)

theorem wd4 : W4 m ρ c (Proc.devRef .tc main_v3) = dDown (act (Xa m c) (Ga m c) (Ua m c)) (Oa m c) := by
  refine (W4_arr m ρ c 2).trans ((arr3_2 (V3 m ρ) c).trans ?_)
  show dDown (W3 m ρ c (Proc.devRef .tc main_v0_2)) (W3 m ρ c (Proc.devRef .tc main_arg4)) = _
  rw [ha3, W3_args m ρ c main_arg4 (by decide)]

theorem dx5 : W5 m ρ c (Proc.devRef .tc main_v4) = dX (dGate (Oa m c) (Da m c) (up (Xa m c) (Ga m c)) (up (Xa m c) (Ua m c))) (dUp (Oa m c) (Da m c) (up (Xa m c) (Ga m c))) (Ga m c) (Ua m c) := by
  refine (W5_arr m ρ c 4).trans ((arr4_4 (V4 m ρ) c).trans ?_)
  show dX (W4 m ρ c (Proc.devRef .tc main_v1_0)) (W4 m ρ c (Proc.devRef .tc main_v1_1)) (W4 m ρ c (Proc.devRef .tc main_arg1)) (W4 m ρ c (Proc.devRef .tc main_arg2)) = _
  rw [dg4, du4, W4_args m ρ c main_arg1 (by decide), W4_args m ρ c main_arg2 (by decide)]

theorem y6 : W6 m ρ c (Proc.devRef .tc main_v5) = down (act (Xa m c) (Ga m c) (Ua m c)) (Da m c) (Ha m c) := by
  refine (W6_arr m ρ c 3).trans ((arr5_3 (V5 m ρ) c).trans ?_)
  show down (W5 m ρ c (Proc.devRef .tc main_v0_2)) (W5 m ρ c (Proc.devRef .tc main_arg3)) (W5 m ρ c (Proc.devRef .tc main_arg5)) = _
  rw [ha5, W5_args m ρ c main_arg3 (by decide), W5_args m ρ c main_arg5 (by decide)]

/-! ## The contents at the end -/

theorem wg4 : W4 m ρ c (Proc.devRef .tc main_v2_0) = wGrad (dGate (Oa m c) (Da m c) (up (Xa m c) (Ga m c)) (up (Xa m c) (Ua m c))) (Xa m c) :=
  (W4_of m ρ c main_v2_0 (by decide)).trans (wg3 m ρ c)

theorem wg5 : W5 m ρ c (Proc.devRef .tc main_v2_0) = wGrad (dGate (Oa m c) (Da m c) (up (Xa m c) (Ga m c)) (up (Xa m c) (Ua m c))) (Xa m c) :=
  (W5_of m ρ c main_v2_0 (by decide)).trans (wg4 m ρ c)

theorem wg6 : W6 m ρ c (Proc.devRef .tc main_v2_0) = wGrad (dGate (Oa m c) (Da m c) (up (Xa m c) (Ga m c)) (up (Xa m c) (Ua m c))) (Xa m c) :=
  (W6_of m ρ c main_v2_0 (by decide)).trans (wg5 m ρ c)

theorem wu4 : W4 m ρ c (Proc.devRef .tc main_v2_1) = wGrad (dUp (Oa m c) (Da m c) (up (Xa m c) (Ga m c))) (Xa m c) :=
  (W4_of m ρ c main_v2_1 (by decide)).trans (wu3 m ρ c)

theorem wu5 : W5 m ρ c (Proc.devRef .tc main_v2_1) = wGrad (dUp (Oa m c) (Da m c) (up (Xa m c) (Ga m c))) (Xa m c) :=
  (W5_of m ρ c main_v2_1 (by decide)).trans (wu4 m ρ c)

theorem wu6 : W6 m ρ c (Proc.devRef .tc main_v2_1) = wGrad (dUp (Oa m c) (Da m c) (up (Xa m c) (Ga m c))) (Xa m c) :=
  (W6_of m ρ c main_v2_1 (by decide)).trans (wu5 m ρ c)

theorem wd5 : W5 m ρ c (Proc.devRef .tc main_v3) = dDown (act (Xa m c) (Ga m c) (Ua m c)) (Oa m c) :=
  (W5_of m ρ c main_v3 (by decide)).trans (wd4 m ρ c)

theorem wd6 : W6 m ρ c (Proc.devRef .tc main_v3) = dDown (act (Xa m c) (Ga m c) (Ua m c)) (Oa m c) :=
  (W6_of m ρ c main_v3 (by decide)).trans (wd5 m ρ c)

theorem dx6 : W6 m ρ c (Proc.devRef .tc main_v4) = dX (dGate (Oa m c) (Da m c) (up (Xa m c) (Ga m c)) (up (Xa m c) (Ua m c))) (dUp (Oa m c) (Da m c) (up (Xa m c) (Ga m c))) (Ga m c) (Ua m c) :=
  (W6_of m ρ c main_v4 (by decide)).trans (dx5 m ρ c)

-- the launch theorem's implicit arguments are found by unifying its conclusion with this one, which takes unfolding plain
-- definitions in a metavariable's type
set_option backward.isDefEq.respectTransparency.types false in
/-- THE RUN: every execution ends with the results as these functions of the arguments and the arguments as
    launched. -/
theorem run : θ_run defs (onTc (τ := τ) (main (F := Ideal))) ⟨m, fun _ => 0, ρ⟩ (fun r => ∀ c : Dev nD,
      r.2.mem ((c.tc : Thread nD τ).loc main_v2_0) = wGrad (dGate (Oa m c) (Da m c) (up (Xa m c) (Ga m c)) (up (Xa m c) (Ua m c))) (Xa m c)
      ∧ r.2.mem ((c.tc : Thread nD τ).loc main_v2_1) = wGrad (dUp (Oa m c) (Da m c) (up (Xa m c) (Ga m c))) (Xa m c)
      ∧ r.2.mem ((c.tc : Thread nD τ).loc main_v3) = dDown (act (Xa m c) (Ga m c) (Ua m c)) (Oa m c)
      ∧ r.2.mem ((c.tc : Thread nD τ).loc main_v4) = dX (dGate (Oa m c) (Da m c) (up (Xa m c) (Ga m c)) (up (Xa m c) (Ua m c))) (dUp (Oa m c) (Da m c) (up (Xa m c) (Ga m c))) (Ga m c) (Ua m c)
      ∧ r.2.mem ((c.tc : Thread nD τ).loc main_v5) = down (act (Xa m c) (Ga m c) (Ua m c)) (Da m c) (Ha m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v2_0 (by decide))).trans (wg6 m ρ c),
       (h c _ (mem_uc main_v2_1 (by decide))).trans (wu6 m ρ c),
       (h c _ (mem_uc main_v3 (by decide))).trans (wd6 m ρ c),
       (h c _ (mem_uc main_v4 (by decide))).trans (dx6 m ρ c),
       (h c _ (mem_uc main_v5 (by decide))).trans (y6 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.FfnRun
-- ==== Proof.FfnRef.lean ====
/- What the reference of the gated feed-forward layer's gradients computes, stage by stage at an index, in the terms of the
   kernel's arrays. The reference has the 8 groups of 704 hidden units as 5632 columns. -/
module

public import proofs.«01_k».proof.Proof.FfnArray
public import proofs.«01_k».proof.Proof.Gen.FfnRefIdeal.Read
public import Idealize.ShloMosaic.Lib.Pointwise

@[expose] public section

noncomputable section

namespace Cert.FfnRef

open Idealize.ShloMosaic Idealize.ShloMosaic.TcCoe Cert.FfnRefIdeal Cert.FfnRefIdeal.Gen Cert.FfnRefIdeal.Read
open Cert.FfnBlock Cert.FfnArray Cert.Tile

variable (x0 x4 : Vec Ideal S2048x2048 .bf16) (x1 x2 x3 : Vec Ideal S8x704x2048 .bf16)

/-- Hidden unit `k` of group `h`, among 5632. -/
def unit (h : Fin 8) (k : Fin 704) : Fin 5632 := ⟨704 * h.val + k.val, by omega⟩

/-! ## The constants -/

theorem one_eq : one = 1 := by
  have h : one = ((1 : ℝ) : EReal) := by
    simp [one, Ideal.ofBits, Ideal.ieee, -EReal.coe_mul, -EReal.coe_one]
    norm_num
  exact h.trans EReal.coe_one

theorem half_eq : half = ((1 / 2 : ℝ) : EReal) := by
  simp [half, Ideal.ofBits, Ideal.ieee, -EReal.coe_mul]; norm_num

/-- One half goes into a sum. -/
theorem half_sum {n : ℕ} (f : Fin n → EReal) : half * ∑ d, f d = ∑ d, half * f d := by
  have h0 : (0 : EReal) ≤ half := by rw [half_eq]; exact_mod_cast (by norm_num : (0 : ℝ) ≤ 1 / 2)
  have ht : half ≠ ⊤ := by rw [half_eq]; exact EReal.coe_ne_top _
  induction n with
  | zero => simp
  | succ n ih => rw [Fin.sum_univ_succ, Fin.sum_univ_succ, EReal.left_distrib_of_nonneg_of_ne_top h0 ht, ih]

/-! ## The weights with their groups side by side -/

theorem v5 (h : Fin 8) (k : Fin 704) (d : Fin 2048) : val_main_v5 (F := Ideal) x1 (ix2 (unit h k) d) = x1 (ix3 h k d) := by
  rw [val_main_v5_apply, val_main_v1_apply]
  exact congrArg x1 (ix3_of (by show ((704 * h.val + k.val) * 2048 + d.val) / 1441792 = h.val; omega)
    (by show ((704 * h.val + k.val) * 2048 + d.val) / 2048 % 704 = k.val; omega)
    (by show ((704 * h.val + k.val) * 2048 + d.val) % 2048 = d.val; omega))

theorem v7 (h : Fin 8) (k : Fin 704) (d : Fin 2048) : val_main_v7 (F := Ideal) x2 (ix2 (unit h k) d) = x2 (ix3 h k d) :=
  v5 x2 h k d

theorem v9 (h : Fin 8) (k : Fin 704) (d : Fin 2048) : val_main_v9 (F := Ideal) x3 (ix2 (unit h k) d) = x3 (ix3 h k d) :=
  v5 x3 h k d

/-! ## The forward stages -/

theorem v10 (h : Fin 8) (r : Fin 2048) (k : Fin 704) :
    val_main_v10 (F := Ideal) x0 x1 (ix2 r (unit h k)) = up x0 x1 (ix3 h r k) := by
  pointwise [val_main_v10, val_main_v6, val_main_v0]
  simp only [v5]
  rfl

theorem v12 (h : Fin 8) (r : Fin 2048) (k : Fin 704) :
    val_main_v12 (F := Ideal) x0 x2 (ix2 r (unit h k)) = up x0 x2 (ix3 h r k) := by
  pointwise [val_main_v12, val_main_v8, val_main_v0]
  simp only [v7]
  rfl

theorem v11_2 (h : Fin 8) (r : Fin 2048) (k : Fin 704) :
    val_main_v11_2 (F := Ideal) x0 x1 (ix2 r (unit h k)) = Ideal.logistic (up x0 x1 (ix3 h r k)) := by
  pointwise [val_main_v11_2, val_main_call0_v4, val_main_call0_v3, val_main_call0_v2, val_main_call0_v1, val_main_call0_v0,
    val_main_call0_cst, val_main_call0_cst_0]
  rw [v10]
  simp only [Ideal.logistic]

theorem v13 (h : Fin 8) (r : Fin 2048) (k : Fin 704) :
    val_main_v13 (F := Ideal) x0 x1 x2 (ix2 r (unit h k)) = act x0 x1 x2 (ix3 h r k) := by
  pointwise [val_main_v13, val_main_v11_0]
  rw [v10, v12, v11_2]
  rfl

/-! ## The backward stages -/

theorem v21 (h : Fin 8) (r : Fin 2048) (k : Fin 704) :
    val_main_v21 (F := Ideal) x3 x4 (ix2 r (unit h k)) = ct x4 x3 (ix3 h r k) := by
  pointwise [val_main_v21, val_main_v18, val_main_v17, val_main_cst_0, val_main_v4]
  simp only [v9, ct, half_sum, mul_assoc]
  rfl

theorem v22 (h : Fin 8) (r : Fin 2048) (k : Fin 704) :
    val_main_v22 (F := Ideal) x0 x1 x3 x4 (ix2 r (unit h k)) = dUp x4 x3 (up x0 x1) (ix3 h r k) := by
  pointwise [val_main_v22, val_main_v11_0]
  rw [v10, v11_2, v21, mul_comm]
  rfl

/-- The sigmoid's gradient as the reference has it. -/
theorem v27 (h : Fin 8) (r : Fin 2048) (k : Fin 704) :
    val_main_v27 (F := Ideal) x0 x1 x2 x3 x4 (ix2 r (unit h k))
      = (ct x4 x3 (ix3 h r k) * up x0 x2 (ix3 h r k)) * Ideal.logistic (up x0 x1 (ix3 h r k))
        + (up x0 x1 (ix3 h r k) * (ct x4 x3 (ix3 h r k) * up x0 x2 (ix3 h r k)))
          * (Ideal.logistic (up x0 x1 (ix3 h r k)) * (one - Ideal.logistic (up x0 x1 (ix3 h r k)))) := by
  pointwise [val_main_v27, val_main_call1_v0, val_main_call1_v1, val_main_call1_v2, val_main_v23, val_main_v11_1,
    val_main_call0_v7, val_main_call0_v6, val_main_call0_cst_1]
  rw [v10, v11_2, v21, v12]

/-! ## The results -/

theorem v37 (h : Fin 8) (k : Fin 704) (d : Fin 2048) :
    val_main_v37 (F := Ideal) x0 x1 x3 x4 (ix3 h k d) = wGrad (dUp x4 x3 (up x0 x1)) x0 (ix3 h k d) := by
  have e : val_main_v36 (F := Ideal) x0 x1 x3 x4 (ix3 h k d) = val_main_v33 (F := Ideal) x0 x1 x3 x4 (ix2 (unit h k) d) := by
    rw [val_main_v36_apply]
    exact congrArg _ (ix2_of (by show ((h.val * 704 + k.val) * 2048 + d.val) / 2048 = 704 * h.val + k.val; omega)
      (by show ((h.val * 704 + k.val) * 2048 + d.val) % 2048 = d.val; omega))
  rw [val_main_v37_apply]
  refine e.trans ?_
  pointwise [val_main_v33, val_main_v25, val_main_v24, val_main_v0]
  simp only [v22]
  rfl

theorem v39 (h : Fin 8) (k : Fin 704) (d : Fin 2048) :
    val_main_v39 (F := Ideal) x0 x1 x2 x4 (ix3 h k d) = dDown (act x0 x1 x2) x4 (ix3 h k d) := by
  have e : val_main_v38 (F := Ideal) x0 x1 x2 x4 (ix3 h k d) = val_main_v20 (F := Ideal) x0 x1 x2 x4 (ix2 (unit h k) d) := by
    rw [val_main_v38_apply]
    exact congrArg _ (ix2_of (by show ((h.val * 704 + k.val) * 2048 + d.val) / 2048 = 704 * h.val + k.val; omega)
      (by show ((h.val * 704 + k.val) * 2048 + d.val) % 2048 = d.val; omega))
  rw [val_main_v39_apply]
  refine e.trans ?_
  pointwise [val_main_v20, val_main_v19, val_main_v18, val_main_v17, val_main_cst_0, val_main_v4]
  simp only [v13, dDown, wGrad, half_sum]
  refine Finset.sum_congr rfl fun r _ => ?_
  rw [mul_assoc, mul_comm (x4 _)]
  rfl

theorem v35 (h : Fin 8) (k : Fin 704) (d : Fin 2048)
    (hg : ∀ r, dGate x4 x3 (up x0 x1) (up x0 x2) (ix3 h r k)
      = (ct x4 x3 (ix3 h r k) * up x0 x2 (ix3 h r k)) * Ideal.logistic (up x0 x1 (ix3 h r k))
        + (up x0 x1 (ix3 h r k) * (ct x4 x3 (ix3 h r k) * up x0 x2 (ix3 h r k)))
          * (Ideal.logistic (up x0 x1 (ix3 h r k)) * (one - Ideal.logistic (up x0 x1 (ix3 h r k))))) :
    val_main_v35 (F := Ideal) x0 x1 x2 x3 x4 (ix3 h k d) = wGrad (dGate x4 x3 (up x0 x1) (up x0 x2)) x0 (ix3 h k d) := by
  have e : val_main_v34 (F := Ideal) x0 x1 x2 x3 x4 (ix3 h k d) = val_main_v32 (F := Ideal) x0 x1 x2 x3 x4 (ix2 (unit h k) d) := by
    rw [val_main_v34_apply]
    exact congrArg _ (ix2_of (by show ((h.val * 704 + k.val) * 2048 + d.val) / 2048 = 704 * h.val + k.val; omega)
      (by show ((h.val * 704 + k.val) * 2048 + d.val) % 2048 = d.val; omega))
  rw [val_main_v35_apply]
  refine e.trans ?_
  pointwise [val_main_v32, val_main_v29, val_main_v28, val_main_v0]
  simp only [v27, ← hg]
  rfl

/-- A sum over the hidden units, by groups. -/
theorem by_units (f : Fin 5632 → EReal) : ∑ n, f n = ∑ h : Fin 8, ∑ k : Fin 704, f (unit h k) := by
  rw [← Fintype.sum_prod_type' (f := fun (h : Fin 8) (k : Fin 704) => f (unit h k))]
  exact (Fintype.sum_equiv (finProdFinEquiv (m := 8) (n := 704)) (fun p => f (unit p.1 p.2)) f
    fun p => congrArg f (Fin.ext (by show 704 * p.1.val + p.2.val = p.2.val + 704 * p.1.val; omega))).symm

theorem v31 (r d : Fin 2048)
    (hg : ∀ h k, dGate x4 x3 (up x0 x1) (up x0 x2) (ix3 h r k)
      = (ct x4 x3 (ix3 h r k) * up x0 x2 (ix3 h r k)) * Ideal.logistic (up x0 x1 (ix3 h r k))
        + (up x0 x1 (ix3 h r k) * (ct x4 x3 (ix3 h r k) * up x0 x2 (ix3 h r k)))
          * (Ideal.logistic (up x0 x1 (ix3 h r k)) * (one - Ideal.logistic (up x0 x1 (ix3 h r k))))) :
    val_main_v31 (F := Ideal) x0 x1 x2 x3 x4 (ix2 r d)
      = dX (dGate x4 x3 (up x0 x1) (up x0 x2)) (dUp x4 x3 (up x0 x1)) x1 x2 (ix2 r d) := by
  pointwise [val_main_v31, val_main_v26, val_main_v30, val_main_v8, val_main_v6]
  rw [by_units, by_units, add_comm]
  simp only [v22, v27, v5, v7, ← hg]
  rfl

theorem v40 (x5 : Vec Ideal S2048x2048 .f32) (r d : Fin 2048) :
    val_main_v40 (F := Ideal) x0 x1 x2 x3 x5 (ix2 r d) = down (act x0 x1 x2) x3 x5 (ix2 r d) := by
  pointwise [val_main_v40, val_main_v16, val_main_v15, val_main_cst, val_main_v14]
  rw [by_units]
  simp only [v13, v9]
  rfl

end Cert.FfnRef
-- ==== Proof.FfnClaim.lean ====
/- The equation of the gated feed-forward layer's gradients. The kernel multiplies the gate's gradient out of one product,
   the reference adds two: over the extended reals the two agree where the arguments are finite. -/
module

public import proofs.«01_k».proof.Defs
public import proofs.«01_k».proof.Proof.FfnRun
public import proofs.«01_k».proof.Proof.FfnRef
public import proofs.«01_k».proof.Proof.MlaClaim
public import proofs.«01_k».proof.Proof.Gen.FfnRefIdeal.Run

@[expose] public section

noncomputable section

namespace Cert.FfnClaim

open Idealize.ShloMosaic Idealize.ShloMosaic.TcCoe Idealize.SL.Sem
open Cert.FfnBlock Cert.FfnArray Cert.FfnRun Cert.FfnRef

/-- The side conditions of the precondition's operations. -/
theorem preFacts : Cert.Pre_ffn_finite.Facts where
  bitsLt_bf16_f32 := by decide
  bcast_S_S2048x2048 := by decide
  bcast_S_S8x704x2048 := by decide

/-- Every element of an array is real. -/
abbrev Real {s : Shape} (x : Vec Ideal s .bf16) : Prop := ∃ f : s.Idx → ℝ, ∀ y, x y = (f y : EReal)

/-- An array whose elements all pass the precondition's comparison is real. -/
theorem real_of_bits {s : Shape} (x : Vec Ideal s .bf16)
    (h : ∀ y, Ideal.cmp .olt (max (x y) (-x y)) (Ideal.ofBits .f32 0x7F800000#32) = 1#1) : Real x :=
  ⟨fun y => (Cert.MlaClaim.real_of_bit _ (h y)).choose, fun y => (Cert.MlaClaim.real_of_bit _ (h y)).choose_spec⟩

/-- The gate's gradient: one product and the two terms agree, for real arguments. -/
theorem gate {c u g : ℝ} : (c : EReal) * u * (Ideal.logistic g * (one + g * (one - Ideal.logistic g)))
    = ((c : EReal) * u) * Ideal.logistic g + (g * (c * u)) * (Ideal.logistic g * (one - Ideal.logistic g)) := by
  rw [one_eq, Ideal.logistic_coe]
  generalize (1 + Real.exp (-g))⁻¹ = s
  norm_cast
  ring

section Real

variable {X O : Vec Ideal Cert.FfnBwdIdeal.S2048x2048 .bf16} {G U D : Vec Ideal Cert.FfnBwdIdeal.S8x704x2048 .bf16}

/-- The hidden units of real arguments are real. -/
theorem up_real (hX : Real X) (hG : Real G) (y : Cert.FfnBwdIdeal.S8x2048x704.Idx) : ∃ r : ℝ, up X G y = (r : EReal) := by
  obtain ⟨f, hf⟩ := hX
  obtain ⟨g, hg⟩ := hG
  refine ⟨∑ d : Fin 2048, f (ix2 (y 1) d) * g (ix3 (y 0) (y 2) d), ?_⟩
  simp only [up, hf, hg, Cert.MlaMath.coe_sum, EReal.coe_mul]

/-- And so is their gradient. -/
theorem ct_real (hO : Real O) (hD : Real D) (y : Cert.FfnBwdIdeal.S8x2048x704.Idx) : ∃ r : ℝ, ct O D y = (r : EReal) := by
  obtain ⟨f, hf⟩ := hO
  obtain ⟨g, hg⟩ := hD
  refine ⟨(1 / 2) * ∑ d : Fin 2048, f (ix2 (y 1) d) * g (ix3 (y 0) (y 2) d), ?_⟩
  simp only [ct, hf, hg, half_eq, Cert.MlaMath.coe_sum, EReal.coe_mul]

end Real

/-- Kernel and reference compute the same output and the same four gradients over the extended reals, where the arguments
    of the products are finite. -/
theorem algebraic : @Cert.algebraic_FfnBwdIdeal_FfnRefIdeal_pre_ffn_finite Cert.FfnBwdIdeal.Gen.facts Cert.FfnRefIdeal.Gen.facts preFacts := by
  intro m g m' g' hpre hag
  refine ⟨fun c => wGrad (dGate (Oa m c) (Da m c) (up (Xa m c) (Ga m c)) (up (Xa m c) (Ua m c))) (Xa m c), fun c => wGrad (dUp (Oa m c) (Da m c) (up (Xa m c) (Ga m c))) (Xa m c), fun c => dDown (act (Xa m c) (Ga m c) (Ua m c)) (Oa m c),
    fun c => dX (dGate (Oa m c) (Da m c) (up (Xa m c) (Ga m c)) (up (Xa m c) (Ua m c))) (dUp (Oa m c) (Da m c) (up (Xa m c) (Ga m c))) (Ga m c) (Ua m c), fun c => down (act (Xa m c) (Ga m c) (Ua m c)) (Da m c) (Ha m c), run m g, ?_⟩
  refine (θ_run Cert.FfnRefIdeal.defs _ _).mono (fun _ h c => ?_) (Cert.FfnRefIdeal.Value.run m' g')
  obtain ⟨h0, h1, h2, h3, h4, h5⟩ := hag c
  obtain ⟨r0, r1, r2, r3, r4, hargs⟩ := h c
  obtain ⟨p0, p1, p2, p3, p4⟩ := hpre c
  have hX : Real (Xa m c) := real_of_bits _ fun y => congrFun p0 y
  have hG : Real (Ga m c) := real_of_bits _ fun y => congrFun p1 y
  have hU : Real (Ua m c) := real_of_bits _ fun y => congrFun p2 y
  have hD : Real (Da m c) := real_of_bits _ fun y => congrFun p3 y
  have hO : Real (Oa m c) := real_of_bits _ fun y => congrFun p4 y
  have hgate : ∀ (a : Fin 8) (r : Fin 2048) (k : Fin 704), dGate (Oa m c) (Da m c) (up (Xa m c) (Ga m c)) (up (Xa m c) (Ua m c)) (ix3 a r k)
      = (ct (Oa m c) (Da m c) (ix3 a r k) * up (Xa m c) (Ua m c) (ix3 a r k)) * Ideal.logistic (up (Xa m c) (Ga m c) (ix3 a r k))
        + (up (Xa m c) (Ga m c) (ix3 a r k) * (ct (Oa m c) (Da m c) (ix3 a r k) * up (Xa m c) (Ua m c) (ix3 a r k)))
          * (Ideal.logistic (up (Xa m c) (Ga m c) (ix3 a r k)) * (one - Ideal.logistic (up (Xa m c) (Ga m c) (ix3 a r k)))) := by
    intro a r k
    obtain ⟨q, hq⟩ := ct_real hO hD (ix3 a r k)
    obtain ⟨s, hs⟩ := up_real hX hG (ix3 a r k)
    obtain ⟨t, ht⟩ := up_real hX hU (ix3 a r k)
    show ct (Oa m c) (Da m c) (ix3 a r k) * up (Xa m c) (Ua m c) (ix3 a r k)
      * (Ideal.logistic (up (Xa m c) (Ga m c) (ix3 a r k)) * (one + up (Xa m c) (Ga m c) (ix3 a r k)
        * (one - Ideal.logistic (up (Xa m c) (Ga m c) (ix3 a r k))))) = _
    rw [hq, hs, ht]
    exact gate
  refine ⟨r0.trans ?_, r1.trans ?_, r2.trans ?_, r3.trans ?_, r4.trans ?_, hargs⟩
  · rw [Cert.FfnRefIdeal.Read.val_main_v35_eq, h0, h1, h2, h3, h4]
    funext y
    obtain ⟨a, k, d, rfl⟩ : ∃ (a : Fin 8) (k : Fin 704) (d : Fin 2048), y = ix3 a k d := ⟨_, _, _, eq_ix3 y⟩
    exact v35 _ _ _ _ _ a k d fun r => hgate a r k
  · rw [Cert.FfnRefIdeal.Read.val_main_v37_eq, h0, h1, h3, h4]
    funext y
    obtain ⟨a, k, d, rfl⟩ : ∃ (a : Fin 8) (k : Fin 704) (d : Fin 2048), y = ix3 a k d := ⟨_, _, _, eq_ix3 y⟩
    exact v37 _ _ _ _ a k d
  · rw [Cert.FfnRefIdeal.Read.val_main_v39_eq, h0, h1, h2, h4]
    funext y
    obtain ⟨a, k, d, rfl⟩ : ∃ (a : Fin 8) (k : Fin 704) (d : Fin 2048), y = ix3 a k d := ⟨_, _, _, eq_ix3 y⟩
    exact v39 _ _ _ _ a k d
  · rw [Cert.FfnRefIdeal.Read.val_main_v31_eq, h0, h1, h2, h3, h4]
    funext y
    obtain ⟨r, d, rfl⟩ : ∃ (r d : Fin 2048), y = ix2 r d := ⟨_, _, eq_ix2 y⟩
    exact v31 _ _ _ _ _ r d fun a k => hgate a r k
  · rw [Cert.FfnRefIdeal.Read.val_main_v40_eq, h0, h1, h2, h3, h5]
    funext y
    obtain ⟨r, d, rfl⟩ : ∃ (r d : Fin 2048), y = ix2 r d := ⟨_, _, eq_ix2 y⟩
    exact v40 _ _ _ _ _ r d

end Cert.FfnClaim
-- ==== Proof.PleBlock.lean ====
/- What one grid point of each of the five calls of the per-layer embedding's gate computes: the payloads at an index, and
   what each body leaves in the staging buffers of its outputs. -/
module

public import proofs.«01_k».proof.Proof.Gen.PleBwdIdeal.Frame
public import Idealize.ShloMosaic.Lib.Pointwise

@[expose] public section

noncomputable section

namespace Cert.PleBlock

open Idealize.ShloMosaic Idealize.ShloMosaic.TcCoe Cert.PleBwdIdeal Cert.PleBwdIdeal.Gen

/-- The one of the sigmoid's derivative. -/
abbrev one : EReal := Ideal.ofBits .f32 0x3F800000#32

/-! ## The payloads at an index -/

theorem gate (x0 : Vec Ideal S1024x2048 .bf16) (x1 : Vec Ideal S2048x256 .bf16) (i : Fin 1024) (k : Fin 256) :
    k0_pay1 x0 x1 (ix2 i k) = ∑ d : Fin 2048, x0 (ix2 i d) * x1 (ix2 d k) := by
  pointwise [k0_pay1]

theorem emb (x2 : Vec Ideal S1024x256 .bf16) (x3 : Vec Ideal S1x256x256 .bf16) (i : Fin 1024) (k : Fin 256) :
    k0_pay4 x2 x3 (ix2 i k) = ∑ d : Fin 256, x2 (ix2 i d) * x3 (ix3 0 d k) := by
  pointwise [k0_pay4, k0_pay2]

theorem sum (x0 : Vec Ideal S1024x2048 .bf16) (x1 : Vec Ideal S2048x256 .bf16) (x2 : Vec Ideal S1024x256 .bf16)
    (x3 : Vec Ideal S1x256x256 .bf16) (x4 : Vec Ideal S1024x256 .f32) (i : Fin 1024) (k : Fin 256) :
    k0_pay3 x0 x1 x2 x3 x4 (ix2 i k) = x4 (ix2 i k)
      + Ideal.logistic (∑ d : Fin 2048, x0 (ix2 i d) * x1 (ix2 d k)) * ∑ d : Fin 256, x2 (ix2 i d) * x3 (ix3 0 d k) := by
  pointwise [k0_pay3, k0_pay1, k0_pay2]

theorem d_gate (x0 x2 : Vec Ideal S256x2048 .f32) (x1 : Vec Ideal S256x2048 .bf16) (i : Fin 256) (k : Fin 2048) :
    k1_pay2 x0 x2 x1 (ix2 i k) = x0 (ix2 i k) * x1 (ix2 i k) * Ideal.logistic (x2 (ix2 i k)) * (one - Ideal.logistic (x2 (ix2 i k))) := by
  pointwise [k1_pay2, k1_pay1]

theorem d_emb (x0 x2 : Vec Ideal S256x2048 .f32) (i : Fin 256) (k : Fin 2048) :
    k1_pay3 x0 x2 (ix2 i k) = x0 (ix2 i k) * Ideal.logistic (x2 (ix2 i k)) := by
  pointwise [k1_pay3, k1_pay1]

theorem d_wpl (x0 x1 : Vec Ideal S2048x256 .bf16) (a : Fin 1) (i k : Fin 256) :
    k2_pay1 x0 x1 (ix3 a i k) = ∑ r : Fin 2048, x0 (ix2 r i) * x1 (ix2 r k) := by
  pointwise [k2_pay1]

theorem d_wplg (x0 : Vec Ideal S2048x256 .bf16) (x1 : Vec Ideal S2048x2048 .bf16) (a : Fin 1) (i : Fin 256) (k : Fin 2048) :
    k3_pay1 x0 x1 (ix3 a i k) = ∑ r : Fin 2048, x0 (ix2 r i) * x1 (ix2 r k) := by
  pointwise [k3_pay1]

theorem d_n (x0 : Vec Ideal S1024x2048 .bf16) (x1 : Vec Ideal S1x256x2048 .bf16) (i : Fin 1024) (k : Fin 256) :
    k4_pay1 x0 x1 (ix2 i k) = ∑ d : Fin 2048, x0 (ix2 i d) * x1 (ix3 0 k d) := by
  pointwise [k4_pay1]

/-! ## What each body leaves -/

theorem hz2 : (![0, 0] : Fin 2 → Nat) = fun _ => 0 := by funext x; match x with | 0 => rfl | 1 => rfl
theorem hz3 : (![0, 0, 0] : Fin 3 → Nat) = fun _ => 0 := by funext x; match x with | 0 => rfl | 1 => rfl | 2 => rfl

theorem out_sum (x0 : Vec Ideal S1024x2048 .bf16) (x1 : Vec Ideal S2048x256 .bf16) (x2 : Vec Ideal S1024x256 .bf16)
    (x3 : Vec Ideal S1x256x256 .bf16) (x4 : Vec Ideal S1024x256 .f32) : out0_5 x0 x1 x2 x3 x4 = k0_pay3 x0 x1 x2 x3 x4 := by
  unfold out0_5
  rw [View.canon_unit_zero hz2]
  simp only [View.ld_unit_zero (S := S1024x2048) hz2, View.ld_unit_zero (S := S2048x256) hz2, View.ld_unit_zero (S := S1024x256) hz2,
    View.ld_unit_zero (S := S1x256x256) hz3]

theorem out_gate (x0 : Vec Ideal S1024x2048 .bf16) (x1 : Vec Ideal S2048x256 .bf16) (x2 : Vec Ideal S1024x256 .bf16)
    (x3 : Vec Ideal S1x256x256 .bf16) (x4 : Vec Ideal S1024x256 .f32) : out0_6 x0 x1 x2 x3 x4 = k0_pay1 x0 x1 := by
  unfold out0_6
  rw [View.canon_unit_zero hz2]
  simp only [View.ld_unit_zero (S := S1024x2048) hz2, View.ld_unit_zero (S := S2048x256) hz2]

theorem out_emb (x0 : Vec Ideal S1024x2048 .bf16) (x1 : Vec Ideal S2048x256 .bf16) (x2 : Vec Ideal S1024x256 .bf16)
    (x3 : Vec Ideal S1x256x256 .bf16) (x4 : Vec Ideal S1024x256 .f32) : out0_7 x0 x1 x2 x3 x4 = k0_pay4 x2 x3 := by
  unfold out0_7
  rw [View.canon_unit_zero hz2]
  simp only [View.ld_unit_zero (S := S1024x256) hz2, View.ld_unit_zero (S := S1x256x256) hz3]

theorem out_d_gate (x0 x2 : Vec Ideal S256x2048 .f32) (x1 : Vec Ideal S256x2048 .bf16) : out1_3 x0 x1 x2 = k1_pay2 x0 x2 x1 := by
  unfold out1_3
  rw [View.canon_unit_zero hz2]
  simp only [View.ld_unit_zero (S := S256x2048) hz2]

theorem out_d_emb (x0 x2 : Vec Ideal S256x2048 .f32) (x1 : Vec Ideal S256x2048 .bf16) : out1_4 x0 x1 x2 = k1_pay3 x0 x2 := by
  unfold out1_4
  rw [View.canon_unit_zero hz2]
  simp only [View.ld_unit_zero (S := S256x2048) hz2]

theorem out_d_wpl (x0 x1 : Vec Ideal S2048x256 .bf16) : out2_2 x0 x1 = k2_pay1 x0 x1 := by
  unfold out2_2
  rw [View.canon_unit_zero hz3]
  simp only [View.ld_unit_zero (S := S2048x256) hz2]

theorem out_d_wplg (x0 : Vec Ideal S2048x256 .bf16) (x1 : Vec Ideal S2048x2048 .bf16) : out3_2 x0 x1 = k3_pay1 x0 x1 := by
  unfold out3_2
  rw [View.canon_unit_zero hz3]
  simp only [View.ld_unit_zero (S := S2048x256) hz2, View.ld_unit_zero (S := S2048x2048) hz2]

theorem out_d_n (x0 : Vec Ideal S1024x2048 .bf16) (x1 : Vec Ideal S1x256x2048 .bf16) : out4_2 x0 x1 = k4_pay1 x0 x1 := by
  unfold out4_2
  rw [View.canon_unit_zero hz2]
  simp only [View.ld_unit_zero (S := S1024x2048) hz2, View.ld_unit_zero (S := S1x256x2048) hz3]

end Cert.PleBlock
-- ==== Proof.PleArray.lean ====
/- The arrays that the five calls of the per-layer embedding's gate leave, each as one function of the arrays that the call
   reads. -/
module

public import proofs.«01_k».proof.Proof.PleBlock
public import proofs.«01_k».proof.Proof.Tile
public import Idealize.ShloMosaic.Lib.Pipeline.ValueKit.Geometry

@[expose] public section

noncomputable section

namespace Cert.PleArray

open Idealize.ShloMosaic Idealize.ShloMosaic.TcCoe Idealize.SL.Sem
open Cert.PleBwdIdeal Cert.PleBwdIdeal.Gen Cert.PleBlock Cert.Tile

/-! ## The results of the calls as functions of what they read -/

/-- The gate before its sigmoid: the rows of the input times the gate's weights. -/
def gateIn (N W : Vec Ideal S2048x2048 .bf16) : Vec Ideal S2048x2048 .f32 := fun y =>
  ∑ d : Fin 2048, N (ix2 (y 0) d) * W (ix2 d (y 1))

/-- Column `n` among 2048: its group of 256, and its place there. -/
def grp (n : Fin 2048) : Fin 8 := ⟨n.val / 256, by omega⟩
def plc (n : Fin 2048) : Fin 256 := ⟨n.val % 256, by omega⟩

/-- The embedding's projection; its weights come as 8 groups of 256 columns. -/
def proj (P : Vec Ideal S2048x256 .bf16) (W : Vec Ideal S8x256x256 .bf16) : Vec Ideal S2048x2048 .bf16 := fun y =>
  ∑ d : Fin 256, P (ix2 (y 0) d) * W (ix3 (grp (y 1)) d (plc (y 1)))

/-- The gated sum. -/
def gated (H : Vec Ideal S2048x2048 .f32) (t : Vec Ideal S2048x2048 .f32) (e : Vec Ideal S2048x2048 .bf16) :
    Vec Ideal S2048x2048 .f32 := fun y => H y + Ideal.logistic (t y) * e y

/-- The gradient of the gate before its sigmoid. -/
def dGate (D : Vec Ideal S2048x2048 .f32) (e : Vec Ideal S2048x2048 .bf16) (t : Vec Ideal S2048x2048 .f32) :
    Vec Ideal S2048x2048 .bf16 := fun y => D y * e y * Ideal.logistic (t y) * (one - Ideal.logistic (t y))

/-- The gradient of the projection. -/
def dProj (D t : Vec Ideal S2048x2048 .f32) : Vec Ideal S2048x2048 .bf16 := fun y => D y * Ideal.logistic (t y)

/-- The gradient of the projection's weights, as 8 groups of 256 columns. -/
def wProj (P : Vec Ideal S2048x256 .bf16) (E : Vec Ideal S2048x2048 .bf16) : Vec Ideal S8x256x256 .bf16 := fun y =>
  ∑ r : Fin 2048, P (ix2 r (y 1)) * E (ix2 r (at256 (y 0) (y 2)))

/-- The gradient of the gate's weights, as 8 groups of 256 rows. -/
def wGate (N T : Vec Ideal S2048x2048 .bf16) : Vec Ideal S8x256x2048 .bf16 := fun y =>
  ∑ r : Fin 2048, N (ix2 r (at256 (y 0) (y 1))) * T (ix2 r (y 2))

/-- The gradient of the layer's input; the gate's weights come as 8 groups of 256 rows. -/
def dInput (T : Vec Ideal S2048x2048 .bf16) (W : Vec Ideal S8x256x2048 .bf16) : Vec Ideal S2048x2048 .f32 := fun y =>
  ∑ d : Fin 2048, T (ix2 (y 0) d) * W (ix3 (grp (y 1)) (plc (y 1)) d)

theorem grp_at (n : ℕ) (k : Fin 256) : grp (at256 n k) = g8 n :=
  Fin.ext (show (256 * (n % 8) + k.val) / 256 = n % 8 by omega)

theorem plc_at (n : ℕ) (k : Fin 256) : plc (at256 n k) = k :=
  Fin.ext (show (256 * (n % 8) + k.val) % 256 = k.val by omega)

theorem at_g8 (n : ℕ) (k : Fin 256) : at256 (g8 n).val k = at256 n k :=
  Fin.ext (show 256 * (n % 8 % 8) + k.val = 256 * (n % 8) + k.val by omega)

theorem dInput_at (T : Vec Ideal S2048x2048 .bf16) (W : Vec Ideal S8x256x2048 .bf16) (r : Fin 2048) (n : ℕ) (k : Fin 256) :
    dInput T W (ix2 r (at256 n k)) = ∑ d : Fin 2048, T (ix2 r d) * W (ix3 (g8 n) k d) := by
  show ∑ d : Fin 2048, T (ix2 r d) * W (ix3 (grp (at256 n k)) (plc (at256 n k)) d) = _
  rw [grp_at, plc_at]

variable (V : (c : Dev nD) → (b : Ref sig .tc) → Buf (Elt Ideal) ((c : Thread nD τ).loc b)) (c : Dev nD)

/-! ## Call 0: the two products and the gated sum -/

/-- The block indices of the windows at a point. -/
theorem idx0 : ∀ t : Fin cfg0.N,
    (win0_0.index t (0 : Fin 2) = (t.val) % 2 ∧ win0_0.index t (1 : Fin 2) = 0)
    ∧ (win0_1.index t (0 : Fin 2) = 0 ∧ win0_1.index t (1 : Fin 2) = (t.val / 2) % 8)
    ∧ (win0_2.index t (0 : Fin 2) = (t.val) % 2 ∧ win0_2.index t (1 : Fin 2) = 0)
    ∧ (win0_3.index t (0 : Fin 3) = (t.val / 2) % 8 ∧ win0_3.index t (1 : Fin 3) = 0 ∧ win0_3.index t (2 : Fin 3) = 0)
    ∧ (win0_4.index t (0 : Fin 2) = (t.val) % 2 ∧ win0_4.index t (1 : Fin 2) = (t.val / 2) % 8)
    ∧ (win0_5.index t (0 : Fin 2) = (t.val) % 2 ∧ win0_5.index t (1 : Fin 2) = (t.val / 2) % 8)
    ∧ (win0_6.index t (0 : Fin 2) = (t.val) % 2 ∧ win0_6.index t (1 : Fin 2) = (t.val / 2) % 8)
    ∧ (win0_7.index t (0 : Fin 2) = (t.val) % 2 ∧ win0_7.index t (1 : Fin 2) = (t.val / 2) % 8) :=
  (by decide +kernel : ∀ t : Fin grid0.N, _)

theorem emb0_0 (t : Fin cfg0.N) (i : Fin 1024) (k : Fin 2048) :
    ((cfg0.win 0).blk t).view.emb (ix2 i k : S1024x2048.Idx) = (ix2 (pos (t.val) i) k : S2048x2048.Idx) :=
  ix2_of (by have h := (idx0 t).1; show win0_0.index t (0 : Fin 2) * 1024 + 1 * i.val = 1024 * ((t.val) % 2) + i.val; omega)
    (by have h := (idx0 t).1; show win0_0.index t (1 : Fin 2) * 2048 + 1 * k.val = k.val; omega)

theorem blk0_0 (t : Fin cfg0.N) (i : Fin 1024) (k : Fin 2048) :
    (iblk0 V c 0 t : Vec Ideal S1024x2048 .bf16) (ix2 i k) = V c main_arg0 (ix2 (pos (t.val) i) k) :=
  congrArg (V c main_arg0) (emb0_0 t i k)

theorem emb0_1 (t : Fin cfg0.N) (i : Fin 2048) (k : Fin 256) :
    ((cfg0.win 1).blk t).view.emb (ix2 i k : S2048x256.Idx) = (ix2 i (at256 (t.val / 2) k) : S2048x2048.Idx) :=
  ix2_of (by have h := (idx0 t).2.1; show win0_1.index t (0 : Fin 2) * 2048 + 1 * i.val = i.val; omega)
    (by have h := (idx0 t).2.1; show win0_1.index t (1 : Fin 2) * 256 + 1 * k.val = 256 * ((t.val / 2) % 8) + k.val; omega)

theorem blk0_1 (t : Fin cfg0.N) (i : Fin 2048) (k : Fin 256) :
    (iblk0 V c 1 t : Vec Ideal S2048x256 .bf16) (ix2 i k) = V c main_v0 (ix2 i (at256 (t.val / 2) k)) :=
  congrArg (V c main_v0) (emb0_1 t i k)

theorem emb0_2 (t : Fin cfg0.N) (i : Fin 1024) (k : Fin 256) :
    ((cfg0.win 2).blk t).view.emb (ix2 i k : S1024x256.Idx) = (ix2 (pos (t.val) i) k : S2048x256.Idx) :=
  ix2_of (by have h := (idx0 t).2.2.1; show win0_2.index t (0 : Fin 2) * 1024 + 1 * i.val = 1024 * ((t.val) % 2) + i.val; omega)
    (by have h := (idx0 t).2.2.1; show win0_2.index t (1 : Fin 2) * 256 + 1 * k.val = k.val; omega)

theorem blk0_2 (t : Fin cfg0.N) (i : Fin 1024) (k : Fin 256) :
    (iblk0 V c 2 t : Vec Ideal S1024x256 .bf16) (ix2 i k) = V c main_arg2 (ix2 (pos (t.val) i) k) :=
  congrArg (V c main_arg2) (emb0_2 t i k)

theorem emb0_3 (t : Fin cfg0.N) (a : Fin 1) (i : Fin 256) (k : Fin 256) :
    ((cfg0.win 3).blk t).view.emb (ix3 a i k : S1x256x256.Idx) = (ix3 (g8 (t.val / 2)) i k : S8x256x256.Idx) :=
  ix3_of (by have h := (idx0 t).2.2.2.1; show win0_3.index t (0 : Fin 3) * 1 + 1 * a.val = (t.val / 2) % 8; omega)
    (by have h := (idx0 t).2.2.2.1; show win0_3.index t (1 : Fin 3) * 256 + 1 * i.val = i.val; omega)
    (by have h := (idx0 t).2.2.2.1; show win0_3.index t (2 : Fin 3) * 256 + 1 * k.val = k.val; omega)

theorem blk0_3 (t : Fin cfg0.N) (a : Fin 1) (i : Fin 256) (k : Fin 256) :
    (iblk0 V c 3 t : Vec Ideal S1x256x256 .bf16) (ix3 a i k) = V c main_arg3 (ix3 (g8 (t.val / 2)) i k) :=
  congrArg (V c main_arg3) (emb0_3 t a i k)

theorem emb0_4 (t : Fin cfg0.N) (i : Fin 1024) (k : Fin 256) :
    ((cfg0.win 4).blk t).view.emb (ix2 i k : S1024x256.Idx) = (ix2 (pos (t.val) i) (at256 (t.val / 2) k) : S2048x2048.Idx) :=
  ix2_of (by have h := (idx0 t).2.2.2.2.1; show win0_4.index t (0 : Fin 2) * 1024 + 1 * i.val = 1024 * ((t.val) % 2) + i.val; omega)
    (by have h := (idx0 t).2.2.2.2.1; show win0_4.index t (1 : Fin 2) * 256 + 1 * k.val = 256 * ((t.val / 2) % 8) + k.val; omega)

theorem blk0_4 (t : Fin cfg0.N) (i : Fin 1024) (k : Fin 256) :
    (iblk0 V c 4 t : Vec Ideal S1024x256 .f32) (ix2 i k) = V c main_arg4 (ix2 (pos (t.val) i) (at256 (t.val / 2) k)) :=
  congrArg (V c main_arg4) (emb0_4 t i k)

theorem emb0_5 (t : Fin cfg0.N) (i : Fin 1024) (k : Fin 256) :
    ((cfg0.win 5).blk t).view.emb (ix2 i k : S1024x256.Idx) = (ix2 (pos (t.val) i) (at256 (t.val / 2) k) : S2048x2048.Idx) :=
  ix2_of (by have h := (idx0 t).2.2.2.2.2.1; show win0_5.index t (0 : Fin 2) * 1024 + 1 * i.val = 1024 * ((t.val) % 2) + i.val; omega)
    (by have h := (idx0 t).2.2.2.2.2.1; show win0_5.index t (1 : Fin 2) * 256 + 1 * k.val = 256 * ((t.val / 2) % 8) + k.val; omega)

theorem emb0_6 (t : Fin cfg0.N) (i : Fin 1024) (k : Fin 256) :
    ((cfg0.win 6).blk t).view.emb (ix2 i k : S1024x256.Idx) = (ix2 (pos (t.val) i) (at256 (t.val / 2) k) : S2048x2048.Idx) :=
  ix2_of (by have h := (idx0 t).2.2.2.2.2.2.1; show win0_6.index t (0 : Fin 2) * 1024 + 1 * i.val = 1024 * ((t.val) % 2) + i.val; omega)
    (by have h := (idx0 t).2.2.2.2.2.2.1; show win0_6.index t (1 : Fin 2) * 256 + 1 * k.val = 256 * ((t.val / 2) % 8) + k.val; omega)

theorem emb0_7 (t : Fin cfg0.N) (i : Fin 1024) (k : Fin 256) :
    ((cfg0.win 7).blk t).view.emb (ix2 i k : S1024x256.Idx) = (ix2 (pos (t.val) i) (at256 (t.val / 2) k) : S2048x2048.Idx) :=
  ix2_of (by have h := (idx0 t).2.2.2.2.2.2.2; show win0_7.index t (0 : Fin 2) * 1024 + 1 * i.val = 1024 * ((t.val) % 2) + i.val; omega)
    (by have h := (idx0 t).2.2.2.2.2.2.2; show win0_7.index t (1 : Fin 2) * 256 + 1 * k.val = 256 * ((t.val / 2) % 8) + k.val; omega)
/-- The gated sum. -/
theorem arr0_5 : (dat0 V c).arrAt 5 cfg0.N = gated (V c main_arg4) (gateIn (V c main_arg0) (V c main_v0)) (proj (V c main_arg2) (V c main_arg3)) := by
  refine (dat0 V c).arrAt_eq_of_covers 5 _ (by decide +kernel) fun t _ (y : S1024x256.Idx) => ?_
  show (dat0 V c).after 5 t y = (gated (V c main_arg4) (gateIn (V c main_arg0) (V c main_v0)) (proj (V c main_arg2) (V c main_arg3)) : Vec Ideal S2048x2048 .f32) (((cfg0.win 5).blk t).view.emb y)
  obtain ⟨i, k, rfl⟩ : ∃ (i : Fin 1024) (k : Fin 256), y = ix2 i k := ⟨_, _, eq_ix2 y⟩
  rw [after0_5, out_sum, sum, emb0_5]
  simp only [blk0_0, blk0_1, blk0_2, blk0_3, blk0_4]
  simp only [gated, gateIn, proj, ix2_0, ix2_1, grp_at, plc_at]

/-- The gate before its sigmoid. -/
theorem arr0_6 : (dat0 V c).arrAt 6 cfg0.N = gateIn (V c main_arg0) (V c main_v0) := by
  refine (dat0 V c).arrAt_eq_of_covers 6 _ (by decide +kernel) fun t _ (y : S1024x256.Idx) => ?_
  show (dat0 V c).after 6 t y = (gateIn (V c main_arg0) (V c main_v0) : Vec Ideal S2048x2048 .f32) (((cfg0.win 6).blk t).view.emb y)
  obtain ⟨i, k, rfl⟩ : ∃ (i : Fin 1024) (k : Fin 256), y = ix2 i k := ⟨_, _, eq_ix2 y⟩
  rw [after0_6, out_gate, gate, emb0_6]
  simp only [blk0_0, blk0_1]
  rfl

/-- The projection. -/
theorem arr0_7 : (dat0 V c).arrAt 7 cfg0.N = proj (V c main_arg2) (V c main_arg3) := by
  refine (dat0 V c).arrAt_eq_of_covers 7 _ (by decide +kernel) fun t _ (y : S1024x256.Idx) => ?_
  show (dat0 V c).after 7 t y = (proj (V c main_arg2) (V c main_arg3) : Vec Ideal S2048x2048 .bf16) (((cfg0.win 7).blk t).view.emb y)
  obtain ⟨i, k, rfl⟩ : ∃ (i : Fin 1024) (k : Fin 256), y = ix2 i k := ⟨_, _, eq_ix2 y⟩
  rw [after0_7, out_emb, emb, emb0_7]
  simp only [blk0_2, blk0_3]
  simp only [proj, ix2_0, ix2_1, grp_at, plc_at]

/-! ## Call 1: the two elementwise gradients -/

/-- The block indices of the windows at a point. -/
theorem idx1 : ∀ t : Fin cfg1.N,
    (win1_0.index t (0 : Fin 2) = (t.val) % 8 ∧ win1_0.index t (1 : Fin 2) = 0)
    ∧ (win1_1.index t (0 : Fin 2) = (t.val) % 8 ∧ win1_1.index t (1 : Fin 2) = 0)
    ∧ (win1_2.index t (0 : Fin 2) = (t.val) % 8 ∧ win1_2.index t (1 : Fin 2) = 0)
    ∧ (win1_3.index t (0 : Fin 2) = (t.val) % 8 ∧ win1_3.index t (1 : Fin 2) = 0)
    ∧ (win1_4.index t (0 : Fin 2) = (t.val) % 8 ∧ win1_4.index t (1 : Fin 2) = 0) :=
  (by decide +kernel : ∀ t : Fin grid1.N, _)

theorem emb1_0 (t : Fin cfg1.N) (i : Fin 256) (k : Fin 2048) :
    ((cfg1.win 0).blk t).view.emb (ix2 i k : S256x2048.Idx) = (ix2 (at256 (t.val) i) k : S2048x2048.Idx) :=
  ix2_of (by have h := (idx1 t).1; show win1_0.index t (0 : Fin 2) * 256 + 1 * i.val = 256 * ((t.val) % 8) + i.val; omega)
    (by have h := (idx1 t).1; show win1_0.index t (1 : Fin 2) * 2048 + 1 * k.val = k.val; omega)

theorem blk1_0 (t : Fin cfg1.N) (i : Fin 256) (k : Fin 2048) :
    (iblk1 V c 0 t : Vec Ideal S256x2048 .f32) (ix2 i k) = V c main_arg5 (ix2 (at256 (t.val) i) k) :=
  congrArg (V c main_arg5) (emb1_0 t i k)

theorem emb1_1 (t : Fin cfg1.N) (i : Fin 256) (k : Fin 2048) :
    ((cfg1.win 1).blk t).view.emb (ix2 i k : S256x2048.Idx) = (ix2 (at256 (t.val) i) k : S2048x2048.Idx) :=
  ix2_of (by have h := (idx1 t).2.1; show win1_1.index t (0 : Fin 2) * 256 + 1 * i.val = 256 * ((t.val) % 8) + i.val; omega)
    (by have h := (idx1 t).2.1; show win1_1.index t (1 : Fin 2) * 2048 + 1 * k.val = k.val; omega)

theorem blk1_1 (t : Fin cfg1.N) (i : Fin 256) (k : Fin 2048) :
    (iblk1 V c 1 t : Vec Ideal S256x2048 .bf16) (ix2 i k) = V c main_v1_2 (ix2 (at256 (t.val) i) k) :=
  congrArg (V c main_v1_2) (emb1_1 t i k)

theorem emb1_2 (t : Fin cfg1.N) (i : Fin 256) (k : Fin 2048) :
    ((cfg1.win 2).blk t).view.emb (ix2 i k : S256x2048.Idx) = (ix2 (at256 (t.val) i) k : S2048x2048.Idx) :=
  ix2_of (by have h := (idx1 t).2.2.1; show win1_2.index t (0 : Fin 2) * 256 + 1 * i.val = 256 * ((t.val) % 8) + i.val; omega)
    (by have h := (idx1 t).2.2.1; show win1_2.index t (1 : Fin 2) * 2048 + 1 * k.val = k.val; omega)

theorem blk1_2 (t : Fin cfg1.N) (i : Fin 256) (k : Fin 2048) :
    (iblk1 V c 2 t : Vec Ideal S256x2048 .f32) (ix2 i k) = V c main_v1_1 (ix2 (at256 (t.val) i) k) :=
  congrArg (V c main_v1_1) (emb1_2 t i k)

theorem emb1_3 (t : Fin cfg1.N) (i : Fin 256) (k : Fin 2048) :
    ((cfg1.win 3).blk t).view.emb (ix2 i k : S256x2048.Idx) = (ix2 (at256 (t.val) i) k : S2048x2048.Idx) :=
  ix2_of (by have h := (idx1 t).2.2.2.1; show win1_3.index t (0 : Fin 2) * 256 + 1 * i.val = 256 * ((t.val) % 8) + i.val; omega)
    (by have h := (idx1 t).2.2.2.1; show win1_3.index t (1 : Fin 2) * 2048 + 1 * k.val = k.val; omega)

theorem emb1_4 (t : Fin cfg1.N) (i : Fin 256) (k : Fin 2048) :
    ((cfg1.win 4).blk t).view.emb (ix2 i k : S256x2048.Idx) = (ix2 (at256 (t.val) i) k : S2048x2048.Idx) :=
  ix2_of (by have h := (idx1 t).2.2.2.2; show win1_4.index t (0 : Fin 2) * 256 + 1 * i.val = 256 * ((t.val) % 8) + i.val; omega)
    (by have h := (idx1 t).2.2.2.2; show win1_4.index t (1 : Fin 2) * 2048 + 1 * k.val = k.val; omega)
/-- The gradient of the gate before its sigmoid. -/
theorem arr1_3 : (dat1 V c).arrAt 3 cfg1.N = dGate (V c main_arg5) (V c main_v1_2) (V c main_v1_1) := by
  refine (dat1 V c).arrAt_eq_of_covers 3 _ (by decide +kernel) fun t _ (y : S256x2048.Idx) => ?_
  show (dat1 V c).after 3 t y = (dGate (V c main_arg5) (V c main_v1_2) (V c main_v1_1) : Vec Ideal S2048x2048 .bf16) (((cfg1.win 3).blk t).view.emb y)
  obtain ⟨i, k, rfl⟩ : ∃ (i : Fin 256) (k : Fin 2048), y = ix2 i k := ⟨_, _, eq_ix2 y⟩
  rw [after1_3, out_d_gate, d_gate, emb1_3]
  simp only [blk1_0, blk1_1, blk1_2]
  rfl

/-- The gradient of the projection. -/
theorem arr1_4 : (dat1 V c).arrAt 4 cfg1.N = dProj (V c main_arg5) (V c main_v1_1) := by
  refine (dat1 V c).arrAt_eq_of_covers 4 _ (by decide +kernel) fun t _ (y : S256x2048.Idx) => ?_
  show (dat1 V c).after 4 t y = (dProj (V c main_arg5) (V c main_v1_1) : Vec Ideal S2048x2048 .bf16) (((cfg1.win 4).blk t).view.emb y)
  obtain ⟨i, k, rfl⟩ : ∃ (i : Fin 256) (k : Fin 2048), y = ix2 i k := ⟨_, _, eq_ix2 y⟩
  rw [after1_4, out_d_emb, d_emb, emb1_4]
  simp only [blk1_0, blk1_2]
  rfl

/-! ## Call 2: the gradient of the projection's weights -/

/-- The block indices of the windows at a point. -/
theorem idx2 : ∀ t : Fin cfg2.N,
    (win2_0.index t (0 : Fin 2) = 0 ∧ win2_0.index t (1 : Fin 2) = 0)
    ∧ (win2_1.index t (0 : Fin 2) = 0 ∧ win2_1.index t (1 : Fin 2) = (t.val) % 8)
    ∧ (win2_2.index t (0 : Fin 3) = (t.val) % 8 ∧ win2_2.index t (1 : Fin 3) = 0 ∧ win2_2.index t (2 : Fin 3) = 0) :=
  (by decide +kernel : ∀ t : Fin grid2.N, _)

theorem emb2_0 (t : Fin cfg2.N) (i : Fin 2048) (k : Fin 256) :
    ((cfg2.win 0).blk t).view.emb (ix2 i k : S2048x256.Idx) = (ix2 i k : S2048x256.Idx) :=
  ix2_of (by have h := (idx2 t).1; show win2_0.index t (0 : Fin 2) * 2048 + 1 * i.val = i.val; omega)
    (by have h := (idx2 t).1; show win2_0.index t (1 : Fin 2) * 256 + 1 * k.val = k.val; omega)

theorem blk2_0 (t : Fin cfg2.N) (i : Fin 2048) (k : Fin 256) :
    (iblk2 V c 0 t : Vec Ideal S2048x256 .bf16) (ix2 i k) = V c main_arg2 (ix2 i k) :=
  congrArg (V c main_arg2) (emb2_0 t i k)

theorem emb2_1 (t : Fin cfg2.N) (i : Fin 2048) (k : Fin 256) :
    ((cfg2.win 1).blk t).view.emb (ix2 i k : S2048x256.Idx) = (ix2 i (at256 (t.val) k) : S2048x2048.Idx) :=
  ix2_of (by have h := (idx2 t).2.1; show win2_1.index t (0 : Fin 2) * 2048 + 1 * i.val = i.val; omega)
    (by have h := (idx2 t).2.1; show win2_1.index t (1 : Fin 2) * 256 + 1 * k.val = 256 * ((t.val) % 8) + k.val; omega)

theorem blk2_1 (t : Fin cfg2.N) (i : Fin 2048) (k : Fin 256) :
    (iblk2 V c 1 t : Vec Ideal S2048x256 .bf16) (ix2 i k) = V c main_v2_1 (ix2 i (at256 (t.val) k)) :=
  congrArg (V c main_v2_1) (emb2_1 t i k)

theorem emb2_2 (t : Fin cfg2.N) (a : Fin 1) (i : Fin 256) (k : Fin 256) :
    ((cfg2.win 2).blk t).view.emb (ix3 a i k : S1x256x256.Idx) = (ix3 (g8 (t.val)) i k : S8x256x256.Idx) :=
  ix3_of (by have h := (idx2 t).2.2; show win2_2.index t (0 : Fin 3) * 1 + 1 * a.val = (t.val) % 8; omega)
    (by have h := (idx2 t).2.2; show win2_2.index t (1 : Fin 3) * 256 + 1 * i.val = i.val; omega)
    (by have h := (idx2 t).2.2; show win2_2.index t (2 : Fin 3) * 256 + 1 * k.val = k.val; omega)
/-- The gradient of the projection's weights. -/
theorem arr2_2 : (dat2 V c).arrAt 2 cfg2.N = wProj (V c main_arg2) (V c main_v2_1) := by
  refine (dat2 V c).arrAt_eq_of_covers 2 _ (by decide +kernel) fun t _ (y : S1x256x256.Idx) => ?_
  show (dat2 V c).after 2 t y = (wProj (V c main_arg2) (V c main_v2_1) : Vec Ideal S8x256x256 .bf16) (((cfg2.win 2).blk t).view.emb y)
  obtain ⟨a, i, k, rfl⟩ : ∃ (a : Fin 1) (i : Fin 256) (k : Fin 256), y = ix3 a i k := ⟨_, _, _, eq_ix3 y⟩
  rw [after2_2, out_d_wpl, d_wpl, emb2_2]
  simp only [blk2_0, blk2_1]
  simp only [wProj, ix3_0, ix3_1, ix3_2, at_g8]

/-! ## Call 3: the gradient of the gate's weights -/

/-- The block indices of the windows at a point. -/
theorem idx3 : ∀ t : Fin cfg3.N,
    (win3_0.index t (0 : Fin 2) = 0 ∧ win3_0.index t (1 : Fin 2) = (t.val) % 8)
    ∧ (win3_1.index t (0 : Fin 2) = 0 ∧ win3_1.index t (1 : Fin 2) = 0)
    ∧ (win3_2.index t (0 : Fin 3) = (t.val) % 8 ∧ win3_2.index t (1 : Fin 3) = 0 ∧ win3_2.index t (2 : Fin 3) = 0) :=
  (by decide +kernel : ∀ t : Fin grid3.N, _)

theorem emb3_0 (t : Fin cfg3.N) (i : Fin 2048) (k : Fin 256) :
    ((cfg3.win 0).blk t).view.emb (ix2 i k : S2048x256.Idx) = (ix2 i (at256 (t.val) k) : S2048x2048.Idx) :=
  ix2_of (by have h := (idx3 t).1; show win3_0.index t (0 : Fin 2) * 2048 + 1 * i.val = i.val; omega)
    (by have h := (idx3 t).1; show win3_0.index t (1 : Fin 2) * 256 + 1 * k.val = 256 * ((t.val) % 8) + k.val; omega)

theorem blk3_0 (t : Fin cfg3.N) (i : Fin 2048) (k : Fin 256) :
    (iblk3 V c 0 t : Vec Ideal S2048x256 .bf16) (ix2 i k) = V c main_arg0 (ix2 i (at256 (t.val) k)) :=
  congrArg (V c main_arg0) (emb3_0 t i k)

theorem emb3_1 (t : Fin cfg3.N) (i : Fin 2048) (k : Fin 2048) :
    ((cfg3.win 1).blk t).view.emb (ix2 i k : S2048x2048.Idx) = (ix2 i k : S2048x2048.Idx) :=
  ix2_of (by have h := (idx3 t).2.1; show win3_1.index t (0 : Fin 2) * 2048 + 1 * i.val = i.val; omega)
    (by have h := (idx3 t).2.1; show win3_1.index t (1 : Fin 2) * 2048 + 1 * k.val = k.val; omega)

theorem blk3_1 (t : Fin cfg3.N) (i : Fin 2048) (k : Fin 2048) :
    (iblk3 V c 1 t : Vec Ideal S2048x2048 .bf16) (ix2 i k) = V c main_v2_0 (ix2 i k) :=
  congrArg (V c main_v2_0) (emb3_1 t i k)

theorem emb3_2 (t : Fin cfg3.N) (a : Fin 1) (i : Fin 256) (k : Fin 2048) :
    ((cfg3.win 2).blk t).view.emb (ix3 a i k : S1x256x2048.Idx) = (ix3 (g8 (t.val)) i k : S8x256x2048.Idx) :=
  ix3_of (by have h := (idx3 t).2.2; show win3_2.index t (0 : Fin 3) * 1 + 1 * a.val = (t.val) % 8; omega)
    (by have h := (idx3 t).2.2; show win3_2.index t (1 : Fin 3) * 256 + 1 * i.val = i.val; omega)
    (by have h := (idx3 t).2.2; show win3_2.index t (2 : Fin 3) * 2048 + 1 * k.val = k.val; omega)
/-- The gradient of the gate's weights. -/
theorem arr3_2 : (dat3 V c).arrAt 2 cfg3.N = wGate (V c main_arg0) (V c main_v2_0) := by
  refine (dat3 V c).arrAt_eq_of_covers 2 _ (by decide +kernel) fun t _ (y : S1x256x2048.Idx) => ?_
  show (dat3 V c).after 2 t y = (wGate (V c main_arg0) (V c main_v2_0) : Vec Ideal S8x256x2048 .bf16) (((cfg3.win 2).blk t).view.emb y)
  obtain ⟨a, i, k, rfl⟩ : ∃ (a : Fin 1) (i : Fin 256) (k : Fin 2048), y = ix3 a i k := ⟨_, _, _, eq_ix3 y⟩
  rw [after3_2, out_d_wplg, d_wplg, emb3_2]
  simp only [blk3_0, blk3_1]
  simp only [wGate, ix3_0, ix3_1, ix3_2, at_g8]

/-! ## `plg_dx` -/

/-- The block indices of the windows at a point. -/
theorem idx4 : ∀ t : Fin cfg4.N,
    (win4_0.index t (0 : Fin 2) = (t.val) % 2 ∧ win4_0.index t (1 : Fin 2) = 0)
    ∧ (win4_1.index t (0 : Fin 3) = (t.val / 2) % 8 ∧ win4_1.index t (1 : Fin 3) = 0 ∧ win4_1.index t (2 : Fin 3) = 0)
    ∧ (win4_2.index t (0 : Fin 2) = (t.val) % 2 ∧ win4_2.index t (1 : Fin 2) = (t.val / 2) % 8) :=
  (by decide +kernel : ∀ t : Fin grid4.N, _)

theorem emb4_0 (t : Fin cfg4.N) (i : Fin 1024) (k : Fin 2048) :
    ((cfg4.win 0).blk t).view.emb (ix2 i k : S1024x2048.Idx) = (ix2 (pos (t.val) i) k : S2048x2048.Idx) :=
  ix2_of (by have h := (idx4 t).1; show win4_0.index t (0 : Fin 2) * 1024 + 1 * i.val = 1024 * ((t.val) % 2) + i.val; omega)
    (by have h := (idx4 t).1; show win4_0.index t (1 : Fin 2) * 2048 + 1 * k.val = k.val; omega)

theorem blk4_0 (t : Fin cfg4.N) (i : Fin 1024) (k : Fin 2048) :
    (iblk4 V c 0 t : Vec Ideal S1024x2048 .bf16) (ix2 i k) = V c main_v2_0 (ix2 (pos (t.val) i) k) :=
  congrArg (V c main_v2_0) (emb4_0 t i k)

theorem emb4_1 (t : Fin cfg4.N) (a : Fin 1) (i : Fin 256) (k : Fin 2048) :
    ((cfg4.win 1).blk t).view.emb (ix3 a i k : S1x256x2048.Idx) = (ix3 (g8 (t.val / 2)) i k : S8x256x2048.Idx) :=
  ix3_of (by have h := (idx4 t).2.1; show win4_1.index t (0 : Fin 3) * 1 + 1 * a.val = (t.val / 2) % 8; omega)
    (by have h := (idx4 t).2.1; show win4_1.index t (1 : Fin 3) * 256 + 1 * i.val = i.val; omega)
    (by have h := (idx4 t).2.1; show win4_1.index t (2 : Fin 3) * 2048 + 1 * k.val = k.val; omega)

theorem blk4_1 (t : Fin cfg4.N) (a : Fin 1) (i : Fin 256) (k : Fin 2048) :
    (iblk4 V c 1 t : Vec Ideal S1x256x2048 .bf16) (ix3 a i k) = V c main_arg1 (ix3 (g8 (t.val / 2)) i k) :=
  congrArg (V c main_arg1) (emb4_1 t a i k)

theorem emb4_2 (t : Fin cfg4.N) (i : Fin 1024) (k : Fin 256) :
    ((cfg4.win 2).blk t).view.emb (ix2 i k : S1024x256.Idx) = (ix2 (pos (t.val) i) (at256 (t.val / 2) k) : S2048x2048.Idx) :=
  ix2_of (by have h := (idx4 t).2.2; show win4_2.index t (0 : Fin 2) * 1024 + 1 * i.val = 1024 * ((t.val) % 2) + i.val; omega)
    (by have h := (idx4 t).2.2; show win4_2.index t (1 : Fin 2) * 256 + 1 * k.val = 256 * ((t.val / 2) % 8) + k.val; omega)

/-- The gradient of the layer's input. -/
theorem arr4_2 : (dat4 V c).arrAt 2 cfg4.N = dInput (V c main_v2_0) (V c main_arg1) := by
  refine (dat4 V c).arrAt_eq_of_covers 2 _ (by decide +kernel) fun t _ (y : S1024x256.Idx) => ?_
  show (dat4 V c).after 2 t y = (dInput (V c main_v2_0) (V c main_arg1) : Vec Ideal S2048x2048 .f32) (((cfg4.win 2).blk t).view.emb y)
  obtain ⟨i, k, rfl⟩ : ∃ (i : Fin 1024) (k : Fin 256), y = ix2 i k := ⟨_, _, eq_ix2 y⟩
  rw [after4_2, out_d_n, d_n, emb4_2]
  simp only [blk4_0, blk4_1]
  exact (dInput_at _ _ _ _ _).symm

end Cert.PleArray
-- ==== Proof.PleRun.lean ====
/- The run of the five calls of the per-layer embedding's gate: its four results are functions of the arguments, and the
   arguments stay as they were. -/
module

public import proofs.«01_k».proof.Proof.PleArray

@[expose] public section

noncomputable section

namespace Cert.PleRun

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PleBwdIdeal Cert.PleBwdIdeal.Gen Cert.PleArray

variable (m : (ℓ : Loc nD τ sig) → Buf (Elt Ideal) ℓ) (ρ : Dev nD → PrngReg) (c : Dev nD)

/-- The arguments as launched: the layer's input and its gate's weights, the embedding and its weights, the residual stream,
    and the gradient of the output. -/
abbrev Na : Vec Ideal S2048x2048 .bf16 := m ((c : Thread nD τ).loc main_arg0)
abbrev Wa : Vec Ideal S8x256x2048 .bf16 := m ((c : Thread nD τ).loc main_arg1)
abbrev Pa : Vec Ideal S2048x256 .bf16 := m ((c : Thread nD τ).loc main_arg2)
abbrev Qa : Vec Ideal S8x256x256 .bf16 := m ((c : Thread nD τ).loc main_arg3)
abbrev Ha : Vec Ideal S2048x2048 .f32 := m ((c : Thread nD τ).loc main_arg4)
abbrev Da : Vec Ideal S2048x2048 .f32 := m ((c : Thread nD τ).loc main_arg5)

/-- The gate's weights with their 8 groups of 256 rows one below the other. -/
abbrev Wf : Vec Ideal S2048x2048 .bf16 := shapeCast S2048x2048 (Wa m c) shapeCasts_S8x256x2048_S2048x2048

/-! ## The contents between the calls -/

theorem w1 : W1 m ρ c (Proc.devRef .tc main_v0) = Wf m c := by
  show StableHlo.after hostOps0 _ (Proc.devRef .tc main_v0) = _
  after_results
  rfl

theorem h2 : W2 m ρ c (Proc.devRef .tc main_v1_0) = gated (Ha m c) (gateIn (Na m c) (Wf m c)) (proj (Pa m c) (Qa m c)) := by
  refine (W2_arr m ρ c 5).trans ((arr0_5 (V1 m ρ) c).trans ?_)
  show gated (W1 m ρ c (Proc.devRef .tc main_arg4)) (gateIn (W1 m ρ c (Proc.devRef .tc main_arg0)) (W1 m ρ c (Proc.devRef .tc main_v0)))
    (proj (W1 m ρ c (Proc.devRef .tc main_arg2)) (W1 m ρ c (Proc.devRef .tc main_arg3))) = _
  rw [w1, W1_args m ρ c main_arg4 (by decide), W1_args m ρ c main_arg0 (by decide), W1_args m ρ c main_arg2 (by decide),
    W1_args m ρ c main_arg3 (by decide)]

theorem t2 : W2 m ρ c (Proc.devRef .tc main_v1_1) = gateIn (Na m c) (Wf m c) := by
  refine (W2_arr m ρ c 6).trans ((arr0_6 (V1 m ρ) c).trans ?_)
  show gateIn (W1 m ρ c (Proc.devRef .tc main_arg0)) (W1 m ρ c (Proc.devRef .tc main_v0)) = _
  rw [w1, W1_args m ρ c main_arg0 (by decide)]

theorem e2 : W2 m ρ c (Proc.devRef .tc main_v1_2) = proj (Pa m c) (Qa m c) := by
  refine (W2_arr m ρ c 7).trans ((arr0_7 (V1 m ρ) c).trans ?_)
  show proj (W1 m ρ c (Proc.devRef .tc main_arg2)) (W1 m ρ c (Proc.devRef .tc main_arg3)) = _
  rw [W1_args m ρ c main_arg2 (by decide), W1_args m ρ c main_arg3 (by decide)]

theorem dt3 : W3 m ρ c (Proc.devRef .tc main_v2_0) = dGate (Da m c) (proj (Pa m c) (Qa m c)) (gateIn (Na m c) (Wf m c)) := by
  refine (W3_arr m ρ c 3).trans ((arr1_3 (V2 m ρ) c).trans ?_)
  show dGate (W2 m ρ c (Proc.devRef .tc main_arg5)) (W2 m ρ c (Proc.devRef .tc main_v1_2)) (W2 m ρ c (Proc.devRef .tc main_v1_1)) = _
  rw [e2, t2, W2_args m ρ c main_arg5 (by decide)]

theorem de3 : W3 m ρ c (Proc.devRef .tc main_v2_1) = dProj (Da m c) (gateIn (Na m c) (Wf m c)) := by
  refine (W3_arr m ρ c 4).trans ((arr1_4 (V2 m ρ) c).trans ?_)
  show dProj (W2 m ρ c (Proc.devRef .tc main_arg5)) (W2 m ρ c (Proc.devRef .tc main_v1_1)) = _
  rw [t2, W2_args m ρ c main_arg5 (by decide)]

theorem wp4 : W4 m ρ c (Proc.devRef .tc main_v3) = wProj (Pa m c) (dProj (Da m c) (gateIn (Na m c) (Wf m c))) := by
  refine (W4_arr m ρ c 2).trans ((arr2_2 (V3 m ρ) c).trans ?_)
  show wProj (W3 m ρ c (Proc.devRef .tc main_arg2)) (W3 m ρ c (Proc.devRef .tc main_v2_1)) = _
  rw [de3, W3_args m ρ c main_arg2 (by decide)]

/-! ## The contents at the end -/

theorem h6 : W6 m ρ c (Proc.devRef .tc main_v1_0) = gated (Ha m c) (gateIn (Na m c) (Wf m c)) (proj (Pa m c) (Qa m c)) :=
  (W6_of m ρ c main_v1_0 (by decide)).trans ((W5_of m ρ c main_v1_0 (by decide)).trans ((W4_of m ρ c main_v1_0 (by decide)).trans
    ((W3_of m ρ c main_v1_0 (by decide)).trans (h2 m ρ c))))

theorem wp6 : W6 m ρ c (Proc.devRef .tc main_v3) = wProj (Pa m c) (dProj (Da m c) (gateIn (Na m c) (Wf m c))) :=
  (W6_of m ρ c main_v3 (by decide)).trans ((W5_of m ρ c main_v3 (by decide)).trans (wp4 m ρ c))

theorem wg5 : W5 m ρ c (Proc.devRef .tc main_v4) = wGate (Na m c) (dGate (Da m c) (proj (Pa m c) (Qa m c)) (gateIn (Na m c) (Wf m c))) := by
  refine (W5_arr m ρ c 2).trans ((arr3_2 (V4 m ρ) c).trans ?_)
  show wGate (W4 m ρ c (Proc.devRef .tc main_arg0)) (W4 m ρ c (Proc.devRef .tc main_v2_0)) = _
  rw [W4_of m ρ c main_v2_0 (by decide), dt3, W4_args m ρ c main_arg0 (by decide)]

theorem wg6 : W6 m ρ c (Proc.devRef .tc main_v4) = wGate (Na m c) (dGate (Da m c) (proj (Pa m c) (Qa m c)) (gateIn (Na m c) (Wf m c))) :=
  (W6_of m ρ c main_v4 (by decide)).trans (wg5 m ρ c)

theorem dn6 : W6 m ρ c (Proc.devRef .tc main_v5) = dInput (dGate (Da m c) (proj (Pa m c) (Qa m c)) (gateIn (Na m c) (Wf m c))) (Wa m c) := by
  refine (W6_arr m ρ c 2).trans ((arr4_2 (V5 m ρ) c).trans ?_)
  show dInput (W5 m ρ c (Proc.devRef .tc main_v2_0)) (W5 m ρ c (Proc.devRef .tc main_arg1)) = _
  rw [W5_of m ρ c main_v2_0 (by decide), W4_of m ρ c main_v2_0 (by decide), dt3, W5_args m ρ c main_arg1 (by decide)]

-- the launch theorem's implicit arguments are found by unifying its conclusion with this one, which takes unfolding plain
-- definitions in a metavariable's type
set_option backward.isDefEq.respectTransparency.types false in
/-- THE RUN: every execution ends with the results as these functions of the arguments and the arguments as
    launched. -/
theorem run : θ_run defs (onTc (τ := τ) (main (F := Ideal))) ⟨m, fun _ => 0, ρ⟩ (fun r => ∀ c : Dev nD,
      r.2.mem ((c.tc : Thread nD τ).loc main_v1_0) = gated (Ha m c) (gateIn (Na m c) (Wf m c)) (proj (Pa m c) (Qa m c))
      ∧ r.2.mem ((c.tc : Thread nD τ).loc main_v3) = wProj (Pa m c) (dProj (Da m c) (gateIn (Na m c) (Wf m c)))
      ∧ r.2.mem ((c.tc : Thread nD τ).loc main_v4) = wGate (Na m c) (dGate (Da m c) (proj (Pa m c) (Qa m c)) (gateIn (Na m c) (Wf m c)))
      ∧ r.2.mem ((c.tc : Thread nD τ).loc main_v5) = dInput (dGate (Da m c) (proj (Pa m c) (Qa m c)) (gateIn (Na m c) (Wf m c))) (Wa m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v1_0 (by decide))).trans (h6 m ρ c),
       (h c _ (mem_uc main_v3 (by decide))).trans (wp6 m ρ c),
       (h c _ (mem_uc main_v4 (by decide))).trans (wg6 m ρ c),
       (h c _ (mem_uc main_v5 (by decide))).trans (dn6 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.PleRun
-- ==== Proof.PleRef.lean ====
/- What the reference of the per-layer embedding's gate computes, stage by stage at an index, in the terms of the kernel's
   arrays. -/
module

public import proofs.«01_k».proof.Proof.PleRun
public import proofs.«01_k».proof.Proof.FfnRef
public import proofs.«01_k».proof.Proof.Gen.PleRefIdeal.Read
public import Idealize.ShloMosaic.Lib.Pointwise

@[expose] public section

noncomputable section

namespace Cert.PleRef

open Idealize.ShloMosaic Idealize.ShloMosaic.TcCoe Cert.PleRefIdeal Cert.PleRefIdeal.Gen Cert.PleRefIdeal.Read
open Cert.PleBlock Cert.PleArray Cert.Tile

variable (x0 : Vec Ideal S2048x2048 .bf16) (x1 : Vec Ideal S8x256x2048 .bf16) (x2 : Vec Ideal S2048x256 .bf16)
  (x3 : Vec Ideal S8x256x256 .bf16) (x4 x5 : Vec Ideal S2048x2048 .f32)

/-- The gate's weights with their 8 groups of 256 rows one below the other. -/
abbrev flat : Vec Ideal S2048x2048 .bf16 :=
  shapeCast Cert.PleBwdIdeal.S2048x2048 x1 Cert.PleBwdIdeal.Gen.facts.shapeCasts_S8x256x2048_S2048x2048

/-! ## The weights -/

theorem v4 (y : S2048x2048.Idx) : val_main_v4 (F := Ideal) x1 y = flat x1 y := rfl

theorem v6 (d : Fin 256) (n : Fin 2048) : val_main_v6 (F := Ideal) x3 (ix2 d n) = x3 (ix3 (grp n) d (plc n)) := by
  rw [val_main_v6_apply, val_main_v5_apply, val_main_v3_apply]
  exact congrArg x3 (ix3_of (by show (d.val * 2048 + n.val) / 256 % 8 = n.val / 256; omega)
    (by show (d.val * 2048 + n.val) / 2048 = d.val; omega)
    (by show (d.val * 2048 + n.val) % 256 = n.val % 256; omega))

/-! ## The forward stages -/

theorem v7 (r n : Fin 2048) : val_main_v7 (F := Ideal) x0 x1 (ix2 r n) = gateIn x0 (flat x1) (ix2 r n) := by
  pointwise [val_main_v7, val_main_v0]
  rfl

theorem v13 (r n : Fin 2048) : val_main_v13 (F := Ideal) x0 x1 (ix2 r n) = Ideal.logistic (gateIn x0 (flat x1) (ix2 r n)) := by
  pointwise [val_main_v13, val_main_v12, val_main_v11, val_main_v10, val_main_v9, val_main_v8, val_main_cst, val_main_cst_0]
  rw [v7]
  simp only [Ideal.logistic]

theorem v17 (r n : Fin 2048) : val_main_v17 (F := Ideal) x2 x3 (ix2 r n) = proj x2 x3 (ix2 r n) := by
  pointwise [val_main_v17, val_main_v2]
  simp only [v6]
  rfl

theorem v19 (r n : Fin 2048) :
    val_main_v19 (F := Ideal) x0 x1 x2 x3 x4 (ix2 r n) = gated x4 (gateIn x0 (flat x1)) (proj x2 x3) (ix2 r n) := by
  pointwise [val_main_v19, val_main_v18]
  rw [v13, v17]
  rfl

/-! ## The backward stages -/

theorem v20 (r n : Fin 2048) : val_main_v20 (F := Ideal) x0 x1 x5 (ix2 r n) = dProj x5 (gateIn x0 (flat x1)) (ix2 r n) := by
  pointwise [val_main_v20]
  rw [v13, mul_comm]
  rfl

theorem v24 (r n : Fin 2048) :
    val_main_v24 (F := Ideal) x0 x1 x2 x3 x5 (ix2 r n) = dGate x5 (proj x2 x3) (gateIn x0 (flat x1)) (ix2 r n) := by
  pointwise [val_main_v24, val_main_v21, val_main_v16, val_main_v15, val_main_v14, val_main_cst_1]
  rw [v13, v17, ← mul_assoc]
  show _ = x5 (ix2 r n) * proj x2 x3 (ix2 r n) * Ideal.logistic (gateIn x0 (flat x1) (ix2 r n))
    * (one - Ideal.logistic (gateIn x0 (flat x1) (ix2 r n)))
  rw [show one = 1 from Cert.FfnRef.one_eq]

/-! ## The results -/

theorem v30 (h : Fin 8) (i k : Fin 256) :
    val_main_v30 (F := Ideal) x0 x1 x2 x5 (ix3 h i k) = wProj x2 (dProj x5 (gateIn x0 (flat x1))) (ix3 h i k) := by
  have e : val_main_v29 (F := Ideal) x0 x1 x2 x5 (ix3 h i k) = val_main_v22 (F := Ideal) x0 x1 x2 x5 (ix2 (at256 h.val k) i) := by
    rw [val_main_v29_apply, val_main_v28_apply, val_main_v23_apply]
    exact congrArg _ (ix2_of (by show ((i.val * 8 + h.val) * 256 + k.val) % 2048 = 256 * (h.val % 8) + k.val; omega)
      (by show ((i.val * 8 + h.val) * 256 + k.val) / 2048 = i.val; omega))
  rw [val_main_v30_apply]
  refine e.trans ?_
  pointwise [val_main_v22, val_main_v2]
  simp only [v20]
  exact Finset.sum_congr rfl fun r _ => mul_comm _ _

theorem v32 (h : Fin 8) (i : Fin 256) (k : Fin 2048) :
    val_main_v32 (F := Ideal) x0 x1 x2 x3 x5 (ix3 h i k) = wGate x0 (dGate x5 (proj x2 x3) (gateIn x0 (flat x1))) (ix3 h i k) := by
  have e : val_main_v31 (F := Ideal) x0 x1 x2 x3 x5 (ix3 h i k) = val_main_v25 (F := Ideal) x0 x1 x2 x3 x5 (ix2 k (at256 h.val i)) := by
    rw [val_main_v31_apply, val_main_v26_apply]
    exact congrArg _ (ix2_of (by show ((h.val * 256 + i.val) * 2048 + k.val) % 2048 = k.val; omega)
      (by show ((h.val * 256 + i.val) * 2048 + k.val) / 2048 = 256 * (h.val % 8) + i.val; omega))
  rw [val_main_v32_apply]
  refine e.trans ?_
  pointwise [val_main_v25, val_main_v0]
  simp only [v24]
  exact Finset.sum_congr rfl fun r _ => mul_comm _ _

theorem v27 (r n : Fin 2048) :
    val_main_v27 (F := Ideal) x0 x1 x2 x3 x5 (ix2 r n) = dInput (dGate x5 (proj x2 x3) (gateIn x0 (flat x1))) x1 (ix2 r n) := by
  have e (d : Fin 2048) : val_main_v4 (F := Ideal) x1 (ix2 n d) = x1 (ix3 (grp n) (plc n) d) := by
    rw [val_main_v4_apply, val_main_v1_apply]
    exact congrArg x1 (ix3_of (by show (n.val * 2048 + d.val) / 524288 = n.val / 256; omega)
      (by show (n.val * 2048 + d.val) / 2048 % 256 = n.val % 256; omega)
      (by show (n.val * 2048 + d.val) % 2048 = d.val; omega))
  pointwise [val_main_v27]
  simp only [v24, e]
  rfl

end Cert.PleRef
-- ==== Proof.PleClaim.lean ====
/- The equation of the per-layer embedding's gate: its output, the gradients of its two weights and of its input. -/
module

public import proofs.«01_k».proof.Defs
public import proofs.«01_k».proof.Proof.PleRef
public import proofs.«01_k».proof.Proof.Gen.PleRefIdeal.Run

@[expose] public section

noncomputable section

namespace Cert.PleClaim

open Idealize.ShloMosaic Idealize.ShloMosaic.TcCoe Idealize.SL.Sem
open Cert.PleBlock Cert.PleArray Cert.PleRun Cert.PleRef

/-- Kernel and reference compute the same output and the same three gradients over the extended reals. -/
theorem algebraic : @Cert.algebraic_PleBwdIdeal_PleRefIdeal Cert.PleBwdIdeal.Gen.facts Cert.PleRefIdeal.Gen.facts := by
  intro m g m' g' _ hag
  refine ⟨fun c => gated (Ha m c) (gateIn (Na m c) (Wf m c)) (proj (Pa m c) (Qa m c)),
    fun c => wProj (Pa m c) (dProj (Da m c) (gateIn (Na m c) (Wf m c))),
    fun c => wGate (Na m c) (dGate (Da m c) (proj (Pa m c) (Qa m c)) (gateIn (Na m c) (Wf m c))),
    fun c => dInput (dGate (Da m c) (proj (Pa m c) (Qa m c)) (gateIn (Na m c) (Wf m c))) (Wa m c), run m g, ?_⟩
  refine (θ_run Cert.PleRefIdeal.defs _ _).mono (fun _ h c => ?_) (Cert.PleRefIdeal.Value.run m' g')
  obtain ⟨h0, h1, h2, h3, h4, h5⟩ := hag c
  obtain ⟨r0, r1, r2, r3, hargs⟩ := h c
  refine ⟨r0.trans ?_, r1.trans ?_, r2.trans ?_, r3.trans ?_, hargs⟩
  · rw [Cert.PleRefIdeal.Read.val_main_v19_eq, h0, h1, h2, h3, h4]
    funext y
    obtain ⟨r, n, rfl⟩ : ∃ r n : Fin 2048, y = ix2 r n := ⟨_, _, eq_ix2 y⟩
    exact v19 _ _ _ _ _ r n
  · rw [Cert.PleRefIdeal.Read.val_main_v30_eq, h0, h1, h2, h5]
    funext y
    obtain ⟨a, i, k, rfl⟩ : ∃ (a : Fin 8) (i k : Fin 256), y = ix3 a i k := ⟨_, _, _, eq_ix3 y⟩
    exact v30 _ _ _ _ a i k
  · rw [Cert.PleRefIdeal.Read.val_main_v32_eq, h0, h1, h2, h3, h5]
    funext y
    obtain ⟨a, i, k, rfl⟩ : ∃ (a : Fin 8) (i : Fin 256) (k : Fin 2048), y = ix3 a i k := ⟨_, _, _, eq_ix3 y⟩
    exact v32 _ _ _ _ _ a i k
  · rw [Cert.PleRefIdeal.Read.val_main_v27_eq, h0, h1, h2, h3, h5]
    funext y
    obtain ⟨r, n, rfl⟩ : ∃ r n : Fin 2048, y = ix2 r n := ⟨_, _, eq_ix2 y⟩
    exact v27 _ _ _ _ _ r n

end Cert.PleClaim
-- ==== Proof.MixBlock.lean ====
/- What one grid point of each of the calls of the mixers' merge computes: the payloads at an index, and what each body leaves
   in the staging buffers of its outputs. -/
module

public import proofs.«01_k».proof.Proof.Gen.MixBwdIdeal.Frame
public import proofs.«01_k».proof.Proof.Tile
public import Idealize.ShloMosaic.Lib.Pointwise

@[expose] public section

noncomputable section

namespace Cert.MixBlock

open Idealize.ShloMosaic Idealize.ShloMosaic.TcCoe Cert.MixBwdIdeal Cert.MixBwdIdeal.Gen Cert.Tile

/-- The one of the sigmoid's derivative. -/
abbrev one : EReal := Ideal.ofBits .f32 0x3F800000#32

/-! ## The payloads at an index -/

theorem branch_a (x0 : Vec Ideal S1024x1024 .bf16) (x1 : Vec Ideal S1x1024x256 .bf16) (a : Fin 1) (i : Fin 1024) (k : Fin 256) :
    k0_pay3 x0 x1 (ix3 a i k) = ∑ d : Fin 1024, x0 (ix2 i d) * x1 (ix3 0 d k) := by
  pointwise [k0_pay3, k0_pay1]

theorem branch_b (x0 : Vec Ideal S1024x1024 .bf16) (x1 : Vec Ideal S1x1024x256 .bf16) (a : Fin 1) (i : Fin 1024) (k : Fin 256) :
    k0_pay4 x0 x1 (ix3 a i k) = ∑ d : Fin 1024, x0 (ix2 i d) * x1 (ix3 0 d k) := by
  pointwise [k0_pay4, k0_pay2]

theorem merge (x0 x2 : Vec Ideal S1024x1024 .bf16) (x1 x3 : Vec Ideal S1x1024x256 .bf16) (x4 x5 : Vec Ideal S1024x256 .f32)
    (a : Fin 1) (i : Fin 1024) (k : Fin 256) :
    k0_pay5 x0 x1 x2 x3 x4 x5 (ix3 a i k)
      = Ideal.logistic (x4 (ix2 i k)) * (∑ d : Fin 1024, x0 (ix2 i d) * x1 (ix3 0 d k))
        + Ideal.logistic (x5 (ix2 i k)) * (∑ d : Fin 1024, x2 (ix2 i d) * x3 (ix3 0 d k)) := by
  pointwise [k0_pay5, k0_pay1, k0_pay2]

theorem d_out (x0 : Vec Ideal S1x2048x256 .bf16) (x1 : Vec Ideal S2048x2048 .bf16) (a : Fin 1) (i : Fin 256) (k : Fin 2048) :
    k1_pay1 x0 x1 (ix3 a i k) = ∑ r : Fin 2048, x0 (ix3 0 r i) * x1 (ix2 r k) := by
  pointwise [k1_pay1]

theorem d_branch_a (x0 : Vec Ideal S1024x2048 .bf16) (x1 : Vec Ideal S1x256x2048 .bf16) (x2 : Vec Ideal S1024x256 .f32)
    (a : Fin 1) (i : Fin 1024) (k : Fin 256) :
    k2_pay5 x0 x1 x2 (ix3 a i k) = (∑ d : Fin 2048, x0 (ix2 i d) * x1 (ix3 0 k d)) * Ideal.logistic (x2 (ix2 i k)) := by
  pointwise [k2_pay5, k2_pay2, k2_pay3]

theorem d_branch_b (x0 : Vec Ideal S1024x2048 .bf16) (x1 : Vec Ideal S1x256x2048 .bf16) (x2 : Vec Ideal S1024x256 .f32)
    (a : Fin 1) (i : Fin 1024) (k : Fin 256) :
    k2_pay6 x0 x1 x2 (ix3 a i k) = (∑ d : Fin 2048, x0 (ix2 i d) * x1 (ix3 0 k d)) * Ideal.logistic (x2 (ix2 i k)) := by
  pointwise [k2_pay6, k2_pay2, k2_pay4]

theorem d_gate_a (x0 : Vec Ideal S1024x2048 .bf16) (x1 : Vec Ideal S1x256x2048 .bf16) (x2 : Vec Ideal S1024x256 .f32)
    (x4 : Vec Ideal S1x1024x256 .bf16) (i : Fin 1024) (k : Fin 256) :
    k2_pay7 x0 x1 x2 x4 (ix2 i k) = (∑ d : Fin 2048, x0 (ix2 i d) * x1 (ix3 0 k d)) * x4 (ix3 0 i k)
      * Ideal.logistic (x2 (ix2 i k)) * (one - Ideal.logistic (x2 (ix2 i k))) := by
  pointwise [k2_pay7, k2_pay2, k2_pay3]

theorem d_gate_b (x0 : Vec Ideal S1024x2048 .bf16) (x1 : Vec Ideal S1x256x2048 .bf16) (x2 : Vec Ideal S1024x256 .f32)
    (x4 : Vec Ideal S1x1024x256 .bf16) (i : Fin 1024) (k : Fin 256) :
    k2_pay1 (k2_pay2 x0 x1) (k2_pay4 x2) (k2_pay8 x4) (ix2 i k) = (∑ d : Fin 2048, x0 (ix2 i d) * x1 (ix3 0 k d)) * x4 (ix3 0 i k)
      * Ideal.logistic (x2 (ix2 i k)) * (one - Ideal.logistic (x2 (ix2 i k))) := by
  pointwise [k2_pay1, k2_pay2, k2_pay4, k2_pay8]

theorem d_wa (x0 : Vec Ideal S2048x1024 .bf16) (x1 : Vec Ideal S1x2048x256 .bf16) (a : Fin 1) (i : Fin 1024) (k : Fin 256) :
    k3_pay1 x0 x1 (ix3 a i k) = ∑ r : Fin 2048, x0 (ix2 r i) * x1 (ix3 0 r k) := by
  pointwise [k3_pay1]

theorem d_wb (x0 : Vec Ideal S2048x1024 .bf16) (x1 : Vec Ideal S1x2048x256 .bf16) (a : Fin 1) (i : Fin 1024) (k : Fin 256) :
    k4_pay1 x0 x1 (ix3 a i k) = ∑ r : Fin 2048, x0 (ix2 r i) * x1 (ix3 0 r k) := by
  pointwise [k4_pay1]

/-- A part of the product with the 8 groups. -/
abbrev part (x0 x1 : Vec Ideal S1x512x256 .bf16) (i j : Fin 512) : EReal := ∑ k : Fin 256, x0 (ix3 0 i k) * x1 (ix3 0 j k)

theorem d_oa (a0 b0 a1 b1 a2 b2 a3 b3 a4 b4 a5 b5 a6 b6 a7 b7 : Vec Ideal S1x512x256 .bf16) (i j : Fin 512) :
    k5_pay1 (k5_pay2 a0 b0 a1 b1 a2 b2 a3 b3) (k5_pay3 a4) b4 a5 b5 a6 b6 a7 b7 (ix2 i j)
      = part a0 b0 i j + part a1 b1 i j + part a2 b2 i j + part a3 b3 i j + part a4 b4 i j + part a5 b5 i j + part a6 b6 i j
        + part a7 b7 i j := by
  pointwise [k5_pay1, k5_pay2, k5_pay3]

theorem d_ob (a0 b0 a1 b1 a2 b2 a3 b3 a4 b4 a5 b5 a6 b6 a7 b7 : Vec Ideal S1x512x256 .bf16) (i j : Fin 512) :
    k6_pay1 (k6_pay2 a0 b0 a1 b1 a2 b2 a3 b3) (k6_pay3 a4) b4 a5 b5 a6 b6 a7 b7 (ix2 i j)
      = part a0 b0 i j + part a1 b1 i j + part a2 b2 i j + part a3 b3 i j + part a4 b4 i j + part a5 b5 i j + part a6 b6 i j
        + part a7 b7 i j := by
  pointwise [k6_pay1, k6_pay2, k6_pay3]

/-- A part of the merge's product with the output's weights. -/
abbrev partN (x0 : Vec Ideal S1x1024x256 .bf16) (x1 : Vec Ideal S1x256x512 .bf16) (i : Fin 1024) (j : Fin 512) : EReal :=
  ∑ k : Fin 256, x0 (ix3 0 i k) * x1 (ix3 0 k j)

theorem sum_a (a0 a1 a2 a3 : Vec Ideal S1x1024x256 .bf16) (b0 b1 b2 b3 : Vec Ideal S1x256x512 .bf16) (i : Fin 1024) (j : Fin 512) :
    k7_pay2 a0 b0 a1 b1 a2 b2 a3 b3 (ix2 i j) = partN a0 b0 i j + partN a1 b1 i j + partN a2 b2 i j + partN a3 b3 i j := by
  pointwise [k7_pay2]

theorem sum_b (v : FVec Ideal S1024x512 .f32) (a0 a1 a2 a3 : Vec Ideal S1x1024x256 .bf16) (b0 b1 b2 b3 : Vec Ideal S1x256x512 .bf16)
    (z : Vec Ideal S1024x512 .f32) (i : Fin 1024) (j : Fin 512) : k7_pay1 v (k7_pay3 a0) b0 a1 b1 a2 b2 a3 b3 z (ix2 i j)
      = z (ix2 i j) + (v (ix2 i j) + partN a0 b0 i j + partN a1 b1 i j + partN a2 b2 i j + partN a3 b3 i j) := by
  pointwise [k7_pay1, k7_pay3]

/-! ## The staging buffers after a body -/

theorem hz2 : (![0, 0] : Fin 2 → ℕ) = fun _ => 0 := by decide
theorem hz3 : (![0, 0, 0] : Fin 3 → ℕ) = fun _ => 0 := by decide

variable (x0 x2 : Vec Ideal S1024x1024 .bf16) (x1 x3 : Vec Ideal S1x1024x256 .bf16) (x4 x5 : Vec Ideal S1024x256 .f32)

theorem out_a : out0_6 x0 x1 x2 x3 x4 x5 = k0_pay3 x0 x1 := by
  unfold out0_6
  rw [View.canon_unit_zero hz3]
  simp only [View.ld_unit_zero (S := S1024x1024) hz2, View.ld_unit_zero (S := S1x1024x256) hz3]

theorem out_b : out0_7 x0 x1 x2 x3 x4 x5 = k0_pay4 x2 x3 := by
  unfold out0_7
  rw [View.canon_unit_zero hz3]
  simp only [View.ld_unit_zero (S := S1024x1024) hz2, View.ld_unit_zero (S := S1x1024x256) hz3]

theorem out_merge : out0_8 x0 x1 x2 x3 x4 x5 = k0_pay5 x0 x1 x2 x3 x4 x5 := by
  unfold out0_8
  rw [View.canon_unit_zero hz3]
  simp only [View.ld_unit_zero (S := S1024x1024) hz2, View.ld_unit_zero (S := S1x1024x256) hz3, View.ld_unit_zero (S := S1024x256) hz2]

theorem out_d_out (y0 : Vec Ideal S1x2048x256 .bf16) (y1 : Vec Ideal S2048x2048 .bf16) : out1_2 y0 y1 = k1_pay1 y0 y1 := by
  unfold out1_2
  rw [View.canon_unit_zero hz3]
  simp only [View.ld_unit_zero (S := S1x2048x256) hz3, View.ld_unit_zero (S := S2048x2048) hz2]

variable (z0 : Vec Ideal S1024x2048 .bf16) (z1 : Vec Ideal S1x256x2048 .bf16) (z4 z5 : Vec Ideal S1x1024x256 .bf16)

theorem out_d_a : out2_6 z0 z1 x4 x5 z4 z5 = k2_pay5 z0 z1 x4 := by
  unfold out2_6
  rw [View.canon_unit_zero hz3]
  simp only [View.ld_unit_zero (S := S1024x2048) hz2, View.ld_unit_zero (S := S1x256x2048) hz3, View.ld_unit_zero (S := S1024x256) hz2]

theorem out_d_b : out2_7 z0 z1 x4 x5 z4 z5 = k2_pay6 z0 z1 x5 := by
  unfold out2_7
  rw [View.canon_unit_zero hz3]
  simp only [View.ld_unit_zero (S := S1024x2048) hz2, View.ld_unit_zero (S := S1x256x2048) hz3, View.ld_unit_zero (S := S1024x256) hz2]

theorem out_d_ga : out2_8 z0 z1 x4 x5 z4 z5 = k2_pay7 z0 z1 x4 z4 := by
  unfold out2_8
  rw [View.canon_unit_zero hz2]
  simp only [View.ld_unit_zero (S := S1024x2048) hz2, View.ld_unit_zero (S := S1x256x2048) hz3, View.ld_unit_zero (S := S1024x256) hz2,
    View.ld_unit_zero (S := S1x1024x256) hz3]

theorem out_d_gb : out2_9 z0 z1 x4 x5 z4 z5 = k2_pay1 (k2_pay2 z0 z1) (k2_pay4 x5) (k2_pay8 z5) := by
  unfold out2_9
  rw [View.canon_unit_zero hz2]
  simp only [View.ld_unit_zero (S := S1024x2048) hz2, View.ld_unit_zero (S := S1x256x2048) hz3, View.ld_unit_zero (S := S1024x256) hz2,
    View.ld_unit_zero (S := S1x1024x256) hz3]

theorem out_d_wa (y0 : Vec Ideal S2048x1024 .bf16) (y1 : Vec Ideal S1x2048x256 .bf16) : out3_2 y0 y1 = k3_pay1 y0 y1 := by
  unfold out3_2
  rw [View.canon_unit_zero hz3]
  simp only [View.ld_unit_zero (S := S1x2048x256) hz3, View.ld_unit_zero (S := S2048x1024) hz2]

theorem out_d_wb (y0 : Vec Ideal S2048x1024 .bf16) (y1 : Vec Ideal S1x2048x256 .bf16) : out4_2 y0 y1 = k4_pay1 y0 y1 := by
  unfold out4_2
  rw [View.canon_unit_zero hz3]
  simp only [View.ld_unit_zero (S := S1x2048x256) hz3, View.ld_unit_zero (S := S2048x1024) hz2]

/-- One group's rows of a block of 8 groups. -/
theorem ld_grp (x : Vec Ideal S8x512x256 .bf16) (g : Fin 8) (h) (i : Fin 512) (k : Fin 256) :
    View.ld x (Rect.unit (s := S8x512x256) ![g.val, 0, 0] S1x512x256.size h) (ix3 0 i k) = x (ix3 g i k) :=
  congrArg x (ix3_of (by show g.val + 1 * 0 = g.val; omega) (by show 0 + 1 * i.val = i.val; omega)
    (by show 0 + 1 * k.val = k.val; omega))

/-- The product of one group's rows. -/
theorem part_grp (x y : Vec Ideal S8x512x256 .bf16) (g : Fin 8) (h h') (i j : Fin 512) :
    part (View.ld x (Rect.unit (s := S8x512x256) ![g.val, 0, 0] S1x512x256.size h))
      (View.ld y (Rect.unit (s := S8x512x256) ![g.val, 0, 0] S1x512x256.size h')) i j
      = ∑ k : Fin 256, x (ix3 g i k) * y (ix3 g j k) :=
  Finset.sum_congr rfl fun k _ => congrArg₂ (· * ·) (ld_grp x g h i k) (ld_grp y g h' j k)

theorem out_d_oa (y0 y1 : Vec Ideal S8x512x256 .bf16) (i j : Fin 512) :
    out5_2 y0 y1 (ix2 i j) = ∑ g : Fin 8, ∑ k : Fin 256, y0 (ix3 g i k) * y1 (ix3 g j k) := by
  unfold out5_2
  rw [View.canon_unit_zero hz2, d_oa]
  exact eight (fun g => ∑ k : Fin 256, y0 (ix3 g i k) * y1 (ix3 g j k)) (part_grp y0 y1 0 _ _ i j) (part_grp y0 y1 1 _ _ i j)
    (part_grp y0 y1 2 _ _ i j) (part_grp y0 y1 3 _ _ i j) (part_grp y0 y1 4 _ _ i j) (part_grp y0 y1 5 _ _ i j)
    (part_grp y0 y1 6 _ _ i j) (part_grp y0 y1 7 _ _ i j)

/-- The two branches' products are the same text. -/
theorem out_d_ob (y0 y1 : Vec Ideal S8x512x256 .bf16) (i j : Fin 512) :
    out6_2 y0 y1 (ix2 i j) = ∑ g : Fin 8, ∑ k : Fin 256, y0 (ix3 g i k) * y1 (ix3 g j k) :=
  (show out6_2 y0 y1 (ix2 i j) = out5_2 y0 y1 (ix2 i j) from rfl).trans (out_d_oa y0 y1 i j)

/-- One group's columns of the merge, and its rows of the output's weights. -/
theorem ld_m (x : Vec Ideal S8x1024x256 .bf16) (g : Fin 8) (h) (i : Fin 1024) (k : Fin 256) :
    View.ld x (Rect.unit (s := S8x1024x256) ![g.val, 0, 0] S1x1024x256.size h) (ix3 0 i k) = x (ix3 g i k) :=
  congrArg x (ix3_of (by show g.val + 1 * 0 = g.val; omega) (by show 0 + 1 * i.val = i.val; omega)
    (by show 0 + 1 * k.val = k.val; omega))

theorem ld_n (x : Vec Ideal S8x256x512 .bf16) (g : Fin 8) (h) (k : Fin 256) (j : Fin 512) :
    View.ld x (Rect.unit (s := S8x256x512) ![g.val, 0, 0] S1x256x512.size h) (ix3 0 k j) = x (ix3 g k j) :=
  congrArg x (ix3_of (by show g.val + 1 * 0 = g.val; omega) (by show 0 + 1 * k.val = k.val; omega)
    (by show 0 + 1 * j.val = j.val; omega))

theorem part_mn (x : Vec Ideal S8x1024x256 .bf16) (y : Vec Ideal S8x256x512 .bf16) (g : Fin 8) (h h') (i : Fin 1024) (j : Fin 512) :
    partN (View.ld x (Rect.unit (s := S8x1024x256) ![g.val, 0, 0] S1x1024x256.size h))
      (View.ld y (Rect.unit (s := S8x256x512) ![g.val, 0, 0] S1x256x512.size h')) i j
      = ∑ k : Fin 256, x (ix3 g i k) * y (ix3 g k j) :=
  Finset.sum_congr rfl fun k _ => congrArg₂ (· * ·) (ld_m x g h i k) (ld_n y g h' k j)

theorem out_sum (y0 : Vec Ideal S8x1024x256 .bf16) (y1 : Vec Ideal S8x256x512 .bf16) (y2 : Vec Ideal S1024x512 .f32)
    (i : Fin 1024) (j : Fin 512) :
    out7_3 y0 y1 y2 (ix2 i j) = y2 (ix2 i j) + ∑ g : Fin 8, ∑ k : Fin 256, y0 (ix3 g i k) * y1 (ix3 g k j) := by
  unfold out7_3
  rw [View.canon_unit_zero hz2, sum_b, sum_a, View.ld_unit_zero (S := S1024x512) hz2,
    ← eight (fun g => ∑ k : Fin 256, y0 (ix3 g i k) * y1 (ix3 g k j)) (part_mn y0 y1 0 _ _ i j) (part_mn y0 y1 1 _ _ i j)
      (part_mn y0 y1 2 _ _ i j) (part_mn y0 y1 3 _ _ i j) (part_mn y0 y1 4 _ _ i j) (part_mn y0 y1 5 _ _ i j)
      (part_mn y0 y1 6 _ _ i j) (part_mn y0 y1 7 _ _ i j)]
  rfl

end Cert.MixBlock
-- ==== Proof.MixArray.lean ====
/- The arrays that the calls of the mixers' merge leave, each as one function of the arrays that the call reads. -/
module

public import proofs.«01_k».proof.Proof.MixBlock
public import proofs.«01_k».proof.Proof.Tile
public import Idealize.ShloMosaic.Lib.Pipeline.ValueKit.Geometry

@[expose] public section

noncomputable section

namespace Cert.MixArray

open Idealize.ShloMosaic Idealize.ShloMosaic.TcCoe Idealize.SL.Sem
open Cert.MixBwdIdeal Cert.MixBwdIdeal.Gen Cert.MixBlock Cert.Tile

/-! ## The results of the calls as functions of what they read -/

/-- Column `n` among 2048: its group of 256, and its place there. -/
def grp (n : Fin 2048) : Fin 8 := ⟨n.val / 256, by omega⟩
def plc (n : Fin 2048) : Fin 256 := ⟨n.val % 256, by omega⟩

/-- Element `k` of block `n` of 512, among 2048 and among 1024. -/
def r4 (n : ℕ) (k : Fin 512) : Fin 2048 := ⟨512 * (n % 4) + k.val, by omega⟩
def r2 (n : ℕ) (k : Fin 512) : Fin 1024 := ⟨512 * (n % 2) + k.val, by omega⟩

theorem grp_at (n : ℕ) (k : Fin 256) : grp (at256 n k) = g8 n :=
  Fin.ext (show (256 * (n % 8) + k.val) / 256 = n % 8 by omega)

theorem plc_at (n : ℕ) (k : Fin 256) : plc (at256 n k) = k :=
  Fin.ext (show (256 * (n % 8) + k.val) % 256 = k.val by omega)

theorem at_g8 (n : ℕ) (k : Fin 256) : at256 (g8 n).val k = at256 n k :=
  Fin.ext (show 256 * (n % 8 % 8) + k.val = 256 * (n % 8) + k.val by omega)

/-- A mixer's branch: its output times the branch's weights, as 8 groups of 256 columns. -/
def branch (O : Vec Ideal S2048x1024 .bf16) (W : Vec Ideal S8x1024x256 .bf16) : Vec Ideal S8x2048x256 .bf16 := fun y =>
  ∑ d : Fin 1024, O (ix2 (y 1) d) * W (ix3 (y 0) d (y 2))

/-- The two branches, each weighted by the sigmoid of its gate. -/
def merged (ga gb : Vec Ideal S2048x2048 .f32) (ya yb : Vec Ideal S8x2048x256 .bf16) : Vec Ideal S8x2048x256 .bf16 := fun y =>
  Ideal.logistic (ga (ix2 (y 1) (at256 (y 0).val (y 2)))) * ya y + Ideal.logistic (gb (ix2 (y 1) (at256 (y 0).val (y 2)))) * yb y

/-- The gradient of the output's weights, as 8 groups of 256 rows. -/
def wOut (M : Vec Ideal S8x2048x256 .bf16) (D : Vec Ideal S2048x2048 .bf16) : Vec Ideal S8x256x2048 .bf16 := fun y =>
  ∑ r : Fin 2048, M (ix3 (y 0) r (y 1)) * D (ix2 r (y 2))

/-- The gradient of the merged branches at row `r`, group `h` and place `k`. -/
def dMerged (D : Vec Ideal S2048x2048 .bf16) (W : Vec Ideal S8x256x2048 .bf16) (r : Fin 2048) (h : Fin 8) (k : Fin 256) : EReal :=
  ∑ d : Fin 2048, D (ix2 r d) * W (ix3 h k d)

/-- The gradient of a branch. -/
def dBranch (D : Vec Ideal S2048x2048 .bf16) (W : Vec Ideal S8x256x2048 .bf16) (g : Vec Ideal S2048x2048 .f32) :
    Vec Ideal S8x2048x256 .bf16 := fun y =>
  dMerged D W (y 1) (y 0) (y 2) * Ideal.logistic (g (ix2 (y 1) (at256 (y 0).val (y 2))))

/-- The gradient of a gate before its sigmoid. -/
def dGate (D : Vec Ideal S2048x2048 .bf16) (W : Vec Ideal S8x256x2048 .bf16) (g : Vec Ideal S2048x2048 .f32)
    (b : Vec Ideal S8x2048x256 .bf16) : Vec Ideal S2048x2048 .bf16 := fun y =>
  dMerged D W (y 0) (grp (y 1)) (plc (y 1)) * b (ix3 (grp (y 1)) (y 0) (plc (y 1))) * Ideal.logistic (g y) * (one - Ideal.logistic (g y))

/-- The gradient of a branch's weights, as 8 groups of 256 columns. -/
def wBranch (O : Vec Ideal S2048x1024 .bf16) (E : Vec Ideal S8x2048x256 .bf16) : Vec Ideal S8x1024x256 .bf16 := fun y =>
  ∑ r : Fin 2048, O (ix2 r (y 1)) * E (ix3 (y 0) r (y 2))

/-- The gradient of a mixer's output. -/
def dMixer (E : Vec Ideal S8x2048x256 .bf16) (W : Vec Ideal S8x1024x256 .bf16) : Vec Ideal S2048x1024 .bf16 := fun y =>
  ∑ h : Fin 8, ∑ k : Fin 256, E (ix3 h (y 0) k) * W (ix3 h (y 1) k)

/-- The output: what the layer adds to, plus the merged branches times the output's weights. -/
def outSum (M : Vec Ideal S8x2048x256 .bf16) (W : Vec Ideal S8x256x2048 .bf16) (H : Vec Ideal S2048x2048 .f32) :
    Vec Ideal S2048x2048 .f32 := fun y =>
  H y + ∑ h : Fin 8, ∑ k : Fin 256, M (ix3 h (y 0) k) * W (ix3 h k (y 1))

variable (V : (c : Dev nD) → (b : Ref sig .tc) → Buf (Elt Ideal) ((c : Thread nD τ).loc b)) (c : Dev nD)

/-! ## `mix_merge` -/

/-- The block indices of the windows at a point. -/
theorem idx0 : ∀ t : Fin cfg0.N,
    (win0_0.index t (0 : Fin 2) = (t.val) % 2 ∧ win0_0.index t (1 : Fin 2) = 0)
    ∧ (win0_1.index t (0 : Fin 3) = (t.val / 2) % 8 ∧ win0_1.index t (1 : Fin 3) = 0 ∧ win0_1.index t (2 : Fin 3) = 0)
    ∧ (win0_2.index t (0 : Fin 2) = (t.val) % 2 ∧ win0_2.index t (1 : Fin 2) = 0)
    ∧ (win0_3.index t (0 : Fin 3) = (t.val / 2) % 8 ∧ win0_3.index t (1 : Fin 3) = 0 ∧ win0_3.index t (2 : Fin 3) = 0)
    ∧ (win0_4.index t (0 : Fin 2) = (t.val) % 2 ∧ win0_4.index t (1 : Fin 2) = (t.val / 2) % 8)
    ∧ (win0_5.index t (0 : Fin 2) = (t.val) % 2 ∧ win0_5.index t (1 : Fin 2) = (t.val / 2) % 8)
    ∧ (win0_6.index t (0 : Fin 3) = (t.val / 2) % 8 ∧ win0_6.index t (1 : Fin 3) = (t.val) % 2 ∧ win0_6.index t (2 : Fin 3) = 0)
    ∧ (win0_7.index t (0 : Fin 3) = (t.val / 2) % 8 ∧ win0_7.index t (1 : Fin 3) = (t.val) % 2 ∧ win0_7.index t (2 : Fin 3) = 0)
    ∧ (win0_8.index t (0 : Fin 3) = (t.val / 2) % 8 ∧ win0_8.index t (1 : Fin 3) = (t.val) % 2 ∧ win0_8.index t (2 : Fin 3) = 0) :=
  (by decide +kernel : ∀ t : Fin grid0.N, _)

theorem emb0_0 (t : Fin cfg0.N) (i : Fin 1024) (k : Fin 1024) :
    ((cfg0.win 0).blk t).view.emb (ix2 i k : S1024x1024.Idx) = (ix2 (pos (t.val) i) k : S2048x1024.Idx) :=
  ix2_of (by have h := (idx0 t).1; show win0_0.index t (0 : Fin 2) * 1024 + 1 * i.val = 1024 * ((t.val) % 2) + i.val; omega)
    (by have h := (idx0 t).1; show win0_0.index t (1 : Fin 2) * 1024 + 1 * k.val = k.val; omega)

theorem blk0_0 (t : Fin cfg0.N) (i : Fin 1024) (k : Fin 1024) :
    (iblk0 V c 0 t : Vec Ideal S1024x1024 .bf16) (ix2 i k) = V c main_arg0 (ix2 (pos (t.val) i) k) :=
  congrArg (V c main_arg0) (emb0_0 t i k)

theorem emb0_1 (t : Fin cfg0.N) (a : Fin 1) (i : Fin 1024) (k : Fin 256) :
    ((cfg0.win 1).blk t).view.emb (ix3 a i k : S1x1024x256.Idx) = (ix3 (g8 (t.val / 2)) i k : S8x1024x256.Idx) :=
  ix3_of (by have h := (idx0 t).2.1; show win0_1.index t (0 : Fin 3) * 1 + 1 * a.val = (t.val / 2) % 8; omega)
    (by have h := (idx0 t).2.1; show win0_1.index t (1 : Fin 3) * 1024 + 1 * i.val = i.val; omega)
    (by have h := (idx0 t).2.1; show win0_1.index t (2 : Fin 3) * 256 + 1 * k.val = k.val; omega)

theorem blk0_1 (t : Fin cfg0.N) (a : Fin 1) (i : Fin 1024) (k : Fin 256) :
    (iblk0 V c 1 t : Vec Ideal S1x1024x256 .bf16) (ix3 a i k) = V c main_arg2 (ix3 (g8 (t.val / 2)) i k) :=
  congrArg (V c main_arg2) (emb0_1 t a i k)

theorem emb0_2 (t : Fin cfg0.N) (i : Fin 1024) (k : Fin 1024) :
    ((cfg0.win 2).blk t).view.emb (ix2 i k : S1024x1024.Idx) = (ix2 (pos (t.val) i) k : S2048x1024.Idx) :=
  ix2_of (by have h := (idx0 t).2.2.1; show win0_2.index t (0 : Fin 2) * 1024 + 1 * i.val = 1024 * ((t.val) % 2) + i.val; omega)
    (by have h := (idx0 t).2.2.1; show win0_2.index t (1 : Fin 2) * 1024 + 1 * k.val = k.val; omega)

theorem blk0_2 (t : Fin cfg0.N) (i : Fin 1024) (k : Fin 1024) :
    (iblk0 V c 2 t : Vec Ideal S1024x1024 .bf16) (ix2 i k) = V c main_arg1 (ix2 (pos (t.val) i) k) :=
  congrArg (V c main_arg1) (emb0_2 t i k)

theorem emb0_3 (t : Fin cfg0.N) (a : Fin 1) (i : Fin 1024) (k : Fin 256) :
    ((cfg0.win 3).blk t).view.emb (ix3 a i k : S1x1024x256.Idx) = (ix3 (g8 (t.val / 2)) i k : S8x1024x256.Idx) :=
  ix3_of (by have h := (idx0 t).2.2.2.1; show win0_3.index t (0 : Fin 3) * 1 + 1 * a.val = (t.val / 2) % 8; omega)
    (by have h := (idx0 t).2.2.2.1; show win0_3.index t (1 : Fin 3) * 1024 + 1 * i.val = i.val; omega)
    (by have h := (idx0 t).2.2.2.1; show win0_3.index t (2 : Fin 3) * 256 + 1 * k.val = k.val; omega)

theorem blk0_3 (t : Fin cfg0.N) (a : Fin 1) (i : Fin 1024) (k : Fin 256) :
    (iblk0 V c 3 t : Vec Ideal S1x1024x256 .bf16) (ix3 a i k) = V c main_arg3 (ix3 (g8 (t.val / 2)) i k) :=
  congrArg (V c main_arg3) (emb0_3 t a i k)

theorem emb0_4 (t : Fin cfg0.N) (i : Fin 1024) (k : Fin 256) :
    ((cfg0.win 4).blk t).view.emb (ix2 i k : S1024x256.Idx) = (ix2 (pos (t.val) i) (at256 (t.val / 2) k) : S2048x2048.Idx) :=
  ix2_of (by have h := (idx0 t).2.2.2.2.1; show win0_4.index t (0 : Fin 2) * 1024 + 1 * i.val = 1024 * ((t.val) % 2) + i.val; omega)
    (by have h := (idx0 t).2.2.2.2.1; show win0_4.index t (1 : Fin 2) * 256 + 1 * k.val = 256 * ((t.val / 2) % 8) + k.val; omega)

theorem blk0_4 (t : Fin cfg0.N) (i : Fin 1024) (k : Fin 256) :
    (iblk0 V c 4 t : Vec Ideal S1024x256 .f32) (ix2 i k) = V c main_arg4 (ix2 (pos (t.val) i) (at256 (t.val / 2) k)) :=
  congrArg (V c main_arg4) (emb0_4 t i k)

theorem emb0_5 (t : Fin cfg0.N) (i : Fin 1024) (k : Fin 256) :
    ((cfg0.win 5).blk t).view.emb (ix2 i k : S1024x256.Idx) = (ix2 (pos (t.val) i) (at256 (t.val / 2) k) : S2048x2048.Idx) :=
  ix2_of (by have h := (idx0 t).2.2.2.2.2.1; show win0_5.index t (0 : Fin 2) * 1024 + 1 * i.val = 1024 * ((t.val) % 2) + i.val; omega)
    (by have h := (idx0 t).2.2.2.2.2.1; show win0_5.index t (1 : Fin 2) * 256 + 1 * k.val = 256 * ((t.val / 2) % 8) + k.val; omega)

theorem blk0_5 (t : Fin cfg0.N) (i : Fin 1024) (k : Fin 256) :
    (iblk0 V c 5 t : Vec Ideal S1024x256 .f32) (ix2 i k) = V c main_arg5 (ix2 (pos (t.val) i) (at256 (t.val / 2) k)) :=
  congrArg (V c main_arg5) (emb0_5 t i k)

theorem emb0_6 (t : Fin cfg0.N) (a : Fin 1) (i : Fin 1024) (k : Fin 256) :
    ((cfg0.win 6).blk t).view.emb (ix3 a i k : S1x1024x256.Idx) = (ix3 (g8 (t.val / 2)) (pos (t.val) i) k : S8x2048x256.Idx) :=
  ix3_of (by have h := (idx0 t).2.2.2.2.2.2.1; show win0_6.index t (0 : Fin 3) * 1 + 1 * a.val = (t.val / 2) % 8; omega)
    (by have h := (idx0 t).2.2.2.2.2.2.1; show win0_6.index t (1 : Fin 3) * 1024 + 1 * i.val = 1024 * ((t.val) % 2) + i.val; omega)
    (by have h := (idx0 t).2.2.2.2.2.2.1; show win0_6.index t (2 : Fin 3) * 256 + 1 * k.val = k.val; omega)

theorem emb0_7 (t : Fin cfg0.N) (a : Fin 1) (i : Fin 1024) (k : Fin 256) :
    ((cfg0.win 7).blk t).view.emb (ix3 a i k : S1x1024x256.Idx) = (ix3 (g8 (t.val / 2)) (pos (t.val) i) k : S8x2048x256.Idx) :=
  ix3_of (by have h := (idx0 t).2.2.2.2.2.2.2.1; show win0_7.index t (0 : Fin 3) * 1 + 1 * a.val = (t.val / 2) % 8; omega)
    (by have h := (idx0 t).2.2.2.2.2.2.2.1; show win0_7.index t (1 : Fin 3) * 1024 + 1 * i.val = 1024 * ((t.val) % 2) + i.val; omega)
    (by have h := (idx0 t).2.2.2.2.2.2.2.1; show win0_7.index t (2 : Fin 3) * 256 + 1 * k.val = k.val; omega)

theorem emb0_8 (t : Fin cfg0.N) (a : Fin 1) (i : Fin 1024) (k : Fin 256) :
    ((cfg0.win 8).blk t).view.emb (ix3 a i k : S1x1024x256.Idx) = (ix3 (g8 (t.val / 2)) (pos (t.val) i) k : S8x2048x256.Idx) :=
  ix3_of (by have h := (idx0 t).2.2.2.2.2.2.2.2; show win0_8.index t (0 : Fin 3) * 1 + 1 * a.val = (t.val / 2) % 8; omega)
    (by have h := (idx0 t).2.2.2.2.2.2.2.2; show win0_8.index t (1 : Fin 3) * 1024 + 1 * i.val = 1024 * ((t.val) % 2) + i.val; omega)
    (by have h := (idx0 t).2.2.2.2.2.2.2.2; show win0_8.index t (2 : Fin 3) * 256 + 1 * k.val = k.val; omega)

/-- The first branch. -/
theorem arr0_6 : (dat0 V c).arrAt 6 cfg0.N = branch (V c main_arg0) (V c main_arg2) := by
  refine (dat0 V c).arrAt_eq_of_covers 6 _ (by decide +kernel) fun t _ (y : S1x1024x256.Idx) => ?_
  show (dat0 V c).after 6 t y = (branch (V c main_arg0) (V c main_arg2) : Vec Ideal S8x2048x256 .bf16) (((cfg0.win 6).blk t).view.emb y)
  obtain ⟨a, i, k, rfl⟩ : ∃ (a : Fin 1) (i : Fin 1024) (k : Fin 256), y = ix3 a i k := ⟨_, _, _, eq_ix3 y⟩
  rw [after0_6, out_a, branch_a, emb0_6]
  simp only [blk0_0, blk0_1]
  rfl

/-- The second branch. -/
theorem arr0_7 : (dat0 V c).arrAt 7 cfg0.N = branch (V c main_arg1) (V c main_arg3) := by
  refine (dat0 V c).arrAt_eq_of_covers 7 _ (by decide +kernel) fun t _ (y : S1x1024x256.Idx) => ?_
  show (dat0 V c).after 7 t y = (branch (V c main_arg1) (V c main_arg3) : Vec Ideal S8x2048x256 .bf16) (((cfg0.win 7).blk t).view.emb y)
  obtain ⟨a, i, k, rfl⟩ : ∃ (a : Fin 1) (i : Fin 1024) (k : Fin 256), y = ix3 a i k := ⟨_, _, _, eq_ix3 y⟩
  rw [after0_7, out_b, branch_b, emb0_7]
  simp only [blk0_2, blk0_3]
  rfl

/-- The merged branches. -/
theorem arr0_8 : (dat0 V c).arrAt 8 cfg0.N = merged (V c main_arg4) (V c main_arg5) (branch (V c main_arg0) (V c main_arg2)) (branch (V c main_arg1) (V c main_arg3)) := by
  refine (dat0 V c).arrAt_eq_of_covers 8 _ (by decide +kernel) fun t _ (y : S1x1024x256.Idx) => ?_
  show (dat0 V c).after 8 t y = (merged (V c main_arg4) (V c main_arg5) (branch (V c main_arg0) (V c main_arg2)) (branch (V c main_arg1) (V c main_arg3)) : Vec Ideal S8x2048x256 .bf16) (((cfg0.win 8).blk t).view.emb y)
  obtain ⟨a, i, k, rfl⟩ : ∃ (a : Fin 1) (i : Fin 1024) (k : Fin 256), y = ix3 a i k := ⟨_, _, _, eq_ix3 y⟩
  rw [after0_8, out_merge, merge, emb0_8]
  simp only [blk0_0, blk0_1, blk0_2, blk0_3, blk0_4, blk0_5]
  show _ = Ideal.logistic (V c main_arg4 (ix2 (pos t.val i) (at256 (g8 (t.val / 2)).val k))) * _
      + Ideal.logistic (V c main_arg5 (ix2 (pos t.val i) (at256 (g8 (t.val / 2)).val k))) * _
  rw [at_g8]
  rfl

/-! ## `out_dw` -/

/-- The block indices of the windows at a point. -/
theorem idx1 : ∀ t : Fin cfg1.N,
    (win1_0.index t (0 : Fin 3) = (t.val) % 8 ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 3) = (t.val) % 8 ∧ win1_2.index t (1 : Fin 3) = 0 ∧ win1_2.index t (2 : Fin 3) = 0) :=
  (by decide +kernel : ∀ t : Fin grid1.N, _)

theorem emb1_0 (t : Fin cfg1.N) (a : Fin 1) (i : Fin 2048) (k : Fin 256) :
    ((cfg1.win 0).blk t).view.emb (ix3 a i k : S1x2048x256.Idx) = (ix3 (g8 (t.val)) i k : S8x2048x256.Idx) :=
  ix3_of (by have h := (idx1 t).1; show win1_0.index t (0 : Fin 3) * 1 + 1 * a.val = (t.val) % 8; omega)
    (by have h := (idx1 t).1; show win1_0.index t (1 : Fin 3) * 2048 + 1 * i.val = i.val; omega)
    (by have h := (idx1 t).1; show win1_0.index t (2 : Fin 3) * 256 + 1 * k.val = k.val; omega)

theorem blk1_0 (t : Fin cfg1.N) (a : Fin 1) (i : Fin 2048) (k : Fin 256) :
    (iblk1 V c 0 t : Vec Ideal S1x2048x256 .bf16) (ix3 a i k) = V c main_v0_2 (ix3 (g8 (t.val)) i k) :=
  congrArg (V c main_v0_2) (emb1_0 t a i k)

theorem emb1_1 (t : Fin cfg1.N) (i : Fin 2048) (k : Fin 2048) :
    ((cfg1.win 1).blk t).view.emb (ix2 i k : S2048x2048.Idx) = (ix2 i k : S2048x2048.Idx) :=
  ix2_of (by have h := (idx1 t).2.1; show win1_1.index t (0 : Fin 2) * 2048 + 1 * i.val = i.val; omega)
    (by have h := (idx1 t).2.1; show win1_1.index t (1 : Fin 2) * 2048 + 1 * k.val = k.val; omega)

theorem blk1_1 (t : Fin cfg1.N) (i : Fin 2048) (k : Fin 2048) :
    (iblk1 V c 1 t : Vec Ideal S2048x2048 .bf16) (ix2 i k) = V c main_arg7 (ix2 i k) :=
  congrArg (V c main_arg7) (emb1_1 t i k)

theorem emb1_2 (t : Fin cfg1.N) (a : Fin 1) (i : Fin 256) (k : Fin 2048) :
    ((cfg1.win 2).blk t).view.emb (ix3 a i k : S1x256x2048.Idx) = (ix3 (g8 (t.val)) i k : S8x256x2048.Idx) :=
  ix3_of (by have h := (idx1 t).2.2; show win1_2.index t (0 : Fin 3) * 1 + 1 * a.val = (t.val) % 8; omega)
    (by have h := (idx1 t).2.2; show win1_2.index t (1 : Fin 3) * 256 + 1 * i.val = i.val; omega)
    (by have h := (idx1 t).2.2; show win1_2.index t (2 : Fin 3) * 2048 + 1 * k.val = k.val; omega)

/-- The gradient of the output's weights. -/
theorem arr1_2 : (dat1 V c).arrAt 2 cfg1.N = wOut (V c main_v0_2) (V c main_arg7) := by
  refine (dat1 V c).arrAt_eq_of_covers 2 _ (by decide +kernel) fun t _ (y : S1x256x2048.Idx) => ?_
  show (dat1 V c).after 2 t y = (wOut (V c main_v0_2) (V c main_arg7) : Vec Ideal S8x256x2048 .bf16) (((cfg1.win 2).blk t).view.emb y)
  obtain ⟨a, i, k, rfl⟩ : ∃ (a : Fin 1) (i : Fin 256) (k : Fin 2048), y = ix3 a i k := ⟨_, _, _, eq_ix3 y⟩
  rw [after1_2, out_d_out, d_out, emb1_2]
  simp only [blk1_0, blk1_1]
  rfl

/-! ## `mix_out_bwd` -/

/-- The block indices of the windows at a point. -/
theorem idx2 : ∀ t : Fin cfg2.N,
    (win2_0.index t (0 : Fin 2) = (t.val) % 2 ∧ win2_0.index t (1 : Fin 2) = 0)
    ∧ (win2_1.index t (0 : Fin 3) = (t.val / 2) % 8 ∧ win2_1.index t (1 : Fin 3) = 0 ∧ win2_1.index t (2 : Fin 3) = 0)
    ∧ (win2_2.index t (0 : Fin 2) = (t.val) % 2 ∧ win2_2.index t (1 : Fin 2) = (t.val / 2) % 8)
    ∧ (win2_3.index t (0 : Fin 2) = (t.val) % 2 ∧ win2_3.index t (1 : Fin 2) = (t.val / 2) % 8)
    ∧ (win2_4.index t (0 : Fin 3) = (t.val / 2) % 8 ∧ win2_4.index t (1 : Fin 3) = (t.val) % 2 ∧ win2_4.index t (2 : Fin 3) = 0)
    ∧ (win2_5.index t (0 : Fin 3) = (t.val / 2) % 8 ∧ win2_5.index t (1 : Fin 3) = (t.val) % 2 ∧ win2_5.index t (2 : Fin 3) = 0)
    ∧ (win2_6.index t (0 : Fin 3) = (t.val / 2) % 8 ∧ win2_6.index t (1 : Fin 3) = (t.val) % 2 ∧ win2_6.index t (2 : Fin 3) = 0)
    ∧ (win2_7.index t (0 : Fin 3) = (t.val / 2) % 8 ∧ win2_7.index t (1 : Fin 3) = (t.val) % 2 ∧ win2_7.index t (2 : Fin 3) = 0)
    ∧ (win2_8.index t (0 : Fin 2) = (t.val) % 2 ∧ win2_8.index t (1 : Fin 2) = (t.val / 2) % 8)
    ∧ (win2_9.index t (0 : Fin 2) = (t.val) % 2 ∧ win2_9.index t (1 : Fin 2) = (t.val / 2) % 8) :=
  (by decide +kernel : ∀ t : Fin grid2.N, _)

theorem emb2_0 (t : Fin cfg2.N) (i : Fin 1024) (k : Fin 2048) :
    ((cfg2.win 0).blk t).view.emb (ix2 i k : S1024x2048.Idx) = (ix2 (pos (t.val) i) k : S2048x2048.Idx) :=
  ix2_of (by have h := (idx2 t).1; show win2_0.index t (0 : Fin 2) * 1024 + 1 * i.val = 1024 * ((t.val) % 2) + i.val; omega)
    (by have h := (idx2 t).1; show win2_0.index t (1 : Fin 2) * 2048 + 1 * k.val = k.val; omega)

theorem blk2_0 (t : Fin cfg2.N) (i : Fin 1024) (k : Fin 2048) :
    (iblk2 V c 0 t : Vec Ideal S1024x2048 .bf16) (ix2 i k) = V c main_arg7 (ix2 (pos (t.val) i) k) :=
  congrArg (V c main_arg7) (emb2_0 t i k)

theorem emb2_1 (t : Fin cfg2.N) (a : Fin 1) (i : Fin 256) (k : Fin 2048) :
    ((cfg2.win 1).blk t).view.emb (ix3 a i k : S1x256x2048.Idx) = (ix3 (g8 (t.val / 2)) i k : S8x256x2048.Idx) :=
  ix3_of (by have h := (idx2 t).2.1; show win2_1.index t (0 : Fin 3) * 1 + 1 * a.val = (t.val / 2) % 8; omega)
    (by have h := (idx2 t).2.1; show win2_1.index t (1 : Fin 3) * 256 + 1 * i.val = i.val; omega)
    (by have h := (idx2 t).2.1; show win2_1.index t (2 : Fin 3) * 2048 + 1 * k.val = k.val; omega)

theorem blk2_1 (t : Fin cfg2.N) (a : Fin 1) (i : Fin 256) (k : Fin 2048) :
    (iblk2 V c 1 t : Vec Ideal S1x256x2048 .bf16) (ix3 a i k) = V c main_arg6 (ix3 (g8 (t.val / 2)) i k) :=
  congrArg (V c main_arg6) (emb2_1 t a i k)

theorem emb2_2 (t : Fin cfg2.N) (i : Fin 1024) (k : Fin 256) :
    ((cfg2.win 2).blk t).view.emb (ix2 i k : S1024x256.Idx) = (ix2 (pos (t.val) i) (at256 (t.val / 2) k) : S2048x2048.Idx) :=
  ix2_of (by have h := (idx2 t).2.2.1; show win2_2.index t (0 : Fin 2) * 1024 + 1 * i.val = 1024 * ((t.val) % 2) + i.val; omega)
    (by have h := (idx2 t).2.2.1; show win2_2.index t (1 : Fin 2) * 256 + 1 * k.val = 256 * ((t.val / 2) % 8) + k.val; omega)

theorem blk2_2 (t : Fin cfg2.N) (i : Fin 1024) (k : Fin 256) :
    (iblk2 V c 2 t : Vec Ideal S1024x256 .f32) (ix2 i k) = V c main_arg4 (ix2 (pos (t.val) i) (at256 (t.val / 2) k)) :=
  congrArg (V c main_arg4) (emb2_2 t i k)

theorem emb2_3 (t : Fin cfg2.N) (i : Fin 1024) (k : Fin 256) :
    ((cfg2.win 3).blk t).view.emb (ix2 i k : S1024x256.Idx) = (ix2 (pos (t.val) i) (at256 (t.val / 2) k) : S2048x2048.Idx) :=
  ix2_of (by have h := (idx2 t).2.2.2.1; show win2_3.index t (0 : Fin 2) * 1024 + 1 * i.val = 1024 * ((t.val) % 2) + i.val; omega)
    (by have h := (idx2 t).2.2.2.1; show win2_3.index t (1 : Fin 2) * 256 + 1 * k.val = 256 * ((t.val / 2) % 8) + k.val; omega)

theorem blk2_3 (t : Fin cfg2.N) (i : Fin 1024) (k : Fin 256) :
    (iblk2 V c 3 t : Vec Ideal S1024x256 .f32) (ix2 i k) = V c main_arg5 (ix2 (pos (t.val) i) (at256 (t.val / 2) k)) :=
  congrArg (V c main_arg5) (emb2_3 t i k)

theorem emb2_4 (t : Fin cfg2.N) (a : Fin 1) (i : Fin 1024) (k : Fin 256) :
    ((cfg2.win 4).blk t).view.emb (ix3 a i k : S1x1024x256.Idx) = (ix3 (g8 (t.val / 2)) (pos (t.val) i) k : S8x2048x256.Idx) :=
  ix3_of (by have h := (idx2 t).2.2.2.2.1; show win2_4.index t (0 : Fin 3) * 1 + 1 * a.val = (t.val / 2) % 8; omega)
    (by have h := (idx2 t).2.2.2.2.1; show win2_4.index t (1 : Fin 3) * 1024 + 1 * i.val = 1024 * ((t.val) % 2) + i.val; omega)
    (by have h := (idx2 t).2.2.2.2.1; show win2_4.index t (2 : Fin 3) * 256 + 1 * k.val = k.val; omega)

theorem blk2_4 (t : Fin cfg2.N) (a : Fin 1) (i : Fin 1024) (k : Fin 256) :
    (iblk2 V c 4 t : Vec Ideal S1x1024x256 .bf16) (ix3 a i k) = V c main_v0_0 (ix3 (g8 (t.val / 2)) (pos (t.val) i) k) :=
  congrArg (V c main_v0_0) (emb2_4 t a i k)

theorem emb2_5 (t : Fin cfg2.N) (a : Fin 1) (i : Fin 1024) (k : Fin 256) :
    ((cfg2.win 5).blk t).view.emb (ix3 a i k : S1x1024x256.Idx) = (ix3 (g8 (t.val / 2)) (pos (t.val) i) k : S8x2048x256.Idx) :=
  ix3_of (by have h := (idx2 t).2.2.2.2.2.1; show win2_5.index t (0 : Fin 3) * 1 + 1 * a.val = (t.val / 2) % 8; omega)
    (by have h := (idx2 t).2.2.2.2.2.1; show win2_5.index t (1 : Fin 3) * 1024 + 1 * i.val = 1024 * ((t.val) % 2) + i.val; omega)
    (by have h := (idx2 t).2.2.2.2.2.1; show win2_5.index t (2 : Fin 3) * 256 + 1 * k.val = k.val; omega)

theorem blk2_5 (t : Fin cfg2.N) (a : Fin 1) (i : Fin 1024) (k : Fin 256) :
    (iblk2 V c 5 t : Vec Ideal S1x1024x256 .bf16) (ix3 a i k) = V c main_v0_1 (ix3 (g8 (t.val / 2)) (pos (t.val) i) k) :=
  congrArg (V c main_v0_1) (emb2_5 t a i k)

theorem emb2_6 (t : Fin cfg2.N) (a : Fin 1) (i : Fin 1024) (k : Fin 256) :
    ((cfg2.win 6).blk t).view.emb (ix3 a i k : S1x1024x256.Idx) = (ix3 (g8 (t.val / 2)) (pos (t.val) i) k : S8x2048x256.Idx) :=
  ix3_of (by have h := (idx2 t).2.2.2.2.2.2.1; show win2_6.index t (0 : Fin 3) * 1 + 1 * a.val = (t.val / 2) % 8; omega)
    (by have h := (idx2 t).2.2.2.2.2.2.1; show win2_6.index t (1 : Fin 3) * 1024 + 1 * i.val = 1024 * ((t.val) % 2) + i.val; omega)
    (by have h := (idx2 t).2.2.2.2.2.2.1; show win2_6.index t (2 : Fin 3) * 256 + 1 * k.val = k.val; omega)

theorem emb2_7 (t : Fin cfg2.N) (a : Fin 1) (i : Fin 1024) (k : Fin 256) :
    ((cfg2.win 7).blk t).view.emb (ix3 a i k : S1x1024x256.Idx) = (ix3 (g8 (t.val / 2)) (pos (t.val) i) k : S8x2048x256.Idx) :=
  ix3_of (by have h := (idx2 t).2.2.2.2.2.2.2.1; show win2_7.index t (0 : Fin 3) * 1 + 1 * a.val = (t.val / 2) % 8; omega)
    (by have h := (idx2 t).2.2.2.2.2.2.2.1; show win2_7.index t (1 : Fin 3) * 1024 + 1 * i.val = 1024 * ((t.val) % 2) + i.val; omega)
    (by have h := (idx2 t).2.2.2.2.2.2.2.1; show win2_7.index t (2 : Fin 3) * 256 + 1 * k.val = k.val; omega)

theorem emb2_8 (t : Fin cfg2.N) (i : Fin 1024) (k : Fin 256) :
    ((cfg2.win 8).blk t).view.emb (ix2 i k : S1024x256.Idx) = (ix2 (pos (t.val) i) (at256 (t.val / 2) k) : S2048x2048.Idx) :=
  ix2_of (by have h := (idx2 t).2.2.2.2.2.2.2.2.1; show win2_8.index t (0 : Fin 2) * 1024 + 1 * i.val = 1024 * ((t.val) % 2) + i.val; omega)
    (by have h := (idx2 t).2.2.2.2.2.2.2.2.1; show win2_8.index t (1 : Fin 2) * 256 + 1 * k.val = 256 * ((t.val / 2) % 8) + k.val; omega)

theorem emb2_9 (t : Fin cfg2.N) (i : Fin 1024) (k : Fin 256) :
    ((cfg2.win 9).blk t).view.emb (ix2 i k : S1024x256.Idx) = (ix2 (pos (t.val) i) (at256 (t.val / 2) k) : S2048x2048.Idx) :=
  ix2_of (by have h := (idx2 t).2.2.2.2.2.2.2.2.2; show win2_9.index t (0 : Fin 2) * 1024 + 1 * i.val = 1024 * ((t.val) % 2) + i.val; omega)
    (by have h := (idx2 t).2.2.2.2.2.2.2.2.2; show win2_9.index t (1 : Fin 2) * 256 + 1 * k.val = 256 * ((t.val / 2) % 8) + k.val; omega)

/-- The gradient of the first branch. -/
theorem arr2_6 : (dat2 V c).arrAt 6 cfg2.N = dBranch (V c main_arg7) (V c main_arg6) (V c main_arg4) := by
  refine (dat2 V c).arrAt_eq_of_covers 6 _ (by decide +kernel) fun t _ (y : S1x1024x256.Idx) => ?_
  show (dat2 V c).after 6 t y = (dBranch (V c main_arg7) (V c main_arg6) (V c main_arg4) : Vec Ideal S8x2048x256 .bf16) (((cfg2.win 6).blk t).view.emb y)
  obtain ⟨a, i, k, rfl⟩ : ∃ (a : Fin 1) (i : Fin 1024) (k : Fin 256), y = ix3 a i k := ⟨_, _, _, eq_ix3 y⟩
  rw [after2_6, out_d_a, d_branch_a, emb2_6]
  simp only [blk2_0, blk2_1, blk2_2]
  show _ = _ * Ideal.logistic (V c main_arg4 (ix2 (pos t.val i) (at256 (g8 (t.val / 2)).val k)))
  rw [at_g8]
  rfl

/-- The gradient of the second branch. -/
theorem arr2_7 : (dat2 V c).arrAt 7 cfg2.N = dBranch (V c main_arg7) (V c main_arg6) (V c main_arg5) := by
  refine (dat2 V c).arrAt_eq_of_covers 7 _ (by decide +kernel) fun t _ (y : S1x1024x256.Idx) => ?_
  show (dat2 V c).after 7 t y = (dBranch (V c main_arg7) (V c main_arg6) (V c main_arg5) : Vec Ideal S8x2048x256 .bf16) (((cfg2.win 7).blk t).view.emb y)
  obtain ⟨a, i, k, rfl⟩ : ∃ (a : Fin 1) (i : Fin 1024) (k : Fin 256), y = ix3 a i k := ⟨_, _, _, eq_ix3 y⟩
  rw [after2_7, out_d_b, d_branch_b, emb2_7]
  simp only [blk2_0, blk2_1, blk2_3]
  show _ = _ * Ideal.logistic (V c main_arg5 (ix2 (pos t.val i) (at256 (g8 (t.val / 2)).val k)))
  rw [at_g8]
  rfl

/-- The gradient of the first gate. -/
theorem arr2_8 : (dat2 V c).arrAt 8 cfg2.N = dGate (V c main_arg7) (V c main_arg6) (V c main_arg4) (V c main_v0_0) := by
  refine (dat2 V c).arrAt_eq_of_covers 8 _ (by decide +kernel) fun t _ (y : S1024x256.Idx) => ?_
  show (dat2 V c).after 8 t y = (dGate (V c main_arg7) (V c main_arg6) (V c main_arg4) (V c main_v0_0) : Vec Ideal S2048x2048 .bf16) (((cfg2.win 8).blk t).view.emb y)
  obtain ⟨i, k, rfl⟩ : ∃ (i : Fin 1024) (k : Fin 256), y = ix2 i k := ⟨_, _, eq_ix2 y⟩
  rw [after2_8, out_d_ga, d_gate_a, emb2_8]
  simp only [blk2_0, blk2_1, blk2_2, blk2_4]
  show _ = dMerged _ _ (pos t.val i) (grp (at256 (t.val / 2) k)) (plc (at256 (t.val / 2) k))
      * V c main_v0_0 (ix3 (grp (at256 (t.val / 2) k)) (pos t.val i) (plc (at256 (t.val / 2) k))) * _ * _
  rw [grp_at, plc_at]
  rfl

/-- The gradient of the second gate. -/
theorem arr2_9 : (dat2 V c).arrAt 9 cfg2.N = dGate (V c main_arg7) (V c main_arg6) (V c main_arg5) (V c main_v0_1) := by
  refine (dat2 V c).arrAt_eq_of_covers 9 _ (by decide +kernel) fun t _ (y : S1024x256.Idx) => ?_
  show (dat2 V c).after 9 t y = (dGate (V c main_arg7) (V c main_arg6) (V c main_arg5) (V c main_v0_1) : Vec Ideal S2048x2048 .bf16) (((cfg2.win 9).blk t).view.emb y)
  obtain ⟨i, k, rfl⟩ : ∃ (i : Fin 1024) (k : Fin 256), y = ix2 i k := ⟨_, _, eq_ix2 y⟩
  rw [after2_9, out_d_gb, d_gate_b, emb2_9]
  simp only [blk2_0, blk2_1, blk2_3, blk2_5]
  show _ = dMerged _ _ (pos t.val i) (grp (at256 (t.val / 2) k)) (plc (at256 (t.val / 2) k))
      * V c main_v0_1 (ix3 (grp (at256 (t.val / 2) k)) (pos t.val i) (plc (at256 (t.val / 2) k))) * _ * _
  rw [grp_at, plc_at]
  rfl

/-! ## `bra_dw` -/

/-- The block indices of the windows at a point. -/
theorem idx3 : ∀ t : Fin cfg3.N,
    (win3_0.index t (0 : Fin 2) = 0 ∧ win3_0.index t (1 : Fin 2) = 0)
    ∧ (win3_1.index t (0 : Fin 3) = (t.val) % 8 ∧ win3_1.index t (1 : Fin 3) = 0 ∧ win3_1.index t (2 : Fin 3) = 0)
    ∧ (win3_2.index t (0 : Fin 3) = (t.val) % 8 ∧ win3_2.index t (1 : Fin 3) = 0 ∧ win3_2.index t (2 : Fin 3) = 0) :=
  (by decide +kernel : ∀ t : Fin grid3.N, _)

theorem emb3_0 (t : Fin cfg3.N) (i : Fin 2048) (k : Fin 1024) :
    ((cfg3.win 0).blk t).view.emb (ix2 i k : S2048x1024.Idx) = (ix2 i k : S2048x1024.Idx) :=
  ix2_of (by have h := (idx3 t).1; show win3_0.index t (0 : Fin 2) * 2048 + 1 * i.val = i.val; omega)
    (by have h := (idx3 t).1; show win3_0.index t (1 : Fin 2) * 1024 + 1 * k.val = k.val; omega)

theorem blk3_0 (t : Fin cfg3.N) (i : Fin 2048) (k : Fin 1024) :
    (iblk3 V c 0 t : Vec Ideal S2048x1024 .bf16) (ix2 i k) = V c main_arg0 (ix2 i k) :=
  congrArg (V c main_arg0) (emb3_0 t i k)

theorem emb3_1 (t : Fin cfg3.N) (a : Fin 1) (i : Fin 2048) (k : Fin 256) :
    ((cfg3.win 1).blk t).view.emb (ix3 a i k : S1x2048x256.Idx) = (ix3 (g8 (t.val)) i k : S8x2048x256.Idx) :=
  ix3_of (by have h := (idx3 t).2.1; show win3_1.index t (0 : Fin 3) * 1 + 1 * a.val = (t.val) % 8; omega)
    (by have h := (idx3 t).2.1; show win3_1.index t (1 : Fin 3) * 2048 + 1 * i.val = i.val; omega)
    (by have h := (idx3 t).2.1; show win3_1.index t (2 : Fin 3) * 256 + 1 * k.val = k.val; omega)

theorem blk3_1 (t : Fin cfg3.N) (a : Fin 1) (i : Fin 2048) (k : Fin 256) :
    (iblk3 V c 1 t : Vec Ideal S1x2048x256 .bf16) (ix3 a i k) = V c main_v2_0 (ix3 (g8 (t.val)) i k) :=
  congrArg (V c main_v2_0) (emb3_1 t a i k)

theorem emb3_2 (t : Fin cfg3.N) (a : Fin 1) (i : Fin 1024) (k : Fin 256) :
    ((cfg3.win 2).blk t).view.emb (ix3 a i k : S1x1024x256.Idx) = (ix3 (g8 (t.val)) i k : S8x1024x256.Idx) :=
  ix3_of (by have h := (idx3 t).2.2; show win3_2.index t (0 : Fin 3) * 1 + 1 * a.val = (t.val) % 8; omega)
    (by have h := (idx3 t).2.2; show win3_2.index t (1 : Fin 3) * 1024 + 1 * i.val = i.val; omega)
    (by have h := (idx3 t).2.2; show win3_2.index t (2 : Fin 3) * 256 + 1 * k.val = k.val; omega)

/-- The gradient of the first branch's weights. -/
theorem arr3_2 : (dat3 V c).arrAt 2 cfg3.N = wBranch (V c main_arg0) (V c main_v2_0) := by
  refine (dat3 V c).arrAt_eq_of_covers 2 _ (by decide +kernel) fun t _ (y : S1x1024x256.Idx) => ?_
  show (dat3 V c).after 2 t y = (wBranch (V c main_arg0) (V c main_v2_0) : Vec Ideal S8x1024x256 .bf16) (((cfg3.win 2).blk t).view.emb y)
  obtain ⟨a, i, k, rfl⟩ : ∃ (a : Fin 1) (i : Fin 1024) (k : Fin 256), y = ix3 a i k := ⟨_, _, _, eq_ix3 y⟩
  rw [after3_2, out_d_wa, d_wa, emb3_2]
  simp only [blk3_0, blk3_1]
  rfl

/-! ## `brb_dw` -/

/-- The block indices of the windows at a point. -/
theorem idx4 : ∀ t : Fin cfg4.N,
    (win4_0.index t (0 : Fin 2) = 0 ∧ win4_0.index t (1 : Fin 2) = 0)
    ∧ (win4_1.index t (0 : Fin 3) = (t.val) % 8 ∧ win4_1.index t (1 : Fin 3) = 0 ∧ win4_1.index t (2 : Fin 3) = 0)
    ∧ (win4_2.index t (0 : Fin 3) = (t.val) % 8 ∧ win4_2.index t (1 : Fin 3) = 0 ∧ win4_2.index t (2 : Fin 3) = 0) :=
  (by decide +kernel : ∀ t : Fin grid4.N, _)

theorem emb4_0 (t : Fin cfg4.N) (i : Fin 2048) (k : Fin 1024) :
    ((cfg4.win 0).blk t).view.emb (ix2 i k : S2048x1024.Idx) = (ix2 i k : S2048x1024.Idx) :=
  ix2_of (by have h := (idx4 t).1; show win4_0.index t (0 : Fin 2) * 2048 + 1 * i.val = i.val; omega)
    (by have h := (idx4 t).1; show win4_0.index t (1 : Fin 2) * 1024 + 1 * k.val = k.val; omega)

theorem blk4_0 (t : Fin cfg4.N) (i : Fin 2048) (k : Fin 1024) :
    (iblk4 V c 0 t : Vec Ideal S2048x1024 .bf16) (ix2 i k) = V c main_arg1 (ix2 i k) :=
  congrArg (V c main_arg1) (emb4_0 t i k)

theorem emb4_1 (t : Fin cfg4.N) (a : Fin 1) (i : Fin 2048) (k : Fin 256) :
    ((cfg4.win 1).blk t).view.emb (ix3 a i k : S1x2048x256.Idx) = (ix3 (g8 (t.val)) i k : S8x2048x256.Idx) :=
  ix3_of (by have h := (idx4 t).2.1; show win4_1.index t (0 : Fin 3) * 1 + 1 * a.val = (t.val) % 8; omega)
    (by have h := (idx4 t).2.1; show win4_1.index t (1 : Fin 3) * 2048 + 1 * i.val = i.val; omega)
    (by have h := (idx4 t).2.1; show win4_1.index t (2 : Fin 3) * 256 + 1 * k.val = k.val; omega)

theorem blk4_1 (t : Fin cfg4.N) (a : Fin 1) (i : Fin 2048) (k : Fin 256) :
    (iblk4 V c 1 t : Vec Ideal S1x2048x256 .bf16) (ix3 a i k) = V c main_v2_1 (ix3 (g8 (t.val)) i k) :=
  congrArg (V c main_v2_1) (emb4_1 t a i k)

theorem emb4_2 (t : Fin cfg4.N) (a : Fin 1) (i : Fin 1024) (k : Fin 256) :
    ((cfg4.win 2).blk t).view.emb (ix3 a i k : S1x1024x256.Idx) = (ix3 (g8 (t.val)) i k : S8x1024x256.Idx) :=
  ix3_of (by have h := (idx4 t).2.2; show win4_2.index t (0 : Fin 3) * 1 + 1 * a.val = (t.val) % 8; omega)
    (by have h := (idx4 t).2.2; show win4_2.index t (1 : Fin 3) * 1024 + 1 * i.val = i.val; omega)
    (by have h := (idx4 t).2.2; show win4_2.index t (2 : Fin 3) * 256 + 1 * k.val = k.val; omega)

/-- The gradient of the second branch's weights. -/
theorem arr4_2 : (dat4 V c).arrAt 2 cfg4.N = wBranch (V c main_arg1) (V c main_v2_1) := by
  refine (dat4 V c).arrAt_eq_of_covers 2 _ (by decide +kernel) fun t _ (y : S1x1024x256.Idx) => ?_
  show (dat4 V c).after 2 t y = (wBranch (V c main_arg1) (V c main_v2_1) : Vec Ideal S8x1024x256 .bf16) (((cfg4.win 2).blk t).view.emb y)
  obtain ⟨a, i, k, rfl⟩ : ∃ (a : Fin 1) (i : Fin 1024) (k : Fin 256), y = ix3 a i k := ⟨_, _, _, eq_ix3 y⟩
  rw [after4_2, out_d_wb, d_wb, emb4_2]
  simp only [blk4_0, blk4_1]
  rfl

/-! ## `bra_dx` -/

/-- The block indices of the windows at a point. -/
theorem idx5 : ∀ t : Fin cfg5.N,
    (win5_0.index t (0 : Fin 3) = 0 ∧ win5_0.index t (1 : Fin 3) = (t.val) % 4 ∧ win5_0.index t (2 : Fin 3) = 0)
    ∧ (win5_1.index t (0 : Fin 3) = 0 ∧ win5_1.index t (1 : Fin 3) = (t.val / 4) % 2 ∧ win5_1.index t (2 : Fin 3) = 0)
    ∧ (win5_2.index t (0 : Fin 2) = (t.val) % 4 ∧ win5_2.index t (1 : Fin 2) = (t.val / 4) % 2) :=
  (by decide +kernel : ∀ t : Fin grid5.N, _)

theorem emb5_0 (t : Fin cfg5.N) (a : Fin 8) (i : Fin 512) (k : Fin 256) :
    ((cfg5.win 0).blk t).view.emb (ix3 a i k : S8x512x256.Idx) = (ix3 a (r4 (t.val) i) k : S8x2048x256.Idx) :=
  ix3_of (by have h := (idx5 t).1; show win5_0.index t (0 : Fin 3) * 8 + 1 * a.val = a.val; omega)
    (by have h := (idx5 t).1; show win5_0.index t (1 : Fin 3) * 512 + 1 * i.val = 512 * ((t.val) % 4) + i.val; omega)
    (by have h := (idx5 t).1; show win5_0.index t (2 : Fin 3) * 256 + 1 * k.val = k.val; omega)

theorem blk5_0 (t : Fin cfg5.N) (a : Fin 8) (i : Fin 512) (k : Fin 256) :
    (iblk5 V c 0 t : Vec Ideal S8x512x256 .bf16) (ix3 a i k) = V c main_v2_0 (ix3 a (r4 (t.val) i) k) :=
  congrArg (V c main_v2_0) (emb5_0 t a i k)

theorem emb5_1 (t : Fin cfg5.N) (a : Fin 8) (i : Fin 512) (k : Fin 256) :
    ((cfg5.win 1).blk t).view.emb (ix3 a i k : S8x512x256.Idx) = (ix3 a (r2 (t.val / 4) i) k : S8x1024x256.Idx) :=
  ix3_of (by have h := (idx5 t).2.1; show win5_1.index t (0 : Fin 3) * 8 + 1 * a.val = a.val; omega)
    (by have h := (idx5 t).2.1; show win5_1.index t (1 : Fin 3) * 512 + 1 * i.val = 512 * ((t.val / 4) % 2) + i.val; omega)
    (by have h := (idx5 t).2.1; show win5_1.index t (2 : Fin 3) * 256 + 1 * k.val = k.val; omega)

theorem blk5_1 (t : Fin cfg5.N) (a : Fin 8) (i : Fin 512) (k : Fin 256) :
    (iblk5 V c 1 t : Vec Ideal S8x512x256 .bf16) (ix3 a i k) = V c main_arg2 (ix3 a (r2 (t.val / 4) i) k) :=
  congrArg (V c main_arg2) (emb5_1 t a i k)

theorem emb5_2 (t : Fin cfg5.N) (i : Fin 512) (k : Fin 512) :
    ((cfg5.win 2).blk t).view.emb (ix2 i k : S512x512.Idx) = (ix2 (r4 (t.val) i) (r2 (t.val / 4) k) : S2048x1024.Idx) :=
  ix2_of (by have h := (idx5 t).2.2; show win5_2.index t (0 : Fin 2) * 512 + 1 * i.val = 512 * ((t.val) % 4) + i.val; omega)
    (by have h := (idx5 t).2.2; show win5_2.index t (1 : Fin 2) * 512 + 1 * k.val = 512 * ((t.val / 4) % 2) + k.val; omega)

/-- The gradient of the first mixer's output. -/
theorem arr5_2 : (dat5 V c).arrAt 2 cfg5.N = dMixer (V c main_v2_0) (V c main_arg2) := by
  refine (dat5 V c).arrAt_eq_of_covers 2 _ (by decide +kernel) fun t _ (y : S512x512.Idx) => ?_
  show (dat5 V c).after 2 t y = (dMixer (V c main_v2_0) (V c main_arg2) : Vec Ideal S2048x1024 .bf16) (((cfg5.win 2).blk t).view.emb y)
  obtain ⟨i, k, rfl⟩ : ∃ (i : Fin 512) (k : Fin 512), y = ix2 i k := ⟨_, _, eq_ix2 y⟩
  rw [after5_2, out_d_oa, emb5_2]
  simp only [blk5_0, blk5_1]
  rfl

/-! ## `brb_dx` -/

/-- The block indices of the windows at a point. -/
theorem idx6 : ∀ t : Fin cfg6.N,
    (win6_0.index t (0 : Fin 3) = 0 ∧ win6_0.index t (1 : Fin 3) = (t.val) % 4 ∧ win6_0.index t (2 : Fin 3) = 0)
    ∧ (win6_1.index t (0 : Fin 3) = 0 ∧ win6_1.index t (1 : Fin 3) = (t.val / 4) % 2 ∧ win6_1.index t (2 : Fin 3) = 0)
    ∧ (win6_2.index t (0 : Fin 2) = (t.val) % 4 ∧ win6_2.index t (1 : Fin 2) = (t.val / 4) % 2) :=
  (by decide +kernel : ∀ t : Fin grid6.N, _)

theorem emb6_0 (t : Fin cfg6.N) (a : Fin 8) (i : Fin 512) (k : Fin 256) :
    ((cfg6.win 0).blk t).view.emb (ix3 a i k : S8x512x256.Idx) = (ix3 a (r4 (t.val) i) k : S8x2048x256.Idx) :=
  ix3_of (by have h := (idx6 t).1; show win6_0.index t (0 : Fin 3) * 8 + 1 * a.val = a.val; omega)
    (by have h := (idx6 t).1; show win6_0.index t (1 : Fin 3) * 512 + 1 * i.val = 512 * ((t.val) % 4) + i.val; omega)
    (by have h := (idx6 t).1; show win6_0.index t (2 : Fin 3) * 256 + 1 * k.val = k.val; omega)

theorem blk6_0 (t : Fin cfg6.N) (a : Fin 8) (i : Fin 512) (k : Fin 256) :
    (iblk6 V c 0 t : Vec Ideal S8x512x256 .bf16) (ix3 a i k) = V c main_v2_1 (ix3 a (r4 (t.val) i) k) :=
  congrArg (V c main_v2_1) (emb6_0 t a i k)

theorem emb6_1 (t : Fin cfg6.N) (a : Fin 8) (i : Fin 512) (k : Fin 256) :
    ((cfg6.win 1).blk t).view.emb (ix3 a i k : S8x512x256.Idx) = (ix3 a (r2 (t.val / 4) i) k : S8x1024x256.Idx) :=
  ix3_of (by have h := (idx6 t).2.1; show win6_1.index t (0 : Fin 3) * 8 + 1 * a.val = a.val; omega)
    (by have h := (idx6 t).2.1; show win6_1.index t (1 : Fin 3) * 512 + 1 * i.val = 512 * ((t.val / 4) % 2) + i.val; omega)
    (by have h := (idx6 t).2.1; show win6_1.index t (2 : Fin 3) * 256 + 1 * k.val = k.val; omega)

theorem blk6_1 (t : Fin cfg6.N) (a : Fin 8) (i : Fin 512) (k : Fin 256) :
    (iblk6 V c 1 t : Vec Ideal S8x512x256 .bf16) (ix3 a i k) = V c main_arg3 (ix3 a (r2 (t.val / 4) i) k) :=
  congrArg (V c main_arg3) (emb6_1 t a i k)

theorem emb6_2 (t : Fin cfg6.N) (i : Fin 512) (k : Fin 512) :
    ((cfg6.win 2).blk t).view.emb (ix2 i k : S512x512.Idx) = (ix2 (r4 (t.val) i) (r2 (t.val / 4) k) : S2048x1024.Idx) :=
  ix2_of (by have h := (idx6 t).2.2; show win6_2.index t (0 : Fin 2) * 512 + 1 * i.val = 512 * ((t.val) % 4) + i.val; omega)
    (by have h := (idx6 t).2.2; show win6_2.index t (1 : Fin 2) * 512 + 1 * k.val = 512 * ((t.val / 4) % 2) + k.val; omega)

/-- The gradient of the second mixer's output. -/
theorem arr6_2 : (dat6 V c).arrAt 2 cfg6.N = dMixer (V c main_v2_1) (V c main_arg3) := by
  refine (dat6 V c).arrAt_eq_of_covers 2 _ (by decide +kernel) fun t _ (y : S512x512.Idx) => ?_
  show (dat6 V c).after 2 t y = (dMixer (V c main_v2_1) (V c main_arg3) : Vec Ideal S2048x1024 .bf16) (((cfg6.win 2).blk t).view.emb y)
  obtain ⟨i, k, rfl⟩ : ∃ (i : Fin 512) (k : Fin 512), y = ix2 i k := ⟨_, _, eq_ix2 y⟩
  rw [after6_2, out_d_ob, emb6_2]
  simp only [blk6_0, blk6_1]
  rfl

/-! ## `mix_out` -/

/-- The block indices of the windows at a point. -/
theorem idx7 : ∀ t : Fin cfg7.N,
    (win7_0.index t (0 : Fin 3) = 0 ∧ win7_0.index t (1 : Fin 3) = (t.val) % 2 ∧ win7_0.index t (2 : Fin 3) = 0)
    ∧ (win7_1.index t (0 : Fin 3) = 0 ∧ win7_1.index t (1 : Fin 3) = 0 ∧ win7_1.index t (2 : Fin 3) = (t.val / 2) % 4)
    ∧ (win7_2.index t (0 : Fin 2) = (t.val) % 2 ∧ win7_2.index t (1 : Fin 2) = (t.val / 2) % 4)
    ∧ (win7_3.index t (0 : Fin 2) = (t.val) % 2 ∧ win7_3.index t (1 : Fin 2) = (t.val / 2) % 4) :=
  (by decide +kernel : ∀ t : Fin grid7.N, _)

theorem emb7_0 (t : Fin cfg7.N) (a : Fin 8) (i : Fin 1024) (k : Fin 256) :
    ((cfg7.win 0).blk t).view.emb (ix3 a i k : S8x1024x256.Idx) = (ix3 a (pos (t.val) i) k : S8x2048x256.Idx) :=
  ix3_of (by have h := (idx7 t).1; show win7_0.index t (0 : Fin 3) * 8 + 1 * a.val = a.val; omega)
    (by have h := (idx7 t).1; show win7_0.index t (1 : Fin 3) * 1024 + 1 * i.val = 1024 * ((t.val) % 2) + i.val; omega)
    (by have h := (idx7 t).1; show win7_0.index t (2 : Fin 3) * 256 + 1 * k.val = k.val; omega)

theorem blk7_0 (t : Fin cfg7.N) (a : Fin 8) (i : Fin 1024) (k : Fin 256) :
    (iblk7 V c 0 t : Vec Ideal S8x1024x256 .bf16) (ix3 a i k) = V c main_v0_2 (ix3 a (pos (t.val) i) k) :=
  congrArg (V c main_v0_2) (emb7_0 t a i k)

theorem emb7_1 (t : Fin cfg7.N) (a : Fin 8) (i : Fin 256) (k : Fin 512) :
    ((cfg7.win 1).blk t).view.emb (ix3 a i k : S8x256x512.Idx) = (ix3 a i (r4 (t.val / 2) k) : S8x256x2048.Idx) :=
  ix3_of (by have h := (idx7 t).2.1; show win7_1.index t (0 : Fin 3) * 8 + 1 * a.val = a.val; omega)
    (by have h := (idx7 t).2.1; show win7_1.index t (1 : Fin 3) * 256 + 1 * i.val = i.val; omega)
    (by have h := (idx7 t).2.1; show win7_1.index t (2 : Fin 3) * 512 + 1 * k.val = 512 * ((t.val / 2) % 4) + k.val; omega)

theorem blk7_1 (t : Fin cfg7.N) (a : Fin 8) (i : Fin 256) (k : Fin 512) :
    (iblk7 V c 1 t : Vec Ideal S8x256x512 .bf16) (ix3 a i k) = V c main_arg6 (ix3 a i (r4 (t.val / 2) k)) :=
  congrArg (V c main_arg6) (emb7_1 t a i k)

theorem emb7_2 (t : Fin cfg7.N) (i : Fin 1024) (k : Fin 512) :
    ((cfg7.win 2).blk t).view.emb (ix2 i k : S1024x512.Idx) = (ix2 (pos (t.val) i) (r4 (t.val / 2) k) : S2048x2048.Idx) :=
  ix2_of (by have h := (idx7 t).2.2.1; show win7_2.index t (0 : Fin 2) * 1024 + 1 * i.val = 1024 * ((t.val) % 2) + i.val; omega)
    (by have h := (idx7 t).2.2.1; show win7_2.index t (1 : Fin 2) * 512 + 1 * k.val = 512 * ((t.val / 2) % 4) + k.val; omega)

theorem blk7_2 (t : Fin cfg7.N) (i : Fin 1024) (k : Fin 512) :
    (iblk7 V c 2 t : Vec Ideal S1024x512 .f32) (ix2 i k) = V c main_arg8 (ix2 (pos (t.val) i) (r4 (t.val / 2) k)) :=
  congrArg (V c main_arg8) (emb7_2 t i k)

theorem emb7_3 (t : Fin cfg7.N) (i : Fin 1024) (k : Fin 512) :
    ((cfg7.win 3).blk t).view.emb (ix2 i k : S1024x512.Idx) = (ix2 (pos (t.val) i) (r4 (t.val / 2) k) : S2048x2048.Idx) :=
  ix2_of (by have h := (idx7 t).2.2.2; show win7_3.index t (0 : Fin 2) * 1024 + 1 * i.val = 1024 * ((t.val) % 2) + i.val; omega)
    (by have h := (idx7 t).2.2.2; show win7_3.index t (1 : Fin 2) * 512 + 1 * k.val = 512 * ((t.val / 2) % 4) + k.val; omega)

/-- The output. -/
theorem arr7_3 : (dat7 V c).arrAt 3 cfg7.N = outSum (V c main_v0_2) (V c main_arg6) (V c main_arg8) := by
  refine (dat7 V c).arrAt_eq_of_covers 3 _ (by decide +kernel) fun t _ (y : S1024x512.Idx) => ?_
  show (dat7 V c).after 3 t y = (outSum (V c main_v0_2) (V c main_arg6) (V c main_arg8) : Vec Ideal S2048x2048 .f32) (((cfg7.win 3).blk t).view.emb y)
  obtain ⟨i, k, rfl⟩ : ∃ (i : Fin 1024) (k : Fin 512), y = ix2 i k := ⟨_, _, eq_ix2 y⟩
  rw [after7_3, out_sum, emb7_3]
  simp only [blk7_0, blk7_1, blk7_2]
  rfl

end Cert.MixArray
-- ==== Proof.MixRun.lean ====
/- The run of the calls of the mixers' merge: its results are functions of the arguments, and the arguments stay as they
   were. -/
module

public import proofs.«01_k».proof.Proof.MixArray

@[expose] public section

noncomputable section

namespace Cert.MixRun

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixBwdIdeal Cert.MixBwdIdeal.Gen Cert.MixArray

variable (m : (ℓ : Loc nD τ sig) → Buf (Elt Ideal) ℓ) (ρ : Dev nD → PrngReg) (c : Dev nD)

/-- The arguments as launched: the two mixers' outputs, their branches' weights, the two gates, the output's weights, the
    gradient of the output, and what the output is added to. -/
abbrev Oa : Vec Ideal S2048x1024 .bf16 := m ((c : Thread nD τ).loc main_arg0)
abbrev Ob : Vec Ideal S2048x1024 .bf16 := m ((c : Thread nD τ).loc main_arg1)
abbrev Wa : Vec Ideal S8x1024x256 .bf16 := m ((c : Thread nD τ).loc main_arg2)
abbrev Wb : Vec Ideal S8x1024x256 .bf16 := m ((c : Thread nD τ).loc main_arg3)
abbrev Ga : Vec Ideal S2048x2048 .f32 := m ((c : Thread nD τ).loc main_arg4)
abbrev Gb : Vec Ideal S2048x2048 .f32 := m ((c : Thread nD τ).loc main_arg5)
abbrev Wo : Vec Ideal S8x256x2048 .bf16 := m ((c : Thread nD τ).loc main_arg6)
abbrev Da : Vec Ideal S2048x2048 .bf16 := m ((c : Thread nD τ).loc main_arg7)
abbrev Ha : Vec Ideal S2048x2048 .f32 := m ((c : Thread nD τ).loc main_arg8)

/-- The two branches and their gradients. -/
abbrev Ya := branch (Oa m c) (Wa m c)
abbrev Yb := branch (Ob m c) (Wb m c)
abbrev Ea := dBranch (Da m c) (Wo m c) (Ga m c)
abbrev Eb := dBranch (Da m c) (Wo m c) (Gb m c)

/-! ## The contents between the calls -/

theorem ya1 : W1 m ρ c (Proc.devRef .tc main_v0_0) = branch (Oa m c) (Wa m c) := by
  refine (W1_arr m ρ c 6).trans ((arr0_6 (V0 m ρ) c).trans ?_)
  show branch (W0 m ρ c (Proc.devRef .tc main_arg0)) (W0 m ρ c (Proc.devRef .tc main_arg2)) = _
  rw [W0_args m ρ c main_arg0 (by decide), W0_args m ρ c main_arg2 (by decide)]

theorem yb1 : W1 m ρ c (Proc.devRef .tc main_v0_1) = branch (Ob m c) (Wb m c) := by
  refine (W1_arr m ρ c 7).trans ((arr0_7 (V0 m ρ) c).trans ?_)
  show branch (W0 m ρ c (Proc.devRef .tc main_arg1)) (W0 m ρ c (Proc.devRef .tc main_arg3)) = _
  rw [W0_args m ρ c main_arg1 (by decide), W0_args m ρ c main_arg3 (by decide)]

theorem mm1 : W1 m ρ c (Proc.devRef .tc main_v0_2) = merged (Ga m c) (Gb m c) (Ya m c) (Yb m c) := by
  refine (W1_arr m ρ c 8).trans ((arr0_8 (V0 m ρ) c).trans ?_)
  show merged (W0 m ρ c (Proc.devRef .tc main_arg4)) (W0 m ρ c (Proc.devRef .tc main_arg5))
    (branch (W0 m ρ c (Proc.devRef .tc main_arg0)) (W0 m ρ c (Proc.devRef .tc main_arg2)))
    (branch (W0 m ρ c (Proc.devRef .tc main_arg1)) (W0 m ρ c (Proc.devRef .tc main_arg3))) = _
  rw [W0_args m ρ c main_arg4 (by decide), W0_args m ρ c main_arg5 (by decide), W0_args m ρ c main_arg0 (by decide),
    W0_args m ρ c main_arg2 (by decide), W0_args m ρ c main_arg1 (by decide), W0_args m ρ c main_arg3 (by decide)]

theorem wo2 : W2 m ρ c (Proc.devRef .tc main_v1) = wOut (merged (Ga m c) (Gb m c) (Ya m c) (Yb m c)) (Da m c) := by
  refine (W2_arr m ρ c 2).trans ((arr1_2 (V1 m ρ) c).trans ?_)
  show wOut (W1 m ρ c (Proc.devRef .tc main_v0_2)) (W1 m ρ c (Proc.devRef .tc main_arg7)) = _
  rw [mm1, W1_args m ρ c main_arg7 (by decide)]

theorem ya2 : W2 m ρ c (Proc.devRef .tc main_v0_0) = Ya m c :=
  (W2_of m ρ c main_v0_0 (by decide)).trans (ya1 m ρ c)

theorem yb2 : W2 m ρ c (Proc.devRef .tc main_v0_1) = Yb m c :=
  (W2_of m ρ c main_v0_1 (by decide)).trans (yb1 m ρ c)

theorem ea3 : W3 m ρ c (Proc.devRef .tc main_v2_0) = dBranch (Da m c) (Wo m c) (Ga m c) := by
  refine (W3_arr m ρ c 6).trans ((arr2_6 (V2 m ρ) c).trans ?_)
  show dBranch (W2 m ρ c (Proc.devRef .tc main_arg7)) (W2 m ρ c (Proc.devRef .tc main_arg6)) (W2 m ρ c (Proc.devRef .tc main_arg4)) = _
  rw [W2_args m ρ c main_arg7 (by decide), W2_args m ρ c main_arg6 (by decide), W2_args m ρ c main_arg4 (by decide)]

theorem eb3 : W3 m ρ c (Proc.devRef .tc main_v2_1) = dBranch (Da m c) (Wo m c) (Gb m c) := by
  refine (W3_arr m ρ c 7).trans ((arr2_7 (V2 m ρ) c).trans ?_)
  show dBranch (W2 m ρ c (Proc.devRef .tc main_arg7)) (W2 m ρ c (Proc.devRef .tc main_arg6)) (W2 m ρ c (Proc.devRef .tc main_arg5)) = _
  rw [W2_args m ρ c main_arg7 (by decide), W2_args m ρ c main_arg6 (by decide), W2_args m ρ c main_arg5 (by decide)]

theorem ga3 : W3 m ρ c (Proc.devRef .tc main_v2_2) = dGate (Da m c) (Wo m c) (Ga m c) (Ya m c) := by
  refine (W3_arr m ρ c 8).trans ((arr2_8 (V2 m ρ) c).trans ?_)
  show dGate (W2 m ρ c (Proc.devRef .tc main_arg7)) (W2 m ρ c (Proc.devRef .tc main_arg6)) (W2 m ρ c (Proc.devRef .tc main_arg4)) (W2 m ρ c (Proc.devRef .tc main_v0_0)) = _
  rw [W2_args m ρ c main_arg7 (by decide), W2_args m ρ c main_arg6 (by decide), W2_args m ρ c main_arg4 (by decide), ya2]

theorem gb3 : W3 m ρ c (Proc.devRef .tc main_v2_3) = dGate (Da m c) (Wo m c) (Gb m c) (Yb m c) := by
  refine (W3_arr m ρ c 9).trans ((arr2_9 (V2 m ρ) c).trans ?_)
  show dGate (W2 m ρ c (Proc.devRef .tc main_arg7)) (W2 m ρ c (Proc.devRef .tc main_arg6)) (W2 m ρ c (Proc.devRef .tc main_arg5)) (W2 m ρ c (Proc.devRef .tc main_v0_1)) = _
  rw [W2_args m ρ c main_arg7 (by decide), W2_args m ρ c main_arg6 (by decide), W2_args m ρ c main_arg5 (by decide), yb2]

theorem wa4 : W4 m ρ c (Proc.devRef .tc main_v3) = wBranch (Oa m c) (Ea m c) := by
  refine (W4_arr m ρ c 2).trans ((arr3_2 (V3 m ρ) c).trans ?_)
  show wBranch (W3 m ρ c (Proc.devRef .tc main_arg0)) (W3 m ρ c (Proc.devRef .tc main_v2_0)) = _
  rw [W3_args m ρ c main_arg0 (by decide), ea3]

theorem eb4 : W4 m ρ c (Proc.devRef .tc main_v2_1) = Eb m c :=
  (W4_of m ρ c main_v2_1 (by decide)).trans (eb3 m ρ c)

theorem wb5 : W5 m ρ c (Proc.devRef .tc main_v4) = wBranch (Ob m c) (Eb m c) := by
  refine (W5_arr m ρ c 2).trans ((arr4_2 (V4 m ρ) c).trans ?_)
  show wBranch (W4 m ρ c (Proc.devRef .tc main_arg1)) (W4 m ρ c (Proc.devRef .tc main_v2_1)) = _
  rw [W4_args m ρ c main_arg1 (by decide), eb4]

theorem ea5 : W5 m ρ c (Proc.devRef .tc main_v2_0) = Ea m c :=
  (W5_of m ρ c main_v2_0 (by decide)).trans ((W4_of m ρ c main_v2_0 (by decide)).trans (ea3 m ρ c))

theorem oa6 : W6 m ρ c (Proc.devRef .tc main_v5) = dMixer (Ea m c) (Wa m c) := by
  refine (W6_arr m ρ c 2).trans ((arr5_2 (V5 m ρ) c).trans ?_)
  show dMixer (W5 m ρ c (Proc.devRef .tc main_v2_0)) (W5 m ρ c (Proc.devRef .tc main_arg2)) = _
  rw [ea5, W5_args m ρ c main_arg2 (by decide)]

theorem eb6 : W6 m ρ c (Proc.devRef .tc main_v2_1) = Eb m c :=
  (W6_of m ρ c main_v2_1 (by decide)).trans ((W5_of m ρ c main_v2_1 (by decide)).trans (eb4 m ρ c))

/-! ## The contents at the end -/

theorem wo8 : W8 m ρ c (Proc.devRef .tc main_v1) = wOut (merged (Ga m c) (Gb m c) (Ya m c) (Yb m c)) (Da m c) :=
  (W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (wo2 m ρ c))))))

theorem ga8 : W8 m ρ c (Proc.devRef .tc main_v2_2) = dGate (Da m c) (Wo m c) (Ga m c) (Ya m c) :=
  (W8_of m ρ c main_v2_2 (by decide)).trans ((W7_of m ρ c main_v2_2 (by decide)).trans ((W6_of m ρ c main_v2_2 (by decide)).trans ((W5_of m ρ c main_v2_2 (by decide)).trans ((W4_of m ρ c main_v2_2 (by decide)).trans (ga3 m ρ c)))))

theorem gb8 : W8 m ρ c (Proc.devRef .tc main_v2_3) = dGate (Da m c) (Wo m c) (Gb m c) (Yb m c) :=
  (W8_of m ρ c main_v2_3 (by decide)).trans ((W7_of m ρ c main_v2_3 (by decide)).trans ((W6_of m ρ c main_v2_3 (by decide)).trans ((W5_of m ρ c main_v2_3 (by decide)).trans ((W4_of m ρ c main_v2_3 (by decide)).trans (gb3 m ρ c)))))

theorem wa8 : W8 m ρ c (Proc.devRef .tc main_v3) = wBranch (Oa m c) (Ea m c) :=
  (W8_of m ρ c main_v3 (by decide)).trans ((W7_of m ρ c main_v3 (by decide)).trans ((W6_of m ρ c main_v3 (by decide)).trans ((W5_of m ρ c main_v3 (by decide)).trans (wa4 m ρ c))))

theorem wb8 : W8 m ρ c (Proc.devRef .tc main_v4) = wBranch (Ob m c) (Eb m c) :=
  (W8_of m ρ c main_v4 (by decide)).trans ((W7_of m ρ c main_v4 (by decide)).trans ((W6_of m ρ c main_v4 (by decide)).trans (wb5 m ρ c)))

theorem oa8 : W8 m ρ c (Proc.devRef .tc main_v5) = dMixer (Ea m c) (Wa m c) :=
  (W8_of m ρ c main_v5 (by decide)).trans ((W7_of m ρ c main_v5 (by decide)).trans (oa6 m ρ c))

theorem ob7 : W7 m ρ c (Proc.devRef .tc main_v6) = dMixer (Eb m c) (Wb m c) := by
  refine (W7_arr m ρ c 2).trans ((arr6_2 (V6 m ρ) c).trans ?_)
  show dMixer (W6 m ρ c (Proc.devRef .tc main_v2_1)) (W6 m ρ c (Proc.devRef .tc main_arg3)) = _
  rw [eb6, W6_args m ρ c main_arg3 (by decide)]

theorem ob8 : W8 m ρ c (Proc.devRef .tc main_v6) = dMixer (Eb m c) (Wb m c) :=
  (W8_of m ρ c main_v6 (by decide)).trans (ob7 m ρ c)

theorem mm7 : W7 m ρ c (Proc.devRef .tc main_v0_2) = merged (Ga m c) (Gb m c) (Ya m c) (Yb m c) :=
  (W7_of m ρ c main_v0_2 (by decide)).trans ((W6_of m ρ c main_v0_2 (by decide)).trans ((W5_of m ρ c main_v0_2 (by decide)).trans ((W4_of m ρ c main_v0_2 (by decide)).trans ((W3_of m ρ c main_v0_2 (by decide)).trans ((W2_of m ρ c main_v0_2 (by decide)).trans (mm1 m ρ c))))))

theorem h8 : W8 m ρ c (Proc.devRef .tc main_v7) = outSum (merged (Ga m c) (Gb m c) (Ya m c) (Yb m c)) (Wo m c) (Ha m c) := by
  refine (W8_arr m ρ c 3).trans ((arr7_3 (V7 m ρ) c).trans ?_)
  show outSum (W7 m ρ c (Proc.devRef .tc main_v0_2)) (W7 m ρ c (Proc.devRef .tc main_arg6)) (W7 m ρ c (Proc.devRef .tc main_arg8)) = _
  rw [mm7, W7_args m ρ c main_arg6 (by decide), W7_args m ρ c main_arg8 (by decide)]

-- the launch theorem's implicit arguments are found by unifying its conclusion with this one, which takes unfolding plain
-- definitions in a metavariable's type
set_option backward.isDefEq.respectTransparency.types false in
/-- THE RUN: every execution ends with the results as these functions of the arguments and the arguments as
    launched. -/
theorem run : θ_run defs (onTc (τ := τ) (main (F := Ideal))) ⟨m, fun _ => 0, ρ⟩ (fun r => ∀ c : Dev nD,
      r.2.mem ((c.tc : Thread nD τ).loc main_v1) = wOut (merged (Ga m c) (Gb m c) (Ya m c) (Yb m c)) (Da m c)
      ∧ r.2.mem ((c.tc : Thread nD τ).loc main_v2_2) = dGate (Da m c) (Wo m c) (Ga m c) (Ya m c)
      ∧ r.2.mem ((c.tc : Thread nD τ).loc main_v2_3) = dGate (Da m c) (Wo m c) (Gb m c) (Yb m c)
      ∧ r.2.mem ((c.tc : Thread nD τ).loc main_v3) = wBranch (Oa m c) (Ea m c)
      ∧ r.2.mem ((c.tc : Thread nD τ).loc main_v4) = wBranch (Ob m c) (Eb m c)
      ∧ r.2.mem ((c.tc : Thread nD τ).loc main_v5) = dMixer (Ea m c) (Wa m c)
      ∧ r.2.mem ((c.tc : Thread nD τ).loc main_v6) = dMixer (Eb m c) (Wb m c)
      ∧ r.2.mem ((c.tc : Thread nD τ).loc main_v7) = outSum (merged (Ga m c) (Gb m c) (Ya m c) (Yb m c)) (Wo m c) (Ha m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v1 (by decide))).trans (wo8 m ρ c),
       (h c _ (mem_uc main_v2_2 (by decide))).trans (ga8 m ρ c),
       (h c _ (mem_uc main_v2_3 (by decide))).trans (gb8 m ρ c),
       (h c _ (mem_uc main_v3 (by decide))).trans (wa8 m ρ c),
       (h c _ (mem_uc main_v4 (by decide))).trans (wb8 m ρ c),
       (h c _ (mem_uc main_v5 (by decide))).trans (oa8 m ρ c),
       (h c _ (mem_uc main_v6 (by decide))).trans (ob8 m ρ c),
       (h c _ (mem_uc main_v7 (by decide))).trans (h8 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.MixRun
-- ==== Proof.MixRef.lean ====
/- What the reference of the merge of the two branches and of its gradients computes, stage by stage at an index, in the
   terms of the kernel's arrays. -/
module

public import proofs.«01_k».proof.Proof.MixRun
public import proofs.«01_k».proof.Proof.FfnRef
public import proofs.«01_k».proof.Proof.Gen.MixRefIdeal.Read
public import Idealize.ShloMosaic.Lib.Pointwise

@[expose] public section

noncomputable section

namespace Cert.MixRef

open Idealize.ShloMosaic Idealize.ShloMosaic.TcCoe Cert.MixRefIdeal Cert.MixRefIdeal.Gen Cert.MixRefIdeal.Read
open Cert.MixBlock Cert.MixArray Cert.Tile

variable (x0 x1 : Vec Ideal S2048x1024 .bf16) (x2 x3 : Vec Ideal S8x1024x256 .bf16) (x4 x5 : Vec Ideal S2048x2048 .f32)
  (x6 : Vec Ideal S8x256x2048 .bf16) (x7 : Vec Ideal S2048x2048 .bf16) (x8 : Vec Ideal S2048x2048 .f32)

/-- A column is the one at its place in its group. -/
theorem at_grp (n : Fin 2048) : at256 (grp n).val (plc n) = n :=
  Fin.ext (show 256 * (n.val / 256 % 8) + n.val % 256 = n.val by omega)

/-- A sum over 2048 columns, group by group. -/
theorem by_groups (f : Fin 2048 → EReal) : ∑ n, f n = ∑ h : Fin 8, ∑ k : Fin 256, f (at256 h.val k) := by
  rw [← Fintype.sum_prod_type']
  refine (Fintype.sum_equiv ⟨fun p : Fin 8 × Fin 256 => at256 p.1.val p.2, fun n => (grp n, plc n), fun p => ?_, at_grp⟩ _ _
    fun p => rfl).symm
  exact Prod.ext ((grp_at _ _).trans (Fin.ext (show p.1.val % 8 = p.1.val by omega))) (plc_at _ _)

theorem g8_val (h : Fin 8) : g8 h.val = h := Fin.ext (show h.val % 8 = h.val by omega)

/-! ## The weights -/

theorem v7 (d : Fin 1024) (n : Fin 2048) : val_main_v7 (F := Ideal) x2 (ix2 d n) = x2 (ix3 (grp n) d (plc n)) := by
  rw [val_main_v7_apply, val_main_v6_apply, val_main_v2_apply]
  exact congrArg x2 (ix3_of (by show (d.val * 2048 + n.val) / 256 % 8 = n.val / 256; omega)
    (by show (d.val * 2048 + n.val) / 2048 = d.val; omega)
    (by show (d.val * 2048 + n.val) % 256 = n.val % 256; omega))

theorem v9 (d : Fin 1024) (n : Fin 2048) : val_main_v9 (F := Ideal) x3 (ix2 d n) = x3 (ix3 (grp n) d (plc n)) := by
  rw [val_main_v9_apply, val_main_v8_apply, val_main_v3_apply]
  exact congrArg x3 (ix3_of (by show (d.val * 2048 + n.val) / 256 % 8 = n.val / 256; omega)
    (by show (d.val * 2048 + n.val) / 2048 = d.val; omega)
    (by show (d.val * 2048 + n.val) % 256 = n.val % 256; omega))

theorem v10 (n d : Fin 2048) : val_main_v10 (F := Ideal) x6 (ix2 n d) = x6 (ix3 (grp n) (plc n) d) := by
  rw [val_main_v10_apply, val_main_v4_apply]
  exact congrArg x6 (ix3_of (by show (n.val * 2048 + d.val) / 524288 = n.val / 256; omega)
    (by show (n.val * 2048 + d.val) / 2048 % 256 = n.val % 256; omega)
    (by show (n.val * 2048 + d.val) % 2048 = d.val; omega))

/-! ## The forward stages -/

theorem v16 (r n : Fin 2048) : val_main_v16 (F := Ideal) x4 (ix2 r n) = Ideal.logistic (x4 (ix2 r n)) := by
  pointwise [val_main_v16, val_main_v15, val_main_v14, val_main_v13, val_main_v12, val_main_v11, val_main_cst, val_main_cst_0]
  simp only [Ideal.logistic]

theorem v27 (r n : Fin 2048) : val_main_v27 (F := Ideal) x5 (ix2 r n) = Ideal.logistic (x5 (ix2 r n)) := by
  pointwise [val_main_v27, val_main_v26, val_main_v25, val_main_v24, val_main_v23, val_main_v22, val_main_cst_2, val_main_cst_3]
  simp only [Ideal.logistic]

theorem v20 (r n : Fin 2048) : val_main_v20 (F := Ideal) x0 x2 (ix2 r n) = branch x0 x2 (ix3 (grp n) r (plc n)) := by
  pointwise [val_main_v20, val_main_v0]
  simp only [v7]
  rfl

theorem v31 (r n : Fin 2048) : val_main_v31 (F := Ideal) x1 x3 (ix2 r n) = branch x1 x3 (ix3 (grp n) r (plc n)) := by
  pointwise [val_main_v31, val_main_v1]
  simp only [v9]
  rfl

theorem v33 (r n : Fin 2048) : val_main_v33 (F := Ideal) x0 x1 x2 x3 x4 x5 (ix2 r n)
    = merged x4 x5 (branch x0 x2) (branch x1 x3) (ix3 (grp n) r (plc n)) := by
  pointwise [val_main_v33, val_main_v21, val_main_v32]
  rw [v16, v27, v20, v31]
  show _ = Ideal.logistic (x4 (ix2 r (at256 (grp n).val (plc n)))) * _ + Ideal.logistic (x5 (ix2 r (at256 (grp n).val (plc n)))) * _
  rw [at_grp]

/-! ## The backward stages -/

theorem v37 (r n : Fin 2048) : val_main_v37 (F := Ideal) x6 x7 (ix2 r n) = dMerged x7 x6 r (grp n) (plc n) := by
  pointwise [val_main_v37, val_main_v5]
  simp only [v10]
  rfl

theorem v44 (r n : Fin 2048) :
    val_main_v44 (F := Ideal) x4 x6 x7 (ix2 r n) = dBranch x7 x6 x4 (ix3 (grp n) r (plc n)) := by
  pointwise [val_main_v44]
  rw [v16, v37, mul_comm]
  show _ = dMerged x7 x6 r (grp n) (plc n) * Ideal.logistic (x4 (ix2 r (at256 (grp n).val (plc n))))
  rw [at_grp]

theorem v38 (r n : Fin 2048) :
    val_main_v38 (F := Ideal) x5 x6 x7 (ix2 r n) = dBranch x7 x6 x5 (ix3 (grp n) r (plc n)) := by
  pointwise [val_main_v38]
  rw [v27, v37, mul_comm]
  show _ = dMerged x7 x6 r (grp n) (plc n) * Ideal.logistic (x5 (ix2 r (at256 (grp n).val (plc n))))
  rw [at_grp]

/-! ## The results -/

theorem v52 (r n : Fin 2048) :
    val_main_v52 (F := Ideal) x0 x2 x4 x6 x7 (ix2 r n) = dGate x7 x6 x4 (branch x0 x2) (ix2 r n) := by
  pointwise [val_main_v52, val_main_v49, val_main_v45, val_main_v19, val_main_v18, val_main_v17, val_main_cst_1]
  rw [v16, v37, v20, ← mul_assoc]
  show _ = dMerged x7 x6 r (grp n) (plc n) * branch x0 x2 (ix3 (grp n) r (plc n)) * Ideal.logistic (x4 (ix2 r n))
    * (one - Ideal.logistic (x4 (ix2 r n)))
  rw [show one = 1 from Cert.FfnRef.one_eq]

theorem v53 (r n : Fin 2048) :
    val_main_v53 (F := Ideal) x1 x3 x5 x6 x7 (ix2 r n) = dGate x7 x6 x5 (branch x1 x3) (ix2 r n) := by
  pointwise [val_main_v53, val_main_v43, val_main_v39, val_main_v30, val_main_v29, val_main_v28, val_main_cst_4]
  rw [v27, v37, v31, ← mul_assoc]
  show _ = dMerged x7 x6 r (grp n) (plc n) * branch x1 x3 (ix3 (grp n) r (plc n)) * Ideal.logistic (x5 (ix2 r n))
    * (one - Ideal.logistic (x5 (ix2 r n)))
  rw [show one = 1 from Cert.FfnRef.one_eq]

theorem v51 (h : Fin 8) (i : Fin 256) (k : Fin 2048) : val_main_v51 (F := Ideal) x0 x1 x2 x3 x4 x5 x7 (ix3 h i k)
    = wOut (merged x4 x5 (branch x0 x2) (branch x1 x3)) x7 (ix3 h i k) := by
  have e : val_main_v50 (F := Ideal) x0 x1 x2 x3 x4 x5 x7 (ix3 h i k)
      = val_main_v35 (F := Ideal) x0 x1 x2 x3 x4 x5 x7 (ix2 k (at256 h.val i)) := by
    rw [val_main_v50_apply, val_main_v36_apply]
    exact congrArg _ (ix2_of (by show ((h.val * 256 + i.val) * 2048 + k.val) % 2048 = k.val; omega)
      (by show ((h.val * 256 + i.val) * 2048 + k.val) / 2048 = 256 * (h.val % 8) + i.val; omega))
  rw [val_main_v51_apply]
  refine e.trans ?_
  pointwise [val_main_v35, val_main_v5]
  simp only [v33, grp_at, plc_at, g8_val]
  exact Finset.sum_congr rfl fun r _ => mul_comm _ _

theorem v56 (h : Fin 8) (i : Fin 1024) (k : Fin 256) :
    val_main_v56 (F := Ideal) x0 x4 x6 x7 (ix3 h i k) = wBranch x0 (dBranch x7 x6 x4) (ix3 h i k) := by
  have e : val_main_v55 (F := Ideal) x0 x4 x6 x7 (ix3 h i k) = val_main_v46 (F := Ideal) x0 x4 x6 x7 (ix2 (at256 h.val k) i) := by
    rw [val_main_v55_apply, val_main_v54_apply, val_main_v47_apply]
    exact congrArg _ (ix2_of (by show ((i.val * 8 + h.val) * 256 + k.val) % 2048 = 256 * (h.val % 8) + k.val; omega)
      (by show ((i.val * 8 + h.val) * 256 + k.val) / 2048 = i.val; omega))
  rw [val_main_v56_apply]
  refine e.trans ?_
  pointwise [val_main_v46, val_main_v0]
  simp only [v44, grp_at, plc_at, g8_val]
  exact Finset.sum_congr rfl fun r _ => mul_comm _ _

theorem v59 (h : Fin 8) (i : Fin 1024) (k : Fin 256) :
    val_main_v59 (F := Ideal) x1 x5 x6 x7 (ix3 h i k) = wBranch x1 (dBranch x7 x6 x5) (ix3 h i k) := by
  have e : val_main_v58 (F := Ideal) x1 x5 x6 x7 (ix3 h i k) = val_main_v40 (F := Ideal) x1 x5 x6 x7 (ix2 (at256 h.val k) i) := by
    rw [val_main_v58_apply, val_main_v57_apply, val_main_v41_apply]
    exact congrArg _ (ix2_of (by show ((i.val * 8 + h.val) * 256 + k.val) % 2048 = 256 * (h.val % 8) + k.val; omega)
      (by show ((i.val * 8 + h.val) * 256 + k.val) / 2048 = i.val; omega))
  rw [val_main_v59_apply]
  refine e.trans ?_
  pointwise [val_main_v40, val_main_v1]
  simp only [v38, grp_at, plc_at, g8_val]
  exact Finset.sum_congr rfl fun r _ => mul_comm _ _

theorem v60 (r : Fin 2048) (i : Fin 1024) :
    val_main_v60 (F := Ideal) x2 x4 x6 x7 (ix2 r i) = dMixer (dBranch x7 x6 x4) x2 (ix2 r i) := by
  pointwise [val_main_v60, val_main_v48]
  simp only [v44, v7]
  rw [by_groups]
  simp only [grp_at, plc_at, g8_val]
  rfl

theorem v61 (r : Fin 2048) (i : Fin 1024) :
    val_main_v61 (F := Ideal) x3 x5 x6 x7 (ix2 r i) = dMixer (dBranch x7 x6 x5) x3 (ix2 r i) := by
  pointwise [val_main_v61, val_main_v42]
  simp only [v38, v9]
  rw [by_groups]
  simp only [grp_at, plc_at, g8_val]
  rfl

theorem v62 (r n : Fin 2048) : val_main_v62 (F := Ideal) x0 x1 x2 x3 x4 x5 x6 x8 (ix2 r n)
    = outSum (merged x4 x5 (branch x0 x2) (branch x1 x3)) x6 x8 (ix2 r n) := by
  pointwise [val_main_v62, val_main_v34]
  simp only [v33, v10]
  rw [by_groups]
  simp only [grp_at, plc_at, g8_val]
  rfl

end Cert.MixRef
-- ==== Proof.MixClaim.lean ====
/- The equation of the merge of the two branches: its output and the gradients of its weights, of its gates and of the mixers' outputs. -/
module

public import proofs.«01_k».proof.Defs
public import proofs.«01_k».proof.Proof.MixRef
public import proofs.«01_k».proof.Proof.Gen.MixRefIdeal.Run

@[expose] public section

noncomputable section

namespace Cert.MixClaim

open Idealize.ShloMosaic Idealize.ShloMosaic.TcCoe Idealize.SL.Sem
open Cert.MixBlock Cert.MixArray Cert.MixRun Cert.MixRef

/-- Kernel and reference compute the same output and the same seven gradients over the extended reals. -/
theorem algebraic : @Cert.algebraic_MixBwdIdeal_MixRefIdeal Cert.MixBwdIdeal.Gen.facts Cert.MixRefIdeal.Gen.facts := by
  intro m g m' g' _ hag
  refine ⟨fun c => wOut (merged (Ga m c) (Gb m c) (Ya m c) (Yb m c)) (Da m c), fun c => dGate (Da m c) (Wo m c) (Ga m c) (Ya m c),
    fun c => dGate (Da m c) (Wo m c) (Gb m c) (Yb m c), fun c => wBranch (Oa m c) (Ea m c), fun c => wBranch (Ob m c) (Eb m c),
    fun c => dMixer (Ea m c) (Wa m c), fun c => dMixer (Eb m c) (Wb m c),
    fun c => outSum (merged (Ga m c) (Gb m c) (Ya m c) (Yb m c)) (Wo m c) (Ha m c), run m g, ?_⟩
  refine (θ_run Cert.MixRefIdeal.defs _ _).mono (fun _ h c => ?_) (Cert.MixRefIdeal.Value.run m' g')
  obtain ⟨h0, h1, h2, h3, h4, h5, h6, h7, h8⟩ := hag c
  obtain ⟨r0, r1, r2, r3, r4, r5, r6, r7, hargs⟩ := h c
  refine ⟨r0.trans ?_, r1.trans ?_, r2.trans ?_, r3.trans ?_, r4.trans ?_, r5.trans ?_, r6.trans ?_, r7.trans ?_, hargs⟩
  · rw [Cert.MixRefIdeal.Read.val_main_v51_eq, h0, h1, h2, h3, h4, h5, h7]
    funext y
    obtain ⟨a, i, k, rfl⟩ : ∃ (a : Fin 8) (i : Fin 256) (k : Fin 2048), y = ix3 a i k := ⟨_, _, _, eq_ix3 y⟩
    exact v51 _ _ _ _ _ _ _ a i k
  · rw [Cert.MixRefIdeal.Read.val_main_v52_eq, h0, h2, h4, h6, h7]
    funext y
    obtain ⟨r, n, rfl⟩ : ∃ r n : Fin 2048, y = ix2 r n := ⟨_, _, eq_ix2 y⟩
    exact v52 _ _ _ _ _ r n
  · rw [Cert.MixRefIdeal.Read.val_main_v53_eq, h1, h3, h5, h6, h7]
    funext y
    obtain ⟨r, n, rfl⟩ : ∃ r n : Fin 2048, y = ix2 r n := ⟨_, _, eq_ix2 y⟩
    exact v53 _ _ _ _ _ r n
  · rw [Cert.MixRefIdeal.Read.val_main_v56_eq, h0, h4, h6, h7]
    funext y
    obtain ⟨a, i, k, rfl⟩ : ∃ (a : Fin 8) (i : Fin 1024) (k : Fin 256), y = ix3 a i k := ⟨_, _, _, eq_ix3 y⟩
    exact v56 _ _ _ _ a i k
  · rw [Cert.MixRefIdeal.Read.val_main_v59_eq, h1, h5, h6, h7]
    funext y
    obtain ⟨a, i, k, rfl⟩ : ∃ (a : Fin 8) (i : Fin 1024) (k : Fin 256), y = ix3 a i k := ⟨_, _, _, eq_ix3 y⟩
    exact v59 _ _ _ _ a i k
  · rw [Cert.MixRefIdeal.Read.val_main_v60_eq, h2, h4, h6, h7]
    funext y
    obtain ⟨r, i, rfl⟩ : ∃ (r : Fin 2048) (i : Fin 1024), y = ix2 r i := ⟨_, _, eq_ix2 y⟩
    exact v60 _ _ _ _ r i
  · rw [Cert.MixRefIdeal.Read.val_main_v61_eq, h3, h5, h6, h7]
    funext y
    obtain ⟨r, i, rfl⟩ : ∃ (r : Fin 2048) (i : Fin 1024), y = ix2 r i := ⟨_, _, eq_ix2 y⟩
    exact v61 _ _ _ _ r i
  · rw [Cert.MixRefIdeal.Read.val_main_v62_eq, h0, h1, h2, h3, h4, h5, h6, h8]
    funext y
    obtain ⟨r, n, rfl⟩ : ∃ r n : Fin 2048, y = ix2 r n := ⟨_, _, eq_ix2 y⟩
    exact v62 _ _ _ _ _ _ _ _ r n

end Cert.MixClaim
-- ==== Proof.InBlock.lean ====
/- What one grid point of each of the input projection's calls computes: the payloads at an index, and what each body leaves in
   the staging buffer of its output. -/
module

public import proofs.«01_k».proof.Proof.Gen.InProjIdeal.Frame
public import proofs.«01_k».proof.Proof.Tile
public import Idealize.ShloMosaic.Lib.Pointwise

@[expose] public section

noncomputable section

namespace Cert.InBlock

open Idealize.ShloMosaic Idealize.ShloMosaic.TcCoe Cert.InProjIdeal Cert.InProjIdeal.Gen Cert.Tile

/-! ## The payloads at an index -/

theorem p_qkv (x0 : Vec Ideal S512x2048 .bf16) (x1 : Vec Ideal S1024x2048 .bf16) (i : Fin 512) (k : Fin 1024) :
    k0_pay1 x0 x1 (ix2 i k) = ∑ d : Fin 2048, x0 (ix2 i d) * x1 (ix2 k d) := by
  pointwise [k0_pay1]

theorem p_lat (x0 : Vec Ideal S1024x2048 .bf16) (x1 : Vec Ideal S1088x2048 .bf16) (i : Fin 1024) (k : Fin 1088) :
    k1_pay1 x0 x1 (ix2 i k) = ∑ d : Fin 2048, x0 (ix2 i d) * x1 (ix2 k d) := by
  pointwise [k1_pay1]

theorem p_ga (x0 : Vec Ideal S512x2048 .bf16) (x1 : Vec Ideal S1024x2048 .bf16) (i : Fin 512) (k : Fin 1024) :
    k2_pay1 x0 x1 (ix2 i k) = ∑ d : Fin 2048, x0 (ix2 i d) * x1 (ix2 k d) := by
  pointwise [k2_pay1]

theorem p_gb (x0 : Vec Ideal S512x2048 .bf16) (x1 : Vec Ideal S1024x2048 .bf16) (i : Fin 512) (k : Fin 1024) :
    k3_pay1 x0 x1 (ix2 i k) = ∑ d : Fin 2048, x0 (ix2 i d) * x1 (ix2 k d) := by
  pointwise [k3_pay1]

theorem p_dx (x0 : Vec Ideal S512x3072 .bf16) (x1 : Vec Ideal S3072x512 .bf16) (x2 : Vec Ideal S512x1088 .bf16) (x3 : Vec Ideal S1088x512 .bf16)
    (x4 : Vec Ideal S512x2048 .bf16) (x5 : Vec Ideal S2048x512 .bf16) (x6 : Vec Ideal S512x2048 .bf16) (x7 : Vec Ideal S2048x512 .bf16)
    (i k : Fin 512) :
    k4_pay1 x0 x1 x2 x3 x4 x5 x6 x7 (ix2 i k) = (∑ d : Fin 3072, x0 (ix2 i d) * x1 (ix2 d k)) + (∑ d : Fin 1088, x2 (ix2 i d) * x3 (ix2 d k))
      + (∑ d : Fin 2048, x4 (ix2 i d) * x5 (ix2 d k)) + (∑ d : Fin 2048, x6 (ix2 i d) * x7 (ix2 d k)) := by
  pointwise [k4_pay1]

/-! ## The staging buffers after a body -/

theorem hz2 : (![0, 0] : Fin 2 → ℕ) = fun _ => 0 := by decide

theorem out_qkv (x0 : Vec Ideal S512x2048 .bf16) (x1 : Vec Ideal S1024x2048 .bf16) : out0_2 x0 x1 = k0_pay1 x0 x1 := by
  unfold out0_2
  rw [View.canon_unit_zero hz2]
  simp only [View.ld_unit_zero (S := S512x2048) hz2, View.ld_unit_zero (S := S1024x2048) hz2]

theorem out_lat (x0 : Vec Ideal S1024x2048 .bf16) (x1 : Vec Ideal S1088x2048 .bf16) : out1_2 x0 x1 = k1_pay1 x0 x1 := by
  unfold out1_2
  rw [View.canon_unit_zero hz2]
  simp only [View.ld_unit_zero (S := S1024x2048) hz2, View.ld_unit_zero (S := S1088x2048) hz2]

theorem out_ga (x0 : Vec Ideal S512x2048 .bf16) (x1 : Vec Ideal S1024x2048 .bf16) : out2_2 x0 x1 = k2_pay1 x0 x1 := by
  unfold out2_2
  rw [View.canon_unit_zero hz2]
  simp only [View.ld_unit_zero (S := S512x2048) hz2, View.ld_unit_zero (S := S1024x2048) hz2]

theorem out_gb (x0 : Vec Ideal S512x2048 .bf16) (x1 : Vec Ideal S1024x2048 .bf16) : out3_2 x0 x1 = k3_pay1 x0 x1 := by
  unfold out3_2
  rw [View.canon_unit_zero hz2]
  simp only [View.ld_unit_zero (S := S512x2048) hz2, View.ld_unit_zero (S := S1024x2048) hz2]

theorem out_dx (x0 : Vec Ideal S512x3072 .bf16) (x1 : Vec Ideal S3072x512 .bf16) (x2 : Vec Ideal S512x1088 .bf16) (x3 : Vec Ideal S1088x512 .bf16)
    (x4 : Vec Ideal S512x2048 .bf16) (x5 : Vec Ideal S2048x512 .bf16) (x6 : Vec Ideal S512x2048 .bf16) (x7 : Vec Ideal S2048x512 .bf16) :
    out4_8 x0 x1 x2 x3 x4 x5 x6 x7 = k4_pay1 x0 x1 x2 x3 x4 x5 x6 x7 := by
  unfold out4_8
  rw [View.canon_unit_zero hz2]
  simp only [View.ld_unit_zero (S := S512x3072) hz2, View.ld_unit_zero (S := S3072x512) hz2, View.ld_unit_zero (S := S512x1088) hz2,
    View.ld_unit_zero (S := S1088x512) hz2, View.ld_unit_zero (S := S512x2048) hz2, View.ld_unit_zero (S := S2048x512) hz2]

end Cert.InBlock
-- ==== Proof.InArray.lean ====
/- The arrays that the input projection's calls leave, each as one function of the arrays that the call reads. -/
module

public import proofs.«01_k».proof.Proof.InBlock
public import proofs.«01_k».proof.Proof.Tile
public import Idealize.ShloMosaic.Lib.Pipeline.ValueKit.Geometry

@[expose] public section

noncomputable section

namespace Cert.InArray

open Idealize.ShloMosaic Idealize.ShloMosaic.TcCoe Idealize.SL.Sem
open Cert.InProjIdeal Cert.InProjIdeal.Gen Cert.InBlock Cert.Tile

/-! ## The results of the calls as functions of what they read -/

/-- Element `k` of block `n` of 1024, among 3072. -/
def q3 (n : ℕ) (k : Fin 1024) : Fin 3072 := ⟨1024 * (n % 3) + k.val, by omega⟩

/-- The neighbourhood attention's queries, keys and values: the input times their block of the weights. -/
def projQkv (U : Vec Ideal S2048x2048 .bf16) (W : Vec Ideal S3072x2048 .bf16) : Vec Ideal S2048x3072 .bf16 := fun y =>
  ∑ d : Fin 2048, U (ix2 (y 0) d) * W (ix2 (y 1) d)

/-- The latents, likewise. -/
def projLat (U : Vec Ideal S2048x2048 .bf16) (W : Vec Ideal S1088x2048 .bf16) : Vec Ideal S2048x1088 .f32 := fun y =>
  ∑ d : Fin 2048, U (ix2 (y 0) d) * W (ix2 (y 1) d)

/-- A gate, likewise. -/
def projGate (U W : Vec Ideal S2048x2048 .bf16) : Vec Ideal S2048x2048 .f32 := fun y =>
  ∑ d : Fin 2048, U (ix2 (y 0) d) * W (ix2 (y 1) d)

/-- The gradient of the input: each result's gradient times its block of the weights, added up. -/
def dInput (P : Vec Ideal S2048x3072 .bf16) (W : Vec Ideal S3072x2048 .bf16) (L : Vec Ideal S2048x1088 .bf16)
    (X : Vec Ideal S1088x2048 .bf16) (A Y B Z : Vec Ideal S2048x2048 .bf16) : Vec Ideal S2048x2048 .f32 := fun y =>
  (∑ d : Fin 3072, P (ix2 (y 0) d) * W (ix2 d (y 1))) + (∑ d : Fin 1088, L (ix2 (y 0) d) * X (ix2 d (y 1)))
    + (∑ d : Fin 2048, A (ix2 (y 0) d) * Y (ix2 d (y 1))) + (∑ d : Fin 2048, B (ix2 (y 0) d) * Z (ix2 d (y 1)))

variable (V : (c : Dev nD) → (b : Ref sig .tc) → Buf (Elt Ideal) ((c : Thread nD τ).loc b)) (c : Dev nD)

/-! ## `in_qkv` -/

/-- The block indices of the windows at a point. -/
theorem idx0 : ∀ t : Fin cfg0.N,
    (win0_0.index t (0 : Fin 2) = (t.val) % 4 ∧ win0_0.index t (1 : Fin 2) = 0)
    ∧ (win0_1.index t (0 : Fin 2) = (t.val / 4) % 3 ∧ win0_1.index t (1 : Fin 2) = 0)
    ∧ (win0_2.index t (0 : Fin 2) = (t.val) % 4 ∧ win0_2.index t (1 : Fin 2) = (t.val / 4) % 3) :=
  (by decide +kernel : ∀ t : Fin grid0.N, _)

theorem emb0_0 (t : Fin cfg0.N) (i : Fin 512) (k : Fin 2048) :
    ((cfg0.win 0).blk t).view.emb (ix2 i k : S512x2048.Idx) = (ix2 (r4 (t.val) i) k : S2048x2048.Idx) :=
  ix2_of (by have h := (idx0 t).1; show win0_0.index t (0 : Fin 2) * 512 + 1 * i.val = 512 * ((t.val) % 4) + i.val; omega)
    (by have h := (idx0 t).1; show win0_0.index t (1 : Fin 2) * 2048 + 1 * k.val = k.val; omega)

theorem blk0_0 (t : Fin cfg0.N) (i : Fin 512) (k : Fin 2048) :
    (iblk0 V c 0 t : Vec Ideal S512x2048 .bf16) (ix2 i k) = V c main_arg0 (ix2 (r4 (t.val) i) k) :=
  congrArg (V c main_arg0) (emb0_0 t i k)

theorem emb0_1 (t : Fin cfg0.N) (i : Fin 1024) (k : Fin 2048) :
    ((cfg0.win 1).blk t).view.emb (ix2 i k : S1024x2048.Idx) = (ix2 (q3 (t.val / 4) i) k : S3072x2048.Idx) :=
  ix2_of (by have h := (idx0 t).2.1; show win0_1.index t (0 : Fin 2) * 1024 + 1 * i.val = 1024 * ((t.val / 4) % 3) + i.val; omega)
    (by have h := (idx0 t).2.1; show win0_1.index t (1 : Fin 2) * 2048 + 1 * k.val = k.val; omega)

theorem blk0_1 (t : Fin cfg0.N) (i : Fin 1024) (k : Fin 2048) :
    (iblk0 V c 1 t : Vec Ideal S1024x2048 .bf16) (ix2 i k) = V c main_arg1 (ix2 (q3 (t.val / 4) i) k) :=
  congrArg (V c main_arg1) (emb0_1 t i k)

theorem emb0_2 (t : Fin cfg0.N) (i : Fin 512) (k : Fin 1024) :
    ((cfg0.win 2).blk t).view.emb (ix2 i k : S512x1024.Idx) = (ix2 (r4 (t.val) i) (q3 (t.val / 4) k) : S2048x3072.Idx) :=
  ix2_of (by have h := (idx0 t).2.2; show win0_2.index t (0 : Fin 2) * 512 + 1 * i.val = 512 * ((t.val) % 4) + i.val; omega)
    (by have h := (idx0 t).2.2; show win0_2.index t (1 : Fin 2) * 1024 + 1 * k.val = 1024 * ((t.val / 4) % 3) + k.val; omega)

/-- The queries, keys and values. -/
theorem arr0_2 : (dat0 V c).arrAt 2 cfg0.N = projQkv (V c main_arg0) (V c main_arg1) := by
  refine (dat0 V c).arrAt_eq_of_covers 2 _ (by decide +kernel) fun t _ (y : S512x1024.Idx) => ?_
  show (dat0 V c).after 2 t y = (projQkv (V c main_arg0) (V c main_arg1) : Vec Ideal S2048x3072 .bf16) (((cfg0.win 2).blk t).view.emb y)
  obtain ⟨i, k, rfl⟩ : ∃ (i : Fin 512) (k : Fin 1024), y = ix2 i k := ⟨_, _, eq_ix2 y⟩
  rw [after0_2, out_qkv, p_qkv, emb0_2]
  simp only [blk0_0, blk0_1]
  rfl

/-! ## `in_lat` -/

/-- The block indices of the windows at a point. -/
theorem idx1 : ∀ t : Fin cfg1.N,
    (win1_0.index t (0 : Fin 2) = (t.val) % 2 ∧ win1_0.index t (1 : Fin 2) = 0)
    ∧ (win1_1.index t (0 : Fin 2) = 0 ∧ win1_1.index t (1 : Fin 2) = 0)
    ∧ (win1_2.index t (0 : Fin 2) = (t.val) % 2 ∧ win1_2.index t (1 : Fin 2) = 0) :=
  (by decide +kernel : ∀ t : Fin grid1.N, _)

theorem emb1_0 (t : Fin cfg1.N) (i : Fin 1024) (k : Fin 2048) :
    ((cfg1.win 0).blk t).view.emb (ix2 i k : S1024x2048.Idx) = (ix2 (pos (t.val) i) k : S2048x2048.Idx) :=
  ix2_of (by have h := (idx1 t).1; show win1_0.index t (0 : Fin 2) * 1024 + 1 * i.val = 1024 * ((t.val) % 2) + i.val; omega)
    (by have h := (idx1 t).1; show win1_0.index t (1 : Fin 2) * 2048 + 1 * k.val = k.val; omega)

theorem blk1_0 (t : Fin cfg1.N) (i : Fin 1024) (k : Fin 2048) :
    (iblk1 V c 0 t : Vec Ideal S1024x2048 .bf16) (ix2 i k) = V c main_arg0 (ix2 (pos (t.val) i) k) :=
  congrArg (V c main_arg0) (emb1_0 t i k)

theorem emb1_1 (t : Fin cfg1.N) (i : Fin 1088) (k : Fin 2048) :
    ((cfg1.win 1).blk t).view.emb (ix2 i k : S1088x2048.Idx) = (ix2 i k : S1088x2048.Idx) :=
  ix2_of (by have h := (idx1 t).2.1; show win1_1.index t (0 : Fin 2) * 1088 + 1 * i.val = i.val; omega)
    (by have h := (idx1 t).2.1; show win1_1.index t (1 : Fin 2) * 2048 + 1 * k.val = k.val; omega)

theorem blk1_1 (t : Fin cfg1.N) (i : Fin 1088) (k : Fin 2048) :
    (iblk1 V c 1 t : Vec Ideal S1088x2048 .bf16) (ix2 i k) = V c main_arg2 (ix2 i k) :=
  congrArg (V c main_arg2) (emb1_1 t i k)

theorem emb1_2 (t : Fin cfg1.N) (i : Fin 1024) (k : Fin 1088) :
    ((cfg1.win 2).blk t).view.emb (ix2 i k : S1024x1088.Idx) = (ix2 (pos (t.val) i) k : S2048x1088.Idx) :=
  ix2_of (by have h := (idx1 t).2.2; show win1_2.index t (0 : Fin 2) * 1024 + 1 * i.val = 1024 * ((t.val) % 2) + i.val; omega)
    (by have h := (idx1 t).2.2; show win1_2.index t (1 : Fin 2) * 1088 + 1 * k.val = k.val; omega)

/-- The latents. -/
theorem arr1_2 : (dat1 V c).arrAt 2 cfg1.N = projLat (V c main_arg0) (V c main_arg2) := by
  refine (dat1 V c).arrAt_eq_of_covers 2 _ (by decide +kernel) fun t _ (y : S1024x1088.Idx) => ?_
  show (dat1 V c).after 2 t y = (projLat (V c main_arg0) (V c main_arg2) : Vec Ideal S2048x1088 .f32) (((cfg1.win 2).blk t).view.emb y)
  obtain ⟨i, k, rfl⟩ : ∃ (i : Fin 1024) (k : Fin 1088), y = ix2 i k := ⟨_, _, eq_ix2 y⟩
  rw [after1_2, out_lat, p_lat, emb1_2]
  simp only [blk1_0, blk1_1]
  rfl

/-! ## `in_ga` -/

/-- The block indices of the windows at a point. -/
theorem idx2 : ∀ t : Fin cfg2.N,
    (win2_0.index t (0 : Fin 2) = (t.val) % 4 ∧ win2_0.index t (1 : Fin 2) = 0)
    ∧ (win2_1.index t (0 : Fin 2) = (t.val / 4) % 2 ∧ win2_1.index t (1 : Fin 2) = 0)
    ∧ (win2_2.index t (0 : Fin 2) = (t.val) % 4 ∧ win2_2.index t (1 : Fin 2) = (t.val / 4) % 2) :=
  (by decide +kernel : ∀ t : Fin grid2.N, _)

theorem emb2_0 (t : Fin cfg2.N) (i : Fin 512) (k : Fin 2048) :
    ((cfg2.win 0).blk t).view.emb (ix2 i k : S512x2048.Idx) = (ix2 (r4 (t.val) i) k : S2048x2048.Idx) :=
  ix2_of (by have h := (idx2 t).1; show win2_0.index t (0 : Fin 2) * 512 + 1 * i.val = 512 * ((t.val) % 4) + i.val; omega)
    (by have h := (idx2 t).1; show win2_0.index t (1 : Fin 2) * 2048 + 1 * k.val = k.val; omega)

theorem blk2_0 (t : Fin cfg2.N) (i : Fin 512) (k : Fin 2048) :
    (iblk2 V c 0 t : Vec Ideal S512x2048 .bf16) (ix2 i k) = V c main_arg0 (ix2 (r4 (t.val) i) k) :=
  congrArg (V c main_arg0) (emb2_0 t i k)

theorem emb2_1 (t : Fin cfg2.N) (i : Fin 1024) (k : Fin 2048) :
    ((cfg2.win 1).blk t).view.emb (ix2 i k : S1024x2048.Idx) = (ix2 (pos (t.val / 4) i) k : S2048x2048.Idx) :=
  ix2_of (by have h := (idx2 t).2.1; show win2_1.index t (0 : Fin 2) * 1024 + 1 * i.val = 1024 * ((t.val / 4) % 2) + i.val; omega)
    (by have h := (idx2 t).2.1; show win2_1.index t (1 : Fin 2) * 2048 + 1 * k.val = k.val; omega)

theorem blk2_1 (t : Fin cfg2.N) (i : Fin 1024) (k : Fin 2048) :
    (iblk2 V c 1 t : Vec Ideal S1024x2048 .bf16) (ix2 i k) = V c main_arg3 (ix2 (pos (t.val / 4) i) k) :=
  congrArg (V c main_arg3) (emb2_1 t i k)

theorem emb2_2 (t : Fin cfg2.N) (i : Fin 512) (k : Fin 1024) :
    ((cfg2.win 2).blk t).view.emb (ix2 i k : S512x1024.Idx) = (ix2 (r4 (t.val) i) (pos (t.val / 4) k) : S2048x2048.Idx) :=
  ix2_of (by have h := (idx2 t).2.2; show win2_2.index t (0 : Fin 2) * 512 + 1 * i.val = 512 * ((t.val) % 4) + i.val; omega)
    (by have h := (idx2 t).2.2; show win2_2.index t (1 : Fin 2) * 1024 + 1 * k.val = 1024 * ((t.val / 4) % 2) + k.val; omega)

/-- The first gate. -/
theorem arr2_2 : (dat2 V c).arrAt 2 cfg2.N = projGate (V c main_arg0) (V c main_arg3) := by
  refine (dat2 V c).arrAt_eq_of_covers 2 _ (by decide +kernel) fun t _ (y : S512x1024.Idx) => ?_
  show (dat2 V c).after 2 t y = (projGate (V c main_arg0) (V c main_arg3) : Vec Ideal S2048x2048 .f32) (((cfg2.win 2).blk t).view.emb y)
  obtain ⟨i, k, rfl⟩ : ∃ (i : Fin 512) (k : Fin 1024), y = ix2 i k := ⟨_, _, eq_ix2 y⟩
  rw [after2_2, out_ga, p_ga, emb2_2]
  simp only [blk2_0, blk2_1]
  rfl

/-! ## `in_gb` -/

/-- The block indices of the windows at a point. -/
theorem idx3 : ∀ t : Fin cfg3.N,
    (win3_0.index t (0 : Fin 2) = (t.val) % 4 ∧ win3_0.index t (1 : Fin 2) = 0)
    ∧ (win3_1.index t (0 : Fin 2) = (t.val / 4) % 2 ∧ win3_1.index t (1 : Fin 2) = 0)
    ∧ (win3_2.index t (0 : Fin 2) = (t.val) % 4 ∧ win3_2.index t (1 : Fin 2) = (t.val / 4) % 2) :=
  (by decide +kernel : ∀ t : Fin grid3.N, _)

theorem emb3_0 (t : Fin cfg3.N) (i : Fin 512) (k : Fin 2048) :
    ((cfg3.win 0).blk t).view.emb (ix2 i k : S512x2048.Idx) = (ix2 (r4 (t.val) i) k : S2048x2048.Idx) :=
  ix2_of (by have h := (idx3 t).1; show win3_0.index t (0 : Fin 2) * 512 + 1 * i.val = 512 * ((t.val) % 4) + i.val; omega)
    (by have h := (idx3 t).1; show win3_0.index t (1 : Fin 2) * 2048 + 1 * k.val = k.val; omega)

theorem blk3_0 (t : Fin cfg3.N) (i : Fin 512) (k : Fin 2048) :
    (iblk3 V c 0 t : Vec Ideal S512x2048 .bf16) (ix2 i k) = V c main_arg0 (ix2 (r4 (t.val) i) k) :=
  congrArg (V c main_arg0) (emb3_0 t i k)

theorem emb3_1 (t : Fin cfg3.N) (i : Fin 1024) (k : Fin 2048) :
    ((cfg3.win 1).blk t).view.emb (ix2 i k : S1024x2048.Idx) = (ix2 (pos (t.val / 4) i) k : S2048x2048.Idx) :=
  ix2_of (by have h := (idx3 t).2.1; show win3_1.index t (0 : Fin 2) * 1024 + 1 * i.val = 1024 * ((t.val / 4) % 2) + i.val; omega)
    (by have h := (idx3 t).2.1; show win3_1.index t (1 : Fin 2) * 2048 + 1 * k.val = k.val; omega)

theorem blk3_1 (t : Fin cfg3.N) (i : Fin 1024) (k : Fin 2048) :
    (iblk3 V c 1 t : Vec Ideal S1024x2048 .bf16) (ix2 i k) = V c main_arg4 (ix2 (pos (t.val / 4) i) k) :=
  congrArg (V c main_arg4) (emb3_1 t i k)

theorem emb3_2 (t : Fin cfg3.N) (i : Fin 512) (k : Fin 1024) :
    ((cfg3.win 2).blk t).view.emb (ix2 i k : S512x1024.Idx) = (ix2 (r4 (t.val) i) (pos (t.val / 4) k) : S2048x2048.Idx) :=
  ix2_of (by have h := (idx3 t).2.2; show win3_2.index t (0 : Fin 2) * 512 + 1 * i.val = 512 * ((t.val) % 4) + i.val; omega)
    (by have h := (idx3 t).2.2; show win3_2.index t (1 : Fin 2) * 1024 + 1 * k.val = 1024 * ((t.val / 4) % 2) + k.val; omega)

/-- The second gate. -/
theorem arr3_2 : (dat3 V c).arrAt 2 cfg3.N = projGate (V c main_arg0) (V c main_arg4) := by
  refine (dat3 V c).arrAt_eq_of_covers 2 _ (by decide +kernel) fun t _ (y : S512x1024.Idx) => ?_
  show (dat3 V c).after 2 t y = (projGate (V c main_arg0) (V c main_arg4) : Vec Ideal S2048x2048 .f32) (((cfg3.win 2).blk t).view.emb y)
  obtain ⟨i, k, rfl⟩ : ∃ (i : Fin 512) (k : Fin 1024), y = ix2 i k := ⟨_, _, eq_ix2 y⟩
  rw [after3_2, out_gb, p_gb, emb3_2]
  simp only [blk3_0, blk3_1]
  rfl

/-! ## `in_proj_dx` -/

/-- The block indices of the windows at a point. -/
theorem idx4 : ∀ t : Fin cfg4.N,
    (win4_0.index t (0 : Fin 2) = (t.val) % 4 ∧ win4_0.index t (1 : Fin 2) = 0)
    ∧ (win4_1.index t (0 : Fin 2) = 0 ∧ win4_1.index t (1 : Fin 2) = (t.val / 4) % 4)
    ∧ (win4_2.index t (0 : Fin 2) = (t.val) % 4 ∧ win4_2.index t (1 : Fin 2) = 0)
    ∧ (win4_3.index t (0 : Fin 2) = 0 ∧ win4_3.index t (1 : Fin 2) = (t.val / 4) % 4)
    ∧ (win4_4.index t (0 : Fin 2) = (t.val) % 4 ∧ win4_4.index t (1 : Fin 2) = 0)
    ∧ (win4_5.index t (0 : Fin 2) = 0 ∧ win4_5.index t (1 : Fin 2) = (t.val / 4) % 4)
    ∧ (win4_6.index t (0 : Fin 2) = (t.val) % 4 ∧ win4_6.index t (1 : Fin 2) = 0)
    ∧ (win4_7.index t (0 : Fin 2) = 0 ∧ win4_7.index t (1 : Fin 2) = (t.val / 4) % 4)
    ∧ (win4_8.index t (0 : Fin 2) = (t.val) % 4 ∧ win4_8.index t (1 : Fin 2) = (t.val / 4) % 4) :=
  (by decide +kernel : ∀ t : Fin grid4.N, _)

theorem emb4_0 (t : Fin cfg4.N) (i : Fin 512) (k : Fin 3072) :
    ((cfg4.win 0).blk t).view.emb (ix2 i k : S512x3072.Idx) = (ix2 (r4 (t.val) i) k : S2048x3072.Idx) :=
  ix2_of (by have h := (idx4 t).1; show win4_0.index t (0 : Fin 2) * 512 + 1 * i.val = 512 * ((t.val) % 4) + i.val; omega)
    (by have h := (idx4 t).1; show win4_0.index t (1 : Fin 2) * 3072 + 1 * k.val = k.val; omega)

theorem blk4_0 (t : Fin cfg4.N) (i : Fin 512) (k : Fin 3072) :
    (iblk4 V c 0 t : Vec Ideal S512x3072 .bf16) (ix2 i k) = V c main_arg5 (ix2 (r4 (t.val) i) k) :=
  congrArg (V c main_arg5) (emb4_0 t i k)

theorem emb4_1 (t : Fin cfg4.N) (i : Fin 3072) (k : Fin 512) :
    ((cfg4.win 1).blk t).view.emb (ix2 i k : S3072x512.Idx) = (ix2 i (r4 (t.val / 4) k) : S3072x2048.Idx) :=
  ix2_of (by have h := (idx4 t).2.1; show win4_1.index t (0 : Fin 2) * 3072 + 1 * i.val = i.val; omega)
    (by have h := (idx4 t).2.1; show win4_1.index t (1 : Fin 2) * 512 + 1 * k.val = 512 * ((t.val / 4) % 4) + k.val; omega)

theorem blk4_1 (t : Fin cfg4.N) (i : Fin 3072) (k : Fin 512) :
    (iblk4 V c 1 t : Vec Ideal S3072x512 .bf16) (ix2 i k) = V c main_arg1 (ix2 i (r4 (t.val / 4) k)) :=
  congrArg (V c main_arg1) (emb4_1 t i k)

theorem emb4_2 (t : Fin cfg4.N) (i : Fin 512) (k : Fin 1088) :
    ((cfg4.win 2).blk t).view.emb (ix2 i k : S512x1088.Idx) = (ix2 (r4 (t.val) i) k : S2048x1088.Idx) :=
  ix2_of (by have h := (idx4 t).2.2.1; show win4_2.index t (0 : Fin 2) * 512 + 1 * i.val = 512 * ((t.val) % 4) + i.val; omega)
    (by have h := (idx4 t).2.2.1; show win4_2.index t (1 : Fin 2) * 1088 + 1 * k.val = k.val; omega)

theorem blk4_2 (t : Fin cfg4.N) (i : Fin 512) (k : Fin 1088) :
    (iblk4 V c 2 t : Vec Ideal S512x1088 .bf16) (ix2 i k) = V c main_arg6 (ix2 (r4 (t.val) i) k) :=
  congrArg (V c main_arg6) (emb4_2 t i k)

theorem emb4_3 (t : Fin cfg4.N) (i : Fin 1088) (k : Fin 512) :
    ((cfg4.win 3).blk t).view.emb (ix2 i k : S1088x512.Idx) = (ix2 i (r4 (t.val / 4) k) : S1088x2048.Idx) :=
  ix2_of (by have h := (idx4 t).2.2.2.1; show win4_3.index t (0 : Fin 2) * 1088 + 1 * i.val = i.val; omega)
    (by have h := (idx4 t).2.2.2.1; show win4_3.index t (1 : Fin 2) * 512 + 1 * k.val = 512 * ((t.val / 4) % 4) + k.val; omega)

theorem blk4_3 (t : Fin cfg4.N) (i : Fin 1088) (k : Fin 512) :
    (iblk4 V c 3 t : Vec Ideal S1088x512 .bf16) (ix2 i k) = V c main_arg2 (ix2 i (r4 (t.val / 4) k)) :=
  congrArg (V c main_arg2) (emb4_3 t i k)

theorem emb4_4 (t : Fin cfg4.N) (i : Fin 512) (k : Fin 2048) :
    ((cfg4.win 4).blk t).view.emb (ix2 i k : S512x2048.Idx) = (ix2 (r4 (t.val) i) k : S2048x2048.Idx) :=
  ix2_of (by have h := (idx4 t).2.2.2.2.1; show win4_4.index t (0 : Fin 2) * 512 + 1 * i.val = 512 * ((t.val) % 4) + i.val; omega)
    (by have h := (idx4 t).2.2.2.2.1; show win4_4.index t (1 : Fin 2) * 2048 + 1 * k.val = k.val; omega)

theorem blk4_4 (t : Fin cfg4.N) (i : Fin 512) (k : Fin 2048) :
    (iblk4 V c 4 t : Vec Ideal S512x2048 .bf16) (ix2 i k) = V c main_arg7 (ix2 (r4 (t.val) i) k) :=
  congrArg (V c main_arg7) (emb4_4 t i k)

theorem emb4_5 (t : Fin cfg4.N) (i : Fin 2048) (k : Fin 512) :
    ((cfg4.win 5).blk t).view.emb (ix2 i k : S2048x512.Idx) = (ix2 i (r4 (t.val / 4) k) : S2048x2048.Idx) :=
  ix2_of (by have h := (idx4 t).2.2.2.2.2.1; show win4_5.index t (0 : Fin 2) * 2048 + 1 * i.val = i.val; omega)
    (by have h := (idx4 t).2.2.2.2.2.1; show win4_5.index t (1 : Fin 2) * 512 + 1 * k.val = 512 * ((t.val / 4) % 4) + k.val; omega)

theorem blk4_5 (t : Fin cfg4.N) (i : Fin 2048) (k : Fin 512) :
    (iblk4 V c 5 t : Vec Ideal S2048x512 .bf16) (ix2 i k) = V c main_arg3 (ix2 i (r4 (t.val / 4) k)) :=
  congrArg (V c main_arg3) (emb4_5 t i k)

theorem emb4_6 (t : Fin cfg4.N) (i : Fin 512) (k : Fin 2048) :
    ((cfg4.win 6).blk t).view.emb (ix2 i k : S512x2048.Idx) = (ix2 (r4 (t.val) i) k : S2048x2048.Idx) :=
  ix2_of (by have h := (idx4 t).2.2.2.2.2.2.1; show win4_6.index t (0 : Fin 2) * 512 + 1 * i.val = 512 * ((t.val) % 4) + i.val; omega)
    (by have h := (idx4 t).2.2.2.2.2.2.1; show win4_6.index t (1 : Fin 2) * 2048 + 1 * k.val = k.val; omega)

theorem blk4_6 (t : Fin cfg4.N) (i : Fin 512) (k : Fin 2048) :
    (iblk4 V c 6 t : Vec Ideal S512x2048 .bf16) (ix2 i k) = V c main_arg8 (ix2 (r4 (t.val) i) k) :=
  congrArg (V c main_arg8) (emb4_6 t i k)

theorem emb4_7 (t : Fin cfg4.N) (i : Fin 2048) (k : Fin 512) :
    ((cfg4.win 7).blk t).view.emb (ix2 i k : S2048x512.Idx) = (ix2 i (r4 (t.val / 4) k) : S2048x2048.Idx) :=
  ix2_of (by have h := (idx4 t).2.2.2.2.2.2.2.1; show win4_7.index t (0 : Fin 2) * 2048 + 1 * i.val = i.val; omega)
    (by have h := (idx4 t).2.2.2.2.2.2.2.1; show win4_7.index t (1 : Fin 2) * 512 + 1 * k.val = 512 * ((t.val / 4) % 4) + k.val; omega)

theorem blk4_7 (t : Fin cfg4.N) (i : Fin 2048) (k : Fin 512) :
    (iblk4 V c 7 t : Vec Ideal S2048x512 .bf16) (ix2 i k) = V c main_arg4 (ix2 i (r4 (t.val / 4) k)) :=
  congrArg (V c main_arg4) (emb4_7 t i k)

theorem emb4_8 (t : Fin cfg4.N) (i : Fin 512) (k : Fin 512) :
    ((cfg4.win 8).blk t).view.emb (ix2 i k : S512x512.Idx) = (ix2 (r4 (t.val) i) (r4 (t.val / 4) k) : S2048x2048.Idx) :=
  ix2_of (by have h := (idx4 t).2.2.2.2.2.2.2.2; show win4_8.index t (0 : Fin 2) * 512 + 1 * i.val = 512 * ((t.val) % 4) + i.val; omega)
    (by have h := (idx4 t).2.2.2.2.2.2.2.2; show win4_8.index t (1 : Fin 2) * 512 + 1 * k.val = 512 * ((t.val / 4) % 4) + k.val; omega)

/-- The gradient of the input. -/
theorem arr4_8 : (dat4 V c).arrAt 8 cfg4.N = dInput (V c main_arg5) (V c main_arg1) (V c main_arg6) (V c main_arg2) (V c main_arg7) (V c main_arg3) (V c main_arg8) (V c main_arg4) := by
  refine (dat4 V c).arrAt_eq_of_covers 8 _ (by decide +kernel) fun t _ (y : S512x512.Idx) => ?_
  show (dat4 V c).after 8 t y = (dInput (V c main_arg5) (V c main_arg1) (V c main_arg6) (V c main_arg2) (V c main_arg7) (V c main_arg3) (V c main_arg8) (V c main_arg4) : Vec Ideal S2048x2048 .f32) (((cfg4.win 8).blk t).view.emb y)
  obtain ⟨i, k, rfl⟩ : ∃ (i : Fin 512) (k : Fin 512), y = ix2 i k := ⟨_, _, eq_ix2 y⟩
  rw [after4_8, out_dx, p_dx, emb4_8]
  simp only [blk4_0, blk4_1, blk4_2, blk4_3, blk4_4, blk4_5, blk4_6, blk4_7]
  rfl

end Cert.InArray
-- ==== Proof.InRun.lean ====
/- The run of the input projection's calls: its results are functions of the arguments, and the arguments stay as they
   were. -/
module

public import proofs.«01_k».proof.Proof.InArray

@[expose] public section

noncomputable section

namespace Cert.InRun

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InProjIdeal Cert.InProjIdeal.Gen Cert.InArray

variable (m : (ℓ : Loc nD τ sig) → Buf (Elt Ideal) ℓ) (ρ : Dev nD → PrngReg) (c : Dev nD)

/-- The arguments as launched: the input, the four blocks of the weights, and the gradients of the four results. -/
abbrev Ua : Vec Ideal S2048x2048 .bf16 := m ((c : Thread nD τ).loc main_arg0)
abbrev Wq : Vec Ideal S3072x2048 .bf16 := m ((c : Thread nD τ).loc main_arg1)
abbrev Wl : Vec Ideal S1088x2048 .bf16 := m ((c : Thread nD τ).loc main_arg2)
abbrev Wa : Vec Ideal S2048x2048 .bf16 := m ((c : Thread nD τ).loc main_arg3)
abbrev Wb : Vec Ideal S2048x2048 .bf16 := m ((c : Thread nD τ).loc main_arg4)
abbrev Dq : Vec Ideal S2048x3072 .bf16 := m ((c : Thread nD τ).loc main_arg5)
abbrev Dl : Vec Ideal S2048x1088 .bf16 := m ((c : Thread nD τ).loc main_arg6)
abbrev Da : Vec Ideal S2048x2048 .bf16 := m ((c : Thread nD τ).loc main_arg7)
abbrev Db : Vec Ideal S2048x2048 .bf16 := m ((c : Thread nD τ).loc main_arg8)

/-! ## The contents between the calls -/

theorem qkv1 : W1 m ρ c (Proc.devRef .tc main_v0) = projQkv (Ua m c) (Wq m c) := by
  refine (W1_arr m ρ c 2).trans ((arr0_2 (V0 m ρ) c).trans ?_)
  show projQkv (W0 m ρ c (Proc.devRef .tc main_arg0)) (W0 m ρ c (Proc.devRef .tc main_arg1)) = _
  rw [W0_args m ρ c main_arg0 (by decide), W0_args m ρ c main_arg1 (by decide)]

theorem qkv_end : W5 m ρ c (Proc.devRef .tc main_v0) = projQkv (Ua m c) (Wq m c) :=
  (W5_of m ρ c main_v0 (by decide)).trans ((W4_of m ρ c main_v0 (by decide)).trans ((W3_of m ρ c main_v0 (by decide)).trans ((W2_of m ρ c main_v0 (by decide)).trans (qkv1 m ρ c))))

theorem lat2 : W2 m ρ c (Proc.devRef .tc main_v1) = projLat (Ua m c) (Wl m c) := by
  refine (W2_arr m ρ c 2).trans ((arr1_2 (V1 m ρ) c).trans ?_)
  show projLat (W1 m ρ c (Proc.devRef .tc main_arg0)) (W1 m ρ c (Proc.devRef .tc main_arg2)) = _
  rw [W1_args m ρ c main_arg0 (by decide), W1_args m ρ c main_arg2 (by decide)]

theorem lat_end : W5 m ρ c (Proc.devRef .tc main_v1) = projLat (Ua m c) (Wl m c) :=
  (W5_of m ρ c main_v1 (by decide)).trans ((W4_of m ρ c main_v1 (by decide)).trans ((W3_of m ρ c main_v1 (by decide)).trans (lat2 m ρ c)))

theorem ga3 : W3 m ρ c (Proc.devRef .tc main_v2) = projGate (Ua m c) (Wa m c) := by
  refine (W3_arr m ρ c 2).trans ((arr2_2 (V2 m ρ) c).trans ?_)
  show projGate (W2 m ρ c (Proc.devRef .tc main_arg0)) (W2 m ρ c (Proc.devRef .tc main_arg3)) = _
  rw [W2_args m ρ c main_arg0 (by decide), W2_args m ρ c main_arg3 (by decide)]

theorem ga_end : W5 m ρ c (Proc.devRef .tc main_v2) = projGate (Ua m c) (Wa m c) :=
  (W5_of m ρ c main_v2 (by decide)).trans ((W4_of m ρ c main_v2 (by decide)).trans (ga3 m ρ c))

theorem gb4 : W4 m ρ c (Proc.devRef .tc main_v3) = projGate (Ua m c) (Wb m c) := by
  refine (W4_arr m ρ c 2).trans ((arr3_2 (V3 m ρ) c).trans ?_)
  show projGate (W3 m ρ c (Proc.devRef .tc main_arg0)) (W3 m ρ c (Proc.devRef .tc main_arg4)) = _
  rw [W3_args m ρ c main_arg0 (by decide), W3_args m ρ c main_arg4 (by decide)]

theorem gb_end : W5 m ρ c (Proc.devRef .tc main_v3) = projGate (Ua m c) (Wb m c) :=
  (W5_of m ρ c main_v3 (by decide)).trans (gb4 m ρ c)

theorem dx5 : W5 m ρ c (Proc.devRef .tc main_v4) = dInput (Dq m c) (Wq m c) (Dl m c) (Wl m c) (Da m c) (Wa m c) (Db m c) (Wb m c) := by
  refine (W5_arr m ρ c 8).trans ((arr4_8 (V4 m ρ) c).trans ?_)
  show dInput (W4 m ρ c (Proc.devRef .tc main_arg5)) (W4 m ρ c (Proc.devRef .tc main_arg1)) (W4 m ρ c (Proc.devRef .tc main_arg6)) (W4 m ρ c (Proc.devRef .tc main_arg2)) (W4 m ρ c (Proc.devRef .tc main_arg7)) (W4 m ρ c (Proc.devRef .tc main_arg3)) (W4 m ρ c (Proc.devRef .tc main_arg8)) (W4 m ρ c (Proc.devRef .tc main_arg4)) = _
  rw [W4_args m ρ c main_arg5 (by decide), W4_args m ρ c main_arg1 (by decide), W4_args m ρ c main_arg6 (by decide), W4_args m ρ c main_arg2 (by decide), W4_args m ρ c main_arg7 (by decide), W4_args m ρ c main_arg3 (by decide), W4_args m ρ c main_arg8 (by decide), W4_args m ρ c main_arg4 (by decide)]

-- the launch theorem's implicit arguments are found by unifying its conclusion with this one, which takes unfolding plain
-- definitions in a metavariable's type
set_option backward.isDefEq.respectTransparency.types false in
/-- THE RUN: every execution ends with the results as these functions of the arguments and the arguments as
    launched. -/
theorem run : θ_run defs (onTc (τ := τ) (main (F := Ideal))) ⟨m, fun _ => 0, ρ⟩ (fun r => ∀ c : Dev nD,
      r.2.mem ((c.tc : Thread nD τ).loc main_v0) = projQkv (Ua m c) (Wq m c)
      ∧ r.2.mem ((c.tc : Thread nD τ).loc main_v1) = projLat (Ua m c) (Wl m c)
      ∧ r.2.mem ((c.tc : Thread nD τ).loc main_v2) = projGate (Ua m c) (Wa m c)
      ∧ r.2.mem ((c.tc : Thread nD τ).loc main_v3) = projGate (Ua m c) (Wb m c)
      ∧ r.2.mem ((c.tc : Thread nD τ).loc main_v4) = dInput (Dq m c) (Wq m c) (Dl m c) (Wl m c) (Da m c) (Wa m c) (Db m c) (Wb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v0 (by decide))).trans (qkv_end m ρ c),
       (h c _ (mem_uc main_v1 (by decide))).trans (lat_end m ρ c),
       (h c _ (mem_uc main_v2 (by decide))).trans (ga_end m ρ c),
       (h c _ (mem_uc main_v3 (by decide))).trans (gb_end m ρ c),
       (h c _ (mem_uc main_v4 (by decide))).trans (dx5 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.InRun
-- ==== Proof.InRef.lean ====
/- What the reference of the input projection and of its gradient computes, stage by stage at an index, in the terms of the
   kernel's arrays. -/
module

public import proofs.«01_k».proof.Proof.InRun
public import proofs.«01_k».proof.Proof.Gen.InRefIdeal.Read
public import Idealize.ShloMosaic.Lib.Pointwise

@[expose] public section

noncomputable section

namespace Cert.InRef

open Idealize.ShloMosaic Idealize.ShloMosaic.TcCoe Cert.InRefIdeal Cert.InRefIdeal.Gen Cert.InRefIdeal.Read
open Cert.InArray Cert.Tile

variable (x0 : Vec Ideal S2048x2048 .bf16) (x1 : Vec Ideal S3072x2048 .bf16) (x2 : Vec Ideal S1088x2048 .bf16)
  (x3 x4 : Vec Ideal S2048x2048 .bf16) (x5 : Vec Ideal S2048x3072 .bf16) (x6 : Vec Ideal S2048x1088 .bf16)
  (x7 x8 : Vec Ideal S2048x2048 .bf16)

theorem v17 (r : Fin 2048) (n : Fin 3072) : val_main_v17 (F := Ideal) x0 x1 (ix2 r n) = projQkv x0 x1 (ix2 r n) := by
  pointwise [val_main_v17, val_main_v10, val_main_v9, val_main_v1, val_main_v0]
  rfl

theorem v12 (r : Fin 2048) (n : Fin 1088) : val_main_v12 (F := Ideal) x0 x2 (ix2 r n) = projLat x0 x2 (ix2 r n) := by
  pointwise [val_main_v12, val_main_v11, val_main_v2, val_main_v0]
  rfl

theorem v14 (r : Fin 2048) (n : Fin 2048) : val_main_v14 (F := Ideal) x0 x3 (ix2 r n) = projGate x0 x3 (ix2 r n) := by
  pointwise [val_main_v14, val_main_v13, val_main_v3, val_main_v0]
  rfl

theorem v16 (r : Fin 2048) (n : Fin 2048) : val_main_v16 (F := Ideal) x0 x4 (ix2 r n) = projGate x0 x4 (ix2 r n) := by
  pointwise [val_main_v16, val_main_v15, val_main_v4, val_main_v0]
  rfl

theorem v24 (r n : Fin 2048) :
    val_main_v24 (F := Ideal) x1 x2 x3 x4 x5 x6 x7 x8 (ix2 r n) = dInput x5 x1 x6 x2 x7 x3 x8 x4 (ix2 r n) := by
  pointwise [val_main_v24, val_main_v23, val_main_v22, val_main_v21, val_main_v20, val_main_v19, val_main_v18, val_main_v15, val_main_v13, val_main_v11, val_main_v9, val_main_v8, val_main_v7, val_main_v6, val_main_v5, val_main_v4, val_main_v3, val_main_v2, val_main_v1]
  show _ = (∑ d : Fin 3072, x5 (ix2 r d) * x1 (ix2 d n)) + (∑ d : Fin 1088, x6 (ix2 r d) * x2 (ix2 d n))
    + (∑ d : Fin 2048, x7 (ix2 r d) * x3 (ix2 d n)) + (∑ d : Fin 2048, x8 (ix2 r d) * x4 (ix2 d n))
  ac_rfl

end Cert.InRef
-- ==== Proof.InClaim.lean ====
/- The equation of the input projection and of its gradient. -/
module

public import proofs.«01_k».proof.Defs
public import proofs.«01_k».proof.Proof.InRef
public import proofs.«01_k».proof.Proof.Gen.InRefIdeal.Run

@[expose] public section

noncomputable section

namespace Cert.InClaim

open Idealize.ShloMosaic Idealize.ShloMosaic.TcCoe Idealize.SL.Sem
open Cert.InArray Cert.InRun Cert.InRef

/-- Kernel and reference compute the same four projections and the same gradient over the extended reals. -/
theorem algebraic : @Cert.algebraic_InProjIdeal_InRefIdeal Cert.InProjIdeal.Gen.facts Cert.InRefIdeal.Gen.facts := by
  intro m g m' g' _ hag
  refine ⟨fun c => projQkv (Ua m c) (Wq m c), fun c => projLat (Ua m c) (Wl m c), fun c => projGate (Ua m c) (Wa m c),
    fun c => projGate (Ua m c) (Wb m c),
    fun c => dInput (Dq m c) (Wq m c) (Dl m c) (Wl m c) (Da m c) (Wa m c) (Db m c) (Wb m c), run m g, ?_⟩
  refine (θ_run Cert.InRefIdeal.defs _ _).mono (fun _ h c => ?_) (Cert.InRefIdeal.Value.run m' g')
  obtain ⟨h0, h1, h2, h3, h4, h5, h6, h7, h8⟩ := hag c
  obtain ⟨r0, r1, r2, r3, r4, hargs⟩ := h c
  refine ⟨r0.trans ?_, r1.trans ?_, r2.trans ?_, r3.trans ?_, r4.trans ?_, hargs⟩
  · rw [Cert.InRefIdeal.Read.val_main_v17_eq, h0, h1]
    funext y
    obtain ⟨r, n, rfl⟩ : ∃ (r : Fin 2048) (n : Fin 3072), y = ix2 r n := ⟨_, _, eq_ix2 y⟩
    exact v17 _ _ r n
  · rw [Cert.InRefIdeal.Read.val_main_v12_eq, h0, h2]
    funext y
    obtain ⟨r, n, rfl⟩ : ∃ (r : Fin 2048) (n : Fin 1088), y = ix2 r n := ⟨_, _, eq_ix2 y⟩
    exact v12 _ _ r n
  · rw [Cert.InRefIdeal.Read.val_main_v14_eq, h0, h3]
    funext y
    obtain ⟨r, n, rfl⟩ : ∃ (r : Fin 2048) (n : Fin 2048), y = ix2 r n := ⟨_, _, eq_ix2 y⟩
    exact v14 _ _ r n
  · rw [Cert.InRefIdeal.Read.val_main_v16_eq, h0, h4]
    funext y
    obtain ⟨r, n, rfl⟩ : ∃ (r : Fin 2048) (n : Fin 2048), y = ix2 r n := ⟨_, _, eq_ix2 y⟩
    exact v16 _ _ r n
  · rw [Cert.InRefIdeal.Read.val_main_v24_eq, h1, h2, h3, h4, h5, h6, h7, h8]
    funext y
    obtain ⟨r, n, rfl⟩ : ∃ (r : Fin 2048) (n : Fin 2048), y = ix2 r n := ⟨_, _, eq_ix2 y⟩
    exact v24 _ _ _ _ _ _ _ _ r n

end Cert.InClaim
-- ==== Proof.AttBlock.lean ====
/- What one grid point of the latent attention computes: its payloads at an index, and what the body leaves in the staging
   buffer of its output. -/
module

public import proofs.«01_k».proof.Proof.MlaMath
public import proofs.«01_k».proof.Proof.MlaBlock
public import proofs.«01_k».proof.Proof.Gen.MlaFwdIdeal.Frame
public import Idealize.ShloMosaic.Lib.Pointwise

@[expose] public section

noncomputable section

namespace Cert.AttBlock

open Idealize.ShloMosaic Idealize.ShloMosaic.TcCoe Cert.MlaFwdIdeal Cert.MlaFwdIdeal.Gen Cert.MlaMath
open Cert.MlaBlock (cS negInf)

variable (x0 : Vec Ideal S1x1024x192 .bf16) (x1 : Vec Ideal S1x2048x192 .bf16) (x2 : Vec Ideal S1x2048x128 .bf16)

/-- Row `i` of a block of 1024 queries, with the keys, as scaled scores. -/
def scB (i : Fin 1024) : Fin 2048 → EReal :=
  sc cS (fun d : Fin 192 => x0 (ix3 0 i d)) (fun (j : Fin 2048) d => x1 (ix3 0 j d))

/-- The payload: the softmax of the scores, times the values. -/
theorem pay_apply (i : Fin 1024) (e : Fin 128) : k0_pay1 x0 x1 x2 (ix2 i e) = ∑ j : Fin 2048, pr (scB x0 x1 i) j * x2 (ix3 0 j e) := by
  pointwise [k0_pay1]
  simp only [pr, ex, mx, scB, sc, negInf]
  rfl

theorem hz2 : (![0, 0] : Fin 2 → ℕ) = fun _ => 0 := by decide
theorem hz3 : (![0, 0, 0] : Fin 3 → ℕ) = fun _ => 0 := by decide

/-- The body leaves the payload. -/
theorem out_att : out0_3 x0 x1 x2 = k0_pay1 x0 x1 x2 := by
  unfold out0_3
  rw [View.canon_unit_zero hz2]
  simp only [View.ld_unit_zero (S := S1x1024x192) hz3, View.ld_unit_zero (S := S1x2048x192) hz3, View.ld_unit_zero (S := S1x2048x128) hz3]

end Cert.AttBlock
-- ==== Proof.AttArray.lean ====
/- The array that the latent attention leaves, as one function of its queries, keys and values. -/
module

public import proofs.«01_k».proof.Proof.AttBlock
public import proofs.«01_k».proof.Proof.Tile
public import proofs.«01_k».proof.Proof.Gen.MlaFwdIdeal.Value
public import Idealize.ShloMosaic.Lib.Pipeline.ValueKit.Geometry

@[expose] public section

noncomputable section

namespace Cert.AttArray

open Idealize.ShloMosaic Idealize.ShloMosaic.TcCoe Idealize.SL.Sem
open Cert.MlaFwdIdeal Cert.MlaFwdIdeal.Gen Cert.MlaFwdIdeal.Value Cert.AttBlock Cert.MlaMath Cert.Tile
open Cert.MlaBlock (cS)

/-! ## The result as a function of the arguments -/

/-- Column `n` among 1024: its head, and its place among the head's 128 value axes. -/
def hdOf (n : Fin 1024) : Fin 8 := ⟨n.val / 128, by omega⟩
def axOf (n : Fin 1024) : Fin 128 := ⟨n.val % 128, by omega⟩

/-- Value axis `e` of head `n`, among 1024 columns. -/
def at128 (n : ℕ) (e : Fin 128) : Fin 1024 := ⟨128 * (n % 8) + e.val, by omega⟩

theorem hd_at (n : ℕ) (e : Fin 128) : hdOf (at128 n e) = g8 n :=
  Fin.ext (show (128 * (n % 8) + e.val) / 128 = n % 8 by omega)

theorem ax_at (n : ℕ) (e : Fin 128) : axOf (at128 n e) = e :=
  Fin.ext (show (128 * (n % 8) + e.val) % 128 = e.val by omega)

/-- The scores of head `h`'s query `r`. -/
def rowS (Q K : Vec Ideal S8x2048x192 .bf16) (h : Fin 8) (r : Fin 2048) : Fin 2048 → EReal :=
  sc cS (fun d : Fin 192 => Q (ix3 h r d)) (fun (j : Fin 2048) d => K (ix3 h j d))

/-- The attention's output: of each head and query the mean of the values by the query's probabilities. -/
def att (Q K : Vec Ideal S8x2048x192 .bf16) (W : Vec Ideal S8x2048x128 .bf16) : Vec Ideal S2048x1024 .bf16 := fun y =>
  ∑ j : Fin 2048, pr (rowS Q K (hdOf (y 1)) (y 0)) j * W (ix3 (hdOf (y 1)) j (axOf (y 1)))

variable (m : (ℓ : Loc nD τ sig) → Buf (Elt Ideal) ℓ) (c : Dev nD)

/-- The arguments as launched: the queries, the keys and the values. -/
abbrev Qa : Vec Ideal S8x2048x192 .bf16 := m ((c : Thread nD τ).loc main_arg0)
abbrev Ka : Vec Ideal S8x2048x192 .bf16 := m ((c : Thread nD τ).loc main_arg1)
abbrev Wa : Vec Ideal S8x2048x128 .bf16 := m ((c : Thread nD τ).loc main_arg2)

/-! ## `mla_fwd` -/

/-- The block indices of the windows at a point. -/
theorem idx0 : ∀ t : Fin cfg0.N,
    (win0_0.index t (0 : Fin 3) = (t.val / 2) % 8 ∧ win0_0.index t (1 : Fin 3) = (t.val) % 2 ∧ win0_0.index t (2 : Fin 3) = 0)
    ∧ (win0_1.index t (0 : Fin 3) = (t.val / 2) % 8 ∧ win0_1.index t (1 : Fin 3) = 0 ∧ win0_1.index t (2 : Fin 3) = 0)
    ∧ (win0_2.index t (0 : Fin 3) = (t.val / 2) % 8 ∧ win0_2.index t (1 : Fin 3) = 0 ∧ win0_2.index t (2 : Fin 3) = 0)
    ∧ (win0_3.index t (0 : Fin 2) = (t.val) % 2 ∧ win0_3.index t (1 : Fin 2) = (t.val / 2) % 8) :=
  (by decide +kernel : ∀ t : Fin grid0.N, _)

theorem emb0_0 (t : Fin cfg0.N) (a : Fin 1) (i : Fin 1024) (k : Fin 192) :
    ((cfg0.win 0).blk t).view.emb (ix3 a i k : S1x1024x192.Idx) = (ix3 (g8 (t.val / 2)) (pos (t.val) i) k : S8x2048x192.Idx) :=
  ix3_of (by have h := (idx0 t).1; show win0_0.index t (0 : Fin 3) * 1 + 1 * a.val = (t.val / 2) % 8; omega)
    (by have h := (idx0 t).1; show win0_0.index t (1 : Fin 3) * 1024 + 1 * i.val = 1024 * ((t.val) % 2) + i.val; omega)
    (by have h := (idx0 t).1; show win0_0.index t (2 : Fin 3) * 192 + 1 * k.val = k.val; omega)

theorem blk0_0 (t : Fin cfg0.N) (a : Fin 1) (i : Fin 1024) (k : Fin 192) :
    (iblk m c 0 t : Vec Ideal S1x1024x192 .bf16) (ix3 a i k) = Qa m c (ix3 (g8 (t.val / 2)) (pos (t.val) i) k) :=
  congrArg (Qa m c) (emb0_0 t a i k)

theorem emb0_1 (t : Fin cfg0.N) (a : Fin 1) (i : Fin 2048) (k : Fin 192) :
    ((cfg0.win 1).blk t).view.emb (ix3 a i k : S1x2048x192.Idx) = (ix3 (g8 (t.val / 2)) i k : S8x2048x192.Idx) :=
  ix3_of (by have h := (idx0 t).2.1; show win0_1.index t (0 : Fin 3) * 1 + 1 * a.val = (t.val / 2) % 8; omega)
    (by have h := (idx0 t).2.1; show win0_1.index t (1 : Fin 3) * 2048 + 1 * i.val = i.val; omega)
    (by have h := (idx0 t).2.1; show win0_1.index t (2 : Fin 3) * 192 + 1 * k.val = k.val; omega)

theorem blk0_1 (t : Fin cfg0.N) (a : Fin 1) (i : Fin 2048) (k : Fin 192) :
    (iblk m c 1 t : Vec Ideal S1x2048x192 .bf16) (ix3 a i k) = Ka m c (ix3 (g8 (t.val / 2)) i k) :=
  congrArg (Ka m c) (emb0_1 t a i k)

theorem emb0_2 (t : Fin cfg0.N) (a : Fin 1) (i : Fin 2048) (k : Fin 128) :
    ((cfg0.win 2).blk t).view.emb (ix3 a i k : S1x2048x128.Idx) = (ix3 (g8 (t.val / 2)) i k : S8x2048x128.Idx) :=
  ix3_of (by have h := (idx0 t).2.2.1; show win0_2.index t (0 : Fin 3) * 1 + 1 * a.val = (t.val / 2) % 8; omega)
    (by have h := (idx0 t).2.2.1; show win0_2.index t (1 : Fin 3) * 2048 + 1 * i.val = i.val; omega)
    (by have h := (idx0 t).2.2.1; show win0_2.index t (2 : Fin 3) * 128 + 1 * k.val = k.val; omega)

theorem blk0_2 (t : Fin cfg0.N) (a : Fin 1) (i : Fin 2048) (k : Fin 128) :
    (iblk m c 2 t : Vec Ideal S1x2048x128 .bf16) (ix3 a i k) = Wa m c (ix3 (g8 (t.val / 2)) i k) :=
  congrArg (Wa m c) (emb0_2 t a i k)

theorem emb0_3 (t : Fin cfg0.N) (i : Fin 1024) (k : Fin 128) :
    ((cfg0.win 3).blk t).view.emb (ix2 i k : S1024x128.Idx) = (ix2 (pos (t.val) i) (at128 (t.val / 2) k) : S2048x1024.Idx) :=
  ix2_of (by have h := (idx0 t).2.2.2; show win0_3.index t (0 : Fin 2) * 1024 + 1 * i.val = 1024 * ((t.val) % 2) + i.val; omega)
    (by have h := (idx0 t).2.2.2; show win0_3.index t (1 : Fin 2) * 128 + 1 * k.val = 128 * ((t.val / 2) % 8) + k.val; omega)

/-- The output. -/
theorem arr0_3 : (dats m 0 c).arrAt 3 cfg0.N = att (Qa m c) (Ka m c) (Wa m c) := by
  refine (dats m 0 c).arrAt_eq_of_covers 3 _ (by decide +kernel) fun t _ (y : S1024x128.Idx) => ?_
  show (dats m 0 c).after 3 t y = (att (Qa m c) (Ka m c) (Wa m c) : Vec Ideal S2048x1024 .bf16) (((cfg0.win 3).blk t).view.emb y)
  obtain ⟨i, k, rfl⟩ : ∃ (i : Fin 1024) (k : Fin 128), y = ix2 i k := ⟨_, _, eq_ix2 y⟩
  rw [after0_3, out_att, pay_apply, emb0_3]
  simp only [scB, blk0_0, blk0_1, blk0_2]
  show _ = ∑ j : Fin 2048, pr (rowS (Qa m c) (Ka m c) (hdOf (at128 (t.val / 2) k)) (pos t.val i)) j
    * Wa m c (ix3 (hdOf (at128 (t.val / 2) k)) j (axOf (at128 (t.val / 2) k)))
  rw [hd_at, ax_at]
  rfl

/-- THE RUN: every execution ends with the output as this function of the arguments and the arguments as launched. -/
theorem run (ρ : Dev nD → PrngReg) : θ_run defs (onTc (τ := τ) (main (F := Ideal))) ⟨m, fun _ => 0, ρ⟩ fun r => ∀ c : Dev nD,
      r.2.mem ((c : Thread nD τ).loc main_v0) = att (Qa m c) (Ka m c) (Wa m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr0_3 m c), (h c).2⟩) (run_blocks m ρ)

end Cert.AttArray
-- ==== Proof.AttRef.lean ====
/- What the reference of the latent attention computes, stage by stage at an index, in the terms of the kernel's array. -/
module

public import proofs.«01_k».proof.Proof.AttArray
public import proofs.«01_k».proof.Proof.Gen.AttRefIdeal.Read
public import Idealize.ShloMosaic.Lib.Pointwise

@[expose] public section

noncomputable section

namespace Cert.AttRef

open Idealize.ShloMosaic Idealize.ShloMosaic.TcCoe Cert.AttRefIdeal Cert.AttRefIdeal.Gen Cert.AttRefIdeal.Read
open Cert.MlaMath Cert.AttArray Cert.Tile
open Cert.MlaBlock (cS negInf)

variable (x0 x1 : Vec Ideal S8x2048x192 .bf16) (x2 : Vec Ideal S8x2048x128 .bf16)

/-- The scores: the parts over the 128 position-free axes and over the 64 rotated ones are one product over 192. -/
theorem v11 (h : Fin 8) (r j : Fin 2048) : val_main_v11 (F := Ideal) x0 x1 (ix3 h r j) = rowS x0 x1 h r j := by
  pointwise [val_main_v11, val_main_v10, val_main_cst, val_main_v9, val_main_v8, val_main_v7, val_main_v6, val_main_v5, val_main_v4,
    val_main_v3, val_main_v1, val_main_v0]
  refine congrArg (· * _) ?_
  exact (Fin.sum_univ_add (a := 128) (b := 64) fun d : Fin 192 => x0 (ix3 h r d) * x1 (ix3 h j d)).symm

/-- The scores' maximum. -/
theorem v12 (h : Fin 8) (r : Fin 2048) : val_main_v12 (F := Ideal) x0 x1 (ix2 h r) = mx (rowS x0 x1 h r) := by
  pointwise [val_main_v12, val_main_cst_0]
  simp only [v11, negInf]
  rfl

/-- The exponentials. -/
theorem v18 (h : Fin 8) (r j : Fin 2048) : val_main_v18 (F := Ideal) x0 x1 (ix3 h r j) = ex (rowS x0 x1 h r) j := by
  rw [val_main_v18_apply, val_main_v17_apply, val_main_v16_apply, ix3_of (y := idx_main_v16 _) (a := h) (b := r) (c := 0) rfl rfl rfl,
    val_main_v15_apply, ix2_of (y := idx_main_v15 _) (a := h) (b := r) rfl rfl, val_main_v14_apply, val_main_v13_apply,
    val_main_cst_1_apply, v11, v12]
  simp only [Ideal.ofBits_def, negInf, Ideal.maximumf_def, Ideal.subf_def, bot_le, max_eq_right]
  rfl

/-- The sum of the exponentials. -/
theorem v19 (h : Fin 8) (r : Fin 2048) : val_main_v19 (F := Ideal) x0 x1 (ix2 h r) = ∑ j, ex (rowS x0 x1 h r) j := by
  rw [val_main_v19_apply, val_main_cst_2_apply]
  simp only [Ideal.ofBits_def, Ideal.ofBits_zero_f32, zero_add]
  refine Finset.sum_congr rfl fun j _ => ?_
  rw [ix3_of (y := idx_main_v19 _ _) (a := h) (b := r) (c := j) rfl rfl rfl, v18]

/-- The probabilities. -/
theorem v22 (h : Fin 8) (r j : Fin 2048) : val_main_v22 (F := Ideal) x0 x1 (ix3 h r j) = pr (rowS x0 x1 h r) j := by
  rw [val_main_v22_apply, val_main_v21_apply, ix3_of (y := idx_main_v21 _) (a := h) (b := r) (c := 0) rfl rfl rfl, val_main_v20_apply,
    ix2_of (y := idx_main_v20 _) (a := h) (b := r) rfl rfl, v19, v18]
  rfl

/-- The output. -/
theorem v26 (r : Fin 2048) (n : Fin 1024) : val_main_v26 (F := Ideal) x0 x1 x2 (ix2 r n) = att x0 x1 x2 (ix2 r n) := by
  have e : val_main_v25 (F := Ideal) x0 x1 x2 (ix2 r n) = val_main_v23 (F := Ideal) x0 x1 x2 (ix3 (hdOf n) (axOf n) r) := by
    rw [val_main_v25_apply, val_main_v24_apply]
    exact congrArg _ (ix3_of (by show (r.val * 1024 + n.val) / 128 % 8 = n.val / 128; omega)
      (by show (r.val * 1024 + n.val) % 128 = n.val % 128; omega)
      (by show (r.val * 1024 + n.val) / 1024 = r.val; omega))
  rw [val_main_v26_apply]
  refine e.trans ?_
  pointwise [val_main_v23, val_main_v2]
  simp only [v22]
  exact Finset.sum_congr rfl fun j _ => mul_comm _ _

end Cert.AttRef
-- ==== Proof.AttClaim.lean ====
/- The equation of the latent attention. -/
module

public import proofs.«01_k».proof.Defs
public import proofs.«01_k».proof.Proof.AttRef
public import proofs.«01_k».proof.Proof.Gen.AttRefIdeal.Run

@[expose] public section

noncomputable section

namespace Cert.AttClaim

open Idealize.ShloMosaic Idealize.ShloMosaic.TcCoe Idealize.SL.Sem
open Cert.AttArray Cert.AttRef

/-- Kernel and reference compute the same attention over the extended reals, of all queries, keys and values. -/
theorem algebraic : @Cert.algebraic_MlaFwdIdeal_AttRefIdeal Cert.MlaFwdIdeal.Gen.facts Cert.AttRefIdeal.Gen.facts := by
  intro m g m' g' _ hag
  refine ⟨fun c => att (Qa m c) (Ka m c) (Wa m c), run m g, ?_⟩
  refine (θ_run Cert.AttRefIdeal.defs _ _).mono (fun _ h c => ?_) (Cert.AttRefIdeal.Value.run m' g')
  obtain ⟨h0, h1, h2⟩ := hag c
  obtain ⟨r0, hargs⟩ := h c
  refine ⟨r0.trans ?_, hargs⟩
  rw [Cert.AttRefIdeal.Read.val_main_v26_eq, h0, h1, h2]
  funext y
  obtain ⟨r, n, rfl⟩ : ∃ (r : Fin 2048) (n : Fin 1024), y = ix2 r n := ⟨_, _, eq_ix2 y⟩
  exact v26 _ _ _ r n

end Cert.AttClaim
-- ==== Proof.UpBlock.lean ====
/- What one grid point of each of the calls computes that give the gradients of the latent attention's projections: the payloads
   at an index, and what each body leaves in the staging buffer of its output. -/
module

public import proofs.«01_k».proof.Proof.Gen.UpBwdIdeal.Frame
public import proofs.«01_k».proof.Proof.Tile
public import Idealize.ShloMosaic.Lib.Pointwise

@[expose] public section

noncomputable section

namespace Cert.UpBlock

open Idealize.ShloMosaic Idealize.ShloMosaic.TcCoe Cert.UpBwdIdeal Cert.UpBwdIdeal.Gen Cert.Tile

/-! ## The payloads at an index -/

theorem d_wuq (x0 : Vec Ideal S1x2048x192 .bf16) (x1 : Vec Ideal S2048x512 .bf16) (a : Fin 1) (i : Fin 192) (k : Fin 512) :
    k0_pay1 x0 x1 (ix3 a i k) = ∑ r : Fin 2048, x0 (ix3 0 r i) * x1 (ix2 r k) := by
  pointwise [k0_pay1]

theorem d_wukv (x0 : Vec Ideal S2048x512 .bf16) (x1 : Vec Ideal S1x2048x256 .bf16) (a : Fin 1) (i : Fin 512) (k : Fin 256) :
    k1_pay1 x0 x1 (ix3 a i k) = ∑ r : Fin 2048, x0 (ix2 r i) * x1 (ix3 0 r k) := by
  pointwise [k1_pay1]

/-- One head's part of the queries' sum, and of the keys' and values' sum. -/
abbrev partQ (x0 : Vec Ideal S1x512x192 .bf16) (x1 : Vec Ideal S1x192x512 .bf16) (i j : Fin 512) : EReal :=
  ∑ k : Fin 192, x0 (ix3 0 i k) * x1 (ix3 0 k j)
abbrev partKv (x0 x1 : Vec Ideal S1x512x256 .bf16) (i j : Fin 512) : EReal := ∑ k : Fin 256, x0 (ix3 0 i k) * x1 (ix3 0 j k)

theorem d_cq (a0 a1 a2 a3 a4 a5 a6 a7 : Vec Ideal S1x512x192 .bf16) (b0 b1 b2 b3 b4 b5 b6 b7 : Vec Ideal S1x192x512 .bf16) (i j : Fin 512) :
    k2_pay1 (k2_pay2 a0 b0 a1 b1 a2 b2 a3 b3) (k2_pay3 a4) b4 a5 b5 a6 b6 a7 b7 (ix2 i j)
      = partQ a0 b0 i j + partQ a1 b1 i j + partQ a2 b2 i j + partQ a3 b3 i j + partQ a4 b4 i j + partQ a5 b5 i j + partQ a6 b6 i j
        + partQ a7 b7 i j := by
  pointwise [k2_pay1, k2_pay2, k2_pay3]

theorem d_ckv (a0 b0 a1 b1 a2 b2 a3 b3 a4 b4 a5 b5 a6 b6 a7 b7 : Vec Ideal S1x512x256 .bf16) (i j : Fin 512) :
    k3_pay1 (k3_pay2 a0 b0 a1 b1 a2 b2 a3 b3) (k3_pay3 a4) b4 a5 b5 a6 b6 a7 b7 (ix2 i j)
      = partKv a0 b0 i j + partKv a1 b1 i j + partKv a2 b2 i j + partKv a3 b3 i j + partKv a4 b4 i j + partKv a5 b5 i j
        + partKv a6 b6 i j + partKv a7 b7 i j := by
  pointwise [k3_pay1, k3_pay2, k3_pay3]

/-! ## The staging buffers after a body -/

theorem hz2 : (![0, 0] : Fin 2 → ℕ) = fun _ => 0 := by decide
theorem hz3 : (![0, 0, 0] : Fin 3 → ℕ) = fun _ => 0 := by decide

theorem out_d_wuq (x0 : Vec Ideal S1x2048x192 .bf16) (x1 : Vec Ideal S2048x512 .bf16) : out0_2 x0 x1 = k0_pay1 x0 x1 := by
  unfold out0_2
  rw [View.canon_unit_zero hz3]
  simp only [View.ld_unit_zero (S := S1x2048x192) hz3, View.ld_unit_zero (S := S2048x512) hz2]

theorem out_d_wukv (x0 : Vec Ideal S2048x512 .bf16) (x1 : Vec Ideal S1x2048x256 .bf16) : out1_2 x0 x1 = k1_pay1 x0 x1 := by
  unfold out1_2
  rw [View.canon_unit_zero hz3]
  simp only [View.ld_unit_zero (S := S1x2048x256) hz3, View.ld_unit_zero (S := S2048x512) hz2]

/-- One head's rows of a block of 8 heads, for each of the shapes. -/
theorem ld_q (x : Vec Ideal S8x512x192 .bf16) (g : Fin 8) (h) (i : Fin 512) (k : Fin 192) :
    View.ld x (Rect.unit (s := S8x512x192) ![g.val, 0, 0] S1x512x192.size h) (ix3 0 i k) = x (ix3 g i k) :=
  congrArg x (ix3_of (by show g.val + 1 * 0 = g.val; omega) (by show 0 + 1 * i.val = i.val; omega)
    (by show 0 + 1 * k.val = k.val; omega))

theorem ld_w (x : Vec Ideal S8x192x512 .bf16) (g : Fin 8) (h) (k : Fin 192) (j : Fin 512) :
    View.ld x (Rect.unit (s := S8x192x512) ![g.val, 0, 0] S1x192x512.size h) (ix3 0 k j) = x (ix3 g k j) :=
  congrArg x (ix3_of (by show g.val + 1 * 0 = g.val; omega) (by show 0 + 1 * k.val = k.val; omega)
    (by show 0 + 1 * j.val = j.val; omega))

theorem ld_kv (x : Vec Ideal S8x512x256 .bf16) (g : Fin 8) (h) (i : Fin 512) (k : Fin 256) :
    View.ld x (Rect.unit (s := S8x512x256) ![g.val, 0, 0] S1x512x256.size h) (ix3 0 i k) = x (ix3 g i k) :=
  congrArg x (ix3_of (by show g.val + 1 * 0 = g.val; omega) (by show 0 + 1 * i.val = i.val; omega)
    (by show 0 + 1 * k.val = k.val; omega))

theorem part_q (x : Vec Ideal S8x512x192 .bf16) (y : Vec Ideal S8x192x512 .bf16) (g : Fin 8) (h h') (i j : Fin 512) :
    partQ (View.ld x (Rect.unit (s := S8x512x192) ![g.val, 0, 0] S1x512x192.size h))
      (View.ld y (Rect.unit (s := S8x192x512) ![g.val, 0, 0] S1x192x512.size h')) i j
      = ∑ k : Fin 192, x (ix3 g i k) * y (ix3 g k j) :=
  Finset.sum_congr rfl fun k _ => congrArg₂ (· * ·) (ld_q x g h i k) (ld_w y g h' k j)

theorem part_kv (x y : Vec Ideal S8x512x256 .bf16) (g : Fin 8) (h h') (i j : Fin 512) :
    partKv (View.ld x (Rect.unit (s := S8x512x256) ![g.val, 0, 0] S1x512x256.size h))
      (View.ld y (Rect.unit (s := S8x512x256) ![g.val, 0, 0] S1x512x256.size h')) i j
      = ∑ k : Fin 256, x (ix3 g i k) * y (ix3 g j k) :=
  Finset.sum_congr rfl fun k _ => congrArg₂ (· * ·) (ld_kv x g h i k) (ld_kv y g h' j k)

theorem out_d_cq (x : Vec Ideal S8x512x192 .bf16) (y : Vec Ideal S8x192x512 .bf16) (i j : Fin 512) :
    out2_2 x y (ix2 i j) = ∑ g : Fin 8, ∑ k : Fin 192, x (ix3 g i k) * y (ix3 g k j) := by
  unfold out2_2
  rw [View.canon_unit_zero hz2, d_cq]
  exact eight (fun g => ∑ k : Fin 192, x (ix3 g i k) * y (ix3 g k j)) (part_q x y 0 _ _ i j) (part_q x y 1 _ _ i j)
    (part_q x y 2 _ _ i j) (part_q x y 3 _ _ i j) (part_q x y 4 _ _ i j) (part_q x y 5 _ _ i j) (part_q x y 6 _ _ i j)
    (part_q x y 7 _ _ i j)

theorem out_d_ckv (x y : Vec Ideal S8x512x256 .bf16) (i j : Fin 512) :
    out3_2 x y (ix2 i j) = ∑ g : Fin 8, ∑ k : Fin 256, x (ix3 g i k) * y (ix3 g j k) := by
  unfold out3_2
  rw [View.canon_unit_zero hz2, d_ckv]
  exact eight (fun g => ∑ k : Fin 256, x (ix3 g i k) * y (ix3 g j k)) (part_kv x y 0 _ _ i j) (part_kv x y 1 _ _ i j)
    (part_kv x y 2 _ _ i j) (part_kv x y 3 _ _ i j) (part_kv x y 4 _ _ i j) (part_kv x y 5 _ _ i j) (part_kv x y 6 _ _ i j)
    (part_kv x y 7 _ _ i j)

end Cert.UpBlock
-- ==== Proof.UpArray.lean ====
/- The arrays that the calls leave that give the gradients of the latent attention's projections, each as one function of the
   arrays that the call reads. -/
module

public import proofs.«01_k».proof.Proof.UpBlock
public import proofs.«01_k».proof.Proof.Tile
public import Idealize.ShloMosaic.Lib.Pipeline.ValueKit.Geometry

@[expose] public section

noncomputable section

namespace Cert.UpArray

open Idealize.ShloMosaic Idealize.ShloMosaic.TcCoe Idealize.SL.Sem
open Cert.UpBwdIdeal Cert.UpBwdIdeal.Gen Cert.UpBlock Cert.Tile

/-! ## The results of the calls as functions of what they read -/

/-- The gradient of the queries' weights, head by head. -/
def wQ (D : Vec Ideal S8x2048x192 .bf16) (C : Vec Ideal S2048x512 .bf16) : Vec Ideal S8x192x512 .bf16 := fun y =>
  ∑ r : Fin 2048, D (ix3 (y 0) r (y 1)) * C (ix2 r (y 2))

/-- The gradient of the keys' and values' weights, head by head. -/
def wKv (C : Vec Ideal S2048x512 .bf16) (D : Vec Ideal S8x2048x256 .bf16) : Vec Ideal S8x512x256 .bf16 := fun y =>
  ∑ r : Fin 2048, C (ix2 r (y 1)) * D (ix3 (y 0) r (y 2))

/-- The gradient of the queries' latent. -/
def dCq (D : Vec Ideal S8x2048x192 .bf16) (W : Vec Ideal S8x192x512 .bf16) : Vec Ideal S2048x512 .f32 := fun y =>
  ∑ h : Fin 8, ∑ k : Fin 192, D (ix3 h (y 0) k) * W (ix3 h k (y 1))

/-- The gradient of the keys' and values' latent. -/
def dCkv (D : Vec Ideal S8x2048x256 .bf16) (W : Vec Ideal S8x512x256 .bf16) : Vec Ideal S2048x512 .f32 := fun y =>
  ∑ h : Fin 8, ∑ k : Fin 256, D (ix3 h (y 0) k) * W (ix3 h (y 1) k)

variable (V : (c : Dev nD) → (b : Ref sig .tc) → Buf (Elt Ideal) ((c : Thread nD τ).loc b)) (c : Dev nD)

/-! ## `uq_dw` -/

/-- The block indices of the windows at a point. -/
theorem idx0 : ∀ t : Fin cfg0.N,
    (win0_0.index t (0 : Fin 3) = (t.val) % 8 ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = (t.val) % 8 ∧ win0_2.index t (1 : Fin 3) = 0 ∧ win0_2.index t (2 : Fin 3) = 0) :=
  (by decide +kernel : ∀ t : Fin grid0.N, _)

theorem emb0_0 (t : Fin cfg0.N) (a : Fin 1) (i : Fin 2048) (k : Fin 192) :
    ((cfg0.win 0).blk t).view.emb (ix3 a i k : S1x2048x192.Idx) = (ix3 (g8 (t.val)) i k : S8x2048x192.Idx) :=
  ix3_of (by have h := (idx0 t).1; show win0_0.index t (0 : Fin 3) * 1 + 1 * a.val = (t.val) % 8; omega)
    (by have h := (idx0 t).1; show win0_0.index t (1 : Fin 3) * 2048 + 1 * i.val = i.val; omega)
    (by have h := (idx0 t).1; show win0_0.index t (2 : Fin 3) * 192 + 1 * k.val = k.val; omega)

theorem blk0_0 (t : Fin cfg0.N) (a : Fin 1) (i : Fin 2048) (k : Fin 192) :
    (iblk0 V c 0 t : Vec Ideal S1x2048x192 .bf16) (ix3 a i k) = V c main_arg4 (ix3 (g8 (t.val)) i k) :=
  congrArg (V c main_arg4) (emb0_0 t a i k)

theorem emb0_1 (t : Fin cfg0.N) (i : Fin 2048) (k : Fin 512) :
    ((cfg0.win 1).blk t).view.emb (ix2 i k : S2048x512.Idx) = (ix2 i k : S2048x512.Idx) :=
  ix2_of (by have h := (idx0 t).2.1; show win0_1.index t (0 : Fin 2) * 2048 + 1 * i.val = i.val; omega)
    (by have h := (idx0 t).2.1; show win0_1.index t (1 : Fin 2) * 512 + 1 * k.val = k.val; omega)

theorem blk0_1 (t : Fin cfg0.N) (i : Fin 2048) (k : Fin 512) :
    (iblk0 V c 1 t : Vec Ideal S2048x512 .bf16) (ix2 i k) = V c main_arg0 (ix2 i k) :=
  congrArg (V c main_arg0) (emb0_1 t i k)

theorem emb0_2 (t : Fin cfg0.N) (a : Fin 1) (i : Fin 192) (k : Fin 512) :
    ((cfg0.win 2).blk t).view.emb (ix3 a i k : S1x192x512.Idx) = (ix3 (g8 (t.val)) i k : S8x192x512.Idx) :=
  ix3_of (by have h := (idx0 t).2.2; show win0_2.index t (0 : Fin 3) * 1 + 1 * a.val = (t.val) % 8; omega)
    (by have h := (idx0 t).2.2; show win0_2.index t (1 : Fin 3) * 192 + 1 * i.val = i.val; omega)
    (by have h := (idx0 t).2.2; show win0_2.index t (2 : Fin 3) * 512 + 1 * k.val = k.val; omega)

/-- The gradient of the queries' weights. -/
theorem arr0_2 : (dat0 V c).arrAt 2 cfg0.N = wQ (V c main_arg4) (V c main_arg0) := by
  refine (dat0 V c).arrAt_eq_of_covers 2 _ (by decide +kernel) fun t _ (y : S1x192x512.Idx) => ?_
  show (dat0 V c).after 2 t y = (wQ (V c main_arg4) (V c main_arg0) : Vec Ideal S8x192x512 .bf16) (((cfg0.win 2).blk t).view.emb y)
  obtain ⟨a, i, k, rfl⟩ : ∃ (a : Fin 1) (i : Fin 192) (k : Fin 512), y = ix3 a i k := ⟨_, _, _, eq_ix3 y⟩
  rw [after0_2, out_d_wuq, d_wuq, emb0_2]
  simp only [blk0_0, blk0_1]
  rfl

/-! ## `ukv_dw` -/

/-- The block indices of the windows at a point. -/
theorem idx1 : ∀ t : Fin cfg1.N,
    (win1_0.index t (0 : Fin 2) = 0 ∧ win1_0.index t (1 : Fin 2) = 0)
    ∧ (win1_1.index t (0 : Fin 3) = (t.val) % 8 ∧ win1_1.index t (1 : Fin 3) = 0 ∧ win1_1.index t (2 : Fin 3) = 0)
    ∧ (win1_2.index t (0 : Fin 3) = (t.val) % 8 ∧ win1_2.index t (1 : Fin 3) = 0 ∧ win1_2.index t (2 : Fin 3) = 0) :=
  (by decide +kernel : ∀ t : Fin grid1.N, _)

theorem emb1_0 (t : Fin cfg1.N) (i : Fin 2048) (k : Fin 512) :
    ((cfg1.win 0).blk t).view.emb (ix2 i k : S2048x512.Idx) = (ix2 i k : S2048x512.Idx) :=
  ix2_of (by have h := (idx1 t).1; show win1_0.index t (0 : Fin 2) * 2048 + 1 * i.val = i.val; omega)
    (by have h := (idx1 t).1; show win1_0.index t (1 : Fin 2) * 512 + 1 * k.val = k.val; omega)

theorem blk1_0 (t : Fin cfg1.N) (i : Fin 2048) (k : Fin 512) :
    (iblk1 V c 0 t : Vec Ideal S2048x512 .bf16) (ix2 i k) = V c main_arg2 (ix2 i k) :=
  congrArg (V c main_arg2) (emb1_0 t i k)

theorem emb1_1 (t : Fin cfg1.N) (a : Fin 1) (i : Fin 2048) (k : Fin 256) :
    ((cfg1.win 1).blk t).view.emb (ix3 a i k : S1x2048x256.Idx) = (ix3 (g8 (t.val)) i k : S8x2048x256.Idx) :=
  ix3_of (by have h := (idx1 t).2.1; show win1_1.index t (0 : Fin 3) * 1 + 1 * a.val = (t.val) % 8; omega)
    (by have h := (idx1 t).2.1; show win1_1.index t (1 : Fin 3) * 2048 + 1 * i.val = i.val; omega)
    (by have h := (idx1 t).2.1; show win1_1.index t (2 : Fin 3) * 256 + 1 * k.val = k.val; omega)

theorem blk1_1 (t : Fin cfg1.N) (a : Fin 1) (i : Fin 2048) (k : Fin 256) :
    (iblk1 V c 1 t : Vec Ideal S1x2048x256 .bf16) (ix3 a i k) = V c main_arg5 (ix3 (g8 (t.val)) i k) :=
  congrArg (V c main_arg5) (emb1_1 t a i k)

theorem emb1_2 (t : Fin cfg1.N) (a : Fin 1) (i : Fin 512) (k : Fin 256) :
    ((cfg1.win 2).blk t).view.emb (ix3 a i k : S1x512x256.Idx) = (ix3 (g8 (t.val)) i k : S8x512x256.Idx) :=
  ix3_of (by have h := (idx1 t).2.2; show win1_2.index t (0 : Fin 3) * 1 + 1 * a.val = (t.val) % 8; omega)
    (by have h := (idx1 t).2.2; show win1_2.index t (1 : Fin 3) * 512 + 1 * i.val = i.val; omega)
    (by have h := (idx1 t).2.2; show win1_2.index t (2 : Fin 3) * 256 + 1 * k.val = k.val; omega)

/-- The gradient of the keys' and values' weights. -/
theorem arr1_2 : (dat1 V c).arrAt 2 cfg1.N = wKv (V c main_arg2) (V c main_arg5) := by
  refine (dat1 V c).arrAt_eq_of_covers 2 _ (by decide +kernel) fun t _ (y : S1x512x256.Idx) => ?_
  show (dat1 V c).after 2 t y = (wKv (V c main_arg2) (V c main_arg5) : Vec Ideal S8x512x256 .bf16) (((cfg1.win 2).blk t).view.emb y)
  obtain ⟨a, i, k, rfl⟩ : ∃ (a : Fin 1) (i : Fin 512) (k : Fin 256), y = ix3 a i k := ⟨_, _, _, eq_ix3 y⟩
  rw [after1_2, out_d_wukv, d_wukv, emb1_2]
  simp only [blk1_0, blk1_1]
  rfl

/-! ## `uq_dx` -/

/-- The block indices of the windows at a point. -/
theorem idx2 : ∀ t : Fin cfg2.N,
    (win2_0.index t (0 : Fin 3) = 0 ∧ win2_0.index t (1 : Fin 3) = (t.val) % 4 ∧ win2_0.index t (2 : Fin 3) = 0)
    ∧ (win2_1.index t (0 : Fin 3) = 0 ∧ win2_1.index t (1 : Fin 3) = 0 ∧ win2_1.index t (2 : Fin 3) = 0)
    ∧ (win2_2.index t (0 : Fin 2) = (t.val) % 4 ∧ win2_2.index t (1 : Fin 2) = 0) :=
  (by decide +kernel : ∀ t : Fin grid2.N, _)

theorem emb2_0 (t : Fin cfg2.N) (a : Fin 8) (i : Fin 512) (k : Fin 192) :
    ((cfg2.win 0).blk t).view.emb (ix3 a i k : S8x512x192.Idx) = (ix3 a (r4 (t.val) i) k : S8x2048x192.Idx) :=
  ix3_of (by have h := (idx2 t).1; show win2_0.index t (0 : Fin 3) * 8 + 1 * a.val = a.val; omega)
    (by have h := (idx2 t).1; show win2_0.index t (1 : Fin 3) * 512 + 1 * i.val = 512 * ((t.val) % 4) + i.val; omega)
    (by have h := (idx2 t).1; show win2_0.index t (2 : Fin 3) * 192 + 1 * k.val = k.val; omega)

theorem blk2_0 (t : Fin cfg2.N) (a : Fin 8) (i : Fin 512) (k : Fin 192) :
    (iblk2 V c 0 t : Vec Ideal S8x512x192 .bf16) (ix3 a i k) = V c main_arg4 (ix3 a (r4 (t.val) i) k) :=
  congrArg (V c main_arg4) (emb2_0 t a i k)

theorem emb2_1 (t : Fin cfg2.N) (a : Fin 8) (i : Fin 192) (k : Fin 512) :
    ((cfg2.win 1).blk t).view.emb (ix3 a i k : S8x192x512.Idx) = (ix3 a i k : S8x192x512.Idx) :=
  ix3_of (by have h := (idx2 t).2.1; show win2_1.index t (0 : Fin 3) * 8 + 1 * a.val = a.val; omega)
    (by have h := (idx2 t).2.1; show win2_1.index t (1 : Fin 3) * 192 + 1 * i.val = i.val; omega)
    (by have h := (idx2 t).2.1; show win2_1.index t (2 : Fin 3) * 512 + 1 * k.val = k.val; omega)

theorem blk2_1 (t : Fin cfg2.N) (a : Fin 8) (i : Fin 192) (k : Fin 512) :
    (iblk2 V c 1 t : Vec Ideal S8x192x512 .bf16) (ix3 a i k) = V c main_arg1 (ix3 a i k) :=
  congrArg (V c main_arg1) (emb2_1 t a i k)

theorem emb2_2 (t : Fin cfg2.N) (i : Fin 512) (k : Fin 512) :
    ((cfg2.win 2).blk t).view.emb (ix2 i k : S512x512.Idx) = (ix2 (r4 (t.val) i) k : S2048x512.Idx) :=
  ix2_of (by have h := (idx2 t).2.2; show win2_2.index t (0 : Fin 2) * 512 + 1 * i.val = 512 * ((t.val) % 4) + i.val; omega)
    (by have h := (idx2 t).2.2; show win2_2.index t (1 : Fin 2) * 512 + 1 * k.val = k.val; omega)

/-- The gradient of the queries' latent. -/
theorem arr2_2 : (dat2 V c).arrAt 2 cfg2.N = dCq (V c main_arg4) (V c main_arg1) := by
  refine (dat2 V c).arrAt_eq_of_covers 2 _ (by decide +kernel) fun t _ (y : S512x512.Idx) => ?_
  show (dat2 V c).after 2 t y = (dCq (V c main_arg4) (V c main_arg1) : Vec Ideal S2048x512 .f32) (((cfg2.win 2).blk t).view.emb y)
  obtain ⟨i, k, rfl⟩ : ∃ (i : Fin 512) (k : Fin 512), y = ix2 i k := ⟨_, _, eq_ix2 y⟩
  rw [after2_2, out_d_cq, emb2_2]
  simp only [blk2_0, blk2_1]
  rfl

/-! ## `ukv_dx` -/

/-- The block indices of the windows at a point. -/
theorem idx3 : ∀ t : Fin cfg3.N,
    (win3_0.index t (0 : Fin 3) = 0 ∧ win3_0.index t (1 : Fin 3) = (t.val) % 4 ∧ win3_0.index t (2 : Fin 3) = 0)
    ∧ (win3_1.index t (0 : Fin 3) = 0 ∧ win3_1.index t (1 : Fin 3) = 0 ∧ win3_1.index t (2 : Fin 3) = 0)
    ∧ (win3_2.index t (0 : Fin 2) = (t.val) % 4 ∧ win3_2.index t (1 : Fin 2) = 0) :=
  (by decide +kernel : ∀ t : Fin grid3.N, _)

theorem emb3_0 (t : Fin cfg3.N) (a : Fin 8) (i : Fin 512) (k : Fin 256) :
    ((cfg3.win 0).blk t).view.emb (ix3 a i k : S8x512x256.Idx) = (ix3 a (r4 (t.val) i) k : S8x2048x256.Idx) :=
  ix3_of (by have h := (idx3 t).1; show win3_0.index t (0 : Fin 3) * 8 + 1 * a.val = a.val; omega)
    (by have h := (idx3 t).1; show win3_0.index t (1 : Fin 3) * 512 + 1 * i.val = 512 * ((t.val) % 4) + i.val; omega)
    (by have h := (idx3 t).1; show win3_0.index t (2 : Fin 3) * 256 + 1 * k.val = k.val; omega)

theorem blk3_0 (t : Fin cfg3.N) (a : Fin 8) (i : Fin 512) (k : Fin 256) :
    (iblk3 V c 0 t : Vec Ideal S8x512x256 .bf16) (ix3 a i k) = V c main_arg5 (ix3 a (r4 (t.val) i) k) :=
  congrArg (V c main_arg5) (emb3_0 t a i k)

theorem emb3_1 (t : Fin cfg3.N) (a : Fin 8) (i : Fin 512) (k : Fin 256) :
    ((cfg3.win 1).blk t).view.emb (ix3 a i k : S8x512x256.Idx) = (ix3 a i k : S8x512x256.Idx) :=
  ix3_of (by have h := (idx3 t).2.1; show win3_1.index t (0 : Fin 3) * 8 + 1 * a.val = a.val; omega)
    (by have h := (idx3 t).2.1; show win3_1.index t (1 : Fin 3) * 512 + 1 * i.val = i.val; omega)
    (by have h := (idx3 t).2.1; show win3_1.index t (2 : Fin 3) * 256 + 1 * k.val = k.val; omega)

theorem blk3_1 (t : Fin cfg3.N) (a : Fin 8) (i : Fin 512) (k : Fin 256) :
    (iblk3 V c 1 t : Vec Ideal S8x512x256 .bf16) (ix3 a i k) = V c main_arg3 (ix3 a i k) :=
  congrArg (V c main_arg3) (emb3_1 t a i k)

theorem emb3_2 (t : Fin cfg3.N) (i : Fin 512) (k : Fin 512) :
    ((cfg3.win 2).blk t).view.emb (ix2 i k : S512x512.Idx) = (ix2 (r4 (t.val) i) k : S2048x512.Idx) :=
  ix2_of (by have h := (idx3 t).2.2; show win3_2.index t (0 : Fin 2) * 512 + 1 * i.val = 512 * ((t.val) % 4) + i.val; omega)
    (by have h := (idx3 t).2.2; show win3_2.index t (1 : Fin 2) * 512 + 1 * k.val = k.val; omega)

/-- The gradient of the keys' and values' latent. -/
theorem arr3_2 : (dat3 V c).arrAt 2 cfg3.N = dCkv (V c main_arg5) (V c main_arg3) := by
  refine (dat3 V c).arrAt_eq_of_covers 2 _ (by decide +kernel) fun t _ (y : S512x512.Idx) => ?_
  show (dat3 V c).after 2 t y = (dCkv (V c main_arg5) (V c main_arg3) : Vec Ideal S2048x512 .f32) (((cfg3.win 2).blk t).view.emb y)
  obtain ⟨i, k, rfl⟩ : ∃ (i : Fin 512) (k : Fin 512), y = ix2 i k := ⟨_, _, eq_ix2 y⟩
  rw [after3_2, out_d_ckv, emb3_2]
  simp only [blk3_0, blk3_1]
  rfl

end Cert.UpArray
-- ==== Proof.UpRun.lean ====
/- The run of the calls that give the gradients of the latent attention's projections: the results are functions of the
   arguments, and the arguments stay as they were. -/
module

public import proofs.«01_k».proof.Proof.UpArray

@[expose] public section

noncomputable section

namespace Cert.UpRun

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.UpBwdIdeal Cert.UpBwdIdeal.Gen Cert.UpArray

variable (m : (ℓ : Loc nD τ sig) → Buf (Elt Ideal) ℓ) (ρ : Dev nD → PrngReg) (c : Dev nD)

/-- The arguments as launched: the queries' latent and weights, the keys' and values' latent and weights, and the gradients of
    the queries and of the keys and values. -/
abbrev Cq : Vec Ideal S2048x512 .bf16 := m ((c : Thread nD τ).loc main_arg0)
abbrev Wq : Vec Ideal S8x192x512 .bf16 := m ((c : Thread nD τ).loc main_arg1)
abbrev Ck : Vec Ideal S2048x512 .bf16 := m ((c : Thread nD τ).loc main_arg2)
abbrev Wk : Vec Ideal S8x512x256 .bf16 := m ((c : Thread nD τ).loc main_arg3)
abbrev Dq : Vec Ideal S8x2048x192 .bf16 := m ((c : Thread nD τ).loc main_arg4)
abbrev Dk : Vec Ideal S8x2048x256 .bf16 := m ((c : Thread nD τ).loc main_arg5)

/-! ## The contents between the calls -/

theorem wq1 : W1 m ρ c (Proc.devRef .tc main_v0) = wQ (Dq m c) (Cq m c) := by
  refine (W1_arr m ρ c 2).trans ((arr0_2 (V0 m ρ) c).trans ?_)
  show wQ (W0 m ρ c (Proc.devRef .tc main_arg4)) (W0 m ρ c (Proc.devRef .tc main_arg0)) = _
  rw [W0_args m ρ c main_arg4 (by decide), W0_args m ρ c main_arg0 (by decide)]

theorem wq_end : W4 m ρ c (Proc.devRef .tc main_v0) = wQ (Dq m c) (Cq m c) :=
  (W4_of m ρ c main_v0 (by decide)).trans ((W3_of m ρ c main_v0 (by decide)).trans ((W2_of m ρ c main_v0 (by decide)).trans (wq1 m ρ c)))

theorem wkv2 : W2 m ρ c (Proc.devRef .tc main_v1) = wKv (Ck m c) (Dk m c) := by
  refine (W2_arr m ρ c 2).trans ((arr1_2 (V1 m ρ) c).trans ?_)
  show wKv (W1 m ρ c (Proc.devRef .tc main_arg2)) (W1 m ρ c (Proc.devRef .tc main_arg5)) = _
  rw [W1_args m ρ c main_arg2 (by decide), W1_args m ρ c main_arg5 (by decide)]

theorem wkv_end : W4 m ρ c (Proc.devRef .tc main_v1) = wKv (Ck m c) (Dk m c) :=
  (W4_of m ρ c main_v1 (by decide)).trans ((W3_of m ρ c main_v1 (by decide)).trans (wkv2 m ρ c))

theorem cq3 : W3 m ρ c (Proc.devRef .tc main_v2) = dCq (Dq m c) (Wq m c) := by
  refine (W3_arr m ρ c 2).trans ((arr2_2 (V2 m ρ) c).trans ?_)
  show dCq (W2 m ρ c (Proc.devRef .tc main_arg4)) (W2 m ρ c (Proc.devRef .tc main_arg1)) = _
  rw [W2_args m ρ c main_arg4 (by decide), W2_args m ρ c main_arg1 (by decide)]

theorem cq_end : W4 m ρ c (Proc.devRef .tc main_v2) = dCq (Dq m c) (Wq m c) :=
  (W4_of m ρ c main_v2 (by decide)).trans (cq3 m ρ c)

theorem ckv4 : W4 m ρ c (Proc.devRef .tc main_v3) = dCkv (Dk m c) (Wk m c) := by
  refine (W4_arr m ρ c 2).trans ((arr3_2 (V3 m ρ) c).trans ?_)
  show dCkv (W3 m ρ c (Proc.devRef .tc main_arg5)) (W3 m ρ c (Proc.devRef .tc main_arg3)) = _
  rw [W3_args m ρ c main_arg5 (by decide), W3_args m ρ c main_arg3 (by decide)]

-- the launch theorem's implicit arguments are found by unifying its conclusion with this one, which takes unfolding plain
-- definitions in a metavariable's type
set_option backward.isDefEq.respectTransparency.types false in
/-- THE RUN: every execution ends with the results as these functions of the arguments and the arguments as
    launched. -/
theorem run : θ_run defs (onTc (τ := τ) (main (F := Ideal))) ⟨m, fun _ => 0, ρ⟩ (fun r => ∀ c : Dev nD,
      r.2.mem ((c.tc : Thread nD τ).loc main_v0) = wQ (Dq m c) (Cq m c)
      ∧ r.2.mem ((c.tc : Thread nD τ).loc main_v1) = wKv (Ck m c) (Dk m c)
      ∧ r.2.mem ((c.tc : Thread nD τ).loc main_v2) = dCq (Dq m c) (Wq m c)
      ∧ r.2.mem ((c.tc : Thread nD τ).loc main_v3) = dCkv (Dk m c) (Wk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v0 (by decide))).trans (wq_end m ρ c),
       (h c _ (mem_uc main_v1 (by decide))).trans (wkv_end m ρ c),
       (h c _ (mem_uc main_v2 (by decide))).trans (cq_end m ρ c),
       (h c _ (mem_uc main_v3 (by decide))).trans (ckv4 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.UpRun
-- ==== Proof.UpRef.lean ====
/- What the reference of the gradients of the latent attention's projections computes, stage by stage at an index, in the terms
   of the kernel's arrays. -/
module

public import proofs.«01_k».proof.Proof.UpRun
public import proofs.«01_k».proof.Proof.Gen.UpRefIdeal.Read
public import Idealize.ShloMosaic.Lib.Pointwise

@[expose] public section

noncomputable section

namespace Cert.UpRef

open Idealize.ShloMosaic Idealize.ShloMosaic.TcCoe Cert.UpRefIdeal Cert.UpRefIdeal.Gen Cert.UpRefIdeal.Read
open Cert.UpArray Cert.Tile

variable (x0 : Vec Ideal S2048x512 .bf16) (x1 : Vec Ideal S8x192x512 .bf16) (x2 : Vec Ideal S2048x512 .bf16)
  (x3 : Vec Ideal S8x512x256 .bf16) (x4 : Vec Ideal S8x2048x192 .bf16) (x5 : Vec Ideal S8x2048x256 .bf16)

/-! ## The heads side by side -/

/-- Place `k` of head `h` among all heads' places. -/
def atQ (h : Fin 8) (k : Fin 192) : Fin 1536 := ⟨192 * h.val + k.val, by omega⟩
def atK (h : Fin 8) (k : Fin 256) : Fin 2048 := ⟨256 * h.val + k.val, by omega⟩

/-- A sum over all heads' places, head by head. -/
theorem heads_q (f : Fin 1536 → EReal) : ∑ n, f n = ∑ h : Fin 8, ∑ k : Fin 192, f (atQ h k) := by
  rw [← Fintype.sum_prod_type']
  refine (Fintype.sum_equiv (finProdFinEquiv (m := 8) (n := 192)) _ _ fun p => congrArg f (Fin.ext ?_)).symm
  show 192 * p.1.val + p.2.val = p.2.val + 192 * p.1.val
  omega

theorem heads_k (f : Fin 2048 → EReal) : ∑ n, f n = ∑ h : Fin 8, ∑ k : Fin 256, f (atK h k) := by
  rw [← Fintype.sum_prod_type']
  refine (Fintype.sum_equiv (finProdFinEquiv (m := 8) (n := 256)) _ _ fun p => congrArg f (Fin.ext ?_)).symm
  show 256 * p.1.val + p.2.val = p.2.val + 256 * p.1.val
  omega

theorem v22 (r : Fin 2048) (h : Fin 8) (k : Fin 192) : val_main_v22 (F := Ideal) x4 (ix2 r (atQ h k)) = x4 (ix3 h r k) := by
  rw [val_main_v22_apply, val_main_v21_apply, val_main_v4_apply]
  exact congrArg x4 (ix3_of (by show (r.val * 1536 + (192 * h.val + k.val)) / 192 % 8 = h.val; omega)
    (by show (r.val * 1536 + (192 * h.val + k.val)) / 1536 = r.val; omega)
    (by show (r.val * 1536 + (192 * h.val + k.val)) % 192 = k.val; omega))

theorem v17 (r : Fin 2048) (h : Fin 8) (k : Fin 256) : val_main_v17 (F := Ideal) x5 (ix2 r (atK h k)) = x5 (ix3 h r k) := by
  rw [val_main_v17_apply, val_main_v16_apply, val_main_v5_apply]
  exact congrArg x5 (ix3_of (by show (r.val * 2048 + (256 * h.val + k.val)) / 256 % 8 = h.val; omega)
    (by show (r.val * 2048 + (256 * h.val + k.val)) / 2048 = r.val; omega)
    (by show (r.val * 2048 + (256 * h.val + k.val)) % 256 = k.val; omega))

theorem v7 (d : Fin 512) (h : Fin 8) (k : Fin 192) : val_main_v7 (F := Ideal) x1 (ix2 d (atQ h k)) = x1 (ix3 h k d) := by
  rw [val_main_v7_apply, val_main_v6_apply, val_main_v1_apply]
  exact congrArg x1 (ix3_of (by show ((192 * h.val + k.val) * 512 + d.val) / 98304 = h.val; omega)
    (by show ((192 * h.val + k.val) * 512 + d.val) / 512 % 192 = k.val; omega)
    (by show ((192 * h.val + k.val) * 512 + d.val) % 512 = d.val; omega))

theorem v9 (d : Fin 512) (h : Fin 8) (k : Fin 256) : val_main_v9 (F := Ideal) x3 (ix2 d (atK h k)) = x3 (ix3 h d k) := by
  rw [val_main_v9_apply, val_main_v8_apply, val_main_v3_apply]
  exact congrArg x3 (ix3_of (by show (d.val * 2048 + (256 * h.val + k.val)) / 256 % 8 = h.val; omega)
    (by show (d.val * 2048 + (256 * h.val + k.val)) / 2048 = d.val; omega)
    (by show (d.val * 2048 + (256 * h.val + k.val)) % 256 = k.val; omega))

/-! ## The results -/

theorem v28 (h : Fin 8) (i : Fin 192) (k : Fin 512) : val_main_v28 (F := Ideal) x0 x4 (ix3 h i k) = wQ x4 x0 (ix3 h i k) := by
  have e : val_main_v27 (F := Ideal) x0 x4 (ix3 h i k) = val_main_v23 (F := Ideal) x0 x4 (ix2 (atQ h i) k) := by
    rw [val_main_v27_apply, val_main_v26_apply, val_main_v24_apply]
    exact congrArg _ (ix2_of (by show ((h.val * 192 + i.val) * 512 + k.val) / 512 = 192 * h.val + i.val; omega)
      (by show ((h.val * 192 + i.val) * 512 + k.val) % 512 = k.val; omega))
  rw [val_main_v28_apply]
  refine e.trans ?_
  pointwise [val_main_v23, val_main_v0]
  simp only [v22]
  rfl

theorem v31 (h : Fin 8) (i : Fin 512) (k : Fin 256) : val_main_v31 (F := Ideal) x2 x5 (ix3 h i k) = wKv x2 x5 (ix3 h i k) := by
  have e : val_main_v30 (F := Ideal) x2 x5 (ix3 h i k) = val_main_v18 (F := Ideal) x2 x5 (ix2 (atK h k) i) := by
    rw [val_main_v30_apply, val_main_v29_apply, val_main_v19_apply]
    exact congrArg _ (ix2_of (by show ((i.val * 8 + h.val) * 256 + k.val) % 2048 = 256 * h.val + k.val; omega)
      (by show ((i.val * 8 + h.val) * 256 + k.val) / 2048 = i.val; omega))
  rw [val_main_v31_apply]
  refine e.trans ?_
  pointwise [val_main_v18, val_main_v2]
  simp only [v17]
  exact Finset.sum_congr rfl fun r _ => mul_comm _ _

theorem v25 (r : Fin 2048) (d : Fin 512) : val_main_v25 (F := Ideal) x1 x4 (ix2 r d) = dCq x4 x1 (ix2 r d) := by
  pointwise [val_main_v25]
  rw [heads_q]
  simp only [v22, v7]
  rfl

theorem v20 (r : Fin 2048) (d : Fin 512) : val_main_v20 (F := Ideal) x3 x5 (ix2 r d) = dCkv x5 x3 (ix2 r d) := by
  pointwise [val_main_v20]
  rw [heads_k]
  simp only [v17, v9]
  rfl

end Cert.UpRef
-- ==== Proof.UpClaim.lean ====
/- The equation of the gradients of the latent attention's projections. -/
module

public import proofs.«01_k».proof.Defs
public import proofs.«01_k».proof.Proof.UpRef
public import proofs.«01_k».proof.Proof.Gen.UpRefIdeal.Run

@[expose] public section

noncomputable section

namespace Cert.UpClaim

open Idealize.ShloMosaic Idealize.ShloMosaic.TcCoe Idealize.SL.Sem
open Cert.UpArray Cert.UpRun Cert.UpRef

/-- Kernel and reference compute the same four gradients over the extended reals. -/
theorem algebraic : @Cert.algebraic_UpBwdIdeal_UpRefIdeal Cert.UpBwdIdeal.Gen.facts Cert.UpRefIdeal.Gen.facts := by
  intro m g m' g' _ hag
  refine ⟨fun c => wQ (Dq m c) (Cq m c), fun c => wKv (Ck m c) (Dk m c), fun c => dCq (Dq m c) (Wq m c),
    fun c => dCkv (Dk m c) (Wk m c), run m g, ?_⟩
  refine (θ_run Cert.UpRefIdeal.defs _ _).mono (fun _ h c => ?_) (Cert.UpRefIdeal.Value.run m' g')
  obtain ⟨h0, h1, h2, h3, h4, h5⟩ := hag c
  obtain ⟨r0, r1, r2, r3, hargs⟩ := h c
  refine ⟨r0.trans ?_, r1.trans ?_, r2.trans ?_, r3.trans ?_, hargs⟩
  · rw [Cert.UpRefIdeal.Read.val_main_v28_eq, h0, h4]
    funext y
    obtain ⟨a, i, k, rfl⟩ : ∃ (a : Fin 8) (i : Fin 192) (k : Fin 512), y = ix3 a i k := ⟨_, _, _, eq_ix3 y⟩
    exact v28 _ _ a i k
  · rw [Cert.UpRefIdeal.Read.val_main_v31_eq, h2, h5]
    funext y
    obtain ⟨a, i, k, rfl⟩ : ∃ (a : Fin 8) (i : Fin 512) (k : Fin 256), y = ix3 a i k := ⟨_, _, _, eq_ix3 y⟩
    exact v31 _ _ a i k
  · rw [Cert.UpRefIdeal.Read.val_main_v25_eq, h1, h4]
    funext y
    obtain ⟨i, k, rfl⟩ : ∃ (i : Fin 2048) (k : Fin 512), y = ix2 i k := ⟨_, _, eq_ix2 y⟩
    exact v25 _ _ i k
  · rw [Cert.UpRefIdeal.Read.val_main_v20_eq, h3, h5]
    funext y
    obtain ⟨i, k, rfl⟩ : ∃ (i : Fin 2048) (k : Fin 512), y = ix2 i k := ⟨_, _, eq_ix2 y⟩
    exact v20 _ _ i k

end Cert.UpClaim
-- ==== Proof.DwBody.lean ====
/- One block of the input projection's weight gradient, over any float values and at any height of a block: a grid point
   multiplies its two blocks into the scratch tile and copies the tile to its place in the result; and what the result is
   after any number of points. -/
module

public import proofs.«01_k».proof.Proof.Gen.DwInIdeal
public import proofs.«01_k».proof.Proof.Gen.DwInIdeal.Skeleton
public import proofs.«01_k».proof.Proof.Tile
public import Idealize.ShloMosaic.Lib.Pipeline.FrameBody
public import Idealize.ShloMosaic.Lib.Pipeline.Routed
public import Idealize.ShloMosaic.Lib.Exec
public import Idealize.ShloMosaic.Lib.Tactic
public import Idealize.ShloMosaic.Lib.Claim

@[expose] public section

set_option maxRecDepth 16384

noncomputable section

namespace Cert.DwBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DwInIdeal Cert.DwInIdeal.Gen Cert.Tile

variable {F : FTy → Type} [FloatOps F]

local notation "𝕄" => MT nD τ sig Unit (Elt F) ℕ (Pipeline.UC sig nD τ) ℕ

/-! ## The body -/

variable {h : ℕ}

/-- The block of the left factor, `h` columns of it, and the tile. -/
abbrev SL (h : ℕ) : Shape := ⟨2, ![2048, h]⟩
abbrev ST (h : ℕ) : Shape := ⟨2, ![h, 512]⟩

theorem hz : (![0, 0] : Fin 2 → ℕ) = fun _ => 0 := by decide

/-- The place of a tile in the result. -/
abbrev place (out : Memref sig .tc .hbm S8256x2048 .bf16) (off : Fin 2 → ℕ) (io : ∀ a, off a + (ST h).size a ≤ S8256x2048.size a) :
    Memref sig .tc .hbm (ST h) .bf16 :=
  out.slice (Rect.unit (s := S8256x2048) off (ST h).size io) (fun _ => rfl)

/-- The body of the four calls, at the tile's height, its product and its place. -/
def body (pay : Vec F (SL h) .bf16 → Vec F S2048x512 .bf16 → FVec F (ST h) .bf16)
    (iL : ∀ a, (![0, 0] : Fin 2 → ℕ) a + (SL h).size a ≤ (SL h).size a) (pL : 0 < (SL h).numel)
    (iT : ∀ a, (![0, 0] : Fin 2 → ℕ) a + (ST h).size a ≤ (ST h).size a) (pT : 0 < (ST h).numel)
    (pk : (Rect.unit (s := ST h) ![0, 0] (ST h).size iT).PackedRows (EltTy.packing .bf16))
    (a2 : Memref sig .tc .vmem (SL h) .bf16) (a3 : Memref sig .tc .vmem S2048x512 .bf16)
    (out : Memref sig .tc .hbm S8256x2048 .bf16) (off : Fin 2 → ℕ) (io : ∀ a, off a + (ST h).size a ≤ S8256x2048.size a)
    (wp : (place out off io).view.WordExact)
    (a6 : Memref sig .tc .vmem (ST h) .bf16) (h6 : a6.IsWhole) (q : DmaSem sig) : Prog (TpuEff nD τ sig (Elt F) Λ₀ .tc) PUnit := do
  let v0 : Vec F (SL h) .bf16 ← Prog.lift (.load a2 (Rect.unit (s := SL h) ![0, 0] (SL h).size iL).toLoadRect (View.loadsAt_vmem pL))
  let v1 : Vec F S2048x512 .bf16 ← Prog.lift (.load a3 (Rect.unit (s := S2048x512) ![0, 0] S2048x512.size inb_S2048x512_S2048x512_0_0).toLoadRect (View.loadsAt_vmem h_S2048x512))
  let _v4 : Vec F (ST h) .bf16 ← Prog.lift (.load a6 (Rect.unit (s := ST h) ![0, 0] (ST h).size iT).toLoadRect (View.loadsAt_vmem pT))
  Prog.lift (.store a6 (Rect.unit (s := ST h) ![0, 0] (ST h).size iT) (pay v0 v1) Finset.univ (View.stores_vmem pT (h6.storeExact_slice rfl _ pk) (fun _ => rfl)) (.inl rfl))
  Prog.lift (.enqueueDma a6 (.here (place out off io)) (.dma q) h6.wordExact wp ⟨Or.inl rfl, trivial⟩)
  Prog.lift (.waitDma2 q a6 (place out off io) h6.wordExact wp)
  pure ⟨⟩

variable (pay : Vec F (SL h) .bf16 → Vec F S2048x512 .bf16 → FVec F (ST h) .bf16)
    (iL : ∀ a, (![0, 0] : Fin 2 → ℕ) a + (SL h).size a ≤ (SL h).size a) (pL : 0 < (SL h).numel)
    (iT : ∀ a, (![0, 0] : Fin 2 → ℕ) a + (ST h).size a ≤ (ST h).size a) (pT : 0 < (ST h).numel)
    (pk : (Rect.unit (s := ST h) ![0, 0] (ST h).size iT).PackedRows (EltTy.packing .bf16))
    (a2 : Memref sig .tc .vmem (SL h) .bf16) (h2 : a2.IsWhole) (a3 : Memref sig .tc .vmem S2048x512 .bf16) (h3 : a3.IsWhole)
    (out : Memref sig .tc .hbm S8256x2048 .bf16) (off : Fin 2 → ℕ) (io : ∀ a, off a + (ST h).size a ≤ S8256x2048.size a)
    (wp' : (place out off io).view.WordExact)
    (a6 : Memref sig .tc .vmem (ST h) .bf16) (h6 : a6.IsWhole) (q : DmaSem sig)

/-- What the scratch tile reads after the body's one store to it, whole: the product of the two blocks. -/
theorem tile_read (x : Vec F (SL h) .bf16) (y : Vec F S2048x512 .bf16) (fs : a6.view.ty.Contents (Elt F)) :
    a6.view.read (Elt F) (a6.view.writes (Elt F) fs [⟨Rect.unit (s := ST h) ![0, 0] (ST h).size iT,
      pay (a2.view.readAt (Elt F) (Rect.unit (s := SL h) ![0, 0] (SL h).size iL).toLoadRect (h2.unread x))
        (a3.view.readAt (Elt F) (Rect.unit (s := S2048x512) ![0, 0] S2048x512.size inb_S2048x512_S2048x512_0_0).toLoadRect (h3.unread y))⟩])
      = pay x y := by
  rw [View.read_writes_eq_canon _ _ _ fun z => ⟨_, List.mem_singleton_self _, View.mem_set_unit_zero hz iT z⟩,
    View.canon_unit_zero hz, View.readAt_eq_ld, View.readAt_eq_ld, h2.read_unread, h3.read_unread]
  exact congrArg₂ pay (View.ld_unit_zero hz _ x) (View.ld_unit_zero hz _ y)

/-- The result at contents `f`. -/
abbrev outPt (c : Dev nD) (M : Memref sig .tc .hbm S8256x2048 .bf16) (f : Buf (Elt F) (M.view.loc (c : Thread nD τ))) : sProp 𝕄 :=
  M.view.loc (c : Thread nD τ) ↦{fullShare} f

include h2 h3 in
set_option maxHeartbeats 400000 in
/-- One point's body: the inputs stay as they are, and the result takes the tile at its place. -/
theorem body_run (c : Dev nD) (hpos : 0 < (place out off io).view.amount (SemLoc.dma q))
    (x : Vec F (SL h) .bf16) (y : Vec F S2048x512 .bf16) (f : Buf (Elt F) (out.view.loc (c : Thread nD τ)))
    (W : Waits sig Unit) (K : PUnit → sProp 𝕄) :
    iprop(owns (c : Thread nD τ) a2 fullShare x ∗ owns (c : Thread nD τ) a3 fullShare y ∗ (∃ d, owns (c : Thread nD τ) a6 fullShare d)
        ∗ semVal ((c : Thread nD τ), SemLoc.dma q) 0 ∗ outPt c out f ∗ owes (c : Thread nD τ) 0 W
        ∗ (iprop(owns (c : Thread nD τ) a2 fullShare x ∗ owns (c : Thread nD τ) a3 fullShare y ∗ (∃ d, owns (c : Thread nD τ) a6 fullShare d)
            ∗ semVal ((c : Thread nD τ), SemLoc.dma q) 0 ∗ outPt c out ((place out off io).view.write (Elt F) f (pay x y) Finset.univ) ∗ (∃ W', owes (c : Thread nD τ) 0 W')) -∗ K ⟨⟩))
      ⊢ wp frame (wpE (defs₀ (F := F)) Variants.none c none) Set.univ
          (body pay iL pL iT pT pk a2 a3 out off io wp' a6 h6 q) K := by
  unfold body
  unfold owns
  iintro ⟨⟨%f0, %hf0, H0⟩, ⟨%f1, %hf1, H1⟩, ⟨%ds, %fs, -, HS⟩, Hq, Ho, HW, Hk⟩
  obtain rfl := h2.eq_unread hf0; obtain rfl := h3.eq_unread hf1
  sl_exec
  sl_step
  iapply Hk
  isplitl [H0]
  · iexists _; isplitr; · ipureintro; exact h2.read_unread _
    iexact H0
  isplitl [H1]
  · iexists _; isplitr; · ipureintro; exact h3.read_unread _
    iexact H1
  isplitl [HS]
  · iexists _, _; isplitr; swap; · iexact HS
    ipureintro; rfl
  isplitl [Hq]; · iexact Hq
  isplitl [Ho]
  · iapply (show outPt c out _ ⊢ outPt c out ((place out off io).view.write (Elt F) f (pay x y) Finset.univ)
      from BIBase.Entails.of_eq (congrArg (outPt c out) (congrArg (fun w => (place out off io).view.write (Elt F) f w Finset.univ)
        (tile_read pay iL iT a2 h2 a3 h3 a6 x y fs))))
    iexact Ho
  iexists _; iexact HW

include h2 h3 in
/-- One point, with what the body leaves alone riding along: the result becomes `f'`. -/
theorem step (c : Dev nD) (hpos : 0 < (place out off io).view.amount (SemLoc.dma q))
    (x : Vec F (SL h) .bf16) (y : Vec F S2048x512 .bf16) (f f' : Buf (Elt F) (out.view.loc (c : Thread nD τ)))
    (hf : (place out off io).view.write (Elt F) f (pay x y) Finset.univ = f') (R : sProp 𝕄) (P : Waits sig Unit → Prop) (hP : ∀ W, P W) :
    iprop((outPt c out f ∗ semVal ((c : Thread nD τ), SemLoc.dma q) 0 ∗ (∃ d, owns (c : Thread nD τ) a6 fullShare d) ∗ R)
        ∗ (∃ W, ⌜P W⌝ ∗ owes (c : Thread nD τ) 0 W)
        ∗ (∃ _d : Vec F (SL h) .bf16, owns (c : Thread nD τ) a2 fullShare x) ∗ (∃ _d : Vec F S2048x512 .bf16, owns (c : Thread nD τ) a3 fullShare y))
      ⊢ wp frame (wpE (defs₀ (F := F)) Variants.none c none) Set.univ
          (body pay iL pL iT pT pk a2 a3 out off io wp' a6 h6 q) fun _ =>
        iprop((outPt c out f' ∗ semVal ((c : Thread nD τ), SemLoc.dma q) 0 ∗ (∃ d, owns (c : Thread nD τ) a6 fullShare d) ∗ R)
          ∗ (∃ W, ⌜P W⌝ ∗ owes (c : Thread nD τ) 0 W)
          ∗ owns (c : Thread nD τ) a2 fullShare x ∗ owns (c : Thread nD τ) a3 fullShare y) := by
  subst hf
  iintro ⟨⟨Ho, Hq, HS, HR⟩, ⟨%W, -, HW⟩, ⟨%d0, H0⟩, ⟨%d1, H1⟩⟩
  iapply (body_run pay iL pL iT pT pk a2 h2 a3 h3 out off io wp' a6 h6 q c hpos x y f W _)
  isplitl [H0]; · iexact H0
  isplitl [H1]; · iexact H1
  isplitl [HS]; · iexact HS
  isplitl [Hq]; · iexact Hq
  isplitl [Ho]; · iexact Ho
  isplitl [HW]; · iexact HW
  iintro ⟨H0, H1, HS, Hq, Ho, ⟨%W', HW'⟩⟩
  isplitl [Ho Hq HS HR]
  · isplitl [Ho]; · iexact Ho
    isplitl [Hq]; · iexact Hq
    isplitl [HS]; · iexact HS
    iexact HR
  isplitl [HW']
  · iexists W'; isplitr; · ipureintro; exact hP W'
    iexact HW'
  isplitl [H0]; · iexact H0
  iexact H1

/-! ## The result after any number of points -/

variable {α : Type} (row0 N : ℕ) (hh : 0 < h)

/-- The point whose tile has the place `y`, where any has it: the tiles go along the rows, four to a row of them. -/
def pt (h row0 : ℕ) (y : S8256x2048.Idx) : ℕ := ((y 0).val - row0) / h * 4 + (y 1).val / 512

/-- The result after `n` of `N` points: their tiles, over what it held before. -/
def lay (tile : Fin N → (ST h).Idx → α) (old : S8256x2048.Idx → α) (n : ℕ) : S8256x2048.Idx → α := fun y =>
  if p : row0 ≤ (y 0).val ∧ pt h row0 y < n ∧ pt h row0 y < N then
    tile ⟨pt h row0 y, p.2.2⟩ (ix2 ⟨((y 0).val - row0) % h, Nat.mod_lt _ hh⟩ ⟨(y 1).val % 512, Nat.mod_lt _ (by omega)⟩)
  else old y

theorem lay_zero (tile : Fin N → (ST h).Idx → α) (old : S8256x2048.Idx → α) : lay row0 N hh tile old 0 = old :=
  funext fun _ => dif_neg (by omega)

/-- A point adds its tile: contents that are the tile at its place `emb` and what they were elsewhere are those after the
    point. -/
theorem lay_succ (tile : Fin N → (ST h).Idx → α) (old : S8256x2048.Idx → α) (t : Fin N) (emb : (ST h).Idx → S8256x2048.Idx)
    (e0 : ∀ x, (emb x 0).val = row0 + h * (t.val / 4) + (x 0).val) (e1 : ∀ x, (emb x 1).val = 512 * (t.val % 4) + (x 1).val)
    (new : S8256x2048.Idx → α) (hit : ∀ x, new (emb x) = tile t x)
    (miss : ∀ y, (∀ x, emb x ≠ y) → new y = lay row0 N hh tile old t.val y) : new = lay row0 N hh tile old (t.val + 1) := by
  have sub : ∀ x, (emb x 0).val - row0 = (x 0).val + h * (t.val / 4) := fun x => by have := e0 x; omega
  have hpt : ∀ x, pt h row0 (emb x) = t.val := fun x => by
    have b0 : (x 0).val < h := (x 0).isLt
    have b1 : (x 1).val < 512 := (x 1).isLt
    unfold pt
    rw [sub x, e1 x, Nat.add_mul_div_left _ _ hh, Nat.div_eq_of_lt b0]; omega
  funext y
  by_cases hy : ∃ x, emb x = y
  · obtain ⟨x, rfl⟩ := hy
    have b0 : (x 0).val < h := (x 0).isLt
    have b1 : (x 1).val < 512 := (x 1).isLt
    have hp := hpt x
    rw [hit x]; unfold lay
    rw [dif_pos ⟨by have := e0 x; omega, by omega, by rw [hp]; exact t.isLt⟩]
    have ht : (⟨pt h row0 (emb x), by rw [hp]; exact t.isLt⟩ : Fin N) = t := Fin.ext hp
    rw [ht]
    exact congrArg (tile t) (ix2_of (by show (x 0).val = _ % h; rw [sub x, Nat.add_mul_mod_self_left, Nat.mod_eq_of_lt b0])
      (by show (x 1).val = _ % 512; rw [e1 x]; omega))
  · rw [miss y fun x e => hy ⟨x, e⟩]
    unfold lay
    by_cases p : row0 ≤ (y 0).val ∧ pt h row0 y < t.val ∧ pt h row0 y < N
    · rw [dif_pos p, dif_pos ⟨p.1, by omega, p.2.2⟩]
    · rw [dif_neg p, dif_neg fun p' => ?_]
      have e : pt h row0 y = t.val := by have := p'.1; have := p'.2.1; have := p'.2.2; by_contra; exact p ⟨p'.1, by omega, p'.2.2⟩
      refine hy ⟨ix2 ⟨((y 0).val - row0) % h, Nat.mod_lt _ hh⟩ ⟨(y 1).val % 512, Nat.mod_lt _ (by omega)⟩, ?_⟩
      have b1 : (y 1).val < 2048 := (y 1).isLt
      have hd : ((y 0).val - row0) / h = t.val / 4 := by unfold pt at e; omega
      have hm : (y 1).val / 512 = t.val % 4 := by unfold pt at e; omega
      have dm := Nat.div_add_mod ((y 0).val - row0) h
      rw [hd] at dm
      funext a; apply Fin.ext
      match a with
      | ⟨0, _⟩ => exact (e0 _).trans (by show row0 + h * (t.val / 4) + ((y 0).val - row0) % h = (y 0).val; have := p'.1; omega)
      | ⟨1, _⟩ => exact (e1 _).trans (by show 512 * (t.val % 4) + (y 1).val % 512 = (y 1).val; omega)

end Cert.DwBody
-- ==== Proof.DwSeg.lean ====
/- One call of the input projection's weight gradient as a step of the program: entered with every unscoped buffer held,
   left with the result of the call changed and nothing else. -/
module

public import proofs.«01_k».proof.Proof.DwBody
public import proofs.«01_k».proof.Proof.Gen.DwInIdeal.Launch
public import proofs.«01_k».proof.Proof.Gen.DwInIdeal.Regions
public import Idealize.ShloMosaic.Lib.Pipeline.Regions

@[expose] public section

set_option maxRecDepth 16384

noncomputable section

namespace Cert.DwSeg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DwInIdeal Cert.DwInIdeal.Gen
open Idealize.ShloMosaic.Pipeline (Dat Cfg Window)

variable {F : FTy → Type} [FloatOps F]

local notation "𝕄" => MT nD τ sig Unit (Elt F) ℕ (Pipeline.UC sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers: the generator's register, and the core owing nothing. -/
abbrev Rest (c : Dev nD) : sProp 𝕄 := iprop((∃ r, prngReg c r) ∗ ∃ W, owes (c : Thread nD τ) (0 : CellTallies nD τ sig Unit) W)

variable (pdats : (p : Fin 4) → (c : Dev nD) → Dat τ (Elt F) Unit ℕ (Pipeline.UC sig nD τ) ℕ (cfgs p) c)
  (p : Fin 4) (kit : Pipeline.LaunchFacts (nD := nD) (τ := τ) cfgs p)
  (q : DmaSem sig) (ho : Pipeline.OwnSemFacts (cfgs p).spec (fun _ : Fin 1 => SemLoc.dma q))
  (r : Ref sig .tc) (hr : {r} ⊆ Pipeline.restRefs sig (cfgs p).spec)
  (V : Dev nD → Valuation τ sig (Elt F)) (f : (c : Dev nD) → Buf (Elt F) ((c : Thread nD τ).loc r))

/-- The buffers a call leaves: the result changed. -/
abbrev left (c : Dev nD) : Valuation τ sig (Elt F) := Function.update (V c) (Proc.devRef .tc r) (f c)

theorem left_of_ne (c : Dev nD) (b : Ref sig .tc) (hb : b ≠ r) : left r V f c b = V c b :=
  Function.update_of_ne (StableHlo.devRef_ne_of_ne hb) _ _

include hr in
theorem rest_split (c : Dev nD) (W : (b : Ref sig .tc) → Buf (Elt F) ((c : Thread nD τ).loc b)) :
    (Pipeline.unscopedRest (Ix := Unit) (Name := ℕ) (U := Pipeline.UC sig nD τ) (Lvl := ℕ) (cfgs p).spec c W : sProp 𝕄)
      = iprop(Pipeline.routed {r} c W ∗ bigSep (Pipeline.restRefs sig (cfgs p).spec \ {r}) fun b => (((c : Thread nD τ).loc b) ↦{fullShare} W b : sProp 𝕄)) := by
  unfold Pipeline.unscopedRest Pipeline.routed; exact bigSep_sdiff_split hr

-- a lemma stated over the pinned configuration unifies with the printed one only when unification may unfold plain
-- definitions in a metavariable's type
set_option backward.isDefEq.respectTransparency.types false in
/-- THE CALL: its arrays, which it reads only, split out of the unscoped buffers and go back unchanged; the result enters
    the invariant beside the copy's semaphore and the register and comes back as the points leave it. -/
def seg (hbody : ∀ c, Pipeline.BodyObligation (pdats p c) (defs₀ (F := F)) 𝒱₀ () Set.univ)
    (hq : ∀ c w, (pdats p c).q w = fullShare) (howed : ∀ c t, (pdats p c).owed t = 0)
    (hrec : ∀ c x, x ∈ (pdats p c).recorded 0)
    (hout : ∀ w, ((cfgs p).spec w).isOut = false)
    (hA : ∀ c w, (pdats p c).A w = V c (Pipeline.arrRef (cfgs p).spec w))
    (hin : ∀ c, Pipeline.Ends (cfgs p).spec (fun _ : Fin 1 => SemLoc.dma q) {r} c (fun b => V c b) ⊢ (pdats p c).Φ 0)
    (hend : ∀ c, (pdats p c).Φ (Fin.last (cfgs p).N) ⊢ Pipeline.Ends (cfgs p).spec (fun _ : Fin 1 => SemLoc.dma q) {r} c (fun b => left r V f c b)) :
    Pipeline.RegionSeg (pcfgs (F := F)) adm pdats () defs₀ 𝒱₀ L lv p where
  win := kit.win.to₀
  block_pos := kit.block_pos
  stage_whole := kit.stage_whole
  K := Fin 1
  osem _ := SemLoc.dma q
  ho := ho
  hbody c := (hbody c).loose
  hwaits := Pipeline.hwaits_of_owed_zero _ _ _ _ L lv p fun c t => howed c t
  pre c := iprop(StableHlo.held (c : Thread nD τ) (Pipeline.ucRefs τ sig) (V c) ∗ Rest c)
  post c := iprop(StableHlo.held (c : Thread nD τ) (Pipeline.ucRefs τ sig) (left r V f c) ∗ Rest c)
  X c := iprop(Pipeline.routed {r} c (fun b => V c b) ∗ Pipeline.ownSems0 (fun _ : Fin 1 => SemLoc.dma q) c ∗ ∃ r, prngReg c r)
  Y c := iprop(Pipeline.routed {r} c (fun b => left r V f c b) ∗ ∃ r, prngReg c r)
  Z c := bigSep (Pipeline.restRefs sig (cfgs p).spec \ {r}) fun b => (((c : Thread nD τ).loc b) ↦{fullShare} V c b : sProp 𝕄)
  hentry c := by
    have hsplit := Pipeline.arrays_of_unscopedBufs (p := p) (pcfgs (F := F)) adm pdats kit.win kit.arr_whole c
      ((pdats p c).share_full (hq c)) (fun b => V c b) (hA c)
    rw [Pipeline.unscopedBufs_held] at hsplit
    have hrest := rest_split p r hr c (fun b => V c b)
    iintro ⟨⟨Hub, Hp, HO⟩, Hs, -⟩
    ihave H := hsplit $$ Hub
    icases H with ⟨Ha, Hrest⟩
    ihave H := (Entails.of_eq hrest) $$ Hrest
    icases H with ⟨HR, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c _)
      iexact HO
    isplitl [HR Hs Hp]
    · isplitl [HR]; · iexact HR
      isplitl [Hs] <;> iassumption
    iexact HZ
  hin c := by
    refine BIBase.Entails.trans ?_ (hin c)
    unfold Pipeline.Ends
    iintro ⟨⟨HR, Hs, Hp⟩, -, Hr⟩
    isplitl [HR]; · iexact HR
    isplitl [Hs]; · iexact Hs
    isplitl [Hr] <;> iassumption
  hout c := by
    refine (hend c).trans ?_
    unfold Pipeline.Ends
    iintro ⟨HR, Hs, Hr, Hp⟩
    isplitl [HR Hp]
    · isplitl [HR] <;> iassumption
    isplitl [Hs] <;> iassumption
  hexit c := by
    have hne : ∀ w, Pipeline.arrRef (cfgs p).spec w ≠ r := fun w e => by
      have := hr (Finset.mem_singleton_self r)
      exact (Finset.mem_sdiff.mp this).2 (Finset.mem_image.mpr ⟨w, Finset.mem_univ _, e⟩)
    have hjoin := Pipeline.unscopedBufs_of_arrays (p := p) (pcfgs (F := F)) adm (Ix := Unit) (Name := ℕ) (U := Pipeline.UC sig nD τ) (Lvl := ℕ)
      kit.win kit.arr_whole c pdats ((pdats p c).share_full (hq c))
      (fun b => left r V f c b) (fun b => left r V f c b) ((pdats p c).arrAt · (cfgs p).N)
      (fun w => ((pdats p c).arrAt_in w (hout w) _).trans ((hA c w).trans (left_of_ne r V f c _ (hne w)).symm)) (fun _ _ => rfl)
    rw [Pipeline.unscopedBufs_held] at hjoin
    have hrest := rest_split p r hr c (fun b => left r V f c b)
    have hZ : (bigSep (Pipeline.restRefs sig (cfgs p).spec \ {r}) fun b => (((c : Thread nD τ).loc b) ↦{fullShare} left r V f c b : sProp 𝕄))
        = bigSep (Pipeline.restRefs sig (cfgs p).spec \ {r}) fun b => (((c : Thread nD τ).loc b) ↦{fullShare} V c b : sProp 𝕄) :=
      bigSep_congr fun b hb => by rw [left_of_ne r V f c b fun e => (Finset.mem_sdiff.mp hb).2 (Finset.mem_singleton.mpr e)]
    rw [hZ] at hrest
    iintro ⟨Ha, HO, ⟨HR, HY⟩, HZ⟩
    imodintro
    isplitl [Ha HR HZ]
    · iapply hjoin; isplitl [Ha]; · iexact Ha
      iapply (Entails.of_eq hrest.symm)
      isplitl [HR] <;> iassumption
    isplitl [HY]; · iexact HY
    unfold Pipeline.Dat.owesAt Pipeline.owesWithin
    rw [howed c]
    icases HO with ⟨%W, -, HO⟩; iexists W; iexact HO

end Cert.DwSeg
-- ==== Proof.DwCall.lean ====
/- The four calls of the input projection's weight gradient, over any float values: what each leaves after any number of its
   points, and its body's obligation. -/
module

public import proofs.«01_k».proof.Proof.DwSeg
public import proofs.«01_k».proof.Proof.Gen.DwInIdeal.Points

@[expose] public section

set_option maxRecDepth 16384

noncomputable section

namespace Cert.DwCall

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DwInIdeal Cert.DwInIdeal.Gen Cert.DwBody Cert.DwSeg
open Idealize.ShloMosaic.Pipeline (Dat Cfg Window)

variable {F : FTy → Type} [FloatOps F]

local notation "𝕄" => MT nD τ sig Unit (Elt F) ℕ (Pipeline.UC sig nD τ) ℕ

/-! ## The proof data of a call -/

variable (V : Dev nD → Valuation τ sig (Elt F))

/-- A body leaves `aft` in its windows' buffers, and before point `t` the result `r` is `f` at `t`. -/
def dat (p : Fin 4) (q : DmaSem sig) (r : Ref sig .tc) (f : (c : Dev nD) → ℕ → Buf (Elt F) ((c : Thread nD τ).loc r))
    (aft : (c : Dev nD) → (w : Fin (cfgs p).W) → Fin (cfgs p).N → ((cfgs p).win w).block.Idx → Elt F ((cfgs p).win w).elt) (c : Dev nD) :
    Dat τ (Elt F) Unit ℕ (Pipeline.UC sig nD τ) ℕ (cfgs p) c where
  A w := V c (Pipeline.arrRef (cfgs p).spec w)
  after := aft c
  Φ t := Pipeline.Ends (cfgs p).spec (fun _ : Fin 1 => SemLoc.dma q) {r} c (fun b => left r V (fun c => f c t.val) c b)
  q _ := fullShare
  owed _ := 0

/-- What rides along through a call's body: the core's other scratch and the generator's register. -/
def tail {gr W' : ℕ} (win : Fin W' → Pipeline.WinSpec sig gr) (b : Ref sig .tc) (c : Dev nD) : sProp 𝕄 :=
  iprop((bigSep (((Finset.univ.filter fun b : Ref sig .tc => b.isScoped) \ Finset.univ.image (Pipeline.stageRef win)) \ {b})
    fun b => iprop(∃ f : Buf (Elt F) ((c : Thread nD τ).loc b), ((c : Thread nD τ).loc b) ↦{fullShare} f)) ∗ ∃ r, prngReg c r)

theorem assoc (P Q R : sProp 𝕄) : iprop((P ∗ Q) ∗ R) = iprop(P ∗ Q ∗ R) := equiv_iff.mp ⟨BI.sep_assoc, BI.sep_assoc'⟩

/-- The invariant's parts: the result, the copy's semaphore at zero, the scratch tile at some contents, the rest. -/
theorem ends_eq {gr W' : ℕ} (win : Fin W' → Pipeline.WinSpec sig gr) (q : DmaSem sig) (r b : Ref sig .tc)
    (hb : {b} ⊆ (Finset.univ.filter fun b : Ref sig .tc => b.isScoped) \ Finset.univ.image (Pipeline.stageRef win)) (c : Dev nD)
    (W : (b : Ref sig .tc) → Buf (Elt F) ((c : Thread nD τ).loc b)) :
    (Pipeline.Ends win (fun _ : Fin 1 => SemLoc.dma q) {r} c W : sProp 𝕄)
      = iprop((((c : Thread nD τ).loc r) ↦{fullShare} W r) ∗ semVal ((c : Thread nD τ), SemLoc.dma q) 0
        ∗ (∃ d, owns (c : Thread nD τ) (Memref.whole b) fullShare d) ∗ tail win b c) := by
  unfold Pipeline.Ends tail Pipeline.scopedRest
  rw [Pipeline.routed_singleton, Pipeline.ownSems0_eq_of_list c _ [0] (by decide) (by decide), bigSep_sdiff_split hb, bigSep_singleton]
  simp only [owns_whole]
  exact congrArg (BIBase.sep _) (congrArg (BIBase.sep _) (assoc _ _ _))

theorem at_point (p : Fin 4) (q : DmaSem sig) (r b : Ref sig .tc)
    (hb : {b} ⊆ (Finset.univ.filter fun b : Ref sig .tc => b.isScoped) \ Finset.univ.image (Pipeline.stageRef (cfgs p).spec))
    (f : (c : Dev nD) → ℕ → Buf (Elt F) ((c : Thread nD τ).loc r)) (c : Dev nD) (n : ℕ) :
    (Pipeline.Ends (cfgs p).spec (fun _ : Fin 1 => SemLoc.dma q) {r} c (fun b => left r V (fun c => f c n) c b) : sProp 𝕄)
      = iprop((((c : Thread nD τ).loc r) ↦{fullShare} f c n) ∗ semVal ((c : Thread nD τ), SemLoc.dma q) 0
        ∗ (∃ d, owns (c : Thread nD τ) (Memref.whole b) fullShare d) ∗ tail (cfgs p).spec b c) := by
  rw [ends_eq _ q r b hb]
  simp only [left, Function.update_self]

/-! ## Call 0 -/

section Call0

/-- The windows' blocks at point `t`. -/
def left0 (c : Dev nD) (t : Fin cfg0.N) : Vec F S2048x1024 .bf16 := ((cfg0.win 0).blk t).view.read (Elt F) (V c (Pipeline.arrRef cfg0.spec 0))
def right0 (c : Dev nD) (t : Fin cfg0.N) : Vec F S2048x512 .bf16 := ((cfg0.win 1).blk t).view.read (Elt F) (V c (Pipeline.arrRef cfg0.spec 1))

/-- The tile of point `t`. -/
def tile0 (c : Dev nD) (t : Fin cfg0.N) : Vec F S1024x512 .bf16 := k0_pay1 (left0 V c t) (right0 V c t)

/-- The result after `n` points. -/
def res0 (c : Dev nD) (n : ℕ) : Vec F S8256x2048 .bf16 := lay (h := 1024) 0 cfg0.N (by decide) (tile0 V c) (V c main_v1) n

theorem off0 : ∀ t : Fin cfg0.N, k0_off1 (grid0.coords t) 0 = 0 + 1024 * (t.val / 4) ∧ k0_off1 (grid0.coords t) 1 = 512 * (t.val % 4) :=
  (by decide +kernel : ∀ t : Fin grid0.N, _)

/-- A point adds its tile. -/
theorem res0_succ (c : Dev nD) (t : Fin cfg0.N) :
    (place (h := 1024) (Memref.whole main_v1) (k0_off1 (grid0.coords t)) (k0_off1_inb (grid0.coords t))).view.write (Elt F) (res0 V c t.val)
      (tile0 V c t) Finset.univ = res0 V c (t.val + 1) :=
  lay_succ (h := 1024) 0 cfg0.N (by decide) (tile0 V c) (V c main_v1) t
    (place (h := 1024) (Memref.whole main_v1) (k0_off1 (grid0.coords t)) (k0_off1_inb (grid0.coords t))).view.emb
    (fun x => by have := (off0 t).1; show k0_off1 (grid0.coords t) 0 + 1 * (x 0).val = _; omega)
    (fun x => by have := (off0 t).2; show k0_off1 (grid0.coords t) 1 + 1 * (x 1).val = _; omega) _
    (fun x => View.write_emb_of_mem _ _ (Finset.mem_univ _))
    (fun y hy => View.write_of_not_mem _ _ _ fun m => by obtain ⟨x, -, e⟩ := Finset.mem_map.mp m; exact hy x e)

abbrev dat0 : (c : Dev nD) → Dat τ (Elt F) Unit ℕ (Pipeline.UC sig nD τ) ℕ cfg0 c := dat V 0 4 main_v1 (res0 V) fun c w t =>
  match w with
  | ⟨0, _⟩ => left0 V c t
  | ⟨1, _⟩ => right0 V c t

theorem before0_0 (c : Dev nD) (t : Fin cfg0.N) (d) : (dat0 V c).before 0 t d = left0 V c t :=
  ((dat0 V c).before_in_eq_fetched 0 rfl (fun _ => rfl) (fun _ _ _ => rfl) (fun _ => rfl) t d).trans rfl
theorem before0_1 (c : Dev nD) (t : Fin cfg0.N) (d) : (dat0 V c).before 1 t d = right0 V c t :=
  ((dat0 V c).before_in_eq_fetched 1 rfl (fun _ => rfl) (fun _ _ _ => rfl) (fun _ => rfl) t d).trans rfl

theorem amount0 (i : grid0.Coords) : 0 < (place (h := 1024) (Memref.whole main_v1) (k0_off1 i) (k0_off1_inb i)).view.amount (SemLoc.dma 4) :=
  View.amount_pos _ _ (by decide : 0 < (ST 1024).numel)

theorem body0 (i : grid0.Coords) (a2 : Memref sig .tc .vmem S2048x1024 .bf16) (h2 : a2.IsWhole) (a3 : Memref sig .tc .vmem S2048x512 .bf16) (h3 : a3.IsWhole) :
    cc0_in_dw0 (F := F) i a2 h2 a3 h3 (Memref.whole main_v1) (Memref.isWhole_whole _) (Memref.whole main_v1) (Memref.isWhole_whole _)
        (Memref.whole cc0_scratch0) (Memref.isWhole_whole _) cc0_scratch1
      = body (h := 1024) k0_pay1 inb_S2048x1024_S2048x1024_0_0 h_S2048x1024 inb_S1024x512_S1024x512_0_0 h_S1024x512 packedbf16_S1024x512_S1024x512_0_0
          a2 a3 (Memref.whole main_v1) (k0_off1 i) (k0_off1_inb i) ((Memref.isWhole_whole _).wordExact_slice rfl _ (k0_off1_wordsbf16 i))
          (Memref.whole cc0_scratch0) (Memref.isWhole_whole _) 4 := by
  rw [cc0_in_dw0_eq_skeleton]; rfl

/-- The body at any point, from the invariant to the next point's. -/
theorem point0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) fun _ =>
        iprop((dat0 V c).Φ t.succ ∗ (dat0 V c).owesAt () t.succ
          ∗ owns (c : Thread nD τ) (st0_0 t) fullShare (left0 V c t)
          ∗ owns (c : Thread nD τ) (st0_1 t) fullShare (right0 V c t)) := by
  unfold bodyAt0
  simp only [before0_0, before0_1]
  rw [body0, show (dat0 V c).Φ t.castSucc = _ from at_point V 0 4 main_v1 cc0_scratch0 (by decide) (res0 V) c t.val,
    show (dat0 V c).Φ t.succ = _ from at_point V 0 4 main_v1 cc0_scratch0 (by decide) (res0 V) c (t.val + 1)]
  exact step (h := 1024) k0_pay1 _ _ _ _ _ _ (hstage0_0 _) _ (hstage0_1 _) (Memref.whole main_v1) _ _ _ _ _ 4 c (amount0 _) (left0 V c t) (right0 V c t) _ _
    (res0_succ V c t) _ _ fun _ _ _ => Or.inl trivial

theorem obligation0 (c : Dev nD) : Pipeline.BodyObligation (dat0 V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (point0 V c t) rfl .rfl fun _ => .rfl

end Call0

/-! ## Call 1 -/

section Call1

/-- The windows' blocks at point `t`. -/
def left1 (c : Dev nD) (t : Fin cfg1.N) : Vec F S2048x1088 .bf16 := ((cfg1.win 0).blk t).view.read (Elt F) (V c (Pipeline.arrRef cfg1.spec 0))
def right1 (c : Dev nD) (t : Fin cfg1.N) : Vec F S2048x512 .bf16 := ((cfg1.win 1).blk t).view.read (Elt F) (V c (Pipeline.arrRef cfg1.spec 1))

/-- The tile of point `t`. -/
def tile1 (c : Dev nD) (t : Fin cfg1.N) : Vec F S1088x512 .bf16 := k1_pay1 (left1 V c t) (right1 V c t)

/-- The result after `n` points. -/
def res1 (c : Dev nD) (n : ℕ) : Vec F S8256x2048 .bf16 := lay (h := 1088) 3072 cfg1.N (by decide) (tile1 V c) (V c main_v2) n

theorem off1 : ∀ t : Fin cfg1.N, k1_off1 (grid1.coords t) 0 = 3072 + 1088 * (t.val / 4) ∧ k1_off1 (grid1.coords t) 1 = 512 * (t.val % 4) :=
  (by decide +kernel : ∀ t : Fin grid1.N, _)

/-- A point adds its tile. -/
theorem res1_succ (c : Dev nD) (t : Fin cfg1.N) :
    (place (h := 1088) (Memref.whole main_v2) (k1_off1 (grid1.coords t)) (k1_off1_inb (grid1.coords t))).view.write (Elt F) (res1 V c t.val)
      (tile1 V c t) Finset.univ = res1 V c (t.val + 1) :=
  lay_succ (h := 1088) 3072 cfg1.N (by decide) (tile1 V c) (V c main_v2) t
    (place (h := 1088) (Memref.whole main_v2) (k1_off1 (grid1.coords t)) (k1_off1_inb (grid1.coords t))).view.emb
    (fun x => by have := (off1 t).1; show k1_off1 (grid1.coords t) 0 + 1 * (x 0).val = _; omega)
    (fun x => by have := (off1 t).2; show k1_off1 (grid1.coords t) 1 + 1 * (x 1).val = _; omega) _
    (fun x => View.write_emb_of_mem _ _ (Finset.mem_univ _))
    (fun y hy => View.write_of_not_mem _ _ _ fun m => by obtain ⟨x, -, e⟩ := Finset.mem_map.mp m; exact hy x e)

abbrev dat1 : (c : Dev nD) → Dat τ (Elt F) Unit ℕ (Pipeline.UC sig nD τ) ℕ cfg1 c := dat V 1 8 main_v2 (res1 V) fun c w t =>
  match w with
  | ⟨0, _⟩ => left1 V c t
  | ⟨1, _⟩ => right1 V c t

theorem before1_0 (c : Dev nD) (t : Fin cfg1.N) (d) : (dat1 V c).before 0 t d = left1 V c t :=
  ((dat1 V c).before_in_eq_fetched 0 rfl (fun _ => rfl) (fun _ _ _ => rfl) (fun _ => rfl) t d).trans rfl
theorem before1_1 (c : Dev nD) (t : Fin cfg1.N) (d) : (dat1 V c).before 1 t d = right1 V c t :=
  ((dat1 V c).before_in_eq_fetched 1 rfl (fun _ => rfl) (fun _ _ _ => rfl) (fun _ => rfl) t d).trans rfl

theorem amount1 (i : grid1.Coords) : 0 < (place (h := 1088) (Memref.whole main_v2) (k1_off1 i) (k1_off1_inb i)).view.amount (SemLoc.dma 8) :=
  View.amount_pos _ _ (by decide : 0 < (ST 1088).numel)

theorem body1 (i : grid1.Coords) (a2 : Memref sig .tc .vmem S2048x1088 .bf16) (h2 : a2.IsWhole) (a3 : Memref sig .tc .vmem S2048x512 .bf16) (h3 : a3.IsWhole) :
    cc1_in_dw1 (F := F) i a2 h2 a3 h3 (Memref.whole main_v2) (Memref.isWhole_whole _) (Memref.whole main_v2) (Memref.isWhole_whole _)
        (Memref.whole cc1_scratch0) (Memref.isWhole_whole _) cc1_scratch1
      = body (h := 1088) k1_pay1 inb_S2048x1088_S2048x1088_0_0 h_S2048x1088 inb_S1088x512_S1088x512_0_0 h_S1088x512 packedbf16_S1088x512_S1088x512_0_0
          a2 a3 (Memref.whole main_v2) (k1_off1 i) (k1_off1_inb i) ((Memref.isWhole_whole _).wordExact_slice rfl _ (k1_off1_wordsbf16 i))
          (Memref.whole cc1_scratch0) (Memref.isWhole_whole _) 8 := by
  rw [cc1_in_dw1_eq_skeleton]; rfl

/-- The body at any point, from the invariant to the next point's. -/
theorem point1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d)))
      ⊢ wp frame (wpE (defs₀ (F := F)) Variants.none c none) Set.univ (bodyAt1 t) fun _ =>
        iprop((dat1 V c).Φ t.succ ∗ (dat1 V c).owesAt () t.succ
          ∗ owns (c : Thread nD τ) (st1_0 t) fullShare (left1 V c t)
          ∗ owns (c : Thread nD τ) (st1_1 t) fullShare (right1 V c t)) := by
  unfold bodyAt1
  simp only [before1_0, before1_1]
  rw [body1, show (dat1 V c).Φ t.castSucc = _ from at_point V 1 8 main_v2 cc1_scratch0 (by decide) (res1 V) c t.val,
    show (dat1 V c).Φ t.succ = _ from at_point V 1 8 main_v2 cc1_scratch0 (by decide) (res1 V) c (t.val + 1)]
  exact step (h := 1088) k1_pay1 _ _ _ _ _ _ (hstage1_0 _) _ (hstage1_1 _) (Memref.whole main_v2) _ _ _ _ _ 8 c (amount1 _) (left1 V c t) (right1 V c t) _ _
    (res1_succ V c t) _ _ fun _ _ _ => Or.inl trivial

theorem obligation1 (c : Dev nD) : Pipeline.BodyObligation (dat1 V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (point1 V c t) rfl .rfl fun _ => .rfl

end Call1

/-! ## Call 2 -/

section Call2

/-- The windows' blocks at point `t`. -/
def left2 (c : Dev nD) (t : Fin cfg2.N) : Vec F S2048x1024 .bf16 := ((cfg2.win 0).blk t).view.read (Elt F) (V c (Pipeline.arrRef cfg2.spec 0))
def right2 (c : Dev nD) (t : Fin cfg2.N) : Vec F S2048x512 .bf16 := ((cfg2.win 1).blk t).view.read (Elt F) (V c (Pipeline.arrRef cfg2.spec 1))

/-- The tile of point `t`. -/
def tile2 (c : Dev nD) (t : Fin cfg2.N) : Vec F S1024x512 .bf16 := k2_pay1 (left2 V c t) (right2 V c t)

/-- The result after `n` points. -/
def res2 (c : Dev nD) (n : ℕ) : Vec F S8256x2048 .bf16 := lay (h := 1024) 4160 cfg2.N (by decide) (tile2 V c) (V c main_v3) n

theorem off2 : ∀ t : Fin cfg2.N, k2_off1 (grid2.coords t) 0 = 4160 + 1024 * (t.val / 4) ∧ k2_off1 (grid2.coords t) 1 = 512 * (t.val % 4) :=
  (by decide +kernel : ∀ t : Fin grid2.N, _)

/-- A point adds its tile. -/
theorem res2_succ (c : Dev nD) (t : Fin cfg2.N) :
    (place (h := 1024) (Memref.whole main_v3) (k2_off1 (grid2.coords t)) (k2_off1_inb (grid2.coords t))).view.write (Elt F) (res2 V c t.val)
      (tile2 V c t) Finset.univ = res2 V c (t.val + 1) :=
  lay_succ (h := 1024) 4160 cfg2.N (by decide) (tile2 V c) (V c main_v3) t
    (place (h := 1024) (Memref.whole main_v3) (k2_off1 (grid2.coords t)) (k2_off1_inb (grid2.coords t))).view.emb
    (fun x => by have := (off2 t).1; show k2_off1 (grid2.coords t) 0 + 1 * (x 0).val = _; omega)
    (fun x => by have := (off2 t).2; show k2_off1 (grid2.coords t) 1 + 1 * (x 1).val = _; omega) _
    (fun x => View.write_emb_of_mem _ _ (Finset.mem_univ _))
    (fun y hy => View.write_of_not_mem _ _ _ fun m => by obtain ⟨x, -, e⟩ := Finset.mem_map.mp m; exact hy x e)

abbrev dat2 : (c : Dev nD) → Dat τ (Elt F) Unit ℕ (Pipeline.UC sig nD τ) ℕ cfg2 c := dat V 2 13 main_v3 (res2 V) fun c w t =>
  match w with
  | ⟨0, _⟩ => left2 V c t
  | ⟨1, _⟩ => right2 V c t

theorem before2_0 (c : Dev nD) (t : Fin cfg2.N) (d) : (dat2 V c).before 0 t d = left2 V c t :=
  ((dat2 V c).before_in_eq_fetched 0 rfl (fun _ => rfl) (fun _ _ _ => rfl) (fun _ => rfl) t d).trans rfl
theorem before2_1 (c : Dev nD) (t : Fin cfg2.N) (d) : (dat2 V c).before 1 t d = right2 V c t :=
  ((dat2 V c).before_in_eq_fetched 1 rfl (fun _ => rfl) (fun _ _ _ => rfl) (fun _ => rfl) t d).trans rfl

theorem amount2 (i : grid2.Coords) : 0 < (place (h := 1024) (Memref.whole main_v3) (k2_off1 i) (k2_off1_inb i)).view.amount (SemLoc.dma 13) :=
  View.amount_pos _ _ (by decide : 0 < (ST 1024).numel)

theorem body2 (i : grid2.Coords) (a2 : Memref sig .tc .vmem S2048x1024 .bf16) (h2 : a2.IsWhole) (a3 : Memref sig .tc .vmem S2048x512 .bf16) (h3 : a3.IsWhole) :
    cc2_in_dw2 (F := F) i a2 h2 a3 h3 (Memref.whole main_v3) (Memref.isWhole_whole _) (Memref.whole main_v3) (Memref.isWhole_whole _)
        (Memref.whole cc2_scratch0) (Memref.isWhole_whole _) cc2_scratch1
      = body (h := 1024) k2_pay1 inb_S2048x1024_S2048x1024_0_0 h_S2048x1024 inb_S1024x512_S1024x512_0_0 h_S1024x512 packedbf16_S1024x512_S1024x512_0_0
          a2 a3 (Memref.whole main_v3) (k2_off1 i) (k2_off1_inb i) ((Memref.isWhole_whole _).wordExact_slice rfl _ (k2_off1_wordsbf16 i))
          (Memref.whole cc2_scratch0) (Memref.isWhole_whole _) 13 := by
  rw [cc2_in_dw2_eq_skeleton]; rfl

/-- The body at any point, from the invariant to the next point's. -/
theorem point2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d)))
      ⊢ wp frame (wpE (defs₀ (F := F)) Variants.none c none) Set.univ (bodyAt2 t) fun _ =>
        iprop((dat2 V c).Φ t.succ ∗ (dat2 V c).owesAt () t.succ
          ∗ owns (c : Thread nD τ) (st2_0 t) fullShare (left2 V c t)
          ∗ owns (c : Thread nD τ) (st2_1 t) fullShare (right2 V c t)) := by
  unfold bodyAt2
  simp only [before2_0, before2_1]
  rw [body2, show (dat2 V c).Φ t.castSucc = _ from at_point V 2 13 main_v3 cc2_scratch0 (by decide) (res2 V) c t.val,
    show (dat2 V c).Φ t.succ = _ from at_point V 2 13 main_v3 cc2_scratch0 (by decide) (res2 V) c (t.val + 1)]
  exact step (h := 1024) k2_pay1 _ _ _ _ _ _ (hstage2_0 _) _ (hstage2_1 _) (Memref.whole main_v3) _ _ _ _ _ 13 c (amount2 _) (left2 V c t) (right2 V c t) _ _
    (res2_succ V c t) _ _ fun _ _ _ => Or.inl trivial

theorem obligation2 (c : Dev nD) : Pipeline.BodyObligation (dat2 V c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact triple_restated (point2 V c t) rfl .rfl fun _ => .rfl

end Call2

/-! ## Call 3 -/

section Call3

/-- The windows' blocks at point `t`. -/
def left3 (c : Dev nD) (t : Fin cfg3.N) : Vec F S2048x1024 .bf16 := ((cfg3.win 0).blk t).view.read (Elt F) (V c (Pipeline.arrRef cfg3.spec 0))
def right3 (c : Dev nD) (t : Fin cfg3.N) : Vec F S2048x512 .bf16 := ((cfg3.win 1).blk t).view.read (Elt F) (V c (Pipeline.arrRef cfg3.spec 1))

/-- The tile of point `t`. -/
def tile3 (c : Dev nD) (t : Fin cfg3.N) : Vec F S1024x512 .bf16 := k3_pay1 (left3 V c t) (right3 V c t)

/-- The result after `n` points. -/
def res3 (c : Dev nD) (n : ℕ) : Vec F S8256x2048 .bf16 := lay (h := 1024) 6208 cfg3.N (by decide) (tile3 V c) (V c main_v4) n

theorem off3 : ∀ t : Fin cfg3.N, k3_off1 (grid3.coords t) 0 = 6208 + 1024 * (t.val / 4) ∧ k3_off1 (grid3.coords t) 1 = 512 * (t.val % 4) :=
  (by decide +kernel : ∀ t : Fin grid3.N, _)

/-- A point adds its tile. -/
theorem res3_succ (c : Dev nD) (t : Fin cfg3.N) :
    (place (h := 1024) (Memref.whole main_v4) (k3_off1 (grid3.coords t)) (k3_off1_inb (grid3.coords t))).view.write (Elt F) (res3 V c t.val)
      (tile3 V c t) Finset.univ = res3 V c (t.val + 1) :=
  lay_succ (h := 1024) 6208 cfg3.N (by decide) (tile3 V c) (V c main_v4) t
    (place (h := 1024) (Memref.whole main_v4) (k3_off1 (grid3.coords t)) (k3_off1_inb (grid3.coords t))).view.emb
    (fun x => by have := (off3 t).1; show k3_off1 (grid3.coords t) 0 + 1 * (x 0).val = _; omega)
    (fun x => by have := (off3 t).2; show k3_off1 (grid3.coords t) 1 + 1 * (x 1).val = _; omega) _
    (fun x => View.write_emb_of_mem _ _ (Finset.mem_univ _))
    (fun y hy => View.write_of_not_mem _ _ _ fun m => by obtain ⟨x, -, e⟩ := Finset.mem_map.mp m; exact hy x e)

abbrev dat3 : (c : Dev nD) → Dat τ (Elt F) Unit ℕ (Pipeline.UC sig nD τ) ℕ cfg3 c := dat V 3 18 main_v4 (res3 V) fun c w t =>
  match w with
  | ⟨0, _⟩ => left3 V c t
  | ⟨1, _⟩ => right3 V c t

theorem before3_0 (c : Dev nD) (t : Fin cfg3.N) (d) : (dat3 V c).before 0 t d = left3 V c t :=
  ((dat3 V c).before_in_eq_fetched 0 rfl (fun _ => rfl) (fun _ _ _ => rfl) (fun _ => rfl) t d).trans rfl
theorem before3_1 (c : Dev nD) (t : Fin cfg3.N) (d) : (dat3 V c).before 1 t d = right3 V c t :=
  ((dat3 V c).before_in_eq_fetched 1 rfl (fun _ => rfl) (fun _ _ _ => rfl) (fun _ => rfl) t d).trans rfl

theorem amount3 (i : grid3.Coords) : 0 < (place (h := 1024) (Memref.whole main_v4) (k3_off1 i) (k3_off1_inb i)).view.amount (SemLoc.dma 18) :=
  View.amount_pos _ _ (by decide : 0 < (ST 1024).numel)

theorem body3 (i : grid3.Coords) (a2 : Memref sig .tc .vmem S2048x1024 .bf16) (h2 : a2.IsWhole) (a3 : Memref sig .tc .vmem S2048x512 .bf16) (h3 : a3.IsWhole) :
    cc3_in_dw3 (F := F) i a2 h2 a3 h3 (Memref.whole main_v4) (Memref.isWhole_whole _) (Memref.whole main_v4) (Memref.isWhole_whole _)
        (Memref.whole cc3_scratch0) (Memref.isWhole_whole _) cc3_scratch1
      = body (h := 1024) k3_pay1 inb_S2048x1024_S2048x1024_0_0 h_S2048x1024 inb_S1024x512_S1024x512_0_0 h_S1024x512 packedbf16_S1024x512_S1024x512_0_0
          a2 a3 (Memref.whole main_v4) (k3_off1 i) (k3_off1_inb i) ((Memref.isWhole_whole _).wordExact_slice rfl _ (k3_off1_wordsbf16 i))
          (Memref.whole cc3_scratch0) (Memref.isWhole_whole _) 18 := by
  rw [cc3_in_dw3_eq_skeleton]; rfl

/-- The body at any point, from the invariant to the next point's. -/
theorem point3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d)))
      ⊢ wp frame (wpE (defs₀ (F := F)) Variants.none c none) Set.univ (bodyAt3 t) fun _ =>
        iprop((dat3 V c).Φ t.succ ∗ (dat3 V c).owesAt () t.succ
          ∗ owns (c : Thread nD τ) (st3_0 t) fullShare (left3 V c t)
          ∗ owns (c : Thread nD τ) (st3_1 t) fullShare (right3 V c t)) := by
  unfold bodyAt3
  simp only [before3_0, before3_1]
  rw [body3, show (dat3 V c).Φ t.castSucc = _ from at_point V 3 18 main_v4 cc3_scratch0 (by decide) (res3 V) c t.val,
    show (dat3 V c).Φ t.succ = _ from at_point V 3 18 main_v4 cc3_scratch0 (by decide) (res3 V) c (t.val + 1)]
  exact step (h := 1024) k3_pay1 _ _ _ _ _ _ (hstage3_0 _) _ (hstage3_1 _) (Memref.whole main_v4) _ _ _ _ _ 18 c (amount3 _) (left3 V c t) (right3 V c t) _ _
    (res3_succ V c t) _ _ fun _ _ _ => Or.inl trivial

theorem obligation3 (c : Dev nD) : Pipeline.BodyObligation (dat3 V c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  exact triple_restated (point3 V c t) rfl .rfl fun _ => .rfl

end Call3

end Cert.DwCall
-- ==== Proof.DwRun.lean ====
/- The run of the four calls, over any float values: the result is what the four calls lay in it, and the arguments stay as
   they were. -/
module

public import proofs.«01_k».proof.Proof.DwCall

@[expose] public section

set_option maxRecDepth 16384

noncomputable section

namespace Cert.DwRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DwInIdeal Cert.DwInIdeal.Gen Cert.DwSeg Cert.DwCall
open Idealize.ShloMosaic.Pipeline (Dat Seg HostSeg RegionSeg)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The contents between the calls -/

/-- The launch's contents, and what each item of the program makes of them. -/
def W0 (c : Dev nD) : Valuation τ sig (Elt F) := fun b => m (c, b)
def W1 (c : Dev nD) : Valuation τ sig (Elt F) := StableHlo.after hostOps0 (W0 m c)
def W2 (c : Dev nD) : Valuation τ sig (Elt F) := left main_v1 (W1 m) (fun c => res0 (W1 m) c cfg0.N) c
def W3 (c : Dev nD) : Valuation τ sig (Elt F) := StableHlo.after hostOps1 (W2 m c)
def W4 (c : Dev nD) : Valuation τ sig (Elt F) := left main_v2 (W3 m) (fun c => res1 (W3 m) c cfg1.N) c
def W5 (c : Dev nD) : Valuation τ sig (Elt F) := StableHlo.after hostOps2 (W4 m c)
def W6 (c : Dev nD) : Valuation τ sig (Elt F) := left main_v3 (W5 m) (fun c => res2 (W5 m) c cfg2.N) c
def W7 (c : Dev nD) : Valuation τ sig (Elt F) := StableHlo.after hostOps3 (W6 m c)
def W8 (c : Dev nD) : Valuation τ sig (Elt F) := left main_v4 (W7 m) (fun c => res3 (W7 m) c cfg3.N) c
def W9 (c : Dev nD) : Valuation τ sig (Elt F) := StableHlo.after hostOps4 (W8 m c)

/-- What the program writes. -/
abbrev written : List (Ref sig .tc) := [main_cst, main_v0, main_v1, main_v2, main_v3, main_v4, main_v5]

/-- Whatever is not written is as launched before each call and at the end. -/
theorem kept1 (c : Dev nD) (b : Ref sig .tc) (h : b ∉ written) : W1 m c b = m ((c : Thread nD τ).loc b) :=
  StableHlo.after_of_writes_sub hostOps0 _ hostOps0_writes fun e => h ((by decide : hostOps0_W ⊆ written) e)
theorem kept3 (c : Dev nD) (b : Ref sig .tc) (h : b ∉ written) : W3 m c b = m ((c : Thread nD τ).loc b) :=
  (StableHlo.after_of_writes_sub hostOps1 (W2 m c) hostOps1_writes fun e => h ((by decide : hostOps1_W ⊆ written) e)).trans
    ((left_of_ne main_v1 (W1 m) (fun c => res0 (W1 m) c cfg0.N) c b fun e => h (e ▸ by decide)).trans (kept1 m c b h))
theorem kept5 (c : Dev nD) (b : Ref sig .tc) (h : b ∉ written) : W5 m c b = m ((c : Thread nD τ).loc b) :=
  (StableHlo.after_of_writes_sub hostOps2 (W4 m c) hostOps2_writes fun e => h ((by decide : hostOps2_W ⊆ written) e)).trans
    ((left_of_ne main_v2 (W3 m) (fun c => res1 (W3 m) c cfg1.N) c b fun e => h (e ▸ by decide)).trans (kept3 m c b h))
theorem kept7 (c : Dev nD) (b : Ref sig .tc) (h : b ∉ written) : W7 m c b = m ((c : Thread nD τ).loc b) :=
  (StableHlo.after_of_writes_sub hostOps3 (W6 m c) hostOps3_writes fun e => h ((by decide : hostOps3_W ⊆ written) e)).trans
    ((left_of_ne main_v3 (W5 m) (fun c => res2 (W5 m) c cfg2.N) c b fun e => h (e ▸ by decide)).trans (kept5 m c b h))
theorem kept9 (c : Dev nD) (b : Ref sig .tc) (h : b ∉ written) : W9 m c b = m ((c : Thread nD τ).loc b) :=
  (StableHlo.after_of_writes_sub hostOps4 (W8 m c) hostOps4_writes fun e => h ((by decide : hostOps4_W ⊆ written) e)).trans
    ((left_of_ne main_v4 (W7 m) (fun c => res3 (W7 m) c cfg3.N) c b fun e => h (e ▸ by decide)).trans (kept7 m c b h))

/-! ## The program's steps -/

/-- The calls' proof data, each at its entry's contents. -/
abbrev pdats : (p : Fin 4) → (c : Dev nD) → Dat τ (Elt F) Unit ℕ (Pipeline.UC sig nD τ) ℕ (cfgs p) c
  | ⟨0, _⟩ => dat0 (W1 m)
  | ⟨1, _⟩ => dat1 (W3 m)
  | ⟨2, _⟩ => dat2 (W5 m)
  | ⟨3, _⟩ => dat3 (W7 m)

/-- A stretch of host operations from the contents `V`. -/
def hostSeg (ops : List (HloOp τ sig (Elt F))) (hs : ops.Forall fun op => op.bufs ⊆ StableHlo.tcRefs τ sig)
    (hf : ops.Forall fun op => op.fresh = ∅) (V : Dev nD → Valuation τ sig (Elt F)) :
    HostSeg (Ix := Unit) (Name := ℕ) (U := Pipeline.UC sig nD τ) (Lvl := ℕ) (pcfgs (F := F)) defs₀ 𝒱₀ L lv :=
  HostSeg.ofOps _ _ _ _ _ (Pipeline.ucRefs τ sig) ops (fun op h => Pipeline.sub_ucRefs op ((List.forall_iff_forall_mem.mp hs) op h))
    (fun op h => (List.forall_iff_forall_mem.mp hf) op h) V Rest

/-- A call's invariant before its first point is its entry's contents. -/
theorem start (gr W' : ℕ) (win : Fin W' → Pipeline.WinSpec sig gr) (q : DmaSem sig) (r : Ref sig .tc) (V : Dev nD → Valuation τ sig (Elt F))
    (c : Dev nD) (f : (c : Dev nD) → Buf (Elt F) ((c : Thread nD τ).loc r)) (hf : f c = V c r) :
    (Pipeline.Ends win (fun _ : Fin 1 => SemLoc.dma q) {r} c (fun b => V c b) : sProp 𝕄)
      ⊢ Pipeline.Ends win (fun _ : Fin 1 => SemLoc.dma q) {r} c (fun b => left r V f c b) := by
  rw [show (fun b : Ref sig .tc => left r V f c b) = fun b : Ref sig .tc => V c b from by
    rw [show left r V f c = V c from by unfold left; rw [hf]; exact Function.update_eq_self _ _]]

def call0 : RegionSeg (pcfgs (F := F)) adm (pdats m) () defs₀ 𝒱₀ L lv 0 :=
  seg (pdats m) 0 launch0 4 (by decide) main_v1 (by decide) (W1 m) (fun c => res0 (W1 m) c cfg0.N) (obligation0 (W1 m)) (fun _ _ => rfl)
    (fun _ _ => rfl) (fun _ _ => trivial) (by decide) (fun _ _ => rfl)
    (fun c => start _ _ _ 4 main_v1 (W1 m) c (fun c => res0 (W1 m) c 0) (Cert.DwBody.lay_zero ..)) (fun _ => .rfl)
def call1 : RegionSeg (pcfgs (F := F)) adm (pdats m) () defs₀ 𝒱₀ L lv 1 :=
  seg (pdats m) 1 launch1 8 (by decide) main_v2 (by decide) (W3 m) (fun c => res1 (W3 m) c cfg1.N) (obligation1 (W3 m)) (fun _ _ => rfl)
    (fun _ _ => rfl) (fun _ _ => trivial) (by decide) (fun _ _ => rfl)
    (fun c => start _ _ _ 8 main_v2 (W3 m) c (fun c => res1 (W3 m) c 0) (Cert.DwBody.lay_zero ..)) (fun _ => .rfl)
def call2 : RegionSeg (pcfgs (F := F)) adm (pdats m) () defs₀ 𝒱₀ L lv 2 :=
  seg (pdats m) 2 launch2 13 (by decide) main_v3 (by decide) (W5 m) (fun c => res2 (W5 m) c cfg2.N) (obligation2 (W5 m)) (fun _ _ => rfl)
    (fun _ _ => rfl) (fun _ _ => trivial) (by decide) (fun _ _ => rfl)
    (fun c => start _ _ _ 13 main_v3 (W5 m) c (fun c => res2 (W5 m) c 0) (Cert.DwBody.lay_zero ..)) (fun _ => .rfl)
def call3 : RegionSeg (pcfgs (F := F)) adm (pdats m) () defs₀ 𝒱₀ L lv 3 :=
  seg (pdats m) 3 launch3 18 (by decide) main_v4 (by decide) (W7 m) (fun c => res3 (W7 m) c cfg3.N) (obligation3 (W7 m)) (fun _ _ => rfl)
    (fun _ _ => rfl) (fun _ _ => trivial) (by decide) (fun _ _ => rfl)
    (fun c => start _ _ _ 18 main_v4 (W7 m) c (fun c => res3 (W7 m) c 0) (Cert.DwBody.lay_zero ..)) (fun _ => .rfl)

/-- The program's items. -/
def segs : List (Seg (pcfgs (F := F)) adm (pdats m) () defs₀ 𝒱₀ L lv) :=
  [.host (hostSeg hostOps0 hostOps0_sub hostOps0_fresh (W0 m)), .region (call0 m),
   .host (hostSeg hostOps1 hostOps1_sub hostOps1_fresh (W2 m)), .region (call1 m),
   .host (hostSeg hostOps2 hostOps2_sub hostOps2_fresh (W4 m)), .region (call2 m),
   .host (hostSeg hostOps3 hostOps3_sub hostOps3_fresh (W6 m)), .region (call3 m),
   .host (hostSeg hostOps4 hostOps4_sub hostOps4_fresh (W8 m))]

theorem main_run (c : Dev nD) : main (F := F) c = Seg.run (segs m) :=
  main_segs adm (pdats m) () 𝒱₀ L lv (hostSeg hostOps0 hostOps0_sub hostOps0_fresh (W0 m)) (hostSeg hostOps1 hostOps1_sub hostOps1_fresh (W2 m))
    (hostSeg hostOps2 hostOps2_sub hostOps2_fresh (W4 m)) (hostSeg hostOps3 hostOps3_sub hostOps3_fresh (W6 m))
    (hostSeg hostOps4 hostOps4_sub hostOps4_fresh (W8 m)) (call0 m) (call1 m) (call2 m) (call3 m) rfl rfl rfl rfl rfl c

theorem mem_uc (b : Ref sig .tc) (h : ¬ b.isScoped) : (Proc.devRef .tc b : DevRef τ sig) ∈ Pipeline.ucRefs τ sig :=
  Finset.mem_filter.mpr ⟨StableHlo.devRef_mem_tcRefs b, by simpa using h⟩

-- the launch theorem's implicit arguments are found by unifying its conclusion with this one, which takes unfolding plain
-- definitions in a metavariable's type
set_option backward.isDefEq.respectTransparency.types false in
/-- THE RUN: every execution ends with the result as the items make it of the arguments, the arguments as launched and
    every semaphore at zero. -/
theorem run : θ_run defs (onTc (τ := τ) (main (F := F))) ⟨m, fun _ => 0, ρ⟩ (fun r => (∀ c : Dev nD,
      r.2.mem ((c.tc : Thread nD τ).loc main_v5) = W9 m c main_v5
      ∧ ∀ b : Ref sig .tc, b ∉ written → ¬ b.isScoped → r.2.mem ((c.tc : Thread nD τ).loc b) = m ((c.tc : Thread nD τ).loc b))
      ∧ r.2.sem = fun _ => 0) :=
  Pipeline.θ_run_regions_kit_sems (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl, fun c => Entails.of_eq (assoc (F := F) _ _ _).symm⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h hz => ⟨fun c =>
      ⟨h c _ (mem_uc main_v5 (by decide)), fun b hb hs => (h c _ (mem_uc b hs)).trans (kept9 m c b hb)⟩,
      funext fun g => hz g (.inr (regions_no_unscoped g.2))⟩)

end Cert.DwRun
-- ==== Proof.DwValue.lean ====
/- The result of the four calls over the extended reals: the gradient of every row of the weights, a sum over the positions. -/
module

public import proofs.«01_k».proof.Proof.DwRun
public import Idealize.ShloMosaic.Lib.Pointwise

@[expose] public section

set_option maxRecDepth 16384

noncomputable section

namespace Cert.DwValue

open Idealize.ShloMosaic Idealize.ShloMosaic.TcCoe
open Cert.DwInIdeal Cert.DwInIdeal.Gen Cert.DwBody Cert.DwCall Cert.DwRun Cert.Tile

/-- One element of a gradient: row `a` of those of the columns of `D`, column `b` of `u`. -/
def part {w : ℕ} (hw : 0 < w) (D : (⟨2, ![2048, w]⟩ : Shape).Idx → EReal) (u : S2048x2048.Idx → EReal) (a b : ℕ) : EReal :=
  ∑ r : Fin 2048, D (ix2 r ⟨a % w, Nat.mod_lt _ hw⟩) * u (ix2 r ⟨b % 2048, Nat.mod_lt _ (by decide)⟩)

/-- What all the points leave, where each tile is the part of one array `G` at its place: `G` on the rows of the tiles. -/
theorem lay_all {α : Type} {h : ℕ} (row0 N : ℕ) (hh : 0 < h) (tile : Fin N → (ST h).Idx → α) (old : S8256x2048.Idx → α) (nb : ℕ) (hN : N = 4 * nb)
    (G : ℕ → ℕ → α) (hG : ∀ (t : Fin N) (i : Fin h) (j : Fin 512), tile t (ix2 i j) = G (h * (t.val / 4) + i.val) (512 * (t.val % 4) + j.val))
    (y : S8256x2048.Idx) : lay row0 N hh tile old N y
      = if row0 ≤ (y 0).val ∧ (y 0).val < row0 + h * nb then G ((y 0).val - row0) (y 1).val else old y := by
  have b1 : (y 1).val < 2048 := (y 1).isLt
  have dm := Nat.div_add_mod ((y 0).val - row0) h
  have hd : ((y 0).val - row0) / h < nb ↔ (y 0).val - row0 < h * nb := by rw [Nat.div_lt_iff_lt_mul hh, Nat.mul_comm]
  unfold lay
  by_cases p : row0 ≤ (y 0).val ∧ (y 0).val < row0 + h * nb
  · have q : pt h row0 y < N := by unfold pt; have := hd.mpr (by omega); omega
    rw [dif_pos ⟨p.1, q, q⟩, if_pos p, hG]
    have e4 : pt h row0 y / 4 = ((y 0).val - row0) / h := by unfold pt; omega
    have m4 : pt h row0 y % 4 = (y 1).val / 512 := by unfold pt; omega
    show G (h * (pt h row0 y / 4) + ((y 0).val - row0) % h) (512 * (pt h row0 y % 4) + (y 1).val % 512) = _
    rw [e4, m4, dm, Nat.div_add_mod]
  · rw [if_neg p, dif_neg fun q => p ⟨q.1, ?_⟩]
    have := q.2.1; unfold pt at this
    have := hd.mp (by omega)
    have := q.1
    omega

variable (V : Dev nD → Valuation τ sig (Elt Ideal)) (c : Dev nD)

/-! ## Call 0 -/

theorem idx0 : ∀ t : Fin cfg0.N, (win0_0.index t (0 : Fin 2) = 0 ∧ win0_0.index t (1 : Fin 2) = t.val / 4)
    ∧ (win0_1.index t (0 : Fin 2) = 0 ∧ win0_1.index t (1 : Fin 2) = t.val % 4) :=
  (by decide +kernel : ∀ t : Fin grid0.N, _)

theorem emb0_0 (t : Fin cfg0.N) (r : Fin 2048) (i : Fin 1024) : ((cfg0.win 0).blk t).view.emb (ix2 r i : S2048x1024.Idx)
    = (ix2 r ⟨(1024 * (t.val / 4) + i.val) % 3072, Nat.mod_lt _ (by decide)⟩ : S2048x3072.Idx) :=
  ix2_of (by have h := (idx0 t).1; show win0_0.index t (0 : Fin 2) * 2048 + 1 * r.val = r.val; omega)
    (by have h := (idx0 t).1; have ht : t.val < 12 := t.isLt; show win0_0.index t (1 : Fin 2) * 1024 + 1 * i.val = (1024 * (t.val / 4) + i.val) % 3072; omega)

theorem emb0_1 (t : Fin cfg0.N) (r : Fin 2048) (j : Fin 512) : ((cfg0.win 1).blk t).view.emb (ix2 r j : S2048x512.Idx)
    = (ix2 r ⟨(512 * (t.val % 4) + j.val) % 2048, Nat.mod_lt _ (by decide)⟩ : S2048x2048.Idx) :=
  ix2_of (by have h := (idx0 t).2; show win0_1.index t (0 : Fin 2) * 2048 + 1 * r.val = r.val; omega)
    (by have h := (idx0 t).2; show win0_1.index t (1 : Fin 2) * 512 + 1 * j.val = (512 * (t.val % 4) + j.val) % 2048; omega)

theorem tile0_at (t : Fin cfg0.N) (i : Fin 1024) (j : Fin 512) :
    tile0 V c t (ix2 i j) = part (w := 3072) (by decide) (V c main_arg0) (V c main_arg4) (1024 * (t.val / 4) + i.val) (512 * (t.val % 4) + j.val) := by
  have hp : ∀ (x0 : Vec Ideal S2048x1024 .bf16) (x1 : Vec Ideal S2048x512 .bf16), k0_pay1 x0 x1 (ix2 i j) = ∑ r : Fin 2048, x0 (ix2 r i) * x1 (ix2 r j) := by
    intro x0 x1; pointwise [k0_pay1]
  refine (hp _ _).trans (Finset.sum_congr rfl fun r _ => ?_)
  exact congrArg₂ (· * ·) (congrArg (V c main_arg0) (emb0_0 t r i)) (congrArg (V c main_arg4) (emb0_1 t r j))

theorem res0_all (y : S8256x2048.Idx) : res0 V c cfg0.N y
    = if 0 ≤ (y 0).val ∧ (y 0).val < 0 + 1024 * 3 then part (w := 3072) (by decide) (V c main_arg0) (V c main_arg4) ((y 0).val - 0) (y 1).val else V c main_v1 y :=
  lay_all (h := 1024) 0 cfg0.N (by decide) (tile0 V c) (V c main_v1) 3 (by decide) _ (tile0_at V c) y

/-! ## Call 1 -/

theorem idx1 : ∀ t : Fin cfg1.N, (win1_0.index t (0 : Fin 2) = 0 ∧ win1_0.index t (1 : Fin 2) = t.val / 4)
    ∧ (win1_1.index t (0 : Fin 2) = 0 ∧ win1_1.index t (1 : Fin 2) = t.val % 4) :=
  (by decide +kernel : ∀ t : Fin grid1.N, _)

theorem emb1_0 (t : Fin cfg1.N) (r : Fin 2048) (i : Fin 1088) : ((cfg1.win 0).blk t).view.emb (ix2 r i : S2048x1088.Idx)
    = (ix2 r ⟨(1088 * (t.val / 4) + i.val) % 1088, Nat.mod_lt _ (by decide)⟩ : S2048x1088.Idx) :=
  ix2_of (by have h := (idx1 t).1; show win1_0.index t (0 : Fin 2) * 2048 + 1 * r.val = r.val; omega)
    (by have h := (idx1 t).1; have ht : t.val < 4 := t.isLt; show win1_0.index t (1 : Fin 2) * 1088 + 1 * i.val = (1088 * (t.val / 4) + i.val) % 1088; omega)

theorem emb1_1 (t : Fin cfg1.N) (r : Fin 2048) (j : Fin 512) : ((cfg1.win 1).blk t).view.emb (ix2 r j : S2048x512.Idx)
    = (ix2 r ⟨(512 * (t.val % 4) + j.val) % 2048, Nat.mod_lt _ (by decide)⟩ : S2048x2048.Idx) :=
  ix2_of (by have h := (idx1 t).2; show win1_1.index t (0 : Fin 2) * 2048 + 1 * r.val = r.val; omega)
    (by have h := (idx1 t).2; show win1_1.index t (1 : Fin 2) * 512 + 1 * j.val = (512 * (t.val % 4) + j.val) % 2048; omega)

theorem tile1_at (t : Fin cfg1.N) (i : Fin 1088) (j : Fin 512) :
    tile1 V c t (ix2 i j) = part (w := 1088) (by decide) (V c main_arg1) (V c main_arg4) (1088 * (t.val / 4) + i.val) (512 * (t.val % 4) + j.val) := by
  have hp : ∀ (x0 : Vec Ideal S2048x1088 .bf16) (x1 : Vec Ideal S2048x512 .bf16), k1_pay1 x0 x1 (ix2 i j) = ∑ r : Fin 2048, x0 (ix2 r i) * x1 (ix2 r j) := by
    intro x0 x1; pointwise [k1_pay1]
  refine (hp _ _).trans (Finset.sum_congr rfl fun r _ => ?_)
  exact congrArg₂ (· * ·) (congrArg (V c main_arg1) (emb1_0 t r i)) (congrArg (V c main_arg4) (emb1_1 t r j))

theorem res1_all (y : S8256x2048.Idx) : res1 V c cfg1.N y
    = if 3072 ≤ (y 0).val ∧ (y 0).val < 3072 + 1088 * 1 then part (w := 1088) (by decide) (V c main_arg1) (V c main_arg4) ((y 0).val - 3072) (y 1).val else V c main_v2 y :=
  lay_all (h := 1088) 3072 cfg1.N (by decide) (tile1 V c) (V c main_v2) 1 (by decide) _ (tile1_at V c) y

/-! ## Call 2 -/

theorem idx2 : ∀ t : Fin cfg2.N, (win2_0.index t (0 : Fin 2) = 0 ∧ win2_0.index t (1 : Fin 2) = t.val / 4)
    ∧ (win2_1.index t (0 : Fin 2) = 0 ∧ win2_1.index t (1 : Fin 2) = t.val % 4) :=
  (by decide +kernel : ∀ t : Fin grid2.N, _)

theorem emb2_0 (t : Fin cfg2.N) (r : Fin 2048) (i : Fin 1024) : ((cfg2.win 0).blk t).view.emb (ix2 r i : S2048x1024.Idx)
    = (ix2 r ⟨(1024 * (t.val / 4) + i.val) % 2048, Nat.mod_lt _ (by decide)⟩ : S2048x2048.Idx) :=
  ix2_of (by have h := (idx2 t).1; show win2_0.index t (0 : Fin 2) * 2048 + 1 * r.val = r.val; omega)
    (by have h := (idx2 t).1; have ht : t.val < 8 := t.isLt; show win2_0.index t (1 : Fin 2) * 1024 + 1 * i.val = (1024 * (t.val / 4) + i.val) % 2048; omega)

theorem emb2_1 (t : Fin cfg2.N) (r : Fin 2048) (j : Fin 512) : ((cfg2.win 1).blk t).view.emb (ix2 r j : S2048x512.Idx)
    = (ix2 r ⟨(512 * (t.val % 4) + j.val) % 2048, Nat.mod_lt _ (by decide)⟩ : S2048x2048.Idx) :=
  ix2_of (by have h := (idx2 t).2; show win2_1.index t (0 : Fin 2) * 2048 + 1 * r.val = r.val; omega)
    (by have h := (idx2 t).2; show win2_1.index t (1 : Fin 2) * 512 + 1 * j.val = (512 * (t.val % 4) + j.val) % 2048; omega)

theorem tile2_at (t : Fin cfg2.N) (i : Fin 1024) (j : Fin 512) :
    tile2 V c t (ix2 i j) = part (w := 2048) (by decide) (V c main_arg2) (V c main_arg4) (1024 * (t.val / 4) + i.val) (512 * (t.val % 4) + j.val) := by
  have hp : ∀ (x0 : Vec Ideal S2048x1024 .bf16) (x1 : Vec Ideal S2048x512 .bf16), k2_pay1 x0 x1 (ix2 i j) = ∑ r : Fin 2048, x0 (ix2 r i) * x1 (ix2 r j) := by
    intro x0 x1; pointwise [k2_pay1]
  refine (hp _ _).trans (Finset.sum_congr rfl fun r _ => ?_)
  exact congrArg₂ (· * ·) (congrArg (V c main_arg2) (emb2_0 t r i)) (congrArg (V c main_arg4) (emb2_1 t r j))

theorem res2_all (y : S8256x2048.Idx) : res2 V c cfg2.N y
    = if 4160 ≤ (y 0).val ∧ (y 0).val < 4160 + 1024 * 2 then part (w := 2048) (by decide) (V c main_arg2) (V c main_arg4) ((y 0).val - 4160) (y 1).val else V c main_v3 y :=
  lay_all (h := 1024) 4160 cfg2.N (by decide) (tile2 V c) (V c main_v3) 2 (by decide) _ (tile2_at V c) y

/-! ## Call 3 -/

theorem idx3 : ∀ t : Fin cfg3.N, (win3_0.index t (0 : Fin 2) = 0 ∧ win3_0.index t (1 : Fin 2) = t.val / 4)
    ∧ (win3_1.index t (0 : Fin 2) = 0 ∧ win3_1.index t (1 : Fin 2) = t.val % 4) :=
  (by decide +kernel : ∀ t : Fin grid3.N, _)

theorem emb3_0 (t : Fin cfg3.N) (r : Fin 2048) (i : Fin 1024) : ((cfg3.win 0).blk t).view.emb (ix2 r i : S2048x1024.Idx)
    = (ix2 r ⟨(1024 * (t.val / 4) + i.val) % 2048, Nat.mod_lt _ (by decide)⟩ : S2048x2048.Idx) :=
  ix2_of (by have h := (idx3 t).1; show win3_0.index t (0 : Fin 2) * 2048 + 1 * r.val = r.val; omega)
    (by have h := (idx3 t).1; have ht : t.val < 8 := t.isLt; show win3_0.index t (1 : Fin 2) * 1024 + 1 * i.val = (1024 * (t.val / 4) + i.val) % 2048; omega)

theorem emb3_1 (t : Fin cfg3.N) (r : Fin 2048) (j : Fin 512) : ((cfg3.win 1).blk t).view.emb (ix2 r j : S2048x512.Idx)
    = (ix2 r ⟨(512 * (t.val % 4) + j.val) % 2048, Nat.mod_lt _ (by decide)⟩ : S2048x2048.Idx) :=
  ix2_of (by have h := (idx3 t).2; show win3_1.index t (0 : Fin 2) * 2048 + 1 * r.val = r.val; omega)
    (by have h := (idx3 t).2; show win3_1.index t (1 : Fin 2) * 512 + 1 * j.val = (512 * (t.val % 4) + j.val) % 2048; omega)

theorem tile3_at (t : Fin cfg3.N) (i : Fin 1024) (j : Fin 512) :
    tile3 V c t (ix2 i j) = part (w := 2048) (by decide) (V c main_arg3) (V c main_arg4) (1024 * (t.val / 4) + i.val) (512 * (t.val % 4) + j.val) := by
  have hp : ∀ (x0 : Vec Ideal S2048x1024 .bf16) (x1 : Vec Ideal S2048x512 .bf16), k3_pay1 x0 x1 (ix2 i j) = ∑ r : Fin 2048, x0 (ix2 r i) * x1 (ix2 r j) := by
    intro x0 x1; pointwise [k3_pay1]
  refine (hp _ _).trans (Finset.sum_congr rfl fun r _ => ?_)
  exact congrArg₂ (· * ·) (congrArg (V c main_arg3) (emb3_0 t r i)) (congrArg (V c main_arg4) (emb3_1 t r j))

theorem res3_all (y : S8256x2048.Idx) : res3 V c cfg3.N y
    = if 6208 ≤ (y 0).val ∧ (y 0).val < 6208 + 1024 * 2 then part (w := 2048) (by decide) (V c main_arg3) (V c main_arg4) ((y 0).val - 6208) (y 1).val else V c main_v4 y :=
  lay_all (h := 1024) 6208 cfg3.N (by decide) (tile3 V c) (V c main_v4) 2 (by decide) _ (tile3_at V c) y

/-! ## The result -/

variable (m : (ℓ : Loc nD τ sig) → Buf (Elt Ideal) ℓ)

/-- The arguments as launched: the gradients of the four parts of the projection, and its input. -/
abbrev Dq : Vec Ideal S2048x3072 .bf16 := m ((c : Thread nD τ).loc main_arg0)
abbrev Dl : Vec Ideal S2048x1088 .bf16 := m ((c : Thread nD τ).loc main_arg1)
abbrev Da : Vec Ideal S2048x2048 .bf16 := m ((c : Thread nD τ).loc main_arg2)
abbrev Db : Vec Ideal S2048x2048 .bf16 := m ((c : Thread nD τ).loc main_arg3)
abbrev Ua : Vec Ideal S2048x2048 .bf16 := m ((c : Thread nD τ).loc main_arg4)

/-- The gradient of the weights: the rows of each part after those of the parts before. -/
def wIn (dq : Vec Ideal S2048x3072 .bf16) (dl : Vec Ideal S2048x1088 .bf16) (da db u : Vec Ideal S2048x2048 .bf16) : Vec Ideal S8256x2048 .bf16 := fun y =>
  if (y 0).val < 3072 then part (w := 3072) (by decide) dq u (y 0).val (y 1).val
  else if (y 0).val < 4160 then part (w := 1088) (by decide) dl u ((y 0).val - 3072) (y 1).val
  else if (y 0).val < 6208 then part (w := 2048) (by decide) da u ((y 0).val - 4160) (y 1).val
  else part (w := 2048) (by decide) db u ((y 0).val - 6208) (y 1).val

theorem left_self (r : Ref sig .tc) (V : Dev nD → Valuation τ sig (Elt Ideal)) (f : (c : Dev nD) → Buf (Elt Ideal) ((c : Thread nD τ).loc r)) :
    Cert.DwSeg.left r V f c r = f c := Function.update_self (Proc.devRef .tc r) (f c) (V c)

/- Each call writes over what the call before left. -/
theorem passed1 : W3 m c main_v2 = W2 m c main_v1 := by
  rw [W3, hostOps1, StableHlo.after_cons, StableHlo.after_nil, StableHlo.unary_result, id]
theorem passed2 : W5 m c main_v3 = W4 m c main_v2 := by
  rw [W5, hostOps2, StableHlo.after_cons, StableHlo.after_nil, StableHlo.unary_result, id]
theorem passed3 : W7 m c main_v4 = W6 m c main_v3 := by
  rw [W7, hostOps3, StableHlo.after_cons, StableHlo.after_nil, StableHlo.unary_result, id]

/-- The array after the four calls. -/
theorem laid : W8 m c main_v4 = wIn (Dq c m) (Dl c m) (Da c m) (Db c m) (Ua c m) := by
  have a3 : W8 m c main_v4 = res3 (W7 m) c cfg3.N := left_self c main_v4 (W7 m) (fun c => res3 (W7 m) c cfg3.N)
  have a2 : W7 m c main_v4 = res2 (W5 m) c cfg2.N := (passed3 c m).trans (left_self c main_v3 (W5 m) (fun c => res2 (W5 m) c cfg2.N))
  have a1 : W5 m c main_v3 = res1 (W3 m) c cfg1.N := (passed2 c m).trans (left_self c main_v2 (W3 m) (fun c => res1 (W3 m) c cfg1.N))
  have a0 : W3 m c main_v2 = res0 (W1 m) c cfg0.N := (passed1 c m).trans (left_self c main_v1 (W1 m) (fun c => res0 (W1 m) c cfg0.N))
  funext (y : S8256x2048.Idx)
  have hy : (y 0).val < 8256 := (y 0).isLt
  rw [a3, res3_all, a2, res2_all, a1, res1_all, a0, res0_all, kept7 m c main_arg3 (by decide), kept7 m c main_arg4 (by decide),
    kept5 m c main_arg2 (by decide), kept5 m c main_arg4 (by decide), kept3 m c main_arg1 (by decide), kept3 m c main_arg4 (by decide),
    kept1 m c main_arg0 (by decide), kept1 m c main_arg4 (by decide)]
  unfold wIn
  by_cases h0 : (y 0).val < 3072
  · rw [if_neg (by omega), if_neg (by omega), if_neg (by omega), if_pos (by omega), if_pos h0]; rfl
  by_cases h1 : (y 0).val < 4160
  · rw [if_neg (by omega), if_neg (by omega), if_pos (by omega), if_neg h0, if_pos h1]
  by_cases h2 : (y 0).val < 6208
  · rw [if_neg (by omega), if_pos (by omega), if_neg h0, if_neg h1, if_pos h2]
  · rw [if_pos (by omega), if_neg h0, if_neg h1, if_neg h2]

/-- The result: that array, its rows held over the devices. -/
theorem result : W9 m c main_v5 = shapeCast S8x1032x2048 (wIn (Dq c m) (Dl c m) (Da c m) (Db c m) (Ua c m)) shapeCasts_S8256x2048_S8x1032x2048 := by
  rw [← laid]
  rw [W9, hostOps4, StableHlo.after_cons, StableHlo.after_nil, StableHlo.reshape_result]
  rfl

end Cert.DwValue
-- ==== Proof.DwRef.lean ====
/- What the reference of the input projection's weight gradient computes, in the terms of the kernel's array. -/
module

public import proofs.«01_k».proof.Proof.DwValue
public import proofs.«01_k».proof.Proof.Gen.DwRefIdeal.Read

@[expose] public section

noncomputable section

namespace Cert.DwRef

open Idealize.ShloMosaic Idealize.ShloMosaic.TcCoe Cert.DwRefIdeal Cert.DwRefIdeal.Gen Cert.DwRefIdeal.Read
open Cert.DwValue Cert.Tile

variable (x0 : Vec Ideal S2048x3072 .bf16) (x1 : Vec Ideal S2048x1088 .bf16) (x2 x3 x4 : Vec Ideal S2048x2048 .bf16)

/-- The four gradients side by side, a column of one of them. -/
theorem beside (k : ℕ) (pre w : ℕ) (x : Vec Ideal ⟨2, ![2048, w]⟩ .bf16) (hk)
    (hx : ([⟨S2048x3072, x0⟩, ⟨S2048x1088, x1⟩, ⟨S2048x2048, x2⟩, ⟨S2048x2048, x3⟩] : List ((s : Shape) × (s.Idx → Elt Ideal .bf16)))[k]'hk = ⟨⟨2, ![2048, w]⟩, x⟩)
    (hpre : ((([⟨S2048x3072, x0⟩, ⟨S2048x1088, x1⟩, ⟨S2048x2048, x2⟩, ⟨S2048x2048, x3⟩] : List ((s : Shape) × (s.Idx → Elt Ideal .bf16))).take k).map (·.1)
      |>.map fun s => if h : s.rank = 2 then s.size ((1 : Fin 2).cast h.symm) else 0).sum = pre)
    (r : Fin 2048) (n : Fin 8256) (i : Fin w) (hi : pre + i.val = n.val) : val_main_v0 (F := Ideal) x0 x1 x2 x3 (ix2 r n) = x (ix2 r i) :=
  concatenate_apply_piece (t := S2048x8256) (1 : Fin 2) _ _ (ix2 r n : S2048x8256.Idx) k hk ⟨2, ![2048, w]⟩ x hx rfl pre hpre (ix2 r i)
    (fun b hb => by
      match b with
      | ⟨0, _⟩ => rfl
      | ⟨1, _⟩ => exact absurd rfl hb) hi

/-- The gradient before its rows are held over the devices. -/
theorem v9 : val_main_v9 (F := Ideal) x0 x1 x2 x3 x4 = wIn x0 x1 x2 x3 x4 := by
  funext (y : S8256x2048.Idx)
  obtain ⟨n, k, rfl⟩ : ∃ (n : Fin 8256) (k : Fin 2048), y = ix2 n k := ⟨_, _, eq_ix2 y⟩
  rw [val_main_v9_apply, val_main_v8_apply, val_main_v7_apply]
  have hr : ∀ r : Fin 2048, val_main_v3 (F := Ideal) x4 (ridx_main_v7 (idx_main_v8 (idx_main_v9 (ix2 n k))) r) = x4 (ix2 r ⟨k.val % 2048, Nat.mod_lt _ (by decide)⟩) := fun r =>
    congrArg x4 (ix2_of rfl (Nat.mod_eq_of_lt k.isLt).symm)
  have hl : ∀ r : Fin 2048, val_main_v1 (F := Ideal) x0 x1 x2 x3 (lidx_main_v7 (idx_main_v8 (idx_main_v9 (ix2 n k))) r) = val_main_v0 (F := Ideal) x0 x1 x2 x3 (ix2 r n) := fun r =>
    congrArg (val_main_v0 (F := Ideal) x0 x1 x2 x3) (ix2_of rfl rfl)
  simp only [hr, hl]
  unfold wIn
  have hn := n.isLt
  show _ = if n.val < 3072 then _ else if n.val < 4160 then _ else if n.val < 6208 then _ else _
  by_cases h0 : n.val < 3072
  · rw [if_pos h0]
    exact Finset.sum_congr rfl fun r _ => congrArg (· * _) (beside x0 x1 x2 x3 0 0 3072 x0 (by simp) rfl rfl r n _ (by show 0 + n.val % 3072 = n.val; omega))
  by_cases h1 : n.val < 4160
  · rw [if_neg h0, if_pos h1]
    exact Finset.sum_congr rfl fun r _ => congrArg (· * _) (beside x0 x1 x2 x3 1 3072 1088 x1 (by simp) rfl rfl r n _ (by show 3072 + (n.val - 3072) % 1088 = n.val; omega))
  by_cases h2 : n.val < 6208
  · rw [if_neg h0, if_neg h1, if_pos h2]
    exact Finset.sum_congr rfl fun r _ => congrArg (· * _) (beside x0 x1 x2 x3 2 4160 2048 x2 (by simp) rfl rfl r n _ (by show 4160 + (n.val - 4160) % 2048 = n.val; omega))
  · rw [if_neg h0, if_neg h1, if_neg h2]
    exact Finset.sum_congr rfl fun r _ => congrArg (· * _) (beside x0 x1 x2 x3 3 6208 2048 x3 (by simp) rfl rfl r n _ (by show 6208 + (n.val - 6208) % 2048 = n.val; omega))

/-- The reference's result. -/
theorem v11 : val_main_v11 (F := Ideal) x0 x1 x2 x3 x4 = shapeCast S8x1032x2048 (wIn x0 x1 x2 x3 x4) shapeCasts_S8256x2048_S8x1032x2048 := by
  rw [← v9]; rfl

end Cert.DwRef
-- ==== Proof.DwClaim.lean ====
/- The claims of the input projection's weight gradient: the kernel's frames, and its equation with the reference. -/
module

public import proofs.«01_k».proof.Defs
public import proofs.«01_k».proof.Proof.DwRef
public import proofs.«01_k».proof.Proof.Gen.DwIn
public import proofs.«01_k».proof.Proof.Gen.DwRefIdeal.Run

@[expose] public section

noncomputable section

namespace Cert.DwClaim

open Idealize.ShloMosaic Idealize.ShloMosaic.TcCoe Idealize.SL.Sem
open Cert.DwRun Cert.DwValue Cert.DwRef

section
open Cert.DwInIdeal

/-- The kernel keeps its arguments, over any floats. -/
theorem kept {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c).2 _ (by decide) (by decide), (h.1 c).2 _ (by decide) (by decide),
    (h.1 c).2 _ (by decide) (by decide), (h.1 c).2 _ (by decide) (by decide), (h.1 c).2 _ (by decide) (by decide)⟩, h.2⟩) (run m ρ)

end

theorem frameIdeal : @Cert.quiescent_DwInIdeal Cert.DwInIdeal.Gen.facts := fun m ρ _ => kept m ρ

/- The two programs have one text: over the bits, label by label, the same bodies. -/
theorem bodies : Cert.DwIn.defs₀ (F := Bits) = Cert.DwInIdeal.defs₀ (F := Bits) := by
  unfold Cert.DwIn.defs₀ Cert.DwInIdeal.defs₀
  refine congrArg Defs.onTc ?_
  funext l a
  match l, a with
  | 0, (t, s) => exact rfl
  | 1, (t, s) => exact rfl
  | 2, (t, s) => exact rfl
  | 3, (t, s) => exact rfl

theorem tables : Cert.DwIn.defs (F := Bits) = Cert.DwInIdeal.defs (F := Bits) :=
  congrArg (Pipeline.defs (Cert.DwIn.pcfgs (F := Bits))) bodies

theorem frame : @Cert.quiescent_DwIn Cert.DwIn.Gen.facts := by
  intro m ρ _
  rw [tables]
  exact kept (F := Bits) m ρ

/-- Kernel and reference compute the same gradient over the extended reals. -/
theorem algebraic : @Cert.algebraic_DwInIdeal_DwRefIdeal Cert.DwInIdeal.Gen.facts Cert.DwRefIdeal.Gen.facts := by
  intro m g m' g' _ hag
  refine ⟨fun c => W9 m c Cert.DwInIdeal.main_v5, (θ_run Cert.DwInIdeal.defs _ _).mono (fun _ h c => ⟨(h.1 c).1, (h.1 c).2 _ (by decide) (by decide),
    (h.1 c).2 _ (by decide) (by decide), (h.1 c).2 _ (by decide) (by decide), (h.1 c).2 _ (by decide) (by decide), (h.1 c).2 _ (by decide) (by decide)⟩)
    (run (F := Ideal) m g), ?_⟩
  refine (θ_run Cert.DwRefIdeal.defs _ _).mono (fun _ h c => ?_) (Cert.DwRefIdeal.Value.run m' g')
  obtain ⟨h0, h1, h2, h3, h4⟩ := hag c
  refine ⟨(h c).1.trans ?_, (h c).2⟩
  rw [Cert.DwRefIdeal.Read.val_main_v11_eq, h0, h1, h2, h3, h4]
  exact (v11 _ _ _ _ _).trans (result c m).symm

end Cert.DwClaim
-- ==== Proof.lean ====
module

public import proofs.«01_k».proof.Defs
public import proofs.«01_k».proof.Proof.Gen.MlaBwd
public import proofs.«01_k».proof.Proof.Gen.MlaBwd.Frame
public import proofs.«01_k».proof.Proof.Gen.MlaBwdIdeal
public import proofs.«01_k».proof.Proof.Gen.MlaBwdIdeal.Frame
public import proofs.«01_k».proof.Proof.Gen.MlaBwdIdeal.Value
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.PleBwd
public import proofs.«01_k».proof.Proof.Gen.PleBwd.Frame
public import proofs.«01_k».proof.Proof.Gen.PleBwdIdeal
public import proofs.«01_k».proof.Proof.Gen.PleBwdIdeal.Frame
public import proofs.«01_k».proof.Proof.Gen.PleRefIdeal
public import proofs.«01_k».proof.Proof.Gen.PleRefIdeal.Run
public import proofs.«01_k».proof.Proof.Gen.PleRefIdeal.Read
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InRefIdeal
public import proofs.«01_k».proof.Proof.Gen.InRefIdeal.Run
public import proofs.«01_k».proof.Proof.Gen.InRefIdeal.Read
public import proofs.«01_k».proof.Proof.Gen.MlaFwd
public import proofs.«01_k».proof.Proof.Gen.MlaFwd.Frame
public import proofs.«01_k».proof.Proof.Gen.MlaFwdIdeal
public import proofs.«01_k».proof.Proof.Gen.MlaFwdIdeal.Frame
public import proofs.«01_k».proof.Proof.Gen.MlaFwdIdeal.Value
public import proofs.«01_k».proof.Proof.Gen.AttRefIdeal
public import proofs.«01_k».proof.Proof.Gen.AttRefIdeal.Run
public import proofs.«01_k».proof.Proof.Gen.AttRefIdeal.Read
public import proofs.«01_k».proof.Proof.Gen.UpBwd
public import proofs.«01_k».proof.Proof.Gen.UpBwd.Frame
public import proofs.«01_k».proof.Proof.Gen.UpBwdIdeal
public import proofs.«01_k».proof.Proof.Gen.UpBwdIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.DwIn
public import proofs.«01_k».proof.Proof.Gen.DwInIdeal
public import proofs.«01_k».proof.Proof.Gen.DwRefIdeal
public import proofs.«01_k».proof.Proof.Gen.DwRefIdeal.Run
public import proofs.«01_k».proof.Proof.Gen.DwRefIdeal.Read
public import proofs.«01_k».proof.Proof.MlaClaim
public import proofs.«01_k».proof.Proof.FfnClaim
public import proofs.«01_k».proof.Proof.PleClaim
public import proofs.«01_k».proof.Proof.MixClaim
public import proofs.«01_k».proof.Proof.InClaim
public import proofs.«01_k».proof.Proof.AttClaim
public import proofs.«01_k».proof.Proof.UpClaim
public import proofs.«01_k».proof.Proof.DwClaim
public import Idealize.ShloMosaic.Adequacy
public import Idealize.ShloMosaic.Init
public import Idealize.ShloMosaic.Lib.Quiescent

@[expose] public section

noncomputable section

namespace Cert.Proof

open Idealize.ShloMosaic Idealize.SL.Sem

/-! ## The references' frames

A reference is a straight-line host program that declares no semaphore: its run keeps its arguments. -/

theorem frame_mlaRef : Cert.quiescent_MlaRefIdeal := fun m ρ _ =>
  (θ_run Cert.MlaRefIdeal.defs _ _).mono (fun r h => ⟨fun c => (h c).2.2.2, sem_eq_zero_of_no_sems (by decide) r.2⟩)
    (Cert.MlaRefIdeal.Value.run (F := Ideal) m ρ)

theorem frame_ffnRef : Cert.quiescent_FfnRefIdeal := fun m ρ _ =>
  (θ_run Cert.FfnRefIdeal.defs _ _).mono (fun r h => ⟨fun c => (h c).2.2.2.2.2, sem_eq_zero_of_no_sems (by decide) r.2⟩)
    (Cert.FfnRefIdeal.Value.run (F := Ideal) m ρ)

theorem frame_pleRef : Cert.quiescent_PleRefIdeal := fun m ρ _ =>
  (θ_run Cert.PleRefIdeal.defs _ _).mono (fun r h => ⟨fun c => (h c).2.2.2.2, sem_eq_zero_of_no_sems (by decide) r.2⟩)
    (Cert.PleRefIdeal.Value.run (F := Ideal) m ρ)

theorem frame_mixRef : Cert.quiescent_MixRefIdeal := fun m ρ _ =>
  (θ_run Cert.MixRefIdeal.defs _ _).mono (fun r h => ⟨fun c => (h c).2.2.2.2.2.2.2.2, sem_eq_zero_of_no_sems (by decide) r.2⟩)
    (Cert.MixRefIdeal.Value.run (F := Ideal) m ρ)

theorem frame_inRef : Cert.quiescent_InRefIdeal := fun m ρ _ =>
  (θ_run Cert.InRefIdeal.defs _ _).mono (fun r h => ⟨fun c => (h c).2.2.2.2.2, sem_eq_zero_of_no_sems (by decide) r.2⟩)
    (Cert.InRefIdeal.Value.run (F := Ideal) m ρ)

theorem frame_attRef : Cert.quiescent_AttRefIdeal := fun m ρ _ =>
  (θ_run Cert.AttRefIdeal.defs _ _).mono (fun r h => ⟨fun c => (h c).2, sem_eq_zero_of_no_sems (by decide) r.2⟩)
    (Cert.AttRefIdeal.Value.run (F := Ideal) m ρ)

theorem frame_upRef : Cert.quiescent_UpRefIdeal := fun m ρ _ =>
  (θ_run Cert.UpRefIdeal.defs _ _).mono (fun r h => ⟨fun c => (h c).2.2.2.2, sem_eq_zero_of_no_sems (by decide) r.2⟩)
    (Cert.UpRefIdeal.Value.run (F := Ideal) m ρ)

theorem frame_dwRef : Cert.quiescent_DwRefIdeal := fun m ρ _ =>
  (θ_run Cert.DwRefIdeal.defs _ _).mono (fun r h => ⟨fun c => (h c).2, sem_eq_zero_of_no_sems (by decide) r.2⟩)
    (Cert.DwRefIdeal.Value.run (F := Ideal) m ρ)

theorem claim : Cert.Claim := ⟨Cert.MlaBwd.Gen.facts, Cert.MlaBwdIdeal.Gen.facts, Cert.MlaRefIdeal.Gen.facts,
  Cert.FfnBwd.Gen.facts, Cert.FfnBwdIdeal.Gen.facts, Cert.FfnRefIdeal.Gen.facts,
  Cert.PleBwd.Gen.facts, Cert.PleBwdIdeal.Gen.facts, Cert.PleRefIdeal.Gen.facts,
  Cert.MixBwd.Gen.facts, Cert.MixBwdIdeal.Gen.facts, Cert.MixRefIdeal.Gen.facts,
  Cert.InProj.Gen.facts, Cert.InProjIdeal.Gen.facts, Cert.InRefIdeal.Gen.facts,
  Cert.MlaFwd.Gen.facts, Cert.MlaFwdIdeal.Gen.facts, Cert.AttRefIdeal.Gen.facts,
  Cert.UpBwd.Gen.facts, Cert.UpBwdIdeal.Gen.facts, Cert.UpRefIdeal.Gen.facts,
  Cert.DwIn.Gen.facts, Cert.DwInIdeal.Gen.facts, Cert.DwRefIdeal.Gen.facts,
  Cert.MlaClaim.preFacts, Cert.FfnClaim.preFacts,
  fun m ρ _ => Cert.MlaBwd.Gen.frame m ρ,
  fun m ρ _ => Cert.MlaBwdIdeal.Gen.frame m ρ,
  fun m ρ _ => Cert.MlaBwdIdeal.Gen.frame m ρ,
  fun m ρ _ => frame_mlaRef m ρ trivial,
  fun m ρ _ => frame_mlaRef m ρ trivial,
  fun m ρ _ => Cert.FfnBwd.Gen.frame m ρ,
  fun m ρ _ => Cert.FfnBwdIdeal.Gen.frame m ρ,
  fun m ρ _ => Cert.FfnBwdIdeal.Gen.frame m ρ,
  fun m ρ _ => frame_ffnRef m ρ trivial,
  fun m ρ _ => frame_ffnRef m ρ trivial,
  fun m ρ _ => Cert.PleBwd.Gen.frame m ρ,
  fun m ρ _ => Cert.PleBwdIdeal.Gen.frame m ρ,
  fun m ρ _ => frame_pleRef m ρ trivial,
  fun m ρ _ => Cert.MixBwd.Gen.frame m ρ,
  fun m ρ _ => Cert.MixBwdIdeal.Gen.frame m ρ,
  fun m ρ _ => frame_mixRef m ρ trivial,
  fun m ρ _ => Cert.InProj.Gen.frame m ρ,
  fun m ρ _ => Cert.InProjIdeal.Gen.frame m ρ,
  fun m ρ _ => frame_inRef m ρ trivial,
  fun m ρ _ => Cert.MlaFwd.Gen.frame m ρ,
  fun m ρ _ => Cert.MlaFwdIdeal.Gen.frame m ρ,
  fun m ρ _ => frame_attRef m ρ trivial,
  fun m ρ _ => Cert.UpBwd.Gen.frame m ρ,
  fun m ρ _ => Cert.UpBwdIdeal.Gen.frame m ρ,
  fun m ρ _ => frame_upRef m ρ trivial,
  Cert.DwClaim.frame,
  Cert.DwClaim.frameIdeal,
  fun m ρ _ => frame_dwRef m ρ trivial,
  trivial, Cert.MlaClaim.algebraic,
  trivial, Cert.FfnClaim.algebraic,
  trivial, Cert.PleClaim.algebraic,
  trivial, Cert.MixClaim.algebraic,
  trivial, Cert.InClaim.algebraic,
  trivial, Cert.AttClaim.algebraic,
  trivial, Cert.UpClaim.algebraic,
  trivial, Cert.DwClaim.algebraic⟩

end Cert.Proof

end
